-- ==== Defs.lean ====
def Pre_MemK (m : (ℓ : Loc Cert.MemK.nD Cert.MemK.τ Cert.MemK.sig) → Buf (Elt Bits) ℓ) : Prop :=
  True

def Pre_MemKIdeal (m : (ℓ : Loc Cert.MemKIdeal.nD Cert.MemKIdeal.τ Cert.MemKIdeal.sig) → Buf (Elt Ideal) ℓ) : Prop :=
  True

def Pre_MemKIdeal_mem_scores_finite [hPre_mem_scores_finite : Cert.Pre_mem_scores_finite.Facts] (m : (ℓ : Loc Cert.MemKIdeal.nD Cert.MemKIdeal.τ Cert.MemKIdeal.sig) → Buf (Elt Ideal) ℓ) : Prop :=
  ∀ c : Dev Cert.MemKIdeal.nD,
    (Cert.Pre_mem_scores_finite.fn (F := Ideal) (m ((c.tc : Thread Cert.MemKIdeal.nD Cert.MemKIdeal.τ).loc Cert.MemKIdeal.main_arg0)) (m ((c.tc : Thread Cert.MemKIdeal.nD Cert.MemKIdeal.τ).loc Cert.MemKIdeal.main_arg1))).1 = (fun _ => 1#1)
    ∧ (Cert.Pre_mem_scores_finite.fn (F := Ideal) (m ((c.tc : Thread Cert.MemKIdeal.nD Cert.MemKIdeal.τ).loc Cert.MemKIdeal.main_arg0)) (m ((c.tc : Thread Cert.MemKIdeal.nD Cert.MemKIdeal.τ).loc Cert.MemKIdeal.main_arg1))).2 = (fun _ => 1#1)

def Pre_MemRIdeal (m : (ℓ : Loc Cert.MemRIdeal.nD Cert.MemRIdeal.τ Cert.MemRIdeal.sig) → Buf (Elt Ideal) ℓ) : Prop :=
  True

def Pre_MemRIdeal_mem_scores_finite [hPre_mem_scores_finite : Cert.Pre_mem_scores_finite.Facts] (m : (ℓ : Loc Cert.MemRIdeal.nD Cert.MemRIdeal.τ Cert.MemRIdeal.sig) → Buf (Elt Ideal) ℓ) : Prop :=
  ∀ c : Dev Cert.MemRIdeal.nD,
    (Cert.Pre_mem_scores_finite.fn (F := Ideal) (m ((c.tc : Thread Cert.MemRIdeal.nD Cert.MemRIdeal.τ).loc Cert.MemRIdeal.main_arg0)) (m ((c.tc : Thread Cert.MemRIdeal.nD Cert.MemRIdeal.τ).loc Cert.MemRIdeal.main_arg1))).1 = (fun _ => 1#1)
    ∧ (Cert.Pre_mem_scores_finite.fn (F := Ideal) (m ((c.tc : Thread Cert.MemRIdeal.nD Cert.MemRIdeal.τ).loc Cert.MemRIdeal.main_arg0)) (m ((c.tc : Thread Cert.MemRIdeal.nD Cert.MemRIdeal.τ).loc Cert.MemRIdeal.main_arg1))).2 = (fun _ => 1#1)

def Pre_OutK (m : (ℓ : Loc Cert.OutK.nD Cert.OutK.τ Cert.OutK.sig) → Buf (Elt Bits) ℓ) : Prop :=
  True

def Pre_OutKIdeal (m : (ℓ : Loc Cert.OutKIdeal.nD Cert.OutKIdeal.τ Cert.OutKIdeal.sig) → Buf (Elt Ideal) ℓ) : Prop :=
  True

def Pre_OutRIdeal (m : (ℓ : Loc Cert.OutRIdeal.nD Cert.OutRIdeal.τ Cert.OutRIdeal.sig) → Buf (Elt Ideal) ℓ) : Prop :=
  True

def Pre_InK (m : (ℓ : Loc Cert.InK.nD Cert.InK.τ Cert.InK.sig) → Buf (Elt Bits) ℓ) : Prop :=
  True

def Pre_InKIdeal (m : (ℓ : Loc Cert.InKIdeal.nD Cert.InKIdeal.τ Cert.InKIdeal.sig) → Buf (Elt Ideal) ℓ) : Prop :=
  True

def Pre_InRIdeal (m : (ℓ : Loc Cert.InRIdeal.nD Cert.InRIdeal.τ Cert.InRIdeal.sig) → Buf (Elt Ideal) ℓ) : Prop :=
  True

def Pre_KvK (m : (ℓ : Loc Cert.KvK.nD Cert.KvK.τ Cert.KvK.sig) → Buf (Elt Bits) ℓ) : Prop :=
  True

def Pre_KvKIdeal (m : (ℓ : Loc Cert.KvKIdeal.nD Cert.KvKIdeal.τ Cert.KvKIdeal.sig) → Buf (Elt Ideal) ℓ) : Prop :=
  True

def Pre_KvRIdeal (m : (ℓ : Loc Cert.KvRIdeal.nD Cert.KvRIdeal.τ Cert.KvRIdeal.sig) → Buf (Elt Ideal) ℓ) : Prop :=
  True

def Pre_MnK (m : (ℓ : Loc Cert.MnK.nD Cert.MnK.τ Cert.MnK.sig) → Buf (Elt Bits) ℓ) : Prop :=
  True

def Pre_MnKIdeal (m : (ℓ : Loc Cert.MnKIdeal.nD Cert.MnKIdeal.τ Cert.MnKIdeal.sig) → Buf (Elt Ideal) ℓ) : Prop :=
  True

def Pre_MnRIdeal (m : (ℓ : Loc Cert.MnRIdeal.nD Cert.MnRIdeal.τ Cert.MnRIdeal.sig) → Buf (Elt Ideal) ℓ) : Prop :=
  True

def Pre_NpK (m : (ℓ : Loc Cert.NpK.nD Cert.NpK.τ Cert.NpK.sig) → Buf (Elt Bits) ℓ) : Prop :=
  True

def Pre_NpKIdeal (m : (ℓ : Loc Cert.NpKIdeal.nD Cert.NpKIdeal.τ Cert.NpKIdeal.sig) → Buf (Elt Ideal) ℓ) : Prop :=
  True

def Pre_NpRIdeal (m : (ℓ : Loc Cert.NpRIdeal.nD Cert.NpRIdeal.τ Cert.NpRIdeal.sig) → Buf (Elt Ideal) ℓ) : Prop :=
  True

def Pre_NsK (m : (ℓ : Loc Cert.NsK.nD Cert.NsK.τ Cert.NsK.sig) → Buf (Elt Bits) ℓ) : Prop :=
  True

def Pre_NsKIdeal (m : (ℓ : Loc Cert.NsKIdeal.nD Cert.NsKIdeal.τ Cert.NsKIdeal.sig) → Buf (Elt Ideal) ℓ) : Prop :=
  True

def Pre_NsRIdeal (m : (ℓ : Loc Cert.NsRIdeal.nD Cert.NsRIdeal.τ Cert.NsRIdeal.sig) → Buf (Elt Ideal) ℓ) : Prop :=
  True

def Pre_XpK (m : (ℓ : Loc Cert.XpK.nD Cert.XpK.τ Cert.XpK.sig) → Buf (Elt Bits) ℓ) : Prop :=
  True

def Pre_XpKIdeal (m : (ℓ : Loc Cert.XpKIdeal.nD Cert.XpKIdeal.τ Cert.XpKIdeal.sig) → Buf (Elt Ideal) ℓ) : Prop :=
  True

def Pre_XpRIdeal (m : (ℓ : Loc Cert.XpRIdeal.nD Cert.XpRIdeal.τ Cert.XpRIdeal.sig) → Buf (Elt Ideal) ℓ) : Prop :=
  True

def Pre_XsK (m : (ℓ : Loc Cert.XsK.nD Cert.XsK.τ Cert.XsK.sig) → Buf (Elt Bits) ℓ) : Prop :=
  True

def Pre_XsKIdeal (m : (ℓ : Loc Cert.XsKIdeal.nD Cert.XsKIdeal.τ Cert.XsKIdeal.sig) → Buf (Elt Ideal) ℓ) : Prop :=
  True

def Pre_XsRIdeal (m : (ℓ : Loc Cert.XsRIdeal.nD Cert.XsRIdeal.τ Cert.XsRIdeal.sig) → Buf (Elt Ideal) ℓ) : Prop :=
  True

def Pre_SsK (m : (ℓ : Loc Cert.SsK.nD Cert.SsK.τ Cert.SsK.sig) → Buf (Elt Bits) ℓ) : Prop :=
  True

def Pre_SsKIdeal (m : (ℓ : Loc Cert.SsKIdeal.nD Cert.SsKIdeal.τ Cert.SsKIdeal.sig) → Buf (Elt Ideal) ℓ) : Prop :=
  True

def Pre_SsRIdeal (m : (ℓ : Loc Cert.SsRIdeal.nD Cert.SsRIdeal.τ Cert.SsRIdeal.sig) → Buf (Elt Ideal) ℓ) : Prop :=
  True

def Pre_GsK (m : (ℓ : Loc Cert.GsK.nD Cert.GsK.τ Cert.GsK.sig) → Buf (Elt Bits) ℓ) : Prop :=
  True

def Pre_GsKIdeal (m : (ℓ : Loc Cert.GsKIdeal.nD Cert.GsKIdeal.τ Cert.GsKIdeal.sig) → Buf (Elt Ideal) ℓ) : Prop :=
  True

def Pre_GsRIdeal (m : (ℓ : Loc Cert.GsRIdeal.nD Cert.GsRIdeal.τ Cert.GsRIdeal.sig) → Buf (Elt Ideal) ℓ) : Prop :=
  True

def Pre_SpK (m : (ℓ : Loc Cert.SpK.nD Cert.SpK.τ Cert.SpK.sig) → Buf (Elt Bits) ℓ) : Prop :=
  True

def Pre_SpKIdeal (m : (ℓ : Loc Cert.SpKIdeal.nD Cert.SpKIdeal.τ Cert.SpKIdeal.sig) → Buf (Elt Ideal) ℓ) : Prop :=
  True

def Pre_SpRIdeal (m : (ℓ : Loc Cert.SpRIdeal.nD Cert.SpRIdeal.τ Cert.SpRIdeal.sig) → Buf (Elt Ideal) ℓ) : Prop :=
  True

def quiescent_MemK [hMemK : Cert.MemK.Facts] : Prop :=
  ∀ (m : (ℓ : Loc Cert.MemK.nD Cert.MemK.τ Cert.MemK.sig) → Buf (Elt Bits) ℓ) (g : Dev Cert.MemK.nD → PrngReg), Pre_MemK m →
    θ_run (Cert.MemK.defs (F := Bits)) (onTc (τ := Cert.MemK.τ) (Cert.MemK.main (F := Bits))) ⟨m, fun _ => 0, g⟩ (fun r => (∀ c : Dev Cert.MemK.nD,
      r.2.mem ((c.tc : Thread Cert.MemK.nD Cert.MemK.τ).loc Cert.MemK.main_arg0) = m ((c.tc : Thread Cert.MemK.nD Cert.MemK.τ).loc Cert.MemK.main_arg0)
      ∧ r.2.mem ((c.tc : Thread Cert.MemK.nD Cert.MemK.τ).loc Cert.MemK.main_arg1) = m ((c.tc : Thread Cert.MemK.nD Cert.MemK.τ).loc Cert.MemK.main_arg1))
      ∧ r.2.sem = fun _ => 0)

def quiescent_MemKIdeal [hMemKIdeal : Cert.MemKIdeal.Facts] : Prop :=
  ∀ (m : (ℓ : Loc Cert.MemKIdeal.nD Cert.MemKIdeal.τ Cert.MemKIdeal.sig) → Buf (Elt Ideal) ℓ) (g : Dev Cert.MemKIdeal.nD → PrngReg), Pre_MemKIdeal m →
    θ_run (Cert.MemKIdeal.defs (F := Ideal)) (onTc (τ := Cert.MemKIdeal.τ) (Cert.MemKIdeal.main (F := Ideal))) ⟨m, fun _ => 0, g⟩ (fun r => (∀ c : Dev Cert.MemKIdeal.nD,
      r.2.mem ((c.tc : Thread Cert.MemKIdeal.nD Cert.MemKIdeal.τ).loc Cert.MemKIdeal.main_arg0) = m ((c.tc : Thread Cert.MemKIdeal.nD Cert.MemKIdeal.τ).loc Cert.MemKIdeal.main_arg0)
      ∧ r.2.mem ((c.tc : Thread Cert.MemKIdeal.nD Cert.MemKIdeal.τ).loc Cert.MemKIdeal.main_arg1) = m ((c.tc : Thread Cert.MemKIdeal.nD Cert.MemKIdeal.τ).loc Cert.MemKIdeal.main_arg1))
      ∧ r.2.sem = fun _ => 0)

def quiescent_MemKIdeal_pre_mem_scores_finite [hMemKIdeal : Cert.MemKIdeal.Facts] [hPre_mem_scores_finite : Cert.Pre_mem_scores_finite.Facts] : Prop :=
  ∀ (m : (ℓ : Loc Cert.MemKIdeal.nD Cert.MemKIdeal.τ Cert.MemKIdeal.sig) → Buf (Elt Ideal) ℓ) (g : Dev Cert.MemKIdeal.nD → PrngReg), Pre_MemKIdeal_mem_scores_finite m →
    θ_run (Cert.MemKIdeal.defs (F := Ideal)) (onTc (τ := Cert.MemKIdeal.τ) (Cert.MemKIdeal.main (F := Ideal))) ⟨m, fun _ => 0, g⟩ (fun r => (∀ c : Dev Cert.MemKIdeal.nD,
      r.2.mem ((c.tc : Thread Cert.MemKIdeal.nD Cert.MemKIdeal.τ).loc Cert.MemKIdeal.main_arg0) = m ((c.tc : Thread Cert.MemKIdeal.nD Cert.MemKIdeal.τ).loc Cert.MemKIdeal.main_arg0)
      ∧ r.2.mem ((c.tc : Thread Cert.MemKIdeal.nD Cert.MemKIdeal.τ).loc Cert.MemKIdeal.main_arg1) = m ((c.tc : Thread Cert.MemKIdeal.nD Cert.MemKIdeal.τ).loc Cert.MemKIdeal.main_arg1))
      ∧ r.2.sem = fun _ => 0)

def quiescent_MemRIdeal [hMemRIdeal : Cert.MemRIdeal.Facts] : Prop :=
  ∀ (m : (ℓ : Loc Cert.MemRIdeal.nD Cert.MemRIdeal.τ Cert.MemRIdeal.sig) → Buf (Elt Ideal) ℓ) (g : Dev Cert.MemRIdeal.nD → PrngReg), Pre_MemRIdeal m →
    θ_run (Cert.MemRIdeal.defs (F := Ideal)) (onTc (τ := Cert.MemRIdeal.τ) (Cert.MemRIdeal.main (F := Ideal))) ⟨m, fun _ => 0, g⟩ (fun r => (∀ c : Dev Cert.MemRIdeal.nD,
      r.2.mem ((c.tc : Thread Cert.MemRIdeal.nD Cert.MemRIdeal.τ).loc Cert.MemRIdeal.main_arg0) = m ((c.tc : Thread Cert.MemRIdeal.nD Cert.MemRIdeal.τ).loc Cert.MemRIdeal.main_arg0)
      ∧ r.2.mem ((c.tc : Thread Cert.MemRIdeal.nD Cert.MemRIdeal.τ).loc Cert.MemRIdeal.main_arg1) = m ((c.tc : Thread Cert.MemRIdeal.nD Cert.MemRIdeal.τ).loc Cert.MemRIdeal.main_arg1))
      ∧ r.2.sem = fun _ => 0)

def quiescent_MemRIdeal_pre_mem_scores_finite [hMemRIdeal : Cert.MemRIdeal.Facts] [hPre_mem_scores_finite : Cert.Pre_mem_scores_finite.Facts] : Prop :=
  ∀ (m : (ℓ : Loc Cert.MemRIdeal.nD Cert.MemRIdeal.τ Cert.MemRIdeal.sig) → Buf (Elt Ideal) ℓ) (g : Dev Cert.MemRIdeal.nD → PrngReg), Pre_MemRIdeal_mem_scores_finite m →
    θ_run (Cert.MemRIdeal.defs (F := Ideal)) (onTc (τ := Cert.MemRIdeal.τ) (Cert.MemRIdeal.main (F := Ideal))) ⟨m, fun _ => 0, g⟩ (fun r => (∀ c : Dev Cert.MemRIdeal.nD,
      r.2.mem ((c.tc : Thread Cert.MemRIdeal.nD Cert.MemRIdeal.τ).loc Cert.MemRIdeal.main_arg0) = m ((c.tc : Thread Cert.MemRIdeal.nD Cert.MemRIdeal.τ).loc Cert.MemRIdeal.main_arg0)
      ∧ r.2.mem ((c.tc : Thread Cert.MemRIdeal.nD Cert.MemRIdeal.τ).loc Cert.MemRIdeal.main_arg1) = m ((c.tc : Thread Cert.MemRIdeal.nD Cert.MemRIdeal.τ).loc Cert.MemRIdeal.main_arg1))
      ∧ r.2.sem = fun _ => 0)

def quiescent_OutK [hOutK : Cert.OutK.Facts] : Prop :=
  ∀ (m : (ℓ : Loc Cert.OutK.nD Cert.OutK.τ Cert.OutK.sig) → Buf (Elt Bits) ℓ) (g : Dev Cert.OutK.nD → PrngReg), Pre_OutK m →
    θ_run (Cert.OutK.defs (F := Bits)) (onTc (τ := Cert.OutK.τ) (Cert.OutK.main (F := Bits))) ⟨m, fun _ => 0, g⟩ (fun r => (∀ c : Dev Cert.OutK.nD,
      r.2.mem ((c.tc : Thread Cert.OutK.nD Cert.OutK.τ).loc Cert.OutK.main_arg0) = m ((c.tc : Thread Cert.OutK.nD Cert.OutK.τ).loc Cert.OutK.main_arg0)
      ∧ r.2.mem ((c.tc : Thread Cert.OutK.nD Cert.OutK.τ).loc Cert.OutK.main_arg1) = m ((c.tc : Thread Cert.OutK.nD Cert.OutK.τ).loc Cert.OutK.main_arg1)
      ∧ r.2.mem ((c.tc : Thread Cert.OutK.nD Cert.OutK.τ).loc Cert.OutK.main_arg2) = m ((c.tc : Thread Cert.OutK.nD Cert.OutK.τ).loc Cert.OutK.main_arg2)
      ∧ r.2.mem ((c.tc : Thread Cert.OutK.nD Cert.OutK.τ).loc Cert.OutK.main_arg3) = m ((c.tc : Thread Cert.OutK.nD Cert.OutK.τ).loc Cert.OutK.main_arg3)
      ∧ r.2.mem ((c.tc : Thread Cert.OutK.nD Cert.OutK.τ).loc Cert.OutK.main_arg4) = m ((c.tc : Thread Cert.OutK.nD Cert.OutK.τ).loc Cert.OutK.main_arg4)
      ∧ r.2.mem ((c.tc : Thread Cert.OutK.nD Cert.OutK.τ).loc Cert.OutK.main_arg5) = m ((c.tc : Thread Cert.OutK.nD Cert.OutK.τ).loc Cert.OutK.main_arg5)
      ∧ r.2.mem ((c.tc : Thread Cert.OutK.nD Cert.OutK.τ).loc Cert.OutK.main_arg6) = m ((c.tc : Thread Cert.OutK.nD Cert.OutK.τ).loc Cert.OutK.main_arg6))
      ∧ r.2.sem = fun _ => 0)

def quiescent_OutKIdeal [hOutKIdeal : Cert.OutKIdeal.Facts] : Prop :=
  ∀ (m : (ℓ : Loc Cert.OutKIdeal.nD Cert.OutKIdeal.τ Cert.OutKIdeal.sig) → Buf (Elt Ideal) ℓ) (g : Dev Cert.OutKIdeal.nD → PrngReg), Pre_OutKIdeal m →
    θ_run (Cert.OutKIdeal.defs (F := Ideal)) (onTc (τ := Cert.OutKIdeal.τ) (Cert.OutKIdeal.main (F := Ideal))) ⟨m, fun _ => 0, g⟩ (fun r => (∀ c : Dev Cert.OutKIdeal.nD,
      r.2.mem ((c.tc : Thread Cert.OutKIdeal.nD Cert.OutKIdeal.τ).loc Cert.OutKIdeal.main_arg0) = m ((c.tc : Thread Cert.OutKIdeal.nD Cert.OutKIdeal.τ).loc Cert.OutKIdeal.main_arg0)
      ∧ r.2.mem ((c.tc : Thread Cert.OutKIdeal.nD Cert.OutKIdeal.τ).loc Cert.OutKIdeal.main_arg1) = m ((c.tc : Thread Cert.OutKIdeal.nD Cert.OutKIdeal.τ).loc Cert.OutKIdeal.main_arg1)
      ∧ r.2.mem ((c.tc : Thread Cert.OutKIdeal.nD Cert.OutKIdeal.τ).loc Cert.OutKIdeal.main_arg2) = m ((c.tc : Thread Cert.OutKIdeal.nD Cert.OutKIdeal.τ).loc Cert.OutKIdeal.main_arg2)
      ∧ r.2.mem ((c.tc : Thread Cert.OutKIdeal.nD Cert.OutKIdeal.τ).loc Cert.OutKIdeal.main_arg3) = m ((c.tc : Thread Cert.OutKIdeal.nD Cert.OutKIdeal.τ).loc Cert.OutKIdeal.main_arg3)
      ∧ r.2.mem ((c.tc : Thread Cert.OutKIdeal.nD Cert.OutKIdeal.τ).loc Cert.OutKIdeal.main_arg4) = m ((c.tc : Thread Cert.OutKIdeal.nD Cert.OutKIdeal.τ).loc Cert.OutKIdeal.main_arg4)
      ∧ r.2.mem ((c.tc : Thread Cert.OutKIdeal.nD Cert.OutKIdeal.τ).loc Cert.OutKIdeal.main_arg5) = m ((c.tc : Thread Cert.OutKIdeal.nD Cert.OutKIdeal.τ).loc Cert.OutKIdeal.main_arg5)
      ∧ r.2.mem ((c.tc : Thread Cert.OutKIdeal.nD Cert.OutKIdeal.τ).loc Cert.OutKIdeal.main_arg6) = m ((c.tc : Thread Cert.OutKIdeal.nD Cert.OutKIdeal.τ).loc Cert.OutKIdeal.main_arg6))
      ∧ r.2.sem = fun _ => 0)

def quiescent_OutRIdeal [hOutRIdeal : Cert.OutRIdeal.Facts] : Prop :=
  ∀ (m : (ℓ : Loc Cert.OutRIdeal.nD Cert.OutRIdeal.τ Cert.OutRIdeal.sig) → Buf (Elt Ideal) ℓ) (g : Dev Cert.OutRIdeal.nD → PrngReg), Pre_OutRIdeal m →
    θ_run (Cert.OutRIdeal.defs (F := Ideal)) (onTc (τ := Cert.OutRIdeal.τ) (Cert.OutRIdeal.main (F := Ideal))) ⟨m, fun _ => 0, g⟩ (fun r => (∀ c : Dev Cert.OutRIdeal.nD,
      r.2.mem ((c.tc : Thread Cert.OutRIdeal.nD Cert.OutRIdeal.τ).loc Cert.OutRIdeal.main_arg0) = m ((c.tc : Thread Cert.OutRIdeal.nD Cert.OutRIdeal.τ).loc Cert.OutRIdeal.main_arg0)
      ∧ r.2.mem ((c.tc : Thread Cert.OutRIdeal.nD Cert.OutRIdeal.τ).loc Cert.OutRIdeal.main_arg1) = m ((c.tc : Thread Cert.OutRIdeal.nD Cert.OutRIdeal.τ).loc Cert.OutRIdeal.main_arg1)
      ∧ r.2.mem ((c.tc : Thread Cert.OutRIdeal.nD Cert.OutRIdeal.τ).loc Cert.OutRIdeal.main_arg2) = m ((c.tc : Thread Cert.OutRIdeal.nD Cert.OutRIdeal.τ).loc Cert.OutRIdeal.main_arg2)
      ∧ r.2.mem ((c.tc : Thread Cert.OutRIdeal.nD Cert.OutRIdeal.τ).loc Cert.OutRIdeal.main_arg3) = m ((c.tc : Thread Cert.OutRIdeal.nD Cert.OutRIdeal.τ).loc Cert.OutRIdeal.main_arg3)
      ∧ r.2.mem ((c.tc : Thread Cert.OutRIdeal.nD Cert.OutRIdeal.τ).loc Cert.OutRIdeal.main_arg4) = m ((c.tc : Thread Cert.OutRIdeal.nD Cert.OutRIdeal.τ).loc Cert.OutRIdeal.main_arg4)
      ∧ r.2.mem ((c.tc : Thread Cert.OutRIdeal.nD Cert.OutRIdeal.τ).loc Cert.OutRIdeal.main_arg5) = m ((c.tc : Thread Cert.OutRIdeal.nD Cert.OutRIdeal.τ).loc Cert.OutRIdeal.main_arg5)
      ∧ r.2.mem ((c.tc : Thread Cert.OutRIdeal.nD Cert.OutRIdeal.τ).loc Cert.OutRIdeal.main_arg6) = m ((c.tc : Thread Cert.OutRIdeal.nD Cert.OutRIdeal.τ).loc Cert.OutRIdeal.main_arg6))
      ∧ r.2.sem = fun _ => 0)

def quiescent_InK [hInK : Cert.InK.Facts] : Prop :=
  ∀ (m : (ℓ : Loc Cert.InK.nD Cert.InK.τ Cert.InK.sig) → Buf (Elt Bits) ℓ) (g : Dev Cert.InK.nD → PrngReg), Pre_InK m →
    θ_run (Cert.InK.defs (F := Bits)) (onTc (τ := Cert.InK.τ) (Cert.InK.main (F := Bits))) ⟨m, fun _ => 0, g⟩ (fun r => (∀ c : Dev Cert.InK.nD,
      r.2.mem ((c.tc : Thread Cert.InK.nD Cert.InK.τ).loc Cert.InK.main_arg0) = m ((c.tc : Thread Cert.InK.nD Cert.InK.τ).loc Cert.InK.main_arg0)
      ∧ r.2.mem ((c.tc : Thread Cert.InK.nD Cert.InK.τ).loc Cert.InK.main_arg1) = m ((c.tc : Thread Cert.InK.nD Cert.InK.τ).loc Cert.InK.main_arg1)
      ∧ r.2.mem ((c.tc : Thread Cert.InK.nD Cert.InK.τ).loc Cert.InK.main_arg2) = m ((c.tc : Thread Cert.InK.nD Cert.InK.τ).loc Cert.InK.main_arg2))
      ∧ r.2.sem = fun _ => 0)

def quiescent_InKIdeal [hInKIdeal : Cert.InKIdeal.Facts] : Prop :=
  ∀ (m : (ℓ : Loc Cert.InKIdeal.nD Cert.InKIdeal.τ Cert.InKIdeal.sig) → Buf (Elt Ideal) ℓ) (g : Dev Cert.InKIdeal.nD → PrngReg), Pre_InKIdeal m →
    θ_run (Cert.InKIdeal.defs (F := Ideal)) (onTc (τ := Cert.InKIdeal.τ) (Cert.InKIdeal.main (F := Ideal))) ⟨m, fun _ => 0, g⟩ (fun r => (∀ c : Dev Cert.InKIdeal.nD,
      r.2.mem ((c.tc : Thread Cert.InKIdeal.nD Cert.InKIdeal.τ).loc Cert.InKIdeal.main_arg0) = m ((c.tc : Thread Cert.InKIdeal.nD Cert.InKIdeal.τ).loc Cert.InKIdeal.main_arg0)
      ∧ r.2.mem ((c.tc : Thread Cert.InKIdeal.nD Cert.InKIdeal.τ).loc Cert.InKIdeal.main_arg1) = m ((c.tc : Thread Cert.InKIdeal.nD Cert.InKIdeal.τ).loc Cert.InKIdeal.main_arg1)
      ∧ r.2.mem ((c.tc : Thread Cert.InKIdeal.nD Cert.InKIdeal.τ).loc Cert.InKIdeal.main_arg2) = m ((c.tc : Thread Cert.InKIdeal.nD Cert.InKIdeal.τ).loc Cert.InKIdeal.main_arg2))
      ∧ r.2.sem = fun _ => 0)

def quiescent_InRIdeal [hInRIdeal : Cert.InRIdeal.Facts] : Prop :=
  ∀ (m : (ℓ : Loc Cert.InRIdeal.nD Cert.InRIdeal.τ Cert.InRIdeal.sig) → Buf (Elt Ideal) ℓ) (g : Dev Cert.InRIdeal.nD → PrngReg), Pre_InRIdeal m →
    θ_run (Cert.InRIdeal.defs (F := Ideal)) (onTc (τ := Cert.InRIdeal.τ) (Cert.InRIdeal.main (F := Ideal))) ⟨m, fun _ => 0, g⟩ (fun r => (∀ c : Dev Cert.InRIdeal.nD,
      r.2.mem ((c.tc : Thread Cert.InRIdeal.nD Cert.InRIdeal.τ).loc Cert.InRIdeal.main_arg0) = m ((c.tc : Thread Cert.InRIdeal.nD Cert.InRIdeal.τ).loc Cert.InRIdeal.main_arg0)
      ∧ r.2.mem ((c.tc : Thread Cert.InRIdeal.nD Cert.InRIdeal.τ).loc Cert.InRIdeal.main_arg1) = m ((c.tc : Thread Cert.InRIdeal.nD Cert.InRIdeal.τ).loc Cert.InRIdeal.main_arg1)
      ∧ r.2.mem ((c.tc : Thread Cert.InRIdeal.nD Cert.InRIdeal.τ).loc Cert.InRIdeal.main_arg2) = m ((c.tc : Thread Cert.InRIdeal.nD Cert.InRIdeal.τ).loc Cert.InRIdeal.main_arg2))
      ∧ r.2.sem = fun _ => 0)

def quiescent_KvK [hKvK : Cert.KvK.Facts] : Prop :=
  ∀ (m : (ℓ : Loc Cert.KvK.nD Cert.KvK.τ Cert.KvK.sig) → Buf (Elt Bits) ℓ) (g : Dev Cert.KvK.nD → PrngReg), Pre_KvK m →
    θ_run (Cert.KvK.defs (F := Bits)) (onTc (τ := Cert.KvK.τ) (Cert.KvK.main (F := Bits))) ⟨m, fun _ => 0, g⟩ (fun r => (∀ c : Dev Cert.KvK.nD,
      r.2.mem ((c.tc : Thread Cert.KvK.nD Cert.KvK.τ).loc Cert.KvK.main_arg0) = m ((c.tc : Thread Cert.KvK.nD Cert.KvK.τ).loc Cert.KvK.main_arg0)
      ∧ r.2.mem ((c.tc : Thread Cert.KvK.nD Cert.KvK.τ).loc Cert.KvK.main_arg1) = m ((c.tc : Thread Cert.KvK.nD Cert.KvK.τ).loc Cert.KvK.main_arg1))
      ∧ r.2.sem = fun _ => 0)

def quiescent_KvKIdeal [hKvKIdeal : Cert.KvKIdeal.Facts] : Prop :=
  ∀ (m : (ℓ : Loc Cert.KvKIdeal.nD Cert.KvKIdeal.τ Cert.KvKIdeal.sig) → Buf (Elt Ideal) ℓ) (g : Dev Cert.KvKIdeal.nD → PrngReg), Pre_KvKIdeal m →
    θ_run (Cert.KvKIdeal.defs (F := Ideal)) (onTc (τ := Cert.KvKIdeal.τ) (Cert.KvKIdeal.main (F := Ideal))) ⟨m, fun _ => 0, g⟩ (fun r => (∀ c : Dev Cert.KvKIdeal.nD,
      r.2.mem ((c.tc : Thread Cert.KvKIdeal.nD Cert.KvKIdeal.τ).loc Cert.KvKIdeal.main_arg0) = m ((c.tc : Thread Cert.KvKIdeal.nD Cert.KvKIdeal.τ).loc Cert.KvKIdeal.main_arg0)
      ∧ r.2.mem ((c.tc : Thread Cert.KvKIdeal.nD Cert.KvKIdeal.τ).loc Cert.KvKIdeal.main_arg1) = m ((c.tc : Thread Cert.KvKIdeal.nD Cert.KvKIdeal.τ).loc Cert.KvKIdeal.main_arg1))
      ∧ r.2.sem = fun _ => 0)

def quiescent_KvRIdeal [hKvRIdeal : Cert.KvRIdeal.Facts] : Prop :=
  ∀ (m : (ℓ : Loc Cert.KvRIdeal.nD Cert.KvRIdeal.τ Cert.KvRIdeal.sig) → Buf (Elt Ideal) ℓ) (g : Dev Cert.KvRIdeal.nD → PrngReg), Pre_KvRIdeal m →
    θ_run (Cert.KvRIdeal.defs (F := Ideal)) (onTc (τ := Cert.KvRIdeal.τ) (Cert.KvRIdeal.main (F := Ideal))) ⟨m, fun _ => 0, g⟩ (fun r => (∀ c : Dev Cert.KvRIdeal.nD,
      r.2.mem ((c.tc : Thread Cert.KvRIdeal.nD Cert.KvRIdeal.τ).loc Cert.KvRIdeal.main_arg0) = m ((c.tc : Thread Cert.KvRIdeal.nD Cert.KvRIdeal.τ).loc Cert.KvRIdeal.main_arg0)
      ∧ r.2.mem ((c.tc : Thread Cert.KvRIdeal.nD Cert.KvRIdeal.τ).loc Cert.KvRIdeal.main_arg1) = m ((c.tc : Thread Cert.KvRIdeal.nD Cert.KvRIdeal.τ).loc Cert.KvRIdeal.main_arg1))
      ∧ r.2.sem = fun _ => 0)

def quiescent_MnK [hMnK : Cert.MnK.Facts] : Prop :=
  ∀ (m : (ℓ : Loc Cert.MnK.nD Cert.MnK.τ Cert.MnK.sig) → Buf (Elt Bits) ℓ) (g : Dev Cert.MnK.nD → PrngReg), Pre_MnK m →
    θ_run (Cert.MnK.defs (F := Bits)) (onTc (τ := Cert.MnK.τ) (Cert.MnK.main (F := Bits))) ⟨m, fun _ => 0, g⟩ (fun r => (∀ c : Dev Cert.MnK.nD,
      r.2.mem ((c.tc : Thread Cert.MnK.nD Cert.MnK.τ).loc Cert.MnK.main_arg0) = m ((c.tc : Thread Cert.MnK.nD Cert.MnK.τ).loc Cert.MnK.main_arg0)
      ∧ r.2.mem ((c.tc : Thread Cert.MnK.nD Cert.MnK.τ).loc Cert.MnK.main_arg1) = m ((c.tc : Thread Cert.MnK.nD Cert.MnK.τ).loc Cert.MnK.main_arg1))
      ∧ r.2.sem = fun _ => 0)

def quiescent_MnKIdeal [hMnKIdeal : Cert.MnKIdeal.Facts] : Prop :=
  ∀ (m : (ℓ : Loc Cert.MnKIdeal.nD Cert.MnKIdeal.τ Cert.MnKIdeal.sig) → Buf (Elt Ideal) ℓ) (g : Dev Cert.MnKIdeal.nD → PrngReg), Pre_MnKIdeal m →
    θ_run (Cert.MnKIdeal.defs (F := Ideal)) (onTc (τ := Cert.MnKIdeal.τ) (Cert.MnKIdeal.main (F := Ideal))) ⟨m, fun _ => 0, g⟩ (fun r => (∀ c : Dev Cert.MnKIdeal.nD,
      r.2.mem ((c.tc : Thread Cert.MnKIdeal.nD Cert.MnKIdeal.τ).loc Cert.MnKIdeal.main_arg0) = m ((c.tc : Thread Cert.MnKIdeal.nD Cert.MnKIdeal.τ).loc Cert.MnKIdeal.main_arg0)
      ∧ r.2.mem ((c.tc : Thread Cert.MnKIdeal.nD Cert.MnKIdeal.τ).loc Cert.MnKIdeal.main_arg1) = m ((c.tc : Thread Cert.MnKIdeal.nD Cert.MnKIdeal.τ).loc Cert.MnKIdeal.main_arg1))
      ∧ r.2.sem = fun _ => 0)

def quiescent_MnRIdeal [hMnRIdeal : Cert.MnRIdeal.Facts] : Prop :=
  ∀ (m : (ℓ : Loc Cert.MnRIdeal.nD Cert.MnRIdeal.τ Cert.MnRIdeal.sig) → Buf (Elt Ideal) ℓ) (g : Dev Cert.MnRIdeal.nD → PrngReg), Pre_MnRIdeal m →
    θ_run (Cert.MnRIdeal.defs (F := Ideal)) (onTc (τ := Cert.MnRIdeal.τ) (Cert.MnRIdeal.main (F := Ideal))) ⟨m, fun _ => 0, g⟩ (fun r => (∀ c : Dev Cert.MnRIdeal.nD,
      r.2.mem ((c.tc : Thread Cert.MnRIdeal.nD Cert.MnRIdeal.τ).loc Cert.MnRIdeal.main_arg0) = m ((c.tc : Thread Cert.MnRIdeal.nD Cert.MnRIdeal.τ).loc Cert.MnRIdeal.main_arg0)
      ∧ r.2.mem ((c.tc : Thread Cert.MnRIdeal.nD Cert.MnRIdeal.τ).loc Cert.MnRIdeal.main_arg1) = m ((c.tc : Thread Cert.MnRIdeal.nD Cert.MnRIdeal.τ).loc Cert.MnRIdeal.main_arg1))
      ∧ r.2.sem = fun _ => 0)

def quiescent_NpK [hNpK : Cert.NpK.Facts] : Prop :=
  ∀ (m : (ℓ : Loc Cert.NpK.nD Cert.NpK.τ Cert.NpK.sig) → Buf (Elt Bits) ℓ) (g : Dev Cert.NpK.nD → PrngReg), Pre_NpK m →
    θ_run (Cert.NpK.defs (F := Bits)) (onTc (τ := Cert.NpK.τ) (Cert.NpK.main (F := Bits))) ⟨m, fun _ => 0, g⟩ (fun r => (∀ c : Dev Cert.NpK.nD,
      r.2.mem ((c.tc : Thread Cert.NpK.nD Cert.NpK.τ).loc Cert.NpK.main_arg0) = m ((c.tc : Thread Cert.NpK.nD Cert.NpK.τ).loc Cert.NpK.main_arg0)
      ∧ r.2.mem ((c.tc : Thread Cert.NpK.nD Cert.NpK.τ).loc Cert.NpK.main_arg1) = m ((c.tc : Thread Cert.NpK.nD Cert.NpK.τ).loc Cert.NpK.main_arg1))
      ∧ r.2.sem = fun _ => 0)

def quiescent_NpKIdeal [hNpKIdeal : Cert.NpKIdeal.Facts] : Prop :=
  ∀ (m : (ℓ : Loc Cert.NpKIdeal.nD Cert.NpKIdeal.τ Cert.NpKIdeal.sig) → Buf (Elt Ideal) ℓ) (g : Dev Cert.NpKIdeal.nD → PrngReg), Pre_NpKIdeal m →
    θ_run (Cert.NpKIdeal.defs (F := Ideal)) (onTc (τ := Cert.NpKIdeal.τ) (Cert.NpKIdeal.main (F := Ideal))) ⟨m, fun _ => 0, g⟩ (fun r => (∀ c : Dev Cert.NpKIdeal.nD,
      r.2.mem ((c.tc : Thread Cert.NpKIdeal.nD Cert.NpKIdeal.τ).loc Cert.NpKIdeal.main_arg0) = m ((c.tc : Thread Cert.NpKIdeal.nD Cert.NpKIdeal.τ).loc Cert.NpKIdeal.main_arg0)
      ∧ r.2.mem ((c.tc : Thread Cert.NpKIdeal.nD Cert.NpKIdeal.τ).loc Cert.NpKIdeal.main_arg1) = m ((c.tc : Thread Cert.NpKIdeal.nD Cert.NpKIdeal.τ).loc Cert.NpKIdeal.main_arg1))
      ∧ r.2.sem = fun _ => 0)

def quiescent_NpRIdeal [hNpRIdeal : Cert.NpRIdeal.Facts] : Prop :=
  ∀ (m : (ℓ : Loc Cert.NpRIdeal.nD Cert.NpRIdeal.τ Cert.NpRIdeal.sig) → Buf (Elt Ideal) ℓ) (g : Dev Cert.NpRIdeal.nD → PrngReg), Pre_NpRIdeal m →
    θ_run (Cert.NpRIdeal.defs (F := Ideal)) (onTc (τ := Cert.NpRIdeal.τ) (Cert.NpRIdeal.main (F := Ideal))) ⟨m, fun _ => 0, g⟩ (fun r => (∀ c : Dev Cert.NpRIdeal.nD,
      r.2.mem ((c.tc : Thread Cert.NpRIdeal.nD Cert.NpRIdeal.τ).loc Cert.NpRIdeal.main_arg0) = m ((c.tc : Thread Cert.NpRIdeal.nD Cert.NpRIdeal.τ).loc Cert.NpRIdeal.main_arg0)
      ∧ r.2.mem ((c.tc : Thread Cert.NpRIdeal.nD Cert.NpRIdeal.τ).loc Cert.NpRIdeal.main_arg1) = m ((c.tc : Thread Cert.NpRIdeal.nD Cert.NpRIdeal.τ).loc Cert.NpRIdeal.main_arg1))
      ∧ r.2.sem = fun _ => 0)

def quiescent_NsK [hNsK : Cert.NsK.Facts] : Prop :=
  ∀ (m : (ℓ : Loc Cert.NsK.nD Cert.NsK.τ Cert.NsK.sig) → Buf (Elt Bits) ℓ) (g : Dev Cert.NsK.nD → PrngReg), Pre_NsK m →
    θ_run (Cert.NsK.defs (F := Bits)) (onTc (τ := Cert.NsK.τ) (Cert.NsK.main (F := Bits))) ⟨m, fun _ => 0, g⟩ (fun r => (∀ c : Dev Cert.NsK.nD,
      r.2.mem ((c.tc : Thread Cert.NsK.nD Cert.NsK.τ).loc Cert.NsK.main_arg0) = m ((c.tc : Thread Cert.NsK.nD Cert.NsK.τ).loc Cert.NsK.main_arg0)
      ∧ r.2.mem ((c.tc : Thread Cert.NsK.nD Cert.NsK.τ).loc Cert.NsK.main_arg1) = m ((c.tc : Thread Cert.NsK.nD Cert.NsK.τ).loc Cert.NsK.main_arg1))
      ∧ r.2.sem = fun _ => 0)

def quiescent_NsKIdeal [hNsKIdeal : Cert.NsKIdeal.Facts] : Prop :=
  ∀ (m : (ℓ : Loc Cert.NsKIdeal.nD Cert.NsKIdeal.τ Cert.NsKIdeal.sig) → Buf (Elt Ideal) ℓ) (g : Dev Cert.NsKIdeal.nD → PrngReg), Pre_NsKIdeal m →
    θ_run (Cert.NsKIdeal.defs (F := Ideal)) (onTc (τ := Cert.NsKIdeal.τ) (Cert.NsKIdeal.main (F := Ideal))) ⟨m, fun _ => 0, g⟩ (fun r => (∀ c : Dev Cert.NsKIdeal.nD,
      r.2.mem ((c.tc : Thread Cert.NsKIdeal.nD Cert.NsKIdeal.τ).loc Cert.NsKIdeal.main_arg0) = m ((c.tc : Thread Cert.NsKIdeal.nD Cert.NsKIdeal.τ).loc Cert.NsKIdeal.main_arg0)
      ∧ r.2.mem ((c.tc : Thread Cert.NsKIdeal.nD Cert.NsKIdeal.τ).loc Cert.NsKIdeal.main_arg1) = m ((c.tc : Thread Cert.NsKIdeal.nD Cert.NsKIdeal.τ).loc Cert.NsKIdeal.main_arg1))
      ∧ r.2.sem = fun _ => 0)

def quiescent_NsRIdeal [hNsRIdeal : Cert.NsRIdeal.Facts] : Prop :=
  ∀ (m : (ℓ : Loc Cert.NsRIdeal.nD Cert.NsRIdeal.τ Cert.NsRIdeal.sig) → Buf (Elt Ideal) ℓ) (g : Dev Cert.NsRIdeal.nD → PrngReg), Pre_NsRIdeal m →
    θ_run (Cert.NsRIdeal.defs (F := Ideal)) (onTc (τ := Cert.NsRIdeal.τ) (Cert.NsRIdeal.main (F := Ideal))) ⟨m, fun _ => 0, g⟩ (fun r => (∀ c : Dev Cert.NsRIdeal.nD,
      r.2.mem ((c.tc : Thread Cert.NsRIdeal.nD Cert.NsRIdeal.τ).loc Cert.NsRIdeal.main_arg0) = m ((c.tc : Thread Cert.NsRIdeal.nD Cert.NsRIdeal.τ).loc Cert.NsRIdeal.main_arg0)
      ∧ r.2.mem ((c.tc : Thread Cert.NsRIdeal.nD Cert.NsRIdeal.τ).loc Cert.NsRIdeal.main_arg1) = m ((c.tc : Thread Cert.NsRIdeal.nD Cert.NsRIdeal.τ).loc Cert.NsRIdeal.main_arg1))
      ∧ r.2.sem = fun _ => 0)

def quiescent_XpK [hXpK : Cert.XpK.Facts] : Prop :=
  ∀ (m : (ℓ : Loc Cert.XpK.nD Cert.XpK.τ Cert.XpK.sig) → Buf (Elt Bits) ℓ) (g : Dev Cert.XpK.nD → PrngReg), Pre_XpK m →
    θ_run (Cert.XpK.defs (F := Bits)) (onTc (τ := Cert.XpK.τ) (Cert.XpK.main (F := Bits))) ⟨m, fun _ => 0, g⟩ (fun r => (∀ c : Dev Cert.XpK.nD,
      r.2.mem ((c.tc : Thread Cert.XpK.nD Cert.XpK.τ).loc Cert.XpK.main_arg0) = m ((c.tc : Thread Cert.XpK.nD Cert.XpK.τ).loc Cert.XpK.main_arg0)
      ∧ r.2.mem ((c.tc : Thread Cert.XpK.nD Cert.XpK.τ).loc Cert.XpK.main_arg1) = m ((c.tc : Thread Cert.XpK.nD Cert.XpK.τ).loc Cert.XpK.main_arg1))
      ∧ r.2.sem = fun _ => 0)

def quiescent_XpKIdeal [hXpKIdeal : Cert.XpKIdeal.Facts] : Prop :=
  ∀ (m : (ℓ : Loc Cert.XpKIdeal.nD Cert.XpKIdeal.τ Cert.XpKIdeal.sig) → Buf (Elt Ideal) ℓ) (g : Dev Cert.XpKIdeal.nD → PrngReg), Pre_XpKIdeal m →
    θ_run (Cert.XpKIdeal.defs (F := Ideal)) (onTc (τ := Cert.XpKIdeal.τ) (Cert.XpKIdeal.main (F := Ideal))) ⟨m, fun _ => 0, g⟩ (fun r => (∀ c : Dev Cert.XpKIdeal.nD,
      r.2.mem ((c.tc : Thread Cert.XpKIdeal.nD Cert.XpKIdeal.τ).loc Cert.XpKIdeal.main_arg0) = m ((c.tc : Thread Cert.XpKIdeal.nD Cert.XpKIdeal.τ).loc Cert.XpKIdeal.main_arg0)
      ∧ r.2.mem ((c.tc : Thread Cert.XpKIdeal.nD Cert.XpKIdeal.τ).loc Cert.XpKIdeal.main_arg1) = m ((c.tc : Thread Cert.XpKIdeal.nD Cert.XpKIdeal.τ).loc Cert.XpKIdeal.main_arg1))
      ∧ r.2.sem = fun _ => 0)

def quiescent_XpRIdeal [hXpRIdeal : Cert.XpRIdeal.Facts] : Prop :=
  ∀ (m : (ℓ : Loc Cert.XpRIdeal.nD Cert.XpRIdeal.τ Cert.XpRIdeal.sig) → Buf (Elt Ideal) ℓ) (g : Dev Cert.XpRIdeal.nD → PrngReg), Pre_XpRIdeal m →
    θ_run (Cert.XpRIdeal.defs (F := Ideal)) (onTc (τ := Cert.XpRIdeal.τ) (Cert.XpRIdeal.main (F := Ideal))) ⟨m, fun _ => 0, g⟩ (fun r => (∀ c : Dev Cert.XpRIdeal.nD,
      r.2.mem ((c.tc : Thread Cert.XpRIdeal.nD Cert.XpRIdeal.τ).loc Cert.XpRIdeal.main_arg0) = m ((c.tc : Thread Cert.XpRIdeal.nD Cert.XpRIdeal.τ).loc Cert.XpRIdeal.main_arg0)
      ∧ r.2.mem ((c.tc : Thread Cert.XpRIdeal.nD Cert.XpRIdeal.τ).loc Cert.XpRIdeal.main_arg1) = m ((c.tc : Thread Cert.XpRIdeal.nD Cert.XpRIdeal.τ).loc Cert.XpRIdeal.main_arg1))
      ∧ r.2.sem = fun _ => 0)

def quiescent_XsK [hXsK : Cert.XsK.Facts] : Prop :=
  ∀ (m : (ℓ : Loc Cert.XsK.nD Cert.XsK.τ Cert.XsK.sig) → Buf (Elt Bits) ℓ) (g : Dev Cert.XsK.nD → PrngReg), Pre_XsK m →
    θ_run (Cert.XsK.defs (F := Bits)) (onTc (τ := Cert.XsK.τ) (Cert.XsK.main (F := Bits))) ⟨m, fun _ => 0, g⟩ (fun r => (∀ c : Dev Cert.XsK.nD,
      r.2.mem ((c.tc : Thread Cert.XsK.nD Cert.XsK.τ).loc Cert.XsK.main_arg0) = m ((c.tc : Thread Cert.XsK.nD Cert.XsK.τ).loc Cert.XsK.main_arg0)
      ∧ r.2.mem ((c.tc : Thread Cert.XsK.nD Cert.XsK.τ).loc Cert.XsK.main_arg1) = m ((c.tc : Thread Cert.XsK.nD Cert.XsK.τ).loc Cert.XsK.main_arg1))
      ∧ r.2.sem = fun _ => 0)

def quiescent_XsKIdeal [hXsKIdeal : Cert.XsKIdeal.Facts] : Prop :=
  ∀ (m : (ℓ : Loc Cert.XsKIdeal.nD Cert.XsKIdeal.τ Cert.XsKIdeal.sig) → Buf (Elt Ideal) ℓ) (g : Dev Cert.XsKIdeal.nD → PrngReg), Pre_XsKIdeal m →
    θ_run (Cert.XsKIdeal.defs (F := Ideal)) (onTc (τ := Cert.XsKIdeal.τ) (Cert.XsKIdeal.main (F := Ideal))) ⟨m, fun _ => 0, g⟩ (fun r => (∀ c : Dev Cert.XsKIdeal.nD,
      r.2.mem ((c.tc : Thread Cert.XsKIdeal.nD Cert.XsKIdeal.τ).loc Cert.XsKIdeal.main_arg0) = m ((c.tc : Thread Cert.XsKIdeal.nD Cert.XsKIdeal.τ).loc Cert.XsKIdeal.main_arg0)
      ∧ r.2.mem ((c.tc : Thread Cert.XsKIdeal.nD Cert.XsKIdeal.τ).loc Cert.XsKIdeal.main_arg1) = m ((c.tc : Thread Cert.XsKIdeal.nD Cert.XsKIdeal.τ).loc Cert.XsKIdeal.main_arg1))
      ∧ r.2.sem = fun _ => 0)

def quiescent_XsRIdeal [hXsRIdeal : Cert.XsRIdeal.Facts] : Prop :=
  ∀ (m : (ℓ : Loc Cert.XsRIdeal.nD Cert.XsRIdeal.τ Cert.XsRIdeal.sig) → Buf (Elt Ideal) ℓ) (g : Dev Cert.XsRIdeal.nD → PrngReg), Pre_XsRIdeal m →
    θ_run (Cert.XsRIdeal.defs (F := Ideal)) (onTc (τ := Cert.XsRIdeal.τ) (Cert.XsRIdeal.main (F := Ideal))) ⟨m, fun _ => 0, g⟩ (fun r => (∀ c : Dev Cert.XsRIdeal.nD,
      r.2.mem ((c.tc : Thread Cert.XsRIdeal.nD Cert.XsRIdeal.τ).loc Cert.XsRIdeal.main_arg0) = m ((c.tc : Thread Cert.XsRIdeal.nD Cert.XsRIdeal.τ).loc Cert.XsRIdeal.main_arg0)
      ∧ r.2.mem ((c.tc : Thread Cert.XsRIdeal.nD Cert.XsRIdeal.τ).loc Cert.XsRIdeal.main_arg1) = m ((c.tc : Thread Cert.XsRIdeal.nD Cert.XsRIdeal.τ).loc Cert.XsRIdeal.main_arg1))
      ∧ r.2.sem = fun _ => 0)

def quiescent_SsK [hSsK : Cert.SsK.Facts] : Prop :=
  ∀ (m : (ℓ : Loc Cert.SsK.nD Cert.SsK.τ Cert.SsK.sig) → Buf (Elt Bits) ℓ) (g : Dev Cert.SsK.nD → PrngReg), Pre_SsK m →
    θ_run (Cert.SsK.defs (F := Bits)) (onTc (τ := Cert.SsK.τ) (Cert.SsK.main (F := Bits))) ⟨m, fun _ => 0, g⟩ (fun r => (∀ c : Dev Cert.SsK.nD,
      r.2.mem ((c.tc : Thread Cert.SsK.nD Cert.SsK.τ).loc Cert.SsK.main_arg0) = m ((c.tc : Thread Cert.SsK.nD Cert.SsK.τ).loc Cert.SsK.main_arg0)
      ∧ r.2.mem ((c.tc : Thread Cert.SsK.nD Cert.SsK.τ).loc Cert.SsK.main_arg1) = m ((c.tc : Thread Cert.SsK.nD Cert.SsK.τ).loc Cert.SsK.main_arg1)
      ∧ r.2.mem ((c.tc : Thread Cert.SsK.nD Cert.SsK.τ).loc Cert.SsK.main_arg2) = m ((c.tc : Thread Cert.SsK.nD Cert.SsK.τ).loc Cert.SsK.main_arg2)
      ∧ r.2.mem ((c.tc : Thread Cert.SsK.nD Cert.SsK.τ).loc Cert.SsK.main_arg3) = m ((c.tc : Thread Cert.SsK.nD Cert.SsK.τ).loc Cert.SsK.main_arg3)
      ∧ r.2.mem ((c.tc : Thread Cert.SsK.nD Cert.SsK.τ).loc Cert.SsK.main_arg4) = m ((c.tc : Thread Cert.SsK.nD Cert.SsK.τ).loc Cert.SsK.main_arg4)
      ∧ r.2.mem ((c.tc : Thread Cert.SsK.nD Cert.SsK.τ).loc Cert.SsK.main_arg5) = m ((c.tc : Thread Cert.SsK.nD Cert.SsK.τ).loc Cert.SsK.main_arg5)
      ∧ r.2.mem ((c.tc : Thread Cert.SsK.nD Cert.SsK.τ).loc Cert.SsK.main_arg6) = m ((c.tc : Thread Cert.SsK.nD Cert.SsK.τ).loc Cert.SsK.main_arg6)
      ∧ r.2.mem ((c.tc : Thread Cert.SsK.nD Cert.SsK.τ).loc Cert.SsK.main_arg7) = m ((c.tc : Thread Cert.SsK.nD Cert.SsK.τ).loc Cert.SsK.main_arg7)
      ∧ r.2.mem ((c.tc : Thread Cert.SsK.nD Cert.SsK.τ).loc Cert.SsK.main_arg8) = m ((c.tc : Thread Cert.SsK.nD Cert.SsK.τ).loc Cert.SsK.main_arg8))
      ∧ r.2.sem = fun _ => 0)

def quiescent_SsKIdeal [hSsKIdeal : Cert.SsKIdeal.Facts] : Prop :=
  ∀ (m : (ℓ : Loc Cert.SsKIdeal.nD Cert.SsKIdeal.τ Cert.SsKIdeal.sig) → Buf (Elt Ideal) ℓ) (g : Dev Cert.SsKIdeal.nD → PrngReg), Pre_SsKIdeal m →
    θ_run (Cert.SsKIdeal.defs (F := Ideal)) (onTc (τ := Cert.SsKIdeal.τ) (Cert.SsKIdeal.main (F := Ideal))) ⟨m, fun _ => 0, g⟩ (fun r => (∀ c : Dev Cert.SsKIdeal.nD,
      r.2.mem ((c.tc : Thread Cert.SsKIdeal.nD Cert.SsKIdeal.τ).loc Cert.SsKIdeal.main_arg0) = m ((c.tc : Thread Cert.SsKIdeal.nD Cert.SsKIdeal.τ).loc Cert.SsKIdeal.main_arg0)
      ∧ r.2.mem ((c.tc : Thread Cert.SsKIdeal.nD Cert.SsKIdeal.τ).loc Cert.SsKIdeal.main_arg1) = m ((c.tc : Thread Cert.SsKIdeal.nD Cert.SsKIdeal.τ).loc Cert.SsKIdeal.main_arg1)
      ∧ r.2.mem ((c.tc : Thread Cert.SsKIdeal.nD Cert.SsKIdeal.τ).loc Cert.SsKIdeal.main_arg2) = m ((c.tc : Thread Cert.SsKIdeal.nD Cert.SsKIdeal.τ).loc Cert.SsKIdeal.main_arg2)
      ∧ r.2.mem ((c.tc : Thread Cert.SsKIdeal.nD Cert.SsKIdeal.τ).loc Cert.SsKIdeal.main_arg3) = m ((c.tc : Thread Cert.SsKIdeal.nD Cert.SsKIdeal.τ).loc Cert.SsKIdeal.main_arg3)
      ∧ r.2.mem ((c.tc : Thread Cert.SsKIdeal.nD Cert.SsKIdeal.τ).loc Cert.SsKIdeal.main_arg4) = m ((c.tc : Thread Cert.SsKIdeal.nD Cert.SsKIdeal.τ).loc Cert.SsKIdeal.main_arg4)
      ∧ r.2.mem ((c.tc : Thread Cert.SsKIdeal.nD Cert.SsKIdeal.τ).loc Cert.SsKIdeal.main_arg5) = m ((c.tc : Thread Cert.SsKIdeal.nD Cert.SsKIdeal.τ).loc Cert.SsKIdeal.main_arg5)
      ∧ r.2.mem ((c.tc : Thread Cert.SsKIdeal.nD Cert.SsKIdeal.τ).loc Cert.SsKIdeal.main_arg6) = m ((c.tc : Thread Cert.SsKIdeal.nD Cert.SsKIdeal.τ).loc Cert.SsKIdeal.main_arg6)
      ∧ r.2.mem ((c.tc : Thread Cert.SsKIdeal.nD Cert.SsKIdeal.τ).loc Cert.SsKIdeal.main_arg7) = m ((c.tc : Thread Cert.SsKIdeal.nD Cert.SsKIdeal.τ).loc Cert.SsKIdeal.main_arg7)
      ∧ r.2.mem ((c.tc : Thread Cert.SsKIdeal.nD Cert.SsKIdeal.τ).loc Cert.SsKIdeal.main_arg8) = m ((c.tc : Thread Cert.SsKIdeal.nD Cert.SsKIdeal.τ).loc Cert.SsKIdeal.main_arg8))
      ∧ r.2.sem = fun _ => 0)

def quiescent_SsRIdeal [hSsRIdeal : Cert.SsRIdeal.Facts] : Prop :=
  ∀ (m : (ℓ : Loc Cert.SsRIdeal.nD Cert.SsRIdeal.τ Cert.SsRIdeal.sig) → Buf (Elt Ideal) ℓ) (g : Dev Cert.SsRIdeal.nD → PrngReg), Pre_SsRIdeal m →
    θ_run (Cert.SsRIdeal.defs (F := Ideal)) (onTc (τ := Cert.SsRIdeal.τ) (Cert.SsRIdeal.main (F := Ideal))) ⟨m, fun _ => 0, g⟩ (fun r => (∀ c : Dev Cert.SsRIdeal.nD,
      r.2.mem ((c.tc : Thread Cert.SsRIdeal.nD Cert.SsRIdeal.τ).loc Cert.SsRIdeal.main_arg0) = m ((c.tc : Thread Cert.SsRIdeal.nD Cert.SsRIdeal.τ).loc Cert.SsRIdeal.main_arg0)
      ∧ r.2.mem ((c.tc : Thread Cert.SsRIdeal.nD Cert.SsRIdeal.τ).loc Cert.SsRIdeal.main_arg1) = m ((c.tc : Thread Cert.SsRIdeal.nD Cert.SsRIdeal.τ).loc Cert.SsRIdeal.main_arg1)
      ∧ r.2.mem ((c.tc : Thread Cert.SsRIdeal.nD Cert.SsRIdeal.τ).loc Cert.SsRIdeal.main_arg2) = m ((c.tc : Thread Cert.SsRIdeal.nD Cert.SsRIdeal.τ).loc Cert.SsRIdeal.main_arg2)
      ∧ r.2.mem ((c.tc : Thread Cert.SsRIdeal.nD Cert.SsRIdeal.τ).loc Cert.SsRIdeal.main_arg3) = m ((c.tc : Thread Cert.SsRIdeal.nD Cert.SsRIdeal.τ).loc Cert.SsRIdeal.main_arg3)
      ∧ r.2.mem ((c.tc : Thread Cert.SsRIdeal.nD Cert.SsRIdeal.τ).loc Cert.SsRIdeal.main_arg4) = m ((c.tc : Thread Cert.SsRIdeal.nD Cert.SsRIdeal.τ).loc Cert.SsRIdeal.main_arg4)
      ∧ r.2.mem ((c.tc : Thread Cert.SsRIdeal.nD Cert.SsRIdeal.τ).loc Cert.SsRIdeal.main_arg5) = m ((c.tc : Thread Cert.SsRIdeal.nD Cert.SsRIdeal.τ).loc Cert.SsRIdeal.main_arg5)
      ∧ r.2.mem ((c.tc : Thread Cert.SsRIdeal.nD Cert.SsRIdeal.τ).loc Cert.SsRIdeal.main_arg6) = m ((c.tc : Thread Cert.SsRIdeal.nD Cert.SsRIdeal.τ).loc Cert.SsRIdeal.main_arg6)
      ∧ r.2.mem ((c.tc : Thread Cert.SsRIdeal.nD Cert.SsRIdeal.τ).loc Cert.SsRIdeal.main_arg7) = m ((c.tc : Thread Cert.SsRIdeal.nD Cert.SsRIdeal.τ).loc Cert.SsRIdeal.main_arg7)
      ∧ r.2.mem ((c.tc : Thread Cert.SsRIdeal.nD Cert.SsRIdeal.τ).loc Cert.SsRIdeal.main_arg8) = m ((c.tc : Thread Cert.SsRIdeal.nD Cert.SsRIdeal.τ).loc Cert.SsRIdeal.main_arg8))
      ∧ r.2.sem = fun _ => 0)

def quiescent_GsK [hGsK : Cert.GsK.Facts] : Prop :=
  ∀ (m : (ℓ : Loc Cert.GsK.nD Cert.GsK.τ Cert.GsK.sig) → Buf (Elt Bits) ℓ) (g : Dev Cert.GsK.nD → PrngReg), Pre_GsK m →
    θ_run (Cert.GsK.defs (F := Bits)) (onTc (τ := Cert.GsK.τ) (Cert.GsK.main (F := Bits))) ⟨m, fun _ => 0, g⟩ (fun r => (∀ c : Dev Cert.GsK.nD,
      r.2.mem ((c.tc : Thread Cert.GsK.nD Cert.GsK.τ).loc Cert.GsK.main_arg0) = m ((c.tc : Thread Cert.GsK.nD Cert.GsK.τ).loc Cert.GsK.main_arg0)
      ∧ r.2.mem ((c.tc : Thread Cert.GsK.nD Cert.GsK.τ).loc Cert.GsK.main_arg1) = m ((c.tc : Thread Cert.GsK.nD Cert.GsK.τ).loc Cert.GsK.main_arg1)
      ∧ r.2.mem ((c.tc : Thread Cert.GsK.nD Cert.GsK.τ).loc Cert.GsK.main_arg2) = m ((c.tc : Thread Cert.GsK.nD Cert.GsK.τ).loc Cert.GsK.main_arg2)
      ∧ r.2.mem ((c.tc : Thread Cert.GsK.nD Cert.GsK.τ).loc Cert.GsK.main_arg3) = m ((c.tc : Thread Cert.GsK.nD Cert.GsK.τ).loc Cert.GsK.main_arg3)
      ∧ r.2.mem ((c.tc : Thread Cert.GsK.nD Cert.GsK.τ).loc Cert.GsK.main_arg4) = m ((c.tc : Thread Cert.GsK.nD Cert.GsK.τ).loc Cert.GsK.main_arg4)
      ∧ r.2.mem ((c.tc : Thread Cert.GsK.nD Cert.GsK.τ).loc Cert.GsK.main_arg5) = m ((c.tc : Thread Cert.GsK.nD Cert.GsK.τ).loc Cert.GsK.main_arg5)
      ∧ r.2.mem ((c.tc : Thread Cert.GsK.nD Cert.GsK.τ).loc Cert.GsK.main_arg6) = m ((c.tc : Thread Cert.GsK.nD Cert.GsK.τ).loc Cert.GsK.main_arg6)
      ∧ r.2.mem ((c.tc : Thread Cert.GsK.nD Cert.GsK.τ).loc Cert.GsK.main_arg7) = m ((c.tc : Thread Cert.GsK.nD Cert.GsK.τ).loc Cert.GsK.main_arg7)
      ∧ r.2.mem ((c.tc : Thread Cert.GsK.nD Cert.GsK.τ).loc Cert.GsK.main_arg8) = m ((c.tc : Thread Cert.GsK.nD Cert.GsK.τ).loc Cert.GsK.main_arg8))
      ∧ r.2.sem = fun _ => 0)

def quiescent_GsKIdeal [hGsKIdeal : Cert.GsKIdeal.Facts] : Prop :=
  ∀ (m : (ℓ : Loc Cert.GsKIdeal.nD Cert.GsKIdeal.τ Cert.GsKIdeal.sig) → Buf (Elt Ideal) ℓ) (g : Dev Cert.GsKIdeal.nD → PrngReg), Pre_GsKIdeal m →
    θ_run (Cert.GsKIdeal.defs (F := Ideal)) (onTc (τ := Cert.GsKIdeal.τ) (Cert.GsKIdeal.main (F := Ideal))) ⟨m, fun _ => 0, g⟩ (fun r => (∀ c : Dev Cert.GsKIdeal.nD,
      r.2.mem ((c.tc : Thread Cert.GsKIdeal.nD Cert.GsKIdeal.τ).loc Cert.GsKIdeal.main_arg0) = m ((c.tc : Thread Cert.GsKIdeal.nD Cert.GsKIdeal.τ).loc Cert.GsKIdeal.main_arg0)
      ∧ r.2.mem ((c.tc : Thread Cert.GsKIdeal.nD Cert.GsKIdeal.τ).loc Cert.GsKIdeal.main_arg1) = m ((c.tc : Thread Cert.GsKIdeal.nD Cert.GsKIdeal.τ).loc Cert.GsKIdeal.main_arg1)
      ∧ r.2.mem ((c.tc : Thread Cert.GsKIdeal.nD Cert.GsKIdeal.τ).loc Cert.GsKIdeal.main_arg2) = m ((c.tc : Thread Cert.GsKIdeal.nD Cert.GsKIdeal.τ).loc Cert.GsKIdeal.main_arg2)
      ∧ r.2.mem ((c.tc : Thread Cert.GsKIdeal.nD Cert.GsKIdeal.τ).loc Cert.GsKIdeal.main_arg3) = m ((c.tc : Thread Cert.GsKIdeal.nD Cert.GsKIdeal.τ).loc Cert.GsKIdeal.main_arg3)
      ∧ r.2.mem ((c.tc : Thread Cert.GsKIdeal.nD Cert.GsKIdeal.τ).loc Cert.GsKIdeal.main_arg4) = m ((c.tc : Thread Cert.GsKIdeal.nD Cert.GsKIdeal.τ).loc Cert.GsKIdeal.main_arg4)
      ∧ r.2.mem ((c.tc : Thread Cert.GsKIdeal.nD Cert.GsKIdeal.τ).loc Cert.GsKIdeal.main_arg5) = m ((c.tc : Thread Cert.GsKIdeal.nD Cert.GsKIdeal.τ).loc Cert.GsKIdeal.main_arg5)
      ∧ r.2.mem ((c.tc : Thread Cert.GsKIdeal.nD Cert.GsKIdeal.τ).loc Cert.GsKIdeal.main_arg6) = m ((c.tc : Thread Cert.GsKIdeal.nD Cert.GsKIdeal.τ).loc Cert.GsKIdeal.main_arg6)
      ∧ r.2.mem ((c.tc : Thread Cert.GsKIdeal.nD Cert.GsKIdeal.τ).loc Cert.GsKIdeal.main_arg7) = m ((c.tc : Thread Cert.GsKIdeal.nD Cert.GsKIdeal.τ).loc Cert.GsKIdeal.main_arg7)
      ∧ r.2.mem ((c.tc : Thread Cert.GsKIdeal.nD Cert.GsKIdeal.τ).loc Cert.GsKIdeal.main_arg8) = m ((c.tc : Thread Cert.GsKIdeal.nD Cert.GsKIdeal.τ).loc Cert.GsKIdeal.main_arg8))
      ∧ r.2.sem = fun _ => 0)

def quiescent_GsRIdeal [hGsRIdeal : Cert.GsRIdeal.Facts] : Prop :=
  ∀ (m : (ℓ : Loc Cert.GsRIdeal.nD Cert.GsRIdeal.τ Cert.GsRIdeal.sig) → Buf (Elt Ideal) ℓ) (g : Dev Cert.GsRIdeal.nD → PrngReg), Pre_GsRIdeal m →
    θ_run (Cert.GsRIdeal.defs (F := Ideal)) (onTc (τ := Cert.GsRIdeal.τ) (Cert.GsRIdeal.main (F := Ideal))) ⟨m, fun _ => 0, g⟩ (fun r => (∀ c : Dev Cert.GsRIdeal.nD,
      r.2.mem ((c.tc : Thread Cert.GsRIdeal.nD Cert.GsRIdeal.τ).loc Cert.GsRIdeal.main_arg0) = m ((c.tc : Thread Cert.GsRIdeal.nD Cert.GsRIdeal.τ).loc Cert.GsRIdeal.main_arg0)
      ∧ r.2.mem ((c.tc : Thread Cert.GsRIdeal.nD Cert.GsRIdeal.τ).loc Cert.GsRIdeal.main_arg1) = m ((c.tc : Thread Cert.GsRIdeal.nD Cert.GsRIdeal.τ).loc Cert.GsRIdeal.main_arg1)
      ∧ r.2.mem ((c.tc : Thread Cert.GsRIdeal.nD Cert.GsRIdeal.τ).loc Cert.GsRIdeal.main_arg2) = m ((c.tc : Thread Cert.GsRIdeal.nD Cert.GsRIdeal.τ).loc Cert.GsRIdeal.main_arg2)
      ∧ r.2.mem ((c.tc : Thread Cert.GsRIdeal.nD Cert.GsRIdeal.τ).loc Cert.GsRIdeal.main_arg3) = m ((c.tc : Thread Cert.GsRIdeal.nD Cert.GsRIdeal.τ).loc Cert.GsRIdeal.main_arg3)
      ∧ r.2.mem ((c.tc : Thread Cert.GsRIdeal.nD Cert.GsRIdeal.τ).loc Cert.GsRIdeal.main_arg4) = m ((c.tc : Thread Cert.GsRIdeal.nD Cert.GsRIdeal.τ).loc Cert.GsRIdeal.main_arg4)
      ∧ r.2.mem ((c.tc : Thread Cert.GsRIdeal.nD Cert.GsRIdeal.τ).loc Cert.GsRIdeal.main_arg5) = m ((c.tc : Thread Cert.GsRIdeal.nD Cert.GsRIdeal.τ).loc Cert.GsRIdeal.main_arg5)
      ∧ r.2.mem ((c.tc : Thread Cert.GsRIdeal.nD Cert.GsRIdeal.τ).loc Cert.GsRIdeal.main_arg6) = m ((c.tc : Thread Cert.GsRIdeal.nD Cert.GsRIdeal.τ).loc Cert.GsRIdeal.main_arg6)
      ∧ r.2.mem ((c.tc : Thread Cert.GsRIdeal.nD Cert.GsRIdeal.τ).loc Cert.GsRIdeal.main_arg7) = m ((c.tc : Thread Cert.GsRIdeal.nD Cert.GsRIdeal.τ).loc Cert.GsRIdeal.main_arg7)
      ∧ r.2.mem ((c.tc : Thread Cert.GsRIdeal.nD Cert.GsRIdeal.τ).loc Cert.GsRIdeal.main_arg8) = m ((c.tc : Thread Cert.GsRIdeal.nD Cert.GsRIdeal.τ).loc Cert.GsRIdeal.main_arg8))
      ∧ r.2.sem = fun _ => 0)

def quiescent_SpK [hSpK : Cert.SpK.Facts] : Prop :=
  ∀ (m : (ℓ : Loc Cert.SpK.nD Cert.SpK.τ Cert.SpK.sig) → Buf (Elt Bits) ℓ) (g : Dev Cert.SpK.nD → PrngReg), Pre_SpK m →
    θ_run (Cert.SpK.defs (F := Bits)) (onTc (τ := Cert.SpK.τ) (Cert.SpK.main (F := Bits))) ⟨m, fun _ => 0, g⟩ (fun r => (∀ c : Dev Cert.SpK.nD,
      r.2.mem ((c.tc : Thread Cert.SpK.nD Cert.SpK.τ).loc Cert.SpK.main_arg0) = m ((c.tc : Thread Cert.SpK.nD Cert.SpK.τ).loc Cert.SpK.main_arg0)
      ∧ r.2.mem ((c.tc : Thread Cert.SpK.nD Cert.SpK.τ).loc Cert.SpK.main_arg1) = m ((c.tc : Thread Cert.SpK.nD Cert.SpK.τ).loc Cert.SpK.main_arg1)
      ∧ r.2.mem ((c.tc : Thread Cert.SpK.nD Cert.SpK.τ).loc Cert.SpK.main_arg2) = m ((c.tc : Thread Cert.SpK.nD Cert.SpK.τ).loc Cert.SpK.main_arg2)
      ∧ r.2.mem ((c.tc : Thread Cert.SpK.nD Cert.SpK.τ).loc Cert.SpK.main_arg3) = m ((c.tc : Thread Cert.SpK.nD Cert.SpK.τ).loc Cert.SpK.main_arg3))
      ∧ r.2.sem = fun _ => 0)

def quiescent_SpKIdeal [hSpKIdeal : Cert.SpKIdeal.Facts] : Prop :=
  ∀ (m : (ℓ : Loc Cert.SpKIdeal.nD Cert.SpKIdeal.τ Cert.SpKIdeal.sig) → Buf (Elt Ideal) ℓ) (g : Dev Cert.SpKIdeal.nD → PrngReg), Pre_SpKIdeal m →
    θ_run (Cert.SpKIdeal.defs (F := Ideal)) (onTc (τ := Cert.SpKIdeal.τ) (Cert.SpKIdeal.main (F := Ideal))) ⟨m, fun _ => 0, g⟩ (fun r => (∀ c : Dev Cert.SpKIdeal.nD,
      r.2.mem ((c.tc : Thread Cert.SpKIdeal.nD Cert.SpKIdeal.τ).loc Cert.SpKIdeal.main_arg0) = m ((c.tc : Thread Cert.SpKIdeal.nD Cert.SpKIdeal.τ).loc Cert.SpKIdeal.main_arg0)
      ∧ r.2.mem ((c.tc : Thread Cert.SpKIdeal.nD Cert.SpKIdeal.τ).loc Cert.SpKIdeal.main_arg1) = m ((c.tc : Thread Cert.SpKIdeal.nD Cert.SpKIdeal.τ).loc Cert.SpKIdeal.main_arg1)
      ∧ r.2.mem ((c.tc : Thread Cert.SpKIdeal.nD Cert.SpKIdeal.τ).loc Cert.SpKIdeal.main_arg2) = m ((c.tc : Thread Cert.SpKIdeal.nD Cert.SpKIdeal.τ).loc Cert.SpKIdeal.main_arg2)
      ∧ r.2.mem ((c.tc : Thread Cert.SpKIdeal.nD Cert.SpKIdeal.τ).loc Cert.SpKIdeal.main_arg3) = m ((c.tc : Thread Cert.SpKIdeal.nD Cert.SpKIdeal.τ).loc Cert.SpKIdeal.main_arg3))
      ∧ r.2.sem = fun _ => 0)

def quiescent_SpRIdeal [hSpRIdeal : Cert.SpRIdeal.Facts] : Prop :=
  ∀ (m : (ℓ : Loc Cert.SpRIdeal.nD Cert.SpRIdeal.τ Cert.SpRIdeal.sig) → Buf (Elt Ideal) ℓ) (g : Dev Cert.SpRIdeal.nD → PrngReg), Pre_SpRIdeal m →
    θ_run (Cert.SpRIdeal.defs (F := Ideal)) (onTc (τ := Cert.SpRIdeal.τ) (Cert.SpRIdeal.main (F := Ideal))) ⟨m, fun _ => 0, g⟩ (fun r => (∀ c : Dev Cert.SpRIdeal.nD,
      r.2.mem ((c.tc : Thread Cert.SpRIdeal.nD Cert.SpRIdeal.τ).loc Cert.SpRIdeal.main_arg0) = m ((c.tc : Thread Cert.SpRIdeal.nD Cert.SpRIdeal.τ).loc Cert.SpRIdeal.main_arg0)
      ∧ r.2.mem ((c.tc : Thread Cert.SpRIdeal.nD Cert.SpRIdeal.τ).loc Cert.SpRIdeal.main_arg1) = m ((c.tc : Thread Cert.SpRIdeal.nD Cert.SpRIdeal.τ).loc Cert.SpRIdeal.main_arg1)
      ∧ r.2.mem ((c.tc : Thread Cert.SpRIdeal.nD Cert.SpRIdeal.τ).loc Cert.SpRIdeal.main_arg2) = m ((c.tc : Thread Cert.SpRIdeal.nD Cert.SpRIdeal.τ).loc Cert.SpRIdeal.main_arg2)
      ∧ r.2.mem ((c.tc : Thread Cert.SpRIdeal.nD Cert.SpRIdeal.τ).loc Cert.SpRIdeal.main_arg3) = m ((c.tc : Thread Cert.SpRIdeal.nD Cert.SpRIdeal.τ).loc Cert.SpRIdeal.main_arg3))
      ∧ r.2.sem = fun _ => 0)

def preserves_MemK_MemKIdeal : Prop :=
  IdealRules.named_const.Statement Cert.MemKIdeal.κ "scale_log2e" .f32 0x3DB8AA3B#32 ((16⁻¹ * (Real.log 2)⁻¹ : ℝ) : EReal)

def algebraic_MemKIdeal_MemRIdeal_pre_mem_scores_finite [hMemKIdeal : Cert.MemKIdeal.Facts] [hMemRIdeal : Cert.MemRIdeal.Facts] [hPre_mem_scores_finite : Cert.Pre_mem_scores_finite.Facts] : Prop :=
  ∀ (m : (ℓ : Loc Cert.MemKIdeal.nD Cert.MemKIdeal.τ Cert.MemKIdeal.sig) → Buf (Elt Ideal) ℓ) (g : Dev Cert.MemKIdeal.nD → PrngReg)
    (m' : (ℓ : Loc Cert.MemRIdeal.nD Cert.MemRIdeal.τ Cert.MemRIdeal.sig) → Buf (Elt Ideal) ℓ) (g' : Dev Cert.MemRIdeal.nD → PrngReg), Pre_MemKIdeal_mem_scores_finite m →
    (∀ c : Dev Cert.MemKIdeal.nD,
      m' ((c.tc : Thread Cert.MemRIdeal.nD Cert.MemRIdeal.τ).loc Cert.MemRIdeal.main_arg0) = m ((c.tc : Thread Cert.MemKIdeal.nD Cert.MemKIdeal.τ).loc Cert.MemKIdeal.main_arg0)
      ∧ m' ((c.tc : Thread Cert.MemRIdeal.nD Cert.MemRIdeal.τ).loc Cert.MemRIdeal.main_arg1) = m ((c.tc : Thread Cert.MemKIdeal.nD Cert.MemKIdeal.τ).loc Cert.MemKIdeal.main_arg1)) →
    ∃ (v0 : (c : Dev Cert.MemKIdeal.nD) → Buf (Elt Ideal) ((c.tc : Thread Cert.MemKIdeal.nD Cert.MemKIdeal.τ).loc Cert.MemKIdeal.main_v0)),
      θ_run (Cert.MemKIdeal.defs (F := Ideal)) (onTc (τ := Cert.MemKIdeal.τ) (Cert.MemKIdeal.main (F := Ideal))) ⟨m, fun _ => 0, g⟩ (fun r => ∀ c : Dev Cert.MemKIdeal.nD,
          r.2.mem ((c.tc : Thread Cert.MemKIdeal.nD Cert.MemKIdeal.τ).loc Cert.MemKIdeal.main_v0) = v0 c
          ∧ r.2.mem ((c.tc : Thread Cert.MemKIdeal.nD Cert.MemKIdeal.τ).loc Cert.MemKIdeal.main_arg0) = m ((c.tc : Thread Cert.MemKIdeal.nD Cert.MemKIdeal.τ).loc Cert.MemKIdeal.main_arg0)
          ∧ r.2.mem ((c.tc : Thread Cert.MemKIdeal.nD Cert.MemKIdeal.τ).loc Cert.MemKIdeal.main_arg1) = m ((c.tc : Thread Cert.MemKIdeal.nD Cert.MemKIdeal.τ).loc Cert.MemKIdeal.main_arg1))
      ∧ θ_run (Cert.MemRIdeal.defs (F := Ideal)) (onTc (τ := Cert.MemRIdeal.τ) (Cert.MemRIdeal.main (F := Ideal))) ⟨m', fun _ => 0, g'⟩ (fun r => ∀ c : Dev Cert.MemRIdeal.nD,
          r.2.mem ((c.tc : Thread Cert.MemRIdeal.nD Cert.MemRIdeal.τ).loc Cert.MemRIdeal.main_v28) = v0 c
          ∧ r.2.mem ((c.tc : Thread Cert.MemRIdeal.nD Cert.MemRIdeal.τ).loc Cert.MemRIdeal.main_arg0) = m' ((c.tc : Thread Cert.MemRIdeal.nD Cert.MemRIdeal.τ).loc Cert.MemRIdeal.main_arg0)
          ∧ r.2.mem ((c.tc : Thread Cert.MemRIdeal.nD Cert.MemRIdeal.τ).loc Cert.MemRIdeal.main_arg1) = m' ((c.tc : Thread Cert.MemRIdeal.nD Cert.MemRIdeal.τ).loc Cert.MemRIdeal.main_arg1))

def preserves_OutK_OutKIdeal : Prop :=
  True

def algebraic_OutKIdeal_OutRIdeal [hOutKIdeal : Cert.OutKIdeal.Facts] [hOutRIdeal : Cert.OutRIdeal.Facts] : Prop :=
  ∀ (m : (ℓ : Loc Cert.OutKIdeal.nD Cert.OutKIdeal.τ Cert.OutKIdeal.sig) → Buf (Elt Ideal) ℓ) (g : Dev Cert.OutKIdeal.nD → PrngReg)
    (m' : (ℓ : Loc Cert.OutRIdeal.nD Cert.OutRIdeal.τ Cert.OutRIdeal.sig) → Buf (Elt Ideal) ℓ) (g' : Dev Cert.OutRIdeal.nD → PrngReg), Pre_OutKIdeal m →
    (∀ c : Dev Cert.OutKIdeal.nD,
      m' ((c.tc : Thread Cert.OutRIdeal.nD Cert.OutRIdeal.τ).loc Cert.OutRIdeal.main_arg0) = m ((c.tc : Thread Cert.OutKIdeal.nD Cert.OutKIdeal.τ).loc Cert.OutKIdeal.main_arg0)
      ∧ m' ((c.tc : Thread Cert.OutRIdeal.nD Cert.OutRIdeal.τ).loc Cert.OutRIdeal.main_arg1) = m ((c.tc : Thread Cert.OutKIdeal.nD Cert.OutKIdeal.τ).loc Cert.OutKIdeal.main_arg1)
      ∧ m' ((c.tc : Thread Cert.OutRIdeal.nD Cert.OutRIdeal.τ).loc Cert.OutRIdeal.main_arg2) = m ((c.tc : Thread Cert.OutKIdeal.nD Cert.OutKIdeal.τ).loc Cert.OutKIdeal.main_arg2)
      ∧ m' ((c.tc : Thread Cert.OutRIdeal.nD Cert.OutRIdeal.τ).loc Cert.OutRIdeal.main_arg3) = m ((c.tc : Thread Cert.OutKIdeal.nD Cert.OutKIdeal.τ).loc Cert.OutKIdeal.main_arg3)
      ∧ m' ((c.tc : Thread Cert.OutRIdeal.nD Cert.OutRIdeal.τ).loc Cert.OutRIdeal.main_arg4) = m ((c.tc : Thread Cert.OutKIdeal.nD Cert.OutKIdeal.τ).loc Cert.OutKIdeal.main_arg4)
      ∧ m' ((c.tc : Thread Cert.OutRIdeal.nD Cert.OutRIdeal.τ).loc Cert.OutRIdeal.main_arg5) = m ((c.tc : Thread Cert.OutKIdeal.nD Cert.OutKIdeal.τ).loc Cert.OutKIdeal.main_arg5)
      ∧ m' ((c.tc : Thread Cert.OutRIdeal.nD Cert.OutRIdeal.τ).loc Cert.OutRIdeal.main_arg6) = m ((c.tc : Thread Cert.OutKIdeal.nD Cert.OutKIdeal.τ).loc Cert.OutKIdeal.main_arg6)) →
    ∃ (v0 : (c : Dev Cert.OutKIdeal.nD) → Buf (Elt Ideal) ((c.tc : Thread Cert.OutKIdeal.nD Cert.OutKIdeal.τ).loc Cert.OutKIdeal.main_v0_0)) (v1 : (c : Dev Cert.OutKIdeal.nD) → Buf (Elt Ideal) ((c.tc : Thread Cert.OutKIdeal.nD Cert.OutKIdeal.τ).loc Cert.OutKIdeal.main_v0_1)),
      θ_run (Cert.OutKIdeal.defs (F := Ideal)) (onTc (τ := Cert.OutKIdeal.τ) (Cert.OutKIdeal.main (F := Ideal))) ⟨m, fun _ => 0, g⟩ (fun r => ∀ c : Dev Cert.OutKIdeal.nD,
          r.2.mem ((c.tc : Thread Cert.OutKIdeal.nD Cert.OutKIdeal.τ).loc Cert.OutKIdeal.main_v0_0) = v0 c
          ∧ r.2.mem ((c.tc : Thread Cert.OutKIdeal.nD Cert.OutKIdeal.τ).loc Cert.OutKIdeal.main_v0_1) = v1 c
          ∧ r.2.mem ((c.tc : Thread Cert.OutKIdeal.nD Cert.OutKIdeal.τ).loc Cert.OutKIdeal.main_arg0) = m ((c.tc : Thread Cert.OutKIdeal.nD Cert.OutKIdeal.τ).loc Cert.OutKIdeal.main_arg0)
          ∧ r.2.mem ((c.tc : Thread Cert.OutKIdeal.nD Cert.OutKIdeal.τ).loc Cert.OutKIdeal.main_arg1) = m ((c.tc : Thread Cert.OutKIdeal.nD Cert.OutKIdeal.τ).loc Cert.OutKIdeal.main_arg1)
          ∧ r.2.mem ((c.tc : Thread Cert.OutKIdeal.nD Cert.OutKIdeal.τ).loc Cert.OutKIdeal.main_arg2) = m ((c.tc : Thread Cert.OutKIdeal.nD Cert.OutKIdeal.τ).loc Cert.OutKIdeal.main_arg2)
          ∧ r.2.mem ((c.tc : Thread Cert.OutKIdeal.nD Cert.OutKIdeal.τ).loc Cert.OutKIdeal.main_arg3) = m ((c.tc : Thread Cert.OutKIdeal.nD Cert.OutKIdeal.τ).loc Cert.OutKIdeal.main_arg3)
          ∧ r.2.mem ((c.tc : Thread Cert.OutKIdeal.nD Cert.OutKIdeal.τ).loc Cert.OutKIdeal.main_arg4) = m ((c.tc : Thread Cert.OutKIdeal.nD Cert.OutKIdeal.τ).loc Cert.OutKIdeal.main_arg4)
          ∧ r.2.mem ((c.tc : Thread Cert.OutKIdeal.nD Cert.OutKIdeal.τ).loc Cert.OutKIdeal.main_arg5) = m ((c.tc : Thread Cert.OutKIdeal.nD Cert.OutKIdeal.τ).loc Cert.OutKIdeal.main_arg5)
          ∧ r.2.mem ((c.tc : Thread Cert.OutKIdeal.nD Cert.OutKIdeal.τ).loc Cert.OutKIdeal.main_arg6) = m ((c.tc : Thread Cert.OutKIdeal.nD Cert.OutKIdeal.τ).loc Cert.OutKIdeal.main_arg6))
      ∧ θ_run (Cert.OutRIdeal.defs (F := Ideal)) (onTc (τ := Cert.OutRIdeal.τ) (Cert.OutRIdeal.main (F := Ideal))) ⟨m', fun _ => 0, g'⟩ (fun r => ∀ c : Dev Cert.OutRIdeal.nD,
          r.2.mem ((c.tc : Thread Cert.OutRIdeal.nD Cert.OutRIdeal.τ).loc Cert.OutRIdeal.main_v5) = v0 c
          ∧ r.2.mem ((c.tc : Thread Cert.OutRIdeal.nD Cert.OutRIdeal.τ).loc Cert.OutRIdeal.main_v10) = v1 c
          ∧ r.2.mem ((c.tc : Thread Cert.OutRIdeal.nD Cert.OutRIdeal.τ).loc Cert.OutRIdeal.main_arg0) = m' ((c.tc : Thread Cert.OutRIdeal.nD Cert.OutRIdeal.τ).loc Cert.OutRIdeal.main_arg0)
          ∧ r.2.mem ((c.tc : Thread Cert.OutRIdeal.nD Cert.OutRIdeal.τ).loc Cert.OutRIdeal.main_arg1) = m' ((c.tc : Thread Cert.OutRIdeal.nD Cert.OutRIdeal.τ).loc Cert.OutRIdeal.main_arg1)
          ∧ r.2.mem ((c.tc : Thread Cert.OutRIdeal.nD Cert.OutRIdeal.τ).loc Cert.OutRIdeal.main_arg2) = m' ((c.tc : Thread Cert.OutRIdeal.nD Cert.OutRIdeal.τ).loc Cert.OutRIdeal.main_arg2)
          ∧ r.2.mem ((c.tc : Thread Cert.OutRIdeal.nD Cert.OutRIdeal.τ).loc Cert.OutRIdeal.main_arg3) = m' ((c.tc : Thread Cert.OutRIdeal.nD Cert.OutRIdeal.τ).loc Cert.OutRIdeal.main_arg3)
          ∧ r.2.mem ((c.tc : Thread Cert.OutRIdeal.nD Cert.OutRIdeal.τ).loc Cert.OutRIdeal.main_arg4) = m' ((c.tc : Thread Cert.OutRIdeal.nD Cert.OutRIdeal.τ).loc Cert.OutRIdeal.main_arg4)
          ∧ r.2.mem ((c.tc : Thread Cert.OutRIdeal.nD Cert.OutRIdeal.τ).loc Cert.OutRIdeal.main_arg5) = m' ((c.tc : Thread Cert.OutRIdeal.nD Cert.OutRIdeal.τ).loc Cert.OutRIdeal.main_arg5)
          ∧ r.2.mem ((c.tc : Thread Cert.OutRIdeal.nD Cert.OutRIdeal.τ).loc Cert.OutRIdeal.main_arg6) = m' ((c.tc : Thread Cert.OutRIdeal.nD Cert.OutRIdeal.τ).loc Cert.OutRIdeal.main_arg6))

def preserves_InK_InKIdeal : Prop :=
  True

def algebraic_InKIdeal_InRIdeal [hInKIdeal : Cert.InKIdeal.Facts] [hInRIdeal : Cert.InRIdeal.Facts] : Prop :=
  ∀ (m : (ℓ : Loc Cert.InKIdeal.nD Cert.InKIdeal.τ Cert.InKIdeal.sig) → Buf (Elt Ideal) ℓ) (g : Dev Cert.InKIdeal.nD → PrngReg)
    (m' : (ℓ : Loc Cert.InRIdeal.nD Cert.InRIdeal.τ Cert.InRIdeal.sig) → Buf (Elt Ideal) ℓ) (g' : Dev Cert.InRIdeal.nD → PrngReg), Pre_InKIdeal m →
    (∀ c : Dev Cert.InKIdeal.nD,
      m' ((c.tc : Thread Cert.InRIdeal.nD Cert.InRIdeal.τ).loc Cert.InRIdeal.main_arg0) = m ((c.tc : Thread Cert.InKIdeal.nD Cert.InKIdeal.τ).loc Cert.InKIdeal.main_arg0)
      ∧ m' ((c.tc : Thread Cert.InRIdeal.nD Cert.InRIdeal.τ).loc Cert.InRIdeal.main_arg1) = m ((c.tc : Thread Cert.InKIdeal.nD Cert.InKIdeal.τ).loc Cert.InKIdeal.main_arg1)
      ∧ m' ((c.tc : Thread Cert.InRIdeal.nD Cert.InRIdeal.τ).loc Cert.InRIdeal.main_arg2) = m ((c.tc : Thread Cert.InKIdeal.nD Cert.InKIdeal.τ).loc Cert.InKIdeal.main_arg2)) →
    ∃ (v0 : (c : Dev Cert.InKIdeal.nD) → Buf (Elt Ideal) ((c.tc : Thread Cert.InKIdeal.nD Cert.InKIdeal.τ).loc Cert.InKIdeal.main_v12_0)) (v1 : (c : Dev Cert.InKIdeal.nD) → Buf (Elt Ideal) ((c.tc : Thread Cert.InKIdeal.nD Cert.InKIdeal.τ).loc Cert.InKIdeal.main_v12_1)),
      θ_run (Cert.InKIdeal.defs (F := Ideal)) (onTc (τ := Cert.InKIdeal.τ) (Cert.InKIdeal.main (F := Ideal))) ⟨m, fun _ => 0, g⟩ (fun r => ∀ c : Dev Cert.InKIdeal.nD,
          r.2.mem ((c.tc : Thread Cert.InKIdeal.nD Cert.InKIdeal.τ).loc Cert.InKIdeal.main_v12_0) = v0 c
          ∧ r.2.mem ((c.tc : Thread Cert.InKIdeal.nD Cert.InKIdeal.τ).loc Cert.InKIdeal.main_v12_1) = v1 c
          ∧ r.2.mem ((c.tc : Thread Cert.InKIdeal.nD Cert.InKIdeal.τ).loc Cert.InKIdeal.main_arg0) = m ((c.tc : Thread Cert.InKIdeal.nD Cert.InKIdeal.τ).loc Cert.InKIdeal.main_arg0)
          ∧ r.2.mem ((c.tc : Thread Cert.InKIdeal.nD Cert.InKIdeal.τ).loc Cert.InKIdeal.main_arg1) = m ((c.tc : Thread Cert.InKIdeal.nD Cert.InKIdeal.τ).loc Cert.InKIdeal.main_arg1)
          ∧ r.2.mem ((c.tc : Thread Cert.InKIdeal.nD Cert.InKIdeal.τ).loc Cert.InKIdeal.main_arg2) = m ((c.tc : Thread Cert.InKIdeal.nD Cert.InKIdeal.τ).loc Cert.InKIdeal.main_arg2))
      ∧ θ_run (Cert.InRIdeal.defs (F := Ideal)) (onTc (τ := Cert.InRIdeal.τ) (Cert.InRIdeal.main (F := Ideal))) ⟨m', fun _ => 0, g'⟩ (fun r => ∀ c : Dev Cert.InRIdeal.nD,
          r.2.mem ((c.tc : Thread Cert.InRIdeal.nD Cert.InRIdeal.τ).loc Cert.InRIdeal.main_v14) = v0 c
          ∧ r.2.mem ((c.tc : Thread Cert.InRIdeal.nD Cert.InRIdeal.τ).loc Cert.InRIdeal.main_v29) = v1 c
          ∧ r.2.mem ((c.tc : Thread Cert.InRIdeal.nD Cert.InRIdeal.τ).loc Cert.InRIdeal.main_arg0) = m' ((c.tc : Thread Cert.InRIdeal.nD Cert.InRIdeal.τ).loc Cert.InRIdeal.main_arg0)
          ∧ r.2.mem ((c.tc : Thread Cert.InRIdeal.nD Cert.InRIdeal.τ).loc Cert.InRIdeal.main_arg1) = m' ((c.tc : Thread Cert.InRIdeal.nD Cert.InRIdeal.τ).loc Cert.InRIdeal.main_arg1)
          ∧ r.2.mem ((c.tc : Thread Cert.InRIdeal.nD Cert.InRIdeal.τ).loc Cert.InRIdeal.main_arg2) = m' ((c.tc : Thread Cert.InRIdeal.nD Cert.InRIdeal.τ).loc Cert.InRIdeal.main_arg2))

def preserves_KvK_KvKIdeal : Prop :=
  True

def algebraic_KvKIdeal_KvRIdeal [hKvKIdeal : Cert.KvKIdeal.Facts] [hKvRIdeal : Cert.KvRIdeal.Facts] : Prop :=
  ∀ (m : (ℓ : Loc Cert.KvKIdeal.nD Cert.KvKIdeal.τ Cert.KvKIdeal.sig) → Buf (Elt Ideal) ℓ) (g : Dev Cert.KvKIdeal.nD → PrngReg)
    (m' : (ℓ : Loc Cert.KvRIdeal.nD Cert.KvRIdeal.τ Cert.KvRIdeal.sig) → Buf (Elt Ideal) ℓ) (g' : Dev Cert.KvRIdeal.nD → PrngReg), Pre_KvKIdeal m →
    (∀ c : Dev Cert.KvKIdeal.nD,
      m' ((c.tc : Thread Cert.KvRIdeal.nD Cert.KvRIdeal.τ).loc Cert.KvRIdeal.main_arg0) = m ((c.tc : Thread Cert.KvKIdeal.nD Cert.KvKIdeal.τ).loc Cert.KvKIdeal.main_arg0)
      ∧ m' ((c.tc : Thread Cert.KvRIdeal.nD Cert.KvRIdeal.τ).loc Cert.KvRIdeal.main_arg1) = m ((c.tc : Thread Cert.KvKIdeal.nD Cert.KvKIdeal.τ).loc Cert.KvKIdeal.main_arg1)) →
    ∃ (v0 : (c : Dev Cert.KvKIdeal.nD) → Buf (Elt Ideal) ((c.tc : Thread Cert.KvKIdeal.nD Cert.KvKIdeal.τ).loc Cert.KvKIdeal.main_v0)),
      θ_run (Cert.KvKIdeal.defs (F := Ideal)) (onTc (τ := Cert.KvKIdeal.τ) (Cert.KvKIdeal.main (F := Ideal))) ⟨m, fun _ => 0, g⟩ (fun r => ∀ c : Dev Cert.KvKIdeal.nD,
          r.2.mem ((c.tc : Thread Cert.KvKIdeal.nD Cert.KvKIdeal.τ).loc Cert.KvKIdeal.main_v0) = v0 c
          ∧ r.2.mem ((c.tc : Thread Cert.KvKIdeal.nD Cert.KvKIdeal.τ).loc Cert.KvKIdeal.main_arg0) = m ((c.tc : Thread Cert.KvKIdeal.nD Cert.KvKIdeal.τ).loc Cert.KvKIdeal.main_arg0)
          ∧ r.2.mem ((c.tc : Thread Cert.KvKIdeal.nD Cert.KvKIdeal.τ).loc Cert.KvKIdeal.main_arg1) = m ((c.tc : Thread Cert.KvKIdeal.nD Cert.KvKIdeal.τ).loc Cert.KvKIdeal.main_arg1))
      ∧ θ_run (Cert.KvRIdeal.defs (F := Ideal)) (onTc (τ := Cert.KvRIdeal.τ) (Cert.KvRIdeal.main (F := Ideal))) ⟨m', fun _ => 0, g'⟩ (fun r => ∀ c : Dev Cert.KvRIdeal.nD,
          r.2.mem ((c.tc : Thread Cert.KvRIdeal.nD Cert.KvRIdeal.τ).loc Cert.KvRIdeal.main_v3) = v0 c
          ∧ r.2.mem ((c.tc : Thread Cert.KvRIdeal.nD Cert.KvRIdeal.τ).loc Cert.KvRIdeal.main_arg0) = m' ((c.tc : Thread Cert.KvRIdeal.nD Cert.KvRIdeal.τ).loc Cert.KvRIdeal.main_arg0)
          ∧ r.2.mem ((c.tc : Thread Cert.KvRIdeal.nD Cert.KvRIdeal.τ).loc Cert.KvRIdeal.main_arg1) = m' ((c.tc : Thread Cert.KvRIdeal.nD Cert.KvRIdeal.τ).loc Cert.KvRIdeal.main_arg1))

def preserves_MnK_MnKIdeal : Prop :=
  True

def algebraic_MnKIdeal_MnRIdeal [hMnKIdeal : Cert.MnKIdeal.Facts] [hMnRIdeal : Cert.MnRIdeal.Facts] : Prop :=
  ∀ (m : (ℓ : Loc Cert.MnKIdeal.nD Cert.MnKIdeal.τ Cert.MnKIdeal.sig) → Buf (Elt Ideal) ℓ) (g : Dev Cert.MnKIdeal.nD → PrngReg)
    (m' : (ℓ : Loc Cert.MnRIdeal.nD Cert.MnRIdeal.τ Cert.MnRIdeal.sig) → Buf (Elt Ideal) ℓ) (g' : Dev Cert.MnRIdeal.nD → PrngReg), Pre_MnKIdeal m →
    (∀ c : Dev Cert.MnKIdeal.nD,
      m' ((c.tc : Thread Cert.MnRIdeal.nD Cert.MnRIdeal.τ).loc Cert.MnRIdeal.main_arg0) = m ((c.tc : Thread Cert.MnKIdeal.nD Cert.MnKIdeal.τ).loc Cert.MnKIdeal.main_arg0)
      ∧ m' ((c.tc : Thread Cert.MnRIdeal.nD Cert.MnRIdeal.τ).loc Cert.MnRIdeal.main_arg1) = m ((c.tc : Thread Cert.MnKIdeal.nD Cert.MnKIdeal.τ).loc Cert.MnKIdeal.main_arg1)) →
    ∃ (v0 : (c : Dev Cert.MnKIdeal.nD) → Buf (Elt Ideal) ((c.tc : Thread Cert.MnKIdeal.nD Cert.MnKIdeal.τ).loc Cert.MnKIdeal.main_v0_0)) (v1 : (c : Dev Cert.MnKIdeal.nD) → Buf (Elt Ideal) ((c.tc : Thread Cert.MnKIdeal.nD Cert.MnKIdeal.τ).loc Cert.MnKIdeal.main_v0_1)),
      θ_run (Cert.MnKIdeal.defs (F := Ideal)) (onTc (τ := Cert.MnKIdeal.τ) (Cert.MnKIdeal.main (F := Ideal))) ⟨m, fun _ => 0, g⟩ (fun r => ∀ c : Dev Cert.MnKIdeal.nD,
          r.2.mem ((c.tc : Thread Cert.MnKIdeal.nD Cert.MnKIdeal.τ).loc Cert.MnKIdeal.main_v0_0) = v0 c
          ∧ r.2.mem ((c.tc : Thread Cert.MnKIdeal.nD Cert.MnKIdeal.τ).loc Cert.MnKIdeal.main_v0_1) = v1 c
          ∧ r.2.mem ((c.tc : Thread Cert.MnKIdeal.nD Cert.MnKIdeal.τ).loc Cert.MnKIdeal.main_arg0) = m ((c.tc : Thread Cert.MnKIdeal.nD Cert.MnKIdeal.τ).loc Cert.MnKIdeal.main_arg0)
          ∧ r.2.mem ((c.tc : Thread Cert.MnKIdeal.nD Cert.MnKIdeal.τ).loc Cert.MnKIdeal.main_arg1) = m ((c.tc : Thread Cert.MnKIdeal.nD Cert.MnKIdeal.τ).loc Cert.MnKIdeal.main_arg1))
      ∧ θ_run (Cert.MnRIdeal.defs (F := Ideal)) (onTc (τ := Cert.MnRIdeal.τ) (Cert.MnRIdeal.main (F := Ideal))) ⟨m', fun _ => 0, g'⟩ (fun r => ∀ c : Dev Cert.MnRIdeal.nD,
          r.2.mem ((c.tc : Thread Cert.MnRIdeal.nD Cert.MnRIdeal.τ).loc Cert.MnRIdeal.main_v15) = v0 c
          ∧ r.2.mem ((c.tc : Thread Cert.MnRIdeal.nD Cert.MnRIdeal.τ).loc Cert.MnRIdeal.main_v31) = v1 c
          ∧ r.2.mem ((c.tc : Thread Cert.MnRIdeal.nD Cert.MnRIdeal.τ).loc Cert.MnRIdeal.main_arg0) = m' ((c.tc : Thread Cert.MnRIdeal.nD Cert.MnRIdeal.τ).loc Cert.MnRIdeal.main_arg0)
          ∧ r.2.mem ((c.tc : Thread Cert.MnRIdeal.nD Cert.MnRIdeal.τ).loc Cert.MnRIdeal.main_arg1) = m' ((c.tc : Thread Cert.MnRIdeal.nD Cert.MnRIdeal.τ).loc Cert.MnRIdeal.main_arg1))

def preserves_NpK_NpKIdeal : Prop :=
  True

def algebraic_NpKIdeal_NpRIdeal [hNpKIdeal : Cert.NpKIdeal.Facts] [hNpRIdeal : Cert.NpRIdeal.Facts] : Prop :=
  ∀ (m : (ℓ : Loc Cert.NpKIdeal.nD Cert.NpKIdeal.τ Cert.NpKIdeal.sig) → Buf (Elt Ideal) ℓ) (g : Dev Cert.NpKIdeal.nD → PrngReg)
    (m' : (ℓ : Loc Cert.NpRIdeal.nD Cert.NpRIdeal.τ Cert.NpRIdeal.sig) → Buf (Elt Ideal) ℓ) (g' : Dev Cert.NpRIdeal.nD → PrngReg), Pre_NpKIdeal m →
    (∀ c : Dev Cert.NpKIdeal.nD,
      m' ((c.tc : Thread Cert.NpRIdeal.nD Cert.NpRIdeal.τ).loc Cert.NpRIdeal.main_arg0) = m ((c.tc : Thread Cert.NpKIdeal.nD Cert.NpKIdeal.τ).loc Cert.NpKIdeal.main_arg0)
      ∧ m' ((c.tc : Thread Cert.NpRIdeal.nD Cert.NpRIdeal.τ).loc Cert.NpRIdeal.main_arg1) = m ((c.tc : Thread Cert.NpKIdeal.nD Cert.NpKIdeal.τ).loc Cert.NpKIdeal.main_arg1)) →
    ∃ (v0 : (c : Dev Cert.NpKIdeal.nD) → Buf (Elt Ideal) ((c.tc : Thread Cert.NpKIdeal.nD Cert.NpKIdeal.τ).loc Cert.NpKIdeal.main_v1)),
      θ_run (Cert.NpKIdeal.defs (F := Ideal)) (onTc (τ := Cert.NpKIdeal.τ) (Cert.NpKIdeal.main (F := Ideal))) ⟨m, fun _ => 0, g⟩ (fun r => ∀ c : Dev Cert.NpKIdeal.nD,
          r.2.mem ((c.tc : Thread Cert.NpKIdeal.nD Cert.NpKIdeal.τ).loc Cert.NpKIdeal.main_v1) = v0 c
          ∧ r.2.mem ((c.tc : Thread Cert.NpKIdeal.nD Cert.NpKIdeal.τ).loc Cert.NpKIdeal.main_arg0) = m ((c.tc : Thread Cert.NpKIdeal.nD Cert.NpKIdeal.τ).loc Cert.NpKIdeal.main_arg0)
          ∧ r.2.mem ((c.tc : Thread Cert.NpKIdeal.nD Cert.NpKIdeal.τ).loc Cert.NpKIdeal.main_arg1) = m ((c.tc : Thread Cert.NpKIdeal.nD Cert.NpKIdeal.τ).loc Cert.NpKIdeal.main_arg1))
      ∧ θ_run (Cert.NpRIdeal.defs (F := Ideal)) (onTc (τ := Cert.NpRIdeal.τ) (Cert.NpRIdeal.main (F := Ideal))) ⟨m', fun _ => 0, g'⟩ (fun r => ∀ c : Dev Cert.NpRIdeal.nD,
          r.2.mem ((c.tc : Thread Cert.NpRIdeal.nD Cert.NpRIdeal.τ).loc Cert.NpRIdeal.main_v12) = v0 c
          ∧ r.2.mem ((c.tc : Thread Cert.NpRIdeal.nD Cert.NpRIdeal.τ).loc Cert.NpRIdeal.main_arg0) = m' ((c.tc : Thread Cert.NpRIdeal.nD Cert.NpRIdeal.τ).loc Cert.NpRIdeal.main_arg0)
          ∧ r.2.mem ((c.tc : Thread Cert.NpRIdeal.nD Cert.NpRIdeal.τ).loc Cert.NpRIdeal.main_arg1) = m' ((c.tc : Thread Cert.NpRIdeal.nD Cert.NpRIdeal.τ).loc Cert.NpRIdeal.main_arg1))

def preserves_NsK_NsKIdeal : Prop :=
  True

def algebraic_NsKIdeal_NsRIdeal [hNsKIdeal : Cert.NsKIdeal.Facts] [hNsRIdeal : Cert.NsRIdeal.Facts] : Prop :=
  ∀ (m : (ℓ : Loc Cert.NsKIdeal.nD Cert.NsKIdeal.τ Cert.NsKIdeal.sig) → Buf (Elt Ideal) ℓ) (g : Dev Cert.NsKIdeal.nD → PrngReg)
    (m' : (ℓ : Loc Cert.NsRIdeal.nD Cert.NsRIdeal.τ Cert.NsRIdeal.sig) → Buf (Elt Ideal) ℓ) (g' : Dev Cert.NsRIdeal.nD → PrngReg), Pre_NsKIdeal m →
    (∀ c : Dev Cert.NsKIdeal.nD,
      m' ((c.tc : Thread Cert.NsRIdeal.nD Cert.NsRIdeal.τ).loc Cert.NsRIdeal.main_arg0) = m ((c.tc : Thread Cert.NsKIdeal.nD Cert.NsKIdeal.τ).loc Cert.NsKIdeal.main_arg0)
      ∧ m' ((c.tc : Thread Cert.NsRIdeal.nD Cert.NsRIdeal.τ).loc Cert.NsRIdeal.main_arg1) = m ((c.tc : Thread Cert.NsKIdeal.nD Cert.NsKIdeal.τ).loc Cert.NsKIdeal.main_arg1)) →
    ∃ (v0 : (c : Dev Cert.NsKIdeal.nD) → Buf (Elt Ideal) ((c.tc : Thread Cert.NsKIdeal.nD Cert.NsKIdeal.τ).loc Cert.NsKIdeal.main_v1)),
      θ_run (Cert.NsKIdeal.defs (F := Ideal)) (onTc (τ := Cert.NsKIdeal.τ) (Cert.NsKIdeal.main (F := Ideal))) ⟨m, fun _ => 0, g⟩ (fun r => ∀ c : Dev Cert.NsKIdeal.nD,
          r.2.mem ((c.tc : Thread Cert.NsKIdeal.nD Cert.NsKIdeal.τ).loc Cert.NsKIdeal.main_v1) = v0 c
          ∧ r.2.mem ((c.tc : Thread Cert.NsKIdeal.nD Cert.NsKIdeal.τ).loc Cert.NsKIdeal.main_arg0) = m ((c.tc : Thread Cert.NsKIdeal.nD Cert.NsKIdeal.τ).loc Cert.NsKIdeal.main_arg0)
          ∧ r.2.mem ((c.tc : Thread Cert.NsKIdeal.nD Cert.NsKIdeal.τ).loc Cert.NsKIdeal.main_arg1) = m ((c.tc : Thread Cert.NsKIdeal.nD Cert.NsKIdeal.τ).loc Cert.NsKIdeal.main_arg1))
      ∧ θ_run (Cert.NsRIdeal.defs (F := Ideal)) (onTc (τ := Cert.NsRIdeal.τ) (Cert.NsRIdeal.main (F := Ideal))) ⟨m', fun _ => 0, g'⟩ (fun r => ∀ c : Dev Cert.NsRIdeal.nD,
          r.2.mem ((c.tc : Thread Cert.NsRIdeal.nD Cert.NsRIdeal.τ).loc Cert.NsRIdeal.main_v12) = v0 c
          ∧ r.2.mem ((c.tc : Thread Cert.NsRIdeal.nD Cert.NsRIdeal.τ).loc Cert.NsRIdeal.main_arg0) = m' ((c.tc : Thread Cert.NsRIdeal.nD Cert.NsRIdeal.τ).loc Cert.NsRIdeal.main_arg0)
          ∧ r.2.mem ((c.tc : Thread Cert.NsRIdeal.nD Cert.NsRIdeal.τ).loc Cert.NsRIdeal.main_arg1) = m' ((c.tc : Thread Cert.NsRIdeal.nD Cert.NsRIdeal.τ).loc Cert.NsRIdeal.main_arg1))

def preserves_XpK_XpKIdeal : Prop :=
  True

def algebraic_XpKIdeal_XpRIdeal [hXpKIdeal : Cert.XpKIdeal.Facts] [hXpRIdeal : Cert.XpRIdeal.Facts] : Prop :=
  ∀ (m : (ℓ : Loc Cert.XpKIdeal.nD Cert.XpKIdeal.τ Cert.XpKIdeal.sig) → Buf (Elt Ideal) ℓ) (g : Dev Cert.XpKIdeal.nD → PrngReg)
    (m' : (ℓ : Loc Cert.XpRIdeal.nD Cert.XpRIdeal.τ Cert.XpRIdeal.sig) → Buf (Elt Ideal) ℓ) (g' : Dev Cert.XpRIdeal.nD → PrngReg), Pre_XpKIdeal m →
    (∀ c : Dev Cert.XpKIdeal.nD,
      m' ((c.tc : Thread Cert.XpRIdeal.nD Cert.XpRIdeal.τ).loc Cert.XpRIdeal.main_arg0) = m ((c.tc : Thread Cert.XpKIdeal.nD Cert.XpKIdeal.τ).loc Cert.XpKIdeal.main_arg0)
      ∧ m' ((c.tc : Thread Cert.XpRIdeal.nD Cert.XpRIdeal.τ).loc Cert.XpRIdeal.main_arg1) = m ((c.tc : Thread Cert.XpKIdeal.nD Cert.XpKIdeal.τ).loc Cert.XpKIdeal.main_arg1)) →
    ∃ (v0 : (c : Dev Cert.XpKIdeal.nD) → Buf (Elt Ideal) ((c.tc : Thread Cert.XpKIdeal.nD Cert.XpKIdeal.τ).loc Cert.XpKIdeal.main_v1)),
      θ_run (Cert.XpKIdeal.defs (F := Ideal)) (onTc (τ := Cert.XpKIdeal.τ) (Cert.XpKIdeal.main (F := Ideal))) ⟨m, fun _ => 0, g⟩ (fun r => ∀ c : Dev Cert.XpKIdeal.nD,
          r.2.mem ((c.tc : Thread Cert.XpKIdeal.nD Cert.XpKIdeal.τ).loc Cert.XpKIdeal.main_v1) = v0 c
          ∧ r.2.mem ((c.tc : Thread Cert.XpKIdeal.nD Cert.XpKIdeal.τ).loc Cert.XpKIdeal.main_arg0) = m ((c.tc : Thread Cert.XpKIdeal.nD Cert.XpKIdeal.τ).loc Cert.XpKIdeal.main_arg0)
          ∧ r.2.mem ((c.tc : Thread Cert.XpKIdeal.nD Cert.XpKIdeal.τ).loc Cert.XpKIdeal.main_arg1) = m ((c.tc : Thread Cert.XpKIdeal.nD Cert.XpKIdeal.τ).loc Cert.XpKIdeal.main_arg1))
      ∧ θ_run (Cert.XpRIdeal.defs (F := Ideal)) (onTc (τ := Cert.XpRIdeal.τ) (Cert.XpRIdeal.main (F := Ideal))) ⟨m', fun _ => 0, g'⟩ (fun r => ∀ c : Dev Cert.XpRIdeal.nD,
          r.2.mem ((c.tc : Thread Cert.XpRIdeal.nD Cert.XpRIdeal.τ).loc Cert.XpRIdeal.main_v13) = v0 c
          ∧ r.2.mem ((c.tc : Thread Cert.XpRIdeal.nD Cert.XpRIdeal.τ).loc Cert.XpRIdeal.main_arg0) = m' ((c.tc : Thread Cert.XpRIdeal.nD Cert.XpRIdeal.τ).loc Cert.XpRIdeal.main_arg0)
          ∧ r.2.mem ((c.tc : Thread Cert.XpRIdeal.nD Cert.XpRIdeal.τ).loc Cert.XpRIdeal.main_arg1) = m' ((c.tc : Thread Cert.XpRIdeal.nD Cert.XpRIdeal.τ).loc Cert.XpRIdeal.main_arg1))

def preserves_XsK_XsKIdeal : Prop :=
  True

def algebraic_XsKIdeal_XsRIdeal [hXsKIdeal : Cert.XsKIdeal.Facts] [hXsRIdeal : Cert.XsRIdeal.Facts] : Prop :=
  ∀ (m : (ℓ : Loc Cert.XsKIdeal.nD Cert.XsKIdeal.τ Cert.XsKIdeal.sig) → Buf (Elt Ideal) ℓ) (g : Dev Cert.XsKIdeal.nD → PrngReg)
    (m' : (ℓ : Loc Cert.XsRIdeal.nD Cert.XsRIdeal.τ Cert.XsRIdeal.sig) → Buf (Elt Ideal) ℓ) (g' : Dev Cert.XsRIdeal.nD → PrngReg), Pre_XsKIdeal m →
    (∀ c : Dev Cert.XsKIdeal.nD,
      m' ((c.tc : Thread Cert.XsRIdeal.nD Cert.XsRIdeal.τ).loc Cert.XsRIdeal.main_arg0) = m ((c.tc : Thread Cert.XsKIdeal.nD Cert.XsKIdeal.τ).loc Cert.XsKIdeal.main_arg0)
      ∧ m' ((c.tc : Thread Cert.XsRIdeal.nD Cert.XsRIdeal.τ).loc Cert.XsRIdeal.main_arg1) = m ((c.tc : Thread Cert.XsKIdeal.nD Cert.XsKIdeal.τ).loc Cert.XsKIdeal.main_arg1)) →
    ∃ (v0 : (c : Dev Cert.XsKIdeal.nD) → Buf (Elt Ideal) ((c.tc : Thread Cert.XsKIdeal.nD Cert.XsKIdeal.τ).loc Cert.XsKIdeal.main_v1)),
      θ_run (Cert.XsKIdeal.defs (F := Ideal)) (onTc (τ := Cert.XsKIdeal.τ) (Cert.XsKIdeal.main (F := Ideal))) ⟨m, fun _ => 0, g⟩ (fun r => ∀ c : Dev Cert.XsKIdeal.nD,
          r.2.mem ((c.tc : Thread Cert.XsKIdeal.nD Cert.XsKIdeal.τ).loc Cert.XsKIdeal.main_v1) = v0 c
          ∧ r.2.mem ((c.tc : Thread Cert.XsKIdeal.nD Cert.XsKIdeal.τ).loc Cert.XsKIdeal.main_arg0) = m ((c.tc : Thread Cert.XsKIdeal.nD Cert.XsKIdeal.τ).loc Cert.XsKIdeal.main_arg0)
          ∧ r.2.mem ((c.tc : Thread Cert.XsKIdeal.nD Cert.XsKIdeal.τ).loc Cert.XsKIdeal.main_arg1) = m ((c.tc : Thread Cert.XsKIdeal.nD Cert.XsKIdeal.τ).loc Cert.XsKIdeal.main_arg1))
      ∧ θ_run (Cert.XsRIdeal.defs (F := Ideal)) (onTc (τ := Cert.XsRIdeal.τ) (Cert.XsRIdeal.main (F := Ideal))) ⟨m', fun _ => 0, g'⟩ (fun r => ∀ c : Dev Cert.XsRIdeal.nD,
          r.2.mem ((c.tc : Thread Cert.XsRIdeal.nD Cert.XsRIdeal.τ).loc Cert.XsRIdeal.main_v13) = v0 c
          ∧ r.2.mem ((c.tc : Thread Cert.XsRIdeal.nD Cert.XsRIdeal.τ).loc Cert.XsRIdeal.main_arg0) = m' ((c.tc : Thread Cert.XsRIdeal.nD Cert.XsRIdeal.τ).loc Cert.XsRIdeal.main_arg0)
          ∧ r.2.mem ((c.tc : Thread Cert.XsRIdeal.nD Cert.XsRIdeal.τ).loc Cert.XsRIdeal.main_arg1) = m' ((c.tc : Thread Cert.XsRIdeal.nD Cert.XsRIdeal.τ).loc Cert.XsRIdeal.main_arg1))

def preserves_SsK_SsKIdeal : Prop :=
  True

def algebraic_SsKIdeal_SsRIdeal [hSsKIdeal : Cert.SsKIdeal.Facts] [hSsRIdeal : Cert.SsRIdeal.Facts] : Prop :=
  ∀ (m : (ℓ : Loc Cert.SsKIdeal.nD Cert.SsKIdeal.τ Cert.SsKIdeal.sig) → Buf (Elt Ideal) ℓ) (g : Dev Cert.SsKIdeal.nD → PrngReg)
    (m' : (ℓ : Loc Cert.SsRIdeal.nD Cert.SsRIdeal.τ Cert.SsRIdeal.sig) → Buf (Elt Ideal) ℓ) (g' : Dev Cert.SsRIdeal.nD → PrngReg), Pre_SsKIdeal m →
    (∀ c : Dev Cert.SsKIdeal.nD,
      m' ((c.tc : Thread Cert.SsRIdeal.nD Cert.SsRIdeal.τ).loc Cert.SsRIdeal.main_arg0) = m ((c.tc : Thread Cert.SsKIdeal.nD Cert.SsKIdeal.τ).loc Cert.SsKIdeal.main_arg0)
      ∧ m' ((c.tc : Thread Cert.SsRIdeal.nD Cert.SsRIdeal.τ).loc Cert.SsRIdeal.main_arg1) = m ((c.tc : Thread Cert.SsKIdeal.nD Cert.SsKIdeal.τ).loc Cert.SsKIdeal.main_arg1)
      ∧ m' ((c.tc : Thread Cert.SsRIdeal.nD Cert.SsRIdeal.τ).loc Cert.SsRIdeal.main_arg2) = m ((c.tc : Thread Cert.SsKIdeal.nD Cert.SsKIdeal.τ).loc Cert.SsKIdeal.main_arg2)
      ∧ m' ((c.tc : Thread Cert.SsRIdeal.nD Cert.SsRIdeal.τ).loc Cert.SsRIdeal.main_arg3) = m ((c.tc : Thread Cert.SsKIdeal.nD Cert.SsKIdeal.τ).loc Cert.SsKIdeal.main_arg3)
      ∧ m' ((c.tc : Thread Cert.SsRIdeal.nD Cert.SsRIdeal.τ).loc Cert.SsRIdeal.main_arg4) = m ((c.tc : Thread Cert.SsKIdeal.nD Cert.SsKIdeal.τ).loc Cert.SsKIdeal.main_arg4)
      ∧ m' ((c.tc : Thread Cert.SsRIdeal.nD Cert.SsRIdeal.τ).loc Cert.SsRIdeal.main_arg5) = m ((c.tc : Thread Cert.SsKIdeal.nD Cert.SsKIdeal.τ).loc Cert.SsKIdeal.main_arg5)
      ∧ m' ((c.tc : Thread Cert.SsRIdeal.nD Cert.SsRIdeal.τ).loc Cert.SsRIdeal.main_arg6) = m ((c.tc : Thread Cert.SsKIdeal.nD Cert.SsKIdeal.τ).loc Cert.SsKIdeal.main_arg6)
      ∧ m' ((c.tc : Thread Cert.SsRIdeal.nD Cert.SsRIdeal.τ).loc Cert.SsRIdeal.main_arg7) = m ((c.tc : Thread Cert.SsKIdeal.nD Cert.SsKIdeal.τ).loc Cert.SsKIdeal.main_arg7)
      ∧ m' ((c.tc : Thread Cert.SsRIdeal.nD Cert.SsRIdeal.τ).loc Cert.SsRIdeal.main_arg8) = m ((c.tc : Thread Cert.SsKIdeal.nD Cert.SsKIdeal.τ).loc Cert.SsKIdeal.main_arg8)) →
    ∃ (v0 : (c : Dev Cert.SsKIdeal.nD) → Buf (Elt Ideal) ((c.tc : Thread Cert.SsKIdeal.nD Cert.SsKIdeal.τ).loc Cert.SsKIdeal.main_v4_1)) (v1 : (c : Dev Cert.SsKIdeal.nD) → Buf (Elt Ideal) ((c.tc : Thread Cert.SsKIdeal.nD Cert.SsKIdeal.τ).loc Cert.SsKIdeal.main_v4_2)),
      θ_run (Cert.SsKIdeal.defs (F := Ideal)) (onTc (τ := Cert.SsKIdeal.τ) (Cert.SsKIdeal.main (F := Ideal))) ⟨m, fun _ => 0, g⟩ (fun r => ∀ c : Dev Cert.SsKIdeal.nD,
          r.2.mem ((c.tc : Thread Cert.SsKIdeal.nD Cert.SsKIdeal.τ).loc Cert.SsKIdeal.main_v4_1) = v0 c
          ∧ r.2.mem ((c.tc : Thread Cert.SsKIdeal.nD Cert.SsKIdeal.τ).loc Cert.SsKIdeal.main_v4_2) = v1 c
          ∧ r.2.mem ((c.tc : Thread Cert.SsKIdeal.nD Cert.SsKIdeal.τ).loc Cert.SsKIdeal.main_arg0) = m ((c.tc : Thread Cert.SsKIdeal.nD Cert.SsKIdeal.τ).loc Cert.SsKIdeal.main_arg0)
          ∧ r.2.mem ((c.tc : Thread Cert.SsKIdeal.nD Cert.SsKIdeal.τ).loc Cert.SsKIdeal.main_arg1) = m ((c.tc : Thread Cert.SsKIdeal.nD Cert.SsKIdeal.τ).loc Cert.SsKIdeal.main_arg1)
          ∧ r.2.mem ((c.tc : Thread Cert.SsKIdeal.nD Cert.SsKIdeal.τ).loc Cert.SsKIdeal.main_arg2) = m ((c.tc : Thread Cert.SsKIdeal.nD Cert.SsKIdeal.τ).loc Cert.SsKIdeal.main_arg2)
          ∧ r.2.mem ((c.tc : Thread Cert.SsKIdeal.nD Cert.SsKIdeal.τ).loc Cert.SsKIdeal.main_arg3) = m ((c.tc : Thread Cert.SsKIdeal.nD Cert.SsKIdeal.τ).loc Cert.SsKIdeal.main_arg3)
          ∧ r.2.mem ((c.tc : Thread Cert.SsKIdeal.nD Cert.SsKIdeal.τ).loc Cert.SsKIdeal.main_arg4) = m ((c.tc : Thread Cert.SsKIdeal.nD Cert.SsKIdeal.τ).loc Cert.SsKIdeal.main_arg4)
          ∧ r.2.mem ((c.tc : Thread Cert.SsKIdeal.nD Cert.SsKIdeal.τ).loc Cert.SsKIdeal.main_arg5) = m ((c.tc : Thread Cert.SsKIdeal.nD Cert.SsKIdeal.τ).loc Cert.SsKIdeal.main_arg5)
          ∧ r.2.mem ((c.tc : Thread Cert.SsKIdeal.nD Cert.SsKIdeal.τ).loc Cert.SsKIdeal.main_arg6) = m ((c.tc : Thread Cert.SsKIdeal.nD Cert.SsKIdeal.τ).loc Cert.SsKIdeal.main_arg6)
          ∧ r.2.mem ((c.tc : Thread Cert.SsKIdeal.nD Cert.SsKIdeal.τ).loc Cert.SsKIdeal.main_arg7) = m ((c.tc : Thread Cert.SsKIdeal.nD Cert.SsKIdeal.τ).loc Cert.SsKIdeal.main_arg7)
          ∧ r.2.mem ((c.tc : Thread Cert.SsKIdeal.nD Cert.SsKIdeal.τ).loc Cert.SsKIdeal.main_arg8) = m ((c.tc : Thread Cert.SsKIdeal.nD Cert.SsKIdeal.τ).loc Cert.SsKIdeal.main_arg8))
      ∧ θ_run (Cert.SsRIdeal.defs (F := Ideal)) (onTc (τ := Cert.SsRIdeal.τ) (Cert.SsRIdeal.main (F := Ideal))) ⟨m', fun _ => 0, g'⟩ (fun r => ∀ c : Dev Cert.SsRIdeal.nD,
          r.2.mem ((c.tc : Thread Cert.SsRIdeal.nD Cert.SsRIdeal.τ).loc Cert.SsRIdeal.main_v27) = v0 c
          ∧ r.2.mem ((c.tc : Thread Cert.SsRIdeal.nD Cert.SsRIdeal.τ).loc Cert.SsRIdeal.main_v28) = v1 c
          ∧ r.2.mem ((c.tc : Thread Cert.SsRIdeal.nD Cert.SsRIdeal.τ).loc Cert.SsRIdeal.main_arg0) = m' ((c.tc : Thread Cert.SsRIdeal.nD Cert.SsRIdeal.τ).loc Cert.SsRIdeal.main_arg0)
          ∧ r.2.mem ((c.tc : Thread Cert.SsRIdeal.nD Cert.SsRIdeal.τ).loc Cert.SsRIdeal.main_arg1) = m' ((c.tc : Thread Cert.SsRIdeal.nD Cert.SsRIdeal.τ).loc Cert.SsRIdeal.main_arg1)
          ∧ r.2.mem ((c.tc : Thread Cert.SsRIdeal.nD Cert.SsRIdeal.τ).loc Cert.SsRIdeal.main_arg2) = m' ((c.tc : Thread Cert.SsRIdeal.nD Cert.SsRIdeal.τ).loc Cert.SsRIdeal.main_arg2)
          ∧ r.2.mem ((c.tc : Thread Cert.SsRIdeal.nD Cert.SsRIdeal.τ).loc Cert.SsRIdeal.main_arg3) = m' ((c.tc : Thread Cert.SsRIdeal.nD Cert.SsRIdeal.τ).loc Cert.SsRIdeal.main_arg3)
          ∧ r.2.mem ((c.tc : Thread Cert.SsRIdeal.nD Cert.SsRIdeal.τ).loc Cert.SsRIdeal.main_arg4) = m' ((c.tc : Thread Cert.SsRIdeal.nD Cert.SsRIdeal.τ).loc Cert.SsRIdeal.main_arg4)
          ∧ r.2.mem ((c.tc : Thread Cert.SsRIdeal.nD Cert.SsRIdeal.τ).loc Cert.SsRIdeal.main_arg5) = m' ((c.tc : Thread Cert.SsRIdeal.nD Cert.SsRIdeal.τ).loc Cert.SsRIdeal.main_arg5)
          ∧ r.2.mem ((c.tc : Thread Cert.SsRIdeal.nD Cert.SsRIdeal.τ).loc Cert.SsRIdeal.main_arg6) = m' ((c.tc : Thread Cert.SsRIdeal.nD Cert.SsRIdeal.τ).loc Cert.SsRIdeal.main_arg6)
          ∧ r.2.mem ((c.tc : Thread Cert.SsRIdeal.nD Cert.SsRIdeal.τ).loc Cert.SsRIdeal.main_arg7) = m' ((c.tc : Thread Cert.SsRIdeal.nD Cert.SsRIdeal.τ).loc Cert.SsRIdeal.main_arg7)
          ∧ r.2.mem ((c.tc : Thread Cert.SsRIdeal.nD Cert.SsRIdeal.τ).loc Cert.SsRIdeal.main_arg8) = m' ((c.tc : Thread Cert.SsRIdeal.nD Cert.SsRIdeal.τ).loc Cert.SsRIdeal.main_arg8))

def preserves_GsK_GsKIdeal : Prop :=
  True

def algebraic_GsKIdeal_GsRIdeal [hGsKIdeal : Cert.GsKIdeal.Facts] [hGsRIdeal : Cert.GsRIdeal.Facts] : Prop :=
  ∀ (m : (ℓ : Loc Cert.GsKIdeal.nD Cert.GsKIdeal.τ Cert.GsKIdeal.sig) → Buf (Elt Ideal) ℓ) (g : Dev Cert.GsKIdeal.nD → PrngReg)
    (m' : (ℓ : Loc Cert.GsRIdeal.nD Cert.GsRIdeal.τ Cert.GsRIdeal.sig) → Buf (Elt Ideal) ℓ) (g' : Dev Cert.GsRIdeal.nD → PrngReg), Pre_GsKIdeal m →
    (∀ c : Dev Cert.GsKIdeal.nD,
      m' ((c.tc : Thread Cert.GsRIdeal.nD Cert.GsRIdeal.τ).loc Cert.GsRIdeal.main_arg0) = m ((c.tc : Thread Cert.GsKIdeal.nD Cert.GsKIdeal.τ).loc Cert.GsKIdeal.main_arg0)
      ∧ m' ((c.tc : Thread Cert.GsRIdeal.nD Cert.GsRIdeal.τ).loc Cert.GsRIdeal.main_arg1) = m ((c.tc : Thread Cert.GsKIdeal.nD Cert.GsKIdeal.τ).loc Cert.GsKIdeal.main_arg1)
      ∧ m' ((c.tc : Thread Cert.GsRIdeal.nD Cert.GsRIdeal.τ).loc Cert.GsRIdeal.main_arg2) = m ((c.tc : Thread Cert.GsKIdeal.nD Cert.GsKIdeal.τ).loc Cert.GsKIdeal.main_arg2)
      ∧ m' ((c.tc : Thread Cert.GsRIdeal.nD Cert.GsRIdeal.τ).loc Cert.GsRIdeal.main_arg3) = m ((c.tc : Thread Cert.GsKIdeal.nD Cert.GsKIdeal.τ).loc Cert.GsKIdeal.main_arg3)
      ∧ m' ((c.tc : Thread Cert.GsRIdeal.nD Cert.GsRIdeal.τ).loc Cert.GsRIdeal.main_arg4) = m ((c.tc : Thread Cert.GsKIdeal.nD Cert.GsKIdeal.τ).loc Cert.GsKIdeal.main_arg4)
      ∧ m' ((c.tc : Thread Cert.GsRIdeal.nD Cert.GsRIdeal.τ).loc Cert.GsRIdeal.main_arg5) = m ((c.tc : Thread Cert.GsKIdeal.nD Cert.GsKIdeal.τ).loc Cert.GsKIdeal.main_arg5)
      ∧ m' ((c.tc : Thread Cert.GsRIdeal.nD Cert.GsRIdeal.τ).loc Cert.GsRIdeal.main_arg6) = m ((c.tc : Thread Cert.GsKIdeal.nD Cert.GsKIdeal.τ).loc Cert.GsKIdeal.main_arg6)
      ∧ m' ((c.tc : Thread Cert.GsRIdeal.nD Cert.GsRIdeal.τ).loc Cert.GsRIdeal.main_arg7) = m ((c.tc : Thread Cert.GsKIdeal.nD Cert.GsKIdeal.τ).loc Cert.GsKIdeal.main_arg7)
      ∧ m' ((c.tc : Thread Cert.GsRIdeal.nD Cert.GsRIdeal.τ).loc Cert.GsRIdeal.main_arg8) = m ((c.tc : Thread Cert.GsKIdeal.nD Cert.GsKIdeal.τ).loc Cert.GsKIdeal.main_arg8)) →
    ∃ (v0 : (c : Dev Cert.GsKIdeal.nD) → Buf (Elt Ideal) ((c.tc : Thread Cert.GsKIdeal.nD Cert.GsKIdeal.τ).loc Cert.GsKIdeal.main_v0_1)),
      θ_run (Cert.GsKIdeal.defs (F := Ideal)) (onTc (τ := Cert.GsKIdeal.τ) (Cert.GsKIdeal.main (F := Ideal))) ⟨m, fun _ => 0, g⟩ (fun r => ∀ c : Dev Cert.GsKIdeal.nD,
          r.2.mem ((c.tc : Thread Cert.GsKIdeal.nD Cert.GsKIdeal.τ).loc Cert.GsKIdeal.main_v0_1) = v0 c
          ∧ r.2.mem ((c.tc : Thread Cert.GsKIdeal.nD Cert.GsKIdeal.τ).loc Cert.GsKIdeal.main_arg0) = m ((c.tc : Thread Cert.GsKIdeal.nD Cert.GsKIdeal.τ).loc Cert.GsKIdeal.main_arg0)
          ∧ r.2.mem ((c.tc : Thread Cert.GsKIdeal.nD Cert.GsKIdeal.τ).loc Cert.GsKIdeal.main_arg1) = m ((c.tc : Thread Cert.GsKIdeal.nD Cert.GsKIdeal.τ).loc Cert.GsKIdeal.main_arg1)
          ∧ r.2.mem ((c.tc : Thread Cert.GsKIdeal.nD Cert.GsKIdeal.τ).loc Cert.GsKIdeal.main_arg2) = m ((c.tc : Thread Cert.GsKIdeal.nD Cert.GsKIdeal.τ).loc Cert.GsKIdeal.main_arg2)
          ∧ r.2.mem ((c.tc : Thread Cert.GsKIdeal.nD Cert.GsKIdeal.τ).loc Cert.GsKIdeal.main_arg3) = m ((c.tc : Thread Cert.GsKIdeal.nD Cert.GsKIdeal.τ).loc Cert.GsKIdeal.main_arg3)
          ∧ r.2.mem ((c.tc : Thread Cert.GsKIdeal.nD Cert.GsKIdeal.τ).loc Cert.GsKIdeal.main_arg4) = m ((c.tc : Thread Cert.GsKIdeal.nD Cert.GsKIdeal.τ).loc Cert.GsKIdeal.main_arg4)
          ∧ r.2.mem ((c.tc : Thread Cert.GsKIdeal.nD Cert.GsKIdeal.τ).loc Cert.GsKIdeal.main_arg5) = m ((c.tc : Thread Cert.GsKIdeal.nD Cert.GsKIdeal.τ).loc Cert.GsKIdeal.main_arg5)
          ∧ r.2.mem ((c.tc : Thread Cert.GsKIdeal.nD Cert.GsKIdeal.τ).loc Cert.GsKIdeal.main_arg6) = m ((c.tc : Thread Cert.GsKIdeal.nD Cert.GsKIdeal.τ).loc Cert.GsKIdeal.main_arg6)
          ∧ r.2.mem ((c.tc : Thread Cert.GsKIdeal.nD Cert.GsKIdeal.τ).loc Cert.GsKIdeal.main_arg7) = m ((c.tc : Thread Cert.GsKIdeal.nD Cert.GsKIdeal.τ).loc Cert.GsKIdeal.main_arg7)
          ∧ r.2.mem ((c.tc : Thread Cert.GsKIdeal.nD Cert.GsKIdeal.τ).loc Cert.GsKIdeal.main_arg8) = m ((c.tc : Thread Cert.GsKIdeal.nD Cert.GsKIdeal.τ).loc Cert.GsKIdeal.main_arg8))
      ∧ θ_run (Cert.GsRIdeal.defs (F := Ideal)) (onTc (τ := Cert.GsRIdeal.τ) (Cert.GsRIdeal.main (F := Ideal))) ⟨m', fun _ => 0, g'⟩ (fun r => ∀ c : Dev Cert.GsRIdeal.nD,
          r.2.mem ((c.tc : Thread Cert.GsRIdeal.nD Cert.GsRIdeal.τ).loc Cert.GsRIdeal.main_v24) = v0 c
          ∧ r.2.mem ((c.tc : Thread Cert.GsRIdeal.nD Cert.GsRIdeal.τ).loc Cert.GsRIdeal.main_arg0) = m' ((c.tc : Thread Cert.GsRIdeal.nD Cert.GsRIdeal.τ).loc Cert.GsRIdeal.main_arg0)
          ∧ r.2.mem ((c.tc : Thread Cert.GsRIdeal.nD Cert.GsRIdeal.τ).loc Cert.GsRIdeal.main_arg1) = m' ((c.tc : Thread Cert.GsRIdeal.nD Cert.GsRIdeal.τ).loc Cert.GsRIdeal.main_arg1)
          ∧ r.2.mem ((c.tc : Thread Cert.GsRIdeal.nD Cert.GsRIdeal.τ).loc Cert.GsRIdeal.main_arg2) = m' ((c.tc : Thread Cert.GsRIdeal.nD Cert.GsRIdeal.τ).loc Cert.GsRIdeal.main_arg2)
          ∧ r.2.mem ((c.tc : Thread Cert.GsRIdeal.nD Cert.GsRIdeal.τ).loc Cert.GsRIdeal.main_arg3) = m' ((c.tc : Thread Cert.GsRIdeal.nD Cert.GsRIdeal.τ).loc Cert.GsRIdeal.main_arg3)
          ∧ r.2.mem ((c.tc : Thread Cert.GsRIdeal.nD Cert.GsRIdeal.τ).loc Cert.GsRIdeal.main_arg4) = m' ((c.tc : Thread Cert.GsRIdeal.nD Cert.GsRIdeal.τ).loc Cert.GsRIdeal.main_arg4)
          ∧ r.2.mem ((c.tc : Thread Cert.GsRIdeal.nD Cert.GsRIdeal.τ).loc Cert.GsRIdeal.main_arg5) = m' ((c.tc : Thread Cert.GsRIdeal.nD Cert.GsRIdeal.τ).loc Cert.GsRIdeal.main_arg5)
          ∧ r.2.mem ((c.tc : Thread Cert.GsRIdeal.nD Cert.GsRIdeal.τ).loc Cert.GsRIdeal.main_arg6) = m' ((c.tc : Thread Cert.GsRIdeal.nD Cert.GsRIdeal.τ).loc Cert.GsRIdeal.main_arg6)
          ∧ r.2.mem ((c.tc : Thread Cert.GsRIdeal.nD Cert.GsRIdeal.τ).loc Cert.GsRIdeal.main_arg7) = m' ((c.tc : Thread Cert.GsRIdeal.nD Cert.GsRIdeal.τ).loc Cert.GsRIdeal.main_arg7)
          ∧ r.2.mem ((c.tc : Thread Cert.GsRIdeal.nD Cert.GsRIdeal.τ).loc Cert.GsRIdeal.main_arg8) = m' ((c.tc : Thread Cert.GsRIdeal.nD Cert.GsRIdeal.τ).loc Cert.GsRIdeal.main_arg8))

def preserves_SpK_SpKIdeal : Prop :=
  True

def algebraic_SpKIdeal_SpRIdeal [hSpKIdeal : Cert.SpKIdeal.Facts] [hSpRIdeal : Cert.SpRIdeal.Facts] : Prop :=
  ∀ (m : (ℓ : Loc Cert.SpKIdeal.nD Cert.SpKIdeal.τ Cert.SpKIdeal.sig) → Buf (Elt Ideal) ℓ) (g : Dev Cert.SpKIdeal.nD → PrngReg)
    (m' : (ℓ : Loc Cert.SpRIdeal.nD Cert.SpRIdeal.τ Cert.SpRIdeal.sig) → Buf (Elt Ideal) ℓ) (g' : Dev Cert.SpRIdeal.nD → PrngReg), Pre_SpKIdeal m →
    (∀ c : Dev Cert.SpKIdeal.nD,
      m' ((c.tc : Thread Cert.SpRIdeal.nD Cert.SpRIdeal.τ).loc Cert.SpRIdeal.main_arg0) = m ((c.tc : Thread Cert.SpKIdeal.nD Cert.SpKIdeal.τ).loc Cert.SpKIdeal.main_arg0)
      ∧ m' ((c.tc : Thread Cert.SpRIdeal.nD Cert.SpRIdeal.τ).loc Cert.SpRIdeal.main_arg1) = m ((c.tc : Thread Cert.SpKIdeal.nD Cert.SpKIdeal.τ).loc Cert.SpKIdeal.main_arg1)
      ∧ m' ((c.tc : Thread Cert.SpRIdeal.nD Cert.SpRIdeal.τ).loc Cert.SpRIdeal.main_arg2) = m ((c.tc : Thread Cert.SpKIdeal.nD Cert.SpKIdeal.τ).loc Cert.SpKIdeal.main_arg2)
      ∧ m' ((c.tc : Thread Cert.SpRIdeal.nD Cert.SpRIdeal.τ).loc Cert.SpRIdeal.main_arg3) = m ((c.tc : Thread Cert.SpKIdeal.nD Cert.SpKIdeal.τ).loc Cert.SpKIdeal.main_arg3)) →
    ∃ (v0 : (c : Dev Cert.SpKIdeal.nD) → Buf (Elt Ideal) ((c.tc : Thread Cert.SpKIdeal.nD Cert.SpKIdeal.τ).loc Cert.SpKIdeal.main_v4_1)) (v1 : (c : Dev Cert.SpKIdeal.nD) → Buf (Elt Ideal) ((c.tc : Thread Cert.SpKIdeal.nD Cert.SpKIdeal.τ).loc Cert.SpKIdeal.main_v4_2)),
      θ_run (Cert.SpKIdeal.defs (F := Ideal)) (onTc (τ := Cert.SpKIdeal.τ) (Cert.SpKIdeal.main (F := Ideal))) ⟨m, fun _ => 0, g⟩ (fun r => ∀ c : Dev Cert.SpKIdeal.nD,
          r.2.mem ((c.tc : Thread Cert.SpKIdeal.nD Cert.SpKIdeal.τ).loc Cert.SpKIdeal.main_v4_1) = v0 c
          ∧ r.2.mem ((c.tc : Thread Cert.SpKIdeal.nD Cert.SpKIdeal.τ).loc Cert.SpKIdeal.main_v4_2) = v1 c
          ∧ r.2.mem ((c.tc : Thread Cert.SpKIdeal.nD Cert.SpKIdeal.τ).loc Cert.SpKIdeal.main_arg0) = m ((c.tc : Thread Cert.SpKIdeal.nD Cert.SpKIdeal.τ).loc Cert.SpKIdeal.main_arg0)
          ∧ r.2.mem ((c.tc : Thread Cert.SpKIdeal.nD Cert.SpKIdeal.τ).loc Cert.SpKIdeal.main_arg1) = m ((c.tc : Thread Cert.SpKIdeal.nD Cert.SpKIdeal.τ).loc Cert.SpKIdeal.main_arg1)
          ∧ r.2.mem ((c.tc : Thread Cert.SpKIdeal.nD Cert.SpKIdeal.τ).loc Cert.SpKIdeal.main_arg2) = m ((c.tc : Thread Cert.SpKIdeal.nD Cert.SpKIdeal.τ).loc Cert.SpKIdeal.main_arg2)
          ∧ r.2.mem ((c.tc : Thread Cert.SpKIdeal.nD Cert.SpKIdeal.τ).loc Cert.SpKIdeal.main_arg3) = m ((c.tc : Thread Cert.SpKIdeal.nD Cert.SpKIdeal.τ).loc Cert.SpKIdeal.main_arg3))
      ∧ θ_run (Cert.SpRIdeal.defs (F := Ideal)) (onTc (τ := Cert.SpRIdeal.τ) (Cert.SpRIdeal.main (F := Ideal))) ⟨m', fun _ => 0, g'⟩ (fun r => ∀ c : Dev Cert.SpRIdeal.nD,
          r.2.mem ((c.tc : Thread Cert.SpRIdeal.nD Cert.SpRIdeal.τ).loc Cert.SpRIdeal.main_v24) = v0 c
          ∧ r.2.mem ((c.tc : Thread Cert.SpRIdeal.nD Cert.SpRIdeal.τ).loc Cert.SpRIdeal.main_v26) = v1 c
          ∧ r.2.mem ((c.tc : Thread Cert.SpRIdeal.nD Cert.SpRIdeal.τ).loc Cert.SpRIdeal.main_arg0) = m' ((c.tc : Thread Cert.SpRIdeal.nD Cert.SpRIdeal.τ).loc Cert.SpRIdeal.main_arg0)
          ∧ r.2.mem ((c.tc : Thread Cert.SpRIdeal.nD Cert.SpRIdeal.τ).loc Cert.SpRIdeal.main_arg1) = m' ((c.tc : Thread Cert.SpRIdeal.nD Cert.SpRIdeal.τ).loc Cert.SpRIdeal.main_arg1)
          ∧ r.2.mem ((c.tc : Thread Cert.SpRIdeal.nD Cert.SpRIdeal.τ).loc Cert.SpRIdeal.main_arg2) = m' ((c.tc : Thread Cert.SpRIdeal.nD Cert.SpRIdeal.τ).loc Cert.SpRIdeal.main_arg2)
          ∧ r.2.mem ((c.tc : Thread Cert.SpRIdeal.nD Cert.SpRIdeal.τ).loc Cert.SpRIdeal.main_arg3) = m' ((c.tc : Thread Cert.SpRIdeal.nD Cert.SpRIdeal.τ).loc Cert.SpRIdeal.main_arg3))

def Claim : Prop :=
  ∃ (hMemK : Cert.MemK.Facts) (hMemKIdeal : Cert.MemKIdeal.Facts) (hMemRIdeal : Cert.MemRIdeal.Facts) (hOutK : Cert.OutK.Facts) (hOutKIdeal : Cert.OutKIdeal.Facts) (hOutRIdeal : Cert.OutRIdeal.Facts) (hInK : Cert.InK.Facts) (hInKIdeal : Cert.InKIdeal.Facts) (hInRIdeal : Cert.InRIdeal.Facts) (hKvK : Cert.KvK.Facts) (hKvKIdeal : Cert.KvKIdeal.Facts) (hKvRIdeal : Cert.KvRIdeal.Facts) (hMnK : Cert.MnK.Facts) (hMnKIdeal : Cert.MnKIdeal.Facts) (hMnRIdeal : Cert.MnRIdeal.Facts) (hNpK : Cert.NpK.Facts) (hNpKIdeal : Cert.NpKIdeal.Facts) (hNpRIdeal : Cert.NpRIdeal.Facts) (hNsK : Cert.NsK.Facts) (hNsKIdeal : Cert.NsKIdeal.Facts) (hNsRIdeal : Cert.NsRIdeal.Facts) (hXpK : Cert.XpK.Facts) (hXpKIdeal : Cert.XpKIdeal.Facts) (hXpRIdeal : Cert.XpRIdeal.Facts) (hXsK : Cert.XsK.Facts) (hXsKIdeal : Cert.XsKIdeal.Facts) (hXsRIdeal : Cert.XsRIdeal.Facts) (hSsK : Cert.SsK.Facts) (hSsKIdeal : Cert.SsKIdeal.Facts) (hSsRIdeal : Cert.SsRIdeal.Facts) (hGsK : Cert.GsK.Facts) (hGsKIdeal : Cert.GsKIdeal.Facts) (hGsRIdeal : Cert.GsRIdeal.Facts) (hSpK : Cert.SpK.Facts) (hSpKIdeal : Cert.SpKIdeal.Facts) (hSpRIdeal : Cert.SpRIdeal.Facts) (hPre_mem_scores_finite : Cert.Pre_mem_scores_finite.Facts),
    quiescent_MemK (hMemK := hMemK)
    ∧ quiescent_MemKIdeal (hMemKIdeal := hMemKIdeal)
    ∧ quiescent_MemKIdeal_pre_mem_scores_finite (hMemKIdeal := hMemKIdeal) (hPre_mem_scores_finite := hPre_mem_scores_finite)
    ∧ quiescent_MemRIdeal (hMemRIdeal := hMemRIdeal)
    ∧ quiescent_MemRIdeal_pre_mem_scores_finite (hMemRIdeal := hMemRIdeal) (hPre_mem_scores_finite := hPre_mem_scores_finite)
    ∧ quiescent_OutK (hOutK := hOutK)
    ∧ quiescent_OutKIdeal (hOutKIdeal := hOutKIdeal)
    ∧ quiescent_OutRIdeal (hOutRIdeal := hOutRIdeal)
    ∧ quiescent_InK (hInK := hInK)
    ∧ quiescent_InKIdeal (hInKIdeal := hInKIdeal)
    ∧ quiescent_InRIdeal (hInRIdeal := hInRIdeal)
    ∧ quiescent_KvK (hKvK := hKvK)
    ∧ quiescent_KvKIdeal (hKvKIdeal := hKvKIdeal)
    ∧ quiescent_KvRIdeal (hKvRIdeal := hKvRIdeal)
    ∧ quiescent_MnK (hMnK := hMnK)
    ∧ quiescent_MnKIdeal (hMnKIdeal := hMnKIdeal)
    ∧ quiescent_MnRIdeal (hMnRIdeal := hMnRIdeal)
    ∧ quiescent_NpK (hNpK := hNpK)
    ∧ quiescent_NpKIdeal (hNpKIdeal := hNpKIdeal)
    ∧ quiescent_NpRIdeal (hNpRIdeal := hNpRIdeal)
    ∧ quiescent_NsK (hNsK := hNsK)
    ∧ quiescent_NsKIdeal (hNsKIdeal := hNsKIdeal)
    ∧ quiescent_NsRIdeal (hNsRIdeal := hNsRIdeal)
    ∧ quiescent_XpK (hXpK := hXpK)
    ∧ quiescent_XpKIdeal (hXpKIdeal := hXpKIdeal)
    ∧ quiescent_XpRIdeal (hXpRIdeal := hXpRIdeal)
    ∧ quiescent_XsK (hXsK := hXsK)
    ∧ quiescent_XsKIdeal (hXsKIdeal := hXsKIdeal)
    ∧ quiescent_XsRIdeal (hXsRIdeal := hXsRIdeal)
    ∧ quiescent_SsK (hSsK := hSsK)
    ∧ quiescent_SsKIdeal (hSsKIdeal := hSsKIdeal)
    ∧ quiescent_SsRIdeal (hSsRIdeal := hSsRIdeal)
    ∧ quiescent_GsK (hGsK := hGsK)
    ∧ quiescent_GsKIdeal (hGsKIdeal := hGsKIdeal)
    ∧ quiescent_GsRIdeal (hGsRIdeal := hGsRIdeal)
    ∧ quiescent_SpK (hSpK := hSpK)
    ∧ quiescent_SpKIdeal (hSpKIdeal := hSpKIdeal)
    ∧ quiescent_SpRIdeal (hSpRIdeal := hSpRIdeal)
    ∧ preserves_MemK_MemKIdeal
    ∧ algebraic_MemKIdeal_MemRIdeal_pre_mem_scores_finite (hMemKIdeal := hMemKIdeal) (hMemRIdeal := hMemRIdeal) (hPre_mem_scores_finite := hPre_mem_scores_finite)
    ∧ preserves_OutK_OutKIdeal
    ∧ algebraic_OutKIdeal_OutRIdeal (hOutKIdeal := hOutKIdeal) (hOutRIdeal := hOutRIdeal)
    ∧ preserves_InK_InKIdeal
    ∧ algebraic_InKIdeal_InRIdeal (hInKIdeal := hInKIdeal) (hInRIdeal := hInRIdeal)
    ∧ preserves_KvK_KvKIdeal
    ∧ algebraic_KvKIdeal_KvRIdeal (hKvKIdeal := hKvKIdeal) (hKvRIdeal := hKvRIdeal)
    ∧ preserves_MnK_MnKIdeal
    ∧ algebraic_MnKIdeal_MnRIdeal (hMnKIdeal := hMnKIdeal) (hMnRIdeal := hMnRIdeal)
    ∧ preserves_NpK_NpKIdeal
    ∧ algebraic_NpKIdeal_NpRIdeal (hNpKIdeal := hNpKIdeal) (hNpRIdeal := hNpRIdeal)
    ∧ preserves_NsK_NsKIdeal
    ∧ algebraic_NsKIdeal_NsRIdeal (hNsKIdeal := hNsKIdeal) (hNsRIdeal := hNsRIdeal)
    ∧ preserves_XpK_XpKIdeal
    ∧ algebraic_XpKIdeal_XpRIdeal (hXpKIdeal := hXpKIdeal) (hXpRIdeal := hXpRIdeal)
    ∧ preserves_XsK_XsKIdeal
    ∧ algebraic_XsKIdeal_XsRIdeal (hXsKIdeal := hXsKIdeal) (hXsRIdeal := hXsRIdeal)
    ∧ preserves_SsK_SsKIdeal
    ∧ algebraic_SsKIdeal_SsRIdeal (hSsKIdeal := hSsKIdeal) (hSsRIdeal := hSsRIdeal)
    ∧ preserves_GsK_GsKIdeal
    ∧ algebraic_GsKIdeal_GsRIdeal (hGsKIdeal := hGsKIdeal) (hGsRIdeal := hGsRIdeal)
    ∧ preserves_SpK_SpKIdeal
    ∧ algebraic_SpKIdeal_SpRIdeal (hSpKIdeal := hSpKIdeal) (hSpRIdeal := hSpRIdeal)
-- ==== Pre_mem_scores_finite.lean ====
abbrev S8192x9856 : Shape := ⟨2, ![8192, 9856]⟩
abbrev S1024x2048 : Shape := ⟨2, ![1024, 2048]⟩
abbrev S8192x1024 : Shape := ⟨2, ![8192, 1024]⟩
abbrev S_ : Shape := ⟨0, ![]⟩
abbrev S1024x1024 : Shape := ⟨2, ![1024, 1024]⟩

class Facts : Prop where
  slices_S8192x9856_S8192x1024_0_6144 : S8192x9856.Slices ![0, 6144] S8192x1024
  bcast_S_S8192x1024 : S_.BroadcastsInDim S8192x1024 (![] : Fin 0 → Fin S8192x1024.rank)
  slices_S1024x2048_S1024x1024_0_0 : S1024x2048.Slices ![0, 0] S1024x1024
  bcast_S_S1024x1024 : S_.BroadcastsInDim S1024x1024 (![] : Fin 0 → Fin S1024x1024.rank)

variable [Facts]

def fn {F : FTy → Type} [FloatOps F] (main_arg0 : FVec F S8192x9856 .f32) (main_arg1 : FVec F S1024x2048 .f32) : IVec S8192x1024 1 × IVec S1024x1024 1 :=
  let main_v0 : FVec F S8192x1024 .f32 := (extractStridedSlice S8192x1024 ![0, 6144] · slices_S8192x9856_S8192x1024_0_6144) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S1024x1024 .f32 := (extractStridedSlice S1024x1024 ![0, 0] · slices_S1024x2048_S1024x1024_0_0) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  (main_v3, main_v7)
-- ==== MemK.lean ====
abbrev S8192x9856 : Shape := ⟨2, ![8192, 9856]⟩
abbrev S1024x2048 : Shape := ⟨2, ![1024, 2048]⟩
abbrev S8192x1024 : Shape := ⟨2, ![8192, 1024]⟩
abbrev S512x1024 : Shape := ⟨2, ![512, 1024]⟩
abbrev S256x1024 : Shape := ⟨2, ![256, 1024]⟩
abbrev S256x128 : Shape := ⟨2, ![256, 128]⟩
abbrev S512x256 : Shape := ⟨2, ![512, 256]⟩
abbrev S256x256 : Shape := ⟨2, ![256, 256]⟩
abbrev S512 : Shape := ⟨1, ![512]⟩
abbrev S512x1 : Shape := ⟨2, ![512, 1]⟩
abbrev S256x384 : Shape := ⟨2, ![256, 384]⟩
abbrev S512x384 : Shape := ⟨2, ![512, 384]⟩
abbrev S512x128 : Shape := ⟨2, ![512, 128]⟩

abbrev nBuf : Space → Nat
  | .hbm => 3
  | .vmem => 10
  | .smem => 0
  | _ => 0

abbrev bufTy : (tb : Table) → Fin (tcTables nBuf tb) → BufTy
  | .hbm, ⟨0, _⟩ => ⟨S8192x9856, .f32⟩
  | .hbm, ⟨1, _⟩ => ⟨S1024x2048, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S512x1024, .bf16⟩
  | .local _ .vmem, ⟨9, _⟩ => ⟨S512x1024, .bf16⟩
  | _, _ => ⟨S8192x9856, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c6_i32 : BitVec 32 := 6#32
  let c0_i32 : BitVec 32 := 0#32
  ![v1.toNat, c6_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c7_i32 : BitVec 32 := 7#32
  let c0_i32 : BitVec 32 := 0#32
  ![v1.toNat, c7_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MemKIdeal.lean ====
variable {F : FTy → Type} [FloatOps F] [Named F]
def κ : String → Option EReal := fun
  | "scale_log2e" => some ((16⁻¹ * (Real.log 2)⁻¹ : ℝ) : EReal)
  | _ => none
-- ==== MemRIdeal.lean ====
abbrev S8192x9856 : Shape := ⟨2, ![8192, 9856]⟩
abbrev S1024x2048 : Shape := ⟨2, ![1024, 2048]⟩
abbrev S8192x1024 : Shape := ⟨2, ![8192, 1024]⟩
abbrev S4x2048x4x256 : Shape := ⟨4, ![4, 2048, 4, 256]⟩
abbrev S4x2048x1024 : Shape := ⟨3, ![4, 2048, 1024]⟩
abbrev S1024x1024 : Shape := ⟨2, ![1024, 1024]⟩
abbrev S4x256x4x256 : Shape := ⟨4, ![4, 256, 4, 256]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8192x9856, .f32⟩
  | .hbm, ⟨1, _⟩ => ⟨S1024x2048, .f32⟩
  | .hbm, ⟨2, _⟩ => ⟨S8192x1024, .f32⟩
  | .hbm, ⟨3, _⟩ => ⟨S4x2048x4x256, .f32⟩
  | .hbm, ⟨4, _⟩ => ⟨S8192x1024, .f32⟩
  | .hbm, ⟨5, _⟩ => ⟨S4x2048x1024, .f32⟩
  | .hbm, ⟨6, _⟩ => ⟨S1024x1024, .f32⟩
  | .hbm, ⟨7, _⟩ => ⟨S4x256x4x256, .f32⟩
  | .hbm, ⟨8, _⟩ => ⟨S1024x1024, .f32⟩
  | .hbm, ⟨9, _⟩ => ⟨S4x256x4x256, .f32⟩
  | .hbm, ⟨10, _⟩ => ⟨S4x4x2048x256, .f32⟩
  | .hbm, ⟨11, _⟩ => ⟨S_, .f32⟩
  | .hbm, ⟨12, _⟩ => ⟨S4x4x2048x256, .f32⟩
  | .hbm, ⟨13, _⟩ => ⟨S4x4x2048x256, .f32⟩
  | .hbm, ⟨14, _⟩ => ⟨S_, .f32⟩
  | .hbm, ⟨15, _⟩ => ⟨S4x4x2048, .f32⟩
  | .hbm, ⟨16, _⟩ => ⟨S_, .f32⟩
  | .hbm, ⟨17, _⟩ => ⟨S4x4x2048, .f32⟩
  | .hbm, ⟨18, _⟩ => ⟨S4x4x2048, .f32⟩
  | .hbm, ⟨19, _⟩ => ⟨S4x4x2048x1, .f32⟩
  | .hbm, ⟨20, _⟩ => ⟨S4x4x2048x256, .f32⟩
  | .hbm, ⟨21, _⟩ => ⟨S4x4x2048x256, .f32⟩
  | .hbm, ⟨22, _⟩ => ⟨S4x4x2048x256, .f32⟩
  | .hbm, ⟨23, _⟩ => ⟨S_, .f32⟩
  | .hbm, ⟨24, _⟩ => ⟨S4x4x2048, .f32⟩
  | .hbm, ⟨25, _⟩ => ⟨S4x4x2048x1, .f32⟩
  | .hbm, ⟨26, _⟩ => ⟨S4x4x2048x256, .f32⟩
  | .hbm, ⟨27, _⟩ => ⟨S4x4x2048x256, .f32⟩
  | .hbm, ⟨28, _⟩ => ⟨S4x4x256x2048, .f32⟩
  | .hbm, ⟨29, _⟩ => ⟨S4x2048x4x256, .f32⟩
  | .hbm, ⟨30, _⟩ => ⟨S4x2048x1024, .f32⟩
  | .hbm, ⟨31, _⟩ => ⟨S4x2048x1024, .f32⟩
  | .hbm, ⟨32, _⟩ => ⟨S4x2048x1024, .f32⟩
  | .hbm, ⟨33, _⟩ => ⟨S_, .f32⟩
  | .hbm, ⟨34, _⟩ => ⟨S4x2048x1024, .f32⟩
  | .hbm, ⟨35, _⟩ => ⟨S4x2048x1024, .f32⟩
  | .hbm, ⟨36, _⟩ => ⟨S_, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S8192x1024, .f32⟩
  | .hbm, ⟨42, _⟩ => ⟨S8192x1024, .bf16⟩
  | _, _ => ⟨S8192x9856, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== OutK.lean ====
abbrev S8192x2048 : Shape := ⟨2, ![8192, 2048]⟩
abbrev S8192x1024 : Shape := ⟨2, ![8192, 1024]⟩
abbrev S32x4096 : Shape := ⟨2, ![32, 4096]⟩
abbrev S2x4096x4096 : Shape := ⟨3, ![2, 4096, 4096]⟩
abbrev S8192x4096 : Shape := ⟨2, ![8192, 4096]⟩
abbrev S1x4096x512 : Shape := ⟨3, ![1, 4096, 512]⟩
abbrev S2048x2048 : Shape := ⟨2, ![2048, 2048]⟩
abbrev S2048x1024 : Shape := ⟨2, ![2048, 1024]⟩
abbrev S2048x512 : Shape := ⟨2, ![2048, 512]⟩
abbrev S32x512 : Shape := ⟨2, ![32, 512]⟩
abbrev S4096x512 : Shape := ⟨2, ![4096, 512]⟩
abbrev S1024x512 : Shape := ⟨2, ![1024, 512]⟩

abbrev nBuf : Space → Nat
  | .hbm => 9
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S32x4096, .bf16⟩
  | .hbm, ⟨4, _⟩ => ⟨S2x4096x4096, .f32⟩
  | .hbm, ⟨5, _⟩ => ⟨S8192x4096, .f32⟩
  | .hbm, ⟨6, _⟩ => ⟨S32x4096, .f32⟩
  | .hbm, ⟨7, _⟩ => ⟨S8192x4096, .f32⟩
  | .hbm, ⟨8, _⟩ => ⟨S32x4096, .f32⟩
  | .local _ .vmem, ⟨0, _⟩ => ⟨S1x4096x512, .f32⟩
  | .local _ .vmem, ⟨1, _⟩ => ⟨S1x4096x512, .f32⟩
  | .local _ .vmem, ⟨2, _⟩ => ⟨S2048x2048, .bf16⟩
  | .local _ .vmem, ⟨3, _⟩ => ⟨S2048x1024, .bf16⟩
  | .local _ .vmem, ⟨4, _⟩ => ⟨S2048x1024, .bf16⟩
  | .local _ .vmem, ⟨5, _⟩ => ⟨S32x4096, .bf16⟩
  | .local _ .vmem, ⟨6, _⟩ => ⟨S2048x512, .f32⟩
  | .local _ .vmem, ⟨7, _⟩ => ⟨S2048x512, .f32⟩
  | .local _ .vmem, ⟨8, _⟩ => ⟨S32x512, .f32⟩
  | .local _ .vmem, ⟨9, _⟩ => ⟨S32x512, .f32⟩
  | .local _ .vmem, ⟨10, _⟩ => ⟨S2048x512, .f32⟩
  | .local _ .vmem, ⟨11, _⟩ => ⟨S2048x512, .f32⟩
  | .local _ .vmem, ⟨12, _⟩ => ⟨S32x512, .f32⟩
  | .local _ .vmem, ⟨13, _⟩ => ⟨S32x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_14 : BitVec 32 := 0#32
  let v19 : BitVec 1 := Scalar.cmpi .ne v18 c0_i32_14
  v19

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![c0_i32_0.toNat, v1.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S32x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OutRIdeal.lean ====
abbrev S8192x2048 : Shape := ⟨2, ![8192, 2048]⟩
abbrev S8192x1024 : Shape := ⟨2, ![8192, 1024]⟩
abbrev S32x4096 : Shape := ⟨2, ![32, 4096]⟩
abbrev S2x4096x4096 : Shape := ⟨3, ![2, 4096, 4096]⟩
abbrev S8192x4096 : Shape := ⟨2, ![8192, 4096]⟩
abbrev S1x4096x4096 : Shape := ⟨3, ![1, 4096, 4096]⟩
abbrev S4096x4096 : Shape := ⟨2, ![4096, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S32x4096, .bf16⟩
  | .hbm, ⟨4, _⟩ => ⟨S2x4096x4096, .f32⟩
  | .hbm, ⟨5, _⟩ => ⟨S8192x4096, .f32⟩
  | .hbm, ⟨6, _⟩ => ⟨S32x4096, .f32⟩
  | .hbm, ⟨7, _⟩ => ⟨S8192x4096, .bf16⟩
  | .hbm, ⟨8, _⟩ => ⟨S8192x4096, .f32⟩
  | .hbm, ⟨9, _⟩ => ⟨S1x4096x4096, .f32⟩
  | .hbm, ⟨10, _⟩ => ⟨S4096x4096, .f32⟩
  | .hbm, ⟨11, _⟩ => ⟨S8192x4096, .f32⟩
  | .hbm, ⟨12, _⟩ => ⟨S8192x4096, .f32⟩
  | .hbm, ⟨13, _⟩ => ⟨S32x4096, .f32⟩
  | .hbm, ⟨14, _⟩ => ⟨S1x4096x4096, .f32⟩
  | .hbm, ⟨15, _⟩ => ⟨S4096x4096, .f32⟩
  | .hbm, ⟨16, _⟩ => ⟨S32x4096, .f32⟩
  | .hbm, ⟨17, _⟩ => ⟨S32x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== InK.lean ====
abbrev S8192x4096 : Shape := ⟨2, ![8192, 4096]⟩
abbrev S32x4096 : Shape := ⟨2, ![32, 4096]⟩
abbrev S2x4096x9744 : Shape := ⟨3, ![2, 4096, 9744]⟩
abbrev S2x9744x4096 : Shape := ⟨3, ![2, 9744, 4096]⟩
abbrev S2x2048x4096 : Shape := ⟨3, ![2, 2048, 4096]⟩
abbrev S2x1024x4096 : Shape := ⟨3, ![2, 1024, 4096]⟩
abbrev S2x512x4096 : Shape := ⟨3, ![2, 512, 4096]⟩
abbrev S2x10240x4096 : Shape := ⟨3, ![2, 10240, 4096]⟩
abbrev S8192x9856 : Shape := ⟨2, ![8192, 9856]⟩
abbrev S32x9856 : Shape := ⟨2, ![32, 9856]⟩
abbrev S1x512x4096 : Shape := ⟨3, ![1, 512, 4096]⟩
abbrev S2048x4096 : Shape := ⟨2, ![2048, 4096]⟩
abbrev S2048x512 : Shape := ⟨2, ![2048, 512]⟩
abbrev S32x512 : Shape := ⟨2, ![32, 512]⟩
abbrev S512x4096 : Shape := ⟨2, ![512, 4096]⟩
abbrev S1x128x4096 : Shape := ⟨3, ![1, 128, 4096]⟩
abbrev S128x4096 : Shape := ⟨2, ![128, 4096]⟩
abbrev S2048x128 : Shape := ⟨2, ![2048, 128]⟩
abbrev S32x128 : Shape := ⟨2, ![32, 128]⟩

abbrev nBuf : Space → Nat
  | .hbm => 17
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S2x4096x9744, .f32⟩
  | .hbm, ⟨3, _⟩ => ⟨S2x9744x4096, .f32⟩
  | .hbm, ⟨4, _⟩ => ⟨S2x2048x4096, .f32⟩
  | .hbm, ⟨5, _⟩ => ⟨S2x2048x4096, .f32⟩
  | .hbm, ⟨6, _⟩ => ⟨S2x1024x4096, .f32⟩
  | .hbm, ⟨7, _⟩ => ⟨S2x1024x4096, .f32⟩
  | .hbm, ⟨8, _⟩ => ⟨S2x1024x4096, .f32⟩
  | .hbm, ⟨9, _⟩ => ⟨S2x1024x4096, .f32⟩
  | .hbm, ⟨10, _⟩ => ⟨S2x512x4096, .f32⟩
  | .hbm, ⟨11, _⟩ => ⟨S2x512x4096, .f32⟩
  | .hbm, ⟨12, _⟩ => ⟨S2x512x4096, .f32⟩
  | .hbm, ⟨13, _⟩ => ⟨S2x512x4096, .f32⟩
  | .hbm, ⟨14, _⟩ => ⟨S2x10240x4096, .f32⟩
  | .hbm, ⟨15, _⟩ => ⟨S8192x9856, .f32⟩
  | .hbm, ⟨16, _⟩ => ⟨S32x9856, .f32⟩
  | .local _ .vmem, ⟨0, _⟩ => ⟨S1x512x4096, .f32⟩
  | .local _ .vmem, ⟨1, _⟩ => ⟨S1x512x4096, .f32⟩
  | .local _ .vmem, ⟨2, _⟩ => ⟨S2048x4096, .bf16⟩
  | .local _ .vmem, ⟨3, _⟩ => ⟨S32x4096, .bf16⟩
  | .local _ .vmem, ⟨4, _⟩ => ⟨S2048x512, .f32⟩
  | .local _ .vmem, ⟨5, _⟩ => ⟨S2048x512, .f32⟩
  | .local _ .vmem, ⟨6, _⟩ => ⟨S32x512, .f32⟩
  | .local _ .vmem, ⟨7, _⟩ => ⟨S32x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12_0 : Ref sig .tc := ⟨.hbm, 15, rfl⟩
abbrev main_v12_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 20], ![false, false]⟩

def k0_cond1 (i : grid0.Coords) : BitVec 1 :=
  let arg1 : BitVec 32 := BitVec.ofNat 32 (i 1).val
  let c19_i32 : BitVec 32 := 19#32
  let v0 : BitVec 1 := Scalar.cmpi .slt arg1 c19_i32
  let v1 : BitVec 32 := Scalar.extui v0
  let c0_i32 : BitVec 32 := 0#32
  let v2 : BitVec 1 := Scalar.cmpi .ne v1 c0_i32
  v2

def k0_cond3 (i : grid0.Coords) : BitVec 1 :=
  let arg1 : BitVec 32 := BitVec.ofNat 32 (i 1).val
  let c19_i32_0 : BitVec 32 := 19#32
  let v3 : BitVec 1 := Scalar.cmpi .eq arg1 c19_i32_0
  let v4 : BitVec 32 := Scalar.extui v3
  let c0_i32_1 : BitVec 32 := 0#32
  let v5 : BitVec 1 := Scalar.cmpi .ne v4 c0_i32_1
  v5

def k0_cond2 (i : grid0.Coords) : BitVec 1 :=
  let arg0 : BitVec 32 := BitVec.ofNat 32 (i 0).val
  let c0_i32_8 : BitVec 32 := 0#32
  let v12 : BitVec 1 := Scalar.cmpi .eq arg0 c0_i32_8
  let v13 : BitVec 32 := Scalar.extui v12
  let c0_i32_9 : BitVec 32 := 0#32
  let v14 : BitVec 1 := Scalar.cmpi .ne v13 c0_i32_9
  v14

def k0_cond4 (i : grid0.Coords) : BitVec 1 :=
  let arg0 : BitVec 32 := BitVec.ofNat 32 (i 0).val
  let c0_i32_8 : BitVec 32 := 0#32
  let v12 : BitVec 1 := Scalar.cmpi .eq arg0 c0_i32_8
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c19_i32 : BitVec 32 := 19#32
  let v1 : BitVec 32 := Scalar.select v0 arg1 c19_i32
  let c0_i32_0 : BitVec 32 := 0#32
  let c0_i32_1 : BitVec 32 := 0#32
  ![c0_i32_0.toNat, v1.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S32x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InRIdeal.lean ====
abbrev S8192x4096 : Shape := ⟨2, ![8192, 4096]⟩
abbrev S32x4096 : Shape := ⟨2, ![32, 4096]⟩
abbrev S2x4096x9744 : Shape := ⟨3, ![2, 4096, 9744]⟩
abbrev S1x4096x9744 : Shape := ⟨3, ![1, 4096, 9744]⟩
abbrev S4096x9744 : Shape := ⟨2, ![4096, 9744]⟩
abbrev S8192x9744 : Shape := ⟨2, ![8192, 9744]⟩
abbrev S8192x2048 : Shape := ⟨2, ![8192, 2048]⟩
abbrev S8192x1024 : Shape := ⟨2, ![8192, 1024]⟩
abbrev S8192x512 : Shape := ⟨2, ![8192, 512]⟩
abbrev S8192x128 : Shape := ⟨2, ![8192, 128]⟩
abbrev S8192x9856 : Shape := ⟨2, ![8192, 9856]⟩
abbrev S32x9744 : Shape := ⟨2, ![32, 9744]⟩
abbrev S32x2048 : Shape := ⟨2, ![32, 2048]⟩
abbrev S32x1024 : Shape := ⟨2, ![32, 1024]⟩
abbrev S32x512 : Shape := ⟨2, ![32, 512]⟩
abbrev S32x128 : Shape := ⟨2, ![32, 128]⟩
abbrev S32x9856 : Shape := ⟨2, ![32, 9856]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S2x4096x9744, .f32⟩
  | .hbm, ⟨3, _⟩ => ⟨S8192x4096, .f32⟩
  | .hbm, ⟨4, _⟩ => ⟨S1x4096x9744, .f32⟩
  | .hbm, ⟨5, _⟩ => ⟨S4096x9744, .f32⟩
  | .hbm, ⟨6, _⟩ => ⟨S8192x9744, .f32⟩
  | .hbm, ⟨7, _⟩ => ⟨S8192x2048, .f32⟩
  | .hbm, ⟨8, _⟩ => ⟨S8192x2048, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x128, .f32⟩
  | .hbm, ⟨17, _⟩ => ⟨S8192x9856, .f32⟩
  | .hbm, ⟨18, _⟩ => ⟨S32x4096, .f32⟩
  | .hbm, ⟨19, _⟩ => ⟨S1x4096x9744, .f32⟩
  | .hbm, ⟨20, _⟩ => ⟨S4096x9744, .f32⟩
  | .hbm, ⟨21, _⟩ => ⟨S32x9744, .f32⟩
  | .hbm, ⟨22, _⟩ => ⟨S32x2048, .f32⟩
  | .hbm, ⟨23, _⟩ => ⟨S32x2048, .f32⟩
  | .hbm, ⟨24, _⟩ => ⟨S32x1024, .f32⟩
  | .hbm, ⟨25, _⟩ => ⟨S32x1024, .f32⟩
  | .hbm, ⟨26, _⟩ => ⟨S32x1024, .f32⟩
  | .hbm, ⟨27, _⟩ => ⟨S32x1024, .f32⟩
  | .hbm, ⟨28, _⟩ => ⟨S32x512, .f32⟩
  | .hbm, ⟨29, _⟩ => ⟨S32x512, .f32⟩
  | .hbm, ⟨30, _⟩ => ⟨S32x512, .f32⟩
  | .hbm, ⟨31, _⟩ => ⟨S32x128, .f32⟩
  | .hbm, ⟨32, _⟩ => ⟨S32x9856, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩

abbrev nD : Nat := 1
abbrev τ : Topo := Topo.v7x

variable {F : FTy → Type} [FloatOps F]
-- ==== KvK.lean ====
abbrev S1024x4096 : Shape := ⟨2, ![1024, 4096]⟩
abbrev S2x4096x2048 : Shape := ⟨3, ![2, 4096, 2048]⟩
abbrev S1024x2048 : Shape := ⟨2, ![1024, 2048]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .bf16⟩
  | .hbm, ⟨1, _⟩ => ⟨S2x4096x2048, .f32⟩
  | .hbm, ⟨2, _⟩ => ⟨S1024x2048, .f32⟩
  | .local _ .vmem, ⟨0, _⟩ => ⟨S1024x4096, .bf16⟩
  | .local _ .vmem, ⟨1, _⟩ => ⟨S1x4096x512, .f32⟩
  | .local _ .vmem, ⟨2, _⟩ => ⟨S1x4096x512, .f32⟩
  | .local _ .vmem, ⟨3, _⟩ => ⟨S1024x512, .f32⟩
  | .local _ .vmem, ⟨4, _⟩ => ⟨S1024x512, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvRIdeal.lean ====
abbrev S1024x4096 : Shape := ⟨2, ![1024, 4096]⟩
abbrev S2x4096x2048 : Shape := ⟨3, ![2, 4096, 2048]⟩
abbrev S1x4096x2048 : Shape := ⟨3, ![1, 4096, 2048]⟩
abbrev S4096x2048 : Shape := ⟨2, ![4096, 2048]⟩
abbrev S1024x2048 : Shape := ⟨2, ![1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S2x4096x2048, .f32⟩
  | .hbm, ⟨2, _⟩ => ⟨S1024x4096, .f32⟩
  | .hbm, ⟨3, _⟩ => ⟨S1x4096x2048, .f32⟩
  | .hbm, ⟨4, _⟩ => ⟨S4096x2048, .f32⟩
  | .hbm, ⟨5, _⟩ => ⟨S1024x2048, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MnK.lean ====
abbrev S1024x4096 : Shape := ⟨2, ![1024, 4096]⟩
abbrev S2x4096 : Shape := ⟨2, ![2, 4096]⟩
abbrev S256x4096 : Shape := ⟨2, ![256, 4096]⟩
abbrev S256 : Shape := ⟨1, ![256]⟩
abbrev S256x1 : Shape := ⟨2, ![256, 1]⟩
abbrev S1x4096 : Shape := ⟨2, ![1, 4096]⟩

abbrev nBuf : Space → Nat
  | .hbm => 4
  | .vmem => 7
  | .smem => 0
  | _ => 0

abbrev bufTy : (tb : Table) → Fin (tcTables nBuf tb) → BufTy
  | .hbm, ⟨0, _⟩ => ⟨S1024x4096, .f32⟩
  | .hbm, ⟨1, _⟩ => ⟨S2x4096, .f32⟩
  | .hbm, ⟨2, _⟩ => ⟨S1024x4096, .bf16⟩
  | .hbm, ⟨3, _⟩ => ⟨S1024x4096, .bf16⟩
  | .local _ .vmem, ⟨0, _⟩ => ⟨S256x4096, .f32⟩
  | .local _ .vmem, ⟨1, _⟩ => ⟨S256x4096, .f32⟩
  | .local _ .vmem, ⟨2, _⟩ => ⟨S2x4096, .f32⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MnRIdeal.lean ====
abbrev S1024x4096 : Shape := ⟨2, ![1024, 4096]⟩
abbrev S2x4096 : Shape := ⟨2, ![2, 4096]⟩
abbrev S1x4096 : Shape := ⟨2, ![1, 4096]⟩
abbrev S4096 : Shape := ⟨1, ![4096]⟩
abbrev S_ : Shape := ⟨0, ![]⟩
abbrev S1024 : Shape := ⟨1, ![1024]⟩
abbrev S1024x1 : Shape := ⟨2, ![1024, 1]⟩

abbrev nBuf : Space → Nat
  | .hbm => 40
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S2x4096, .f32⟩
  | .hbm, ⟨2, _⟩ => ⟨S1x4096, .f32⟩
  | .hbm, ⟨3, _⟩ => ⟨S4096, .f32⟩
  | .hbm, ⟨4, _⟩ => ⟨S1024x4096, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x4096, .f32⟩
  | .hbm, ⟨16, _⟩ => ⟨S1024x4096, .f32⟩
  | .hbm, ⟨17, _⟩ => ⟨S1x4096, .f32⟩
  | .hbm, ⟨18, _⟩ => ⟨S1024x4096, .f32⟩
  | .hbm, ⟨19, _⟩ => ⟨S1024x4096, .f32⟩
  | .hbm, ⟨20, _⟩ => ⟨S1024x4096, .bf16⟩
  | .hbm, ⟨21, _⟩ => ⟨S1x4096, .f32⟩
  | .hbm, ⟨22, _⟩ => ⟨S4096, .f32⟩
  | .hbm, ⟨23, _⟩ => ⟨S1024x4096, .f32⟩
  | .hbm, ⟨24, _⟩ => ⟨S_, .f32⟩
  | .hbm, ⟨25, _⟩ => ⟨S1024, .f32⟩
  | .hbm, ⟨26, _⟩ => ⟨S1024x1, .f32⟩
  | .hbm, ⟨27, _⟩ => ⟨S_, .f32⟩
  | .hbm, ⟨28, _⟩ => ⟨S1024x1, .f32⟩
  | .hbm, ⟨29, _⟩ => ⟨S1024x1, .f32⟩
  | .hbm, ⟨30, _⟩ => ⟨S_, .f32⟩
  | .hbm, ⟨31, _⟩ => ⟨S1024x1, .f32⟩
  | .hbm, ⟨32, _⟩ => ⟨S1024x1, .f32⟩
  | .hbm, ⟨33, _⟩ => ⟨S1024x1, .f32⟩
  | .hbm, ⟨34, _⟩ => ⟨S1024x4096, .f32⟩
  | .hbm, ⟨35, _⟩ => ⟨S1024x4096, .f32⟩
  | .hbm, ⟨36, _⟩ => ⟨S1x4096, .f32⟩
  | .hbm, ⟨37, _⟩ => ⟨S1024x4096, .f32⟩
  | .hbm, ⟨38, _⟩ => ⟨S1024x4096, .f32⟩
  | .hbm, ⟨39, _⟩ => ⟨S1024x4096, .bf16⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== NpK.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NpRIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NsK.lean ====
abbrev S32x4096 : Shape := ⟨2, ![32, 4096]⟩
abbrev S4096 : Shape := ⟨1, ![4096]⟩
abbrev S1x4096 : Shape := ⟨2, ![1, 4096]⟩
abbrev S32 : Shape := ⟨1, ![32]⟩
abbrev S32x1 : Shape := ⟨2, ![32, 1]⟩

abbrev nBuf : Space → Nat
  | .hbm => 4
  | .vmem => 3
  | .smem => 0
  | _ => 0

abbrev bufTy : (tb : Table) → Fin (tcTables nBuf tb) → BufTy
  | .hbm, ⟨0, _⟩ => ⟨S32x4096, .f32⟩
  | .hbm, ⟨1, _⟩ => ⟨S4096, .f32⟩
  | .hbm, ⟨2, _⟩ => ⟨S1x4096, .f32⟩
  | .hbm, ⟨3, _⟩ => ⟨S32x4096, .f32⟩
  | .local _ .vmem, ⟨0, _⟩ => ⟨S32x4096, .f32⟩
  | .local _ .vmem, ⟨1, _⟩ => ⟨S1x4096, .f32⟩
  | .local _ .vmem, ⟨2, _⟩ => ⟨S32x4096, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NsRIdeal.lean ====
abbrev S32x4096 : Shape := ⟨2, ![32, 4096]⟩
abbrev S4096 : Shape := ⟨1, ![4096]⟩
abbrev S_ : Shape := ⟨0, ![]⟩
abbrev S32 : Shape := ⟨1, ![32]⟩
abbrev S32x1 : Shape := ⟨2, ![32, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S4096, .f32⟩
  | .hbm, ⟨2, _⟩ => ⟨S32x4096, .f32⟩
  | .hbm, ⟨3, _⟩ => ⟨S_, .f32⟩
  | .hbm, ⟨4, _⟩ => ⟨S32, .f32⟩
  | .hbm, ⟨5, _⟩ => ⟨S32x1, .f32⟩
  | .hbm, ⟨6, _⟩ => ⟨S_, .f32⟩
  | .hbm, ⟨7, _⟩ => ⟨S32x1, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S32x1, .f32⟩
  | .hbm, ⟨13, _⟩ => ⟨S32x4096, .f32⟩
  | .hbm, ⟨14, _⟩ => ⟨S32x4096, .f32⟩
  | .hbm, ⟨15, _⟩ => ⟨S1x4096, .f32⟩
  | .hbm, ⟨16, _⟩ => ⟨S32x4096, .f32⟩
  | .hbm, ⟨17, _⟩ => ⟨S32x4096, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== XpK.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== XpRIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== XsK.lean ====
abbrev S32x4096 : Shape := ⟨2, ![32, 4096]⟩
abbrev S4096 : Shape := ⟨1, ![4096]⟩
abbrev S1x4096 : Shape := ⟨2, ![1, 4096]⟩
abbrev S32 : Shape := ⟨1, ![32]⟩
abbrev S32x1 : Shape := ⟨2, ![32, 1]⟩

abbrev nBuf : Space → Nat
  | .hbm => 4
  | .vmem => 3
  | .smem => 0
  | _ => 0

abbrev bufTy : (tb : Table) → Fin (tcTables nBuf tb) → BufTy
  | .hbm, ⟨0, _⟩ => ⟨S32x4096, .f32⟩
  | .hbm, ⟨1, _⟩ => ⟨S4096, .f32⟩
  | .hbm, ⟨2, _⟩ => ⟨S1x4096, .f32⟩
  | .hbm, ⟨3, _⟩ => ⟨S32x4096, .bf16⟩
  | .local _ .vmem, ⟨0, _⟩ => ⟨S32x4096, .f32⟩
  | .local _ .vmem, ⟨1, _⟩ => ⟨S1x4096, .f32⟩
  | .local _ .vmem, ⟨2, _⟩ => ⟨S32x4096, .bf16⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== XsRIdeal.lean ====
abbrev S32x4096 : Shape := ⟨2, ![32, 4096]⟩
abbrev S4096 : Shape := ⟨1, ![4096]⟩
abbrev S_ : Shape := ⟨0, ![]⟩
abbrev S32 : Shape := ⟨1, ![32]⟩
abbrev S32x1 : Shape := ⟨2, ![32, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S4096, .f32⟩
  | .hbm, ⟨2, _⟩ => ⟨S32x4096, .f32⟩
  | .hbm, ⟨3, _⟩ => ⟨S_, .f32⟩
  | .hbm, ⟨4, _⟩ => ⟨S32, .f32⟩
  | .hbm, ⟨5, _⟩ => ⟨S32x1, .f32⟩
  | .hbm, ⟨6, _⟩ => ⟨S_, .f32⟩
  | .hbm, ⟨7, _⟩ => ⟨S32x1, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S32x1, .f32⟩
  | .hbm, ⟨13, _⟩ => ⟨S32x4096, .f32⟩
  | .hbm, ⟨14, _⟩ => ⟨S32x4096, .f32⟩
  | .hbm, ⟨15, _⟩ => ⟨S1x4096, .f32⟩
  | .hbm, ⟨16, _⟩ => ⟨S32x4096, .f32⟩
  | .hbm, ⟨17, _⟩ => ⟨S32x4096, .f32⟩
  | .hbm, ⟨18, _⟩ => ⟨S32x4096, .bf16⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== SsK.lean ====
abbrev S32x16x128 : Shape := ⟨3, ![32, 16, 128]⟩
abbrev S32x1x256 : Shape := ⟨3, ![32, 1, 256]⟩
abbrev S2x32x4x64x128 : Shape := ⟨5, ![2, 32, 4, 64, 128]⟩
abbrev S1x32 : Shape := ⟨2, ![1, 32]⟩
abbrev S32x128 : Shape := ⟨2, ![32, 128]⟩
abbrev S1x128 : Shape := ⟨2, ![1, 128]⟩
abbrev S32x4x64x128 : Shape := ⟨4, ![32, 4, 64, 128]⟩
abbrev S4x16x128 : Shape := ⟨3, ![4, 16, 128]⟩
abbrev S4x1x256 : Shape := ⟨3, ![4, 1, 256]⟩
abbrev S1x4x4x64x128 : Shape := ⟨5, ![1, 4, 4, 64, 128]⟩
abbrev S4x4x64x128 : Shape := ⟨4, ![4, 4, 64, 128]⟩
abbrev S16x128 : Shape := ⟨2, ![16, 128]⟩
abbrev S64x128 : Shape := ⟨2, ![64, 128]⟩
abbrev S64x64 : Shape := ⟨2, ![64, 64]⟩
abbrev S1x1x256 : Shape := ⟨3, ![1, 1, 256]⟩
abbrev S1x256 : Shape := ⟨2, ![1, 256]⟩
abbrev S1x64 : Shape := ⟨2, ![1, 64]⟩
abbrev S64 : Shape := ⟨1, ![64]⟩
abbrev S64x1 : Shape := ⟨2, ![64, 1]⟩
abbrev S1x1x4x64x128 : Shape := ⟨5, ![1, 1, 4, 64, 128]⟩
abbrev S4x64x128 : Shape := ⟨3, ![4, 64, 128]⟩
abbrev S1x64x128 : Shape := ⟨3, ![1, 64, 128]⟩
abbrev S1x4x64x128 : Shape := ⟨4, ![1, 4, 64, 128]⟩
abbrev S128x128 : Shape := ⟨2, ![128, 128]⟩
abbrev S1x16x128 : Shape := ⟨3, ![1, 16, 128]⟩
abbrev S32x1 : Shape := ⟨2, ![32, 1]⟩
abbrev S32 : Shape := ⟨1, ![32]⟩

abbrev nBuf : Space → Nat
  | .hbm => 16
  | .vmem => 21
  | .smem => 0
  | _ => 0

abbrev bufTy : (tb : Table) → Fin (tcTables nBuf tb) → BufTy
  | .hbm, ⟨0, _⟩ => ⟨S32x16x128, .f32⟩
  | .hbm, ⟨1, _⟩ => ⟨S32x16x128, .f32⟩
  | .hbm, ⟨2, _⟩ => ⟨S32x1x256, .f32⟩
  | .hbm, ⟨3, _⟩ => ⟨S32x1x256, .f32⟩
  | .hbm, ⟨4, _⟩ => ⟨S2x32x4x64x128, .f32⟩
  | .hbm, ⟨5, _⟩ => ⟨S2x32x4x64x128, .f32⟩
  | .hbm, ⟨6, _⟩ => ⟨S1x32, .f32⟩
  | .hbm, ⟨7, _⟩ => ⟨S1x32, .f32⟩
  | .hbm, ⟨8, _⟩ => ⟨S32x128, .f32⟩
  | .hbm, ⟨9, _⟩ => ⟨S1x128, .f32⟩
  | .hbm, ⟨10, _⟩ => ⟨S1x32, .f32⟩
  | .hbm, ⟨11, _⟩ => ⟨S1x32, .f32⟩
  | .hbm, ⟨12, _⟩ => ⟨S1x128, .f32⟩
  | .hbm, ⟨13, _⟩ => ⟨S32x16x128, .f32⟩
  | .hbm, ⟨14, _⟩ => ⟨S32x4x64x128, .f32⟩
  | .hbm, ⟨15, _⟩ => ⟨S32x4x64x128, .f32⟩
  | .local _ .vmem, ⟨0, _⟩ => ⟨S1x128, .f32⟩
  | .local _ .vmem, ⟨1, _⟩ => ⟨S1x128, .f32⟩
  | .local _ .vmem, ⟨2, _⟩ => ⟨S32x128, .f32⟩
  | .local _ .vmem, ⟨3, _⟩ => ⟨S4x16x128, .f32⟩
  | .local _ .vmem, ⟨4, _⟩ => ⟨S4x16x128, .f32⟩
  | .local _ .vmem, ⟨5, _⟩ => ⟨S4x16x128, .f32⟩
  | .local _ .vmem, ⟨6, _⟩ => ⟨S4x16x128, .f32⟩
  | .local _ .vmem, ⟨7, _⟩ => ⟨S4x1x256, .f32⟩
  | .local _ .vmem, ⟨8, _⟩ => ⟨S4x1x256, .f32⟩
  | .local _ .vmem, ⟨9, _⟩ => ⟨S4x1x256, .f32⟩
  | .local _ .vmem, ⟨10, _⟩ => ⟨S4x1x256, .f32⟩
  | .local _ .vmem, ⟨11, _⟩ => ⟨S1x4x4x64x128, .f32⟩
  | .local _ .vmem, ⟨12, _⟩ => ⟨S1x4x4x64x128, .f32⟩
  | .local _ .vmem, ⟨13, _⟩ => ⟨S1x4x4x64x128, .f32⟩
  | .local _ .vmem, ⟨14, _⟩ => ⟨S1x4x4x64x128, .f32⟩
  | .local _ .vmem, ⟨15, _⟩ => ⟨S4x16x128, .f32⟩
  | .local _ .vmem, ⟨16, _⟩ => ⟨S4x16x128, .f32⟩
  | .local _ .vmem, ⟨17, _⟩ => ⟨S4x4x64x128, .f32⟩
  | .local _ .vmem, ⟨18, _⟩ => ⟨S4x4x64x128, .f32⟩
  | .local _ .vmem, ⟨19, _⟩ => ⟨S4x4x64x128, .f32⟩
  | .local _ .vmem, ⟨20, _⟩ => ⟨S4x4x64x128, .f32⟩
  | _, _ => ⟨S32x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_8 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x4x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x4x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x4x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x4x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== SsRIdeal.lean ====
abbrev S32x16x128 : Shape := ⟨3, ![32, 16, 128]⟩
abbrev S32x1x256 : Shape := ⟨3, ![32, 1, 256]⟩
abbrev S2x32x4x64x128 : Shape := ⟨5, ![2, 32, 4, 64, 128]⟩
abbrev S1x32 : Shape := ⟨2, ![1, 32]⟩
abbrev S32x128 : Shape := ⟨2, ![32, 128]⟩
abbrev S32x4x64 : Shape := ⟨3, ![32, 4, 64]⟩
abbrev S32x4x32 : Shape := ⟨3, ![32, 4, 32]⟩
abbrev S1x1x32 : Shape := ⟨3, ![1, 1, 32]⟩
abbrev S1x32x4x64x128 : Shape := ⟨5, ![1, 32, 4, 64, 128]⟩
abbrev S32x4x64x128 : Shape := ⟨4, ![32, 4, 64, 128]⟩
abbrev S32x4x64x1 : Shape := ⟨4, ![32, 4, 64, 1]⟩
abbrev S32x4x64x129 : Shape := ⟨4, ![32, 4, 64, 129]⟩

abbrev nBuf : Space → Nat
  | .hbm => 38
  | .vmem => 0
  | .smem => 0
  | _ => 0

abbrev bufTy : (tb : Table) → Fin (tcTables nBuf tb) → BufTy
  | .hbm, ⟨0, _⟩ => ⟨S32x16x128, .f32⟩
  | .hbm, ⟨1, _⟩ => ⟨S32x16x128, .f32⟩
  | .hbm, ⟨2, _⟩ => ⟨S32x1x256, .f32⟩
  | .hbm, ⟨3, _⟩ => ⟨S32x1x256, .f32⟩
  | .hbm, ⟨4, _⟩ => ⟨S2x32x4x64x128, .f32⟩
  | .hbm, ⟨5, _⟩ => ⟨S2x32x4x64x128, .f32⟩
  | .hbm, ⟨6, _⟩ => ⟨S1x32, .f32⟩
  | .hbm, ⟨7, _⟩ => ⟨S1x32, .f32⟩
  | .hbm, ⟨8, _⟩ => ⟨S32x128, .f32⟩
  | .hbm, ⟨9, _⟩ => ⟨S32x4x64, .f32⟩
  | .hbm, ⟨10, _⟩ => ⟨S32x4x32, .f32⟩
  | .hbm, ⟨11, _⟩ => ⟨S32x4x32, .f32⟩
  | .hbm, ⟨12, _⟩ => ⟨S1x1x32, .f32⟩
  | .hbm, ⟨13, _⟩ => ⟨S32x4x32, .f32⟩
  | .hbm, ⟨14, _⟩ => ⟨S32x4x32, .f32⟩
  | .hbm, ⟨15, _⟩ => ⟨S1x1x32, .f32⟩
  | .hbm, ⟨16, _⟩ => ⟨S32x4x32, .f32⟩
  | .hbm, ⟨17, _⟩ => ⟨S32x4x32, .f32⟩
  | .hbm, ⟨18, _⟩ => ⟨S32x4x32, .f32⟩
  | .hbm, ⟨19, _⟩ => ⟨S1x1x32, .f32⟩
  | .hbm, ⟨20, _⟩ => ⟨S32x4x32, .f32⟩
  | .hbm, ⟨21, _⟩ => ⟨S32x4x32, .f32⟩
  | .hbm, ⟨22, _⟩ => ⟨S1x1x32, .f32⟩
  | .hbm, ⟨23, _⟩ => ⟨S32x4x32, .f32⟩
  | .hbm, ⟨24, _⟩ => ⟨S32x4x32, .f32⟩
  | .hbm, ⟨25, _⟩ => ⟨S32x4x32, .f32⟩
  | .hbm, ⟨26, _⟩ => ⟨S32x4x64, .f32⟩
  | .hbm, ⟨27, _⟩ => ⟨S32x4x64, .f32⟩
  | .hbm, ⟨28, _⟩ => ⟨S1x32x4x64x128, .f32⟩
  | .hbm, ⟨29, _⟩ => ⟨S32x4x64x128, .f32⟩
  | .hbm, ⟨30, _⟩ => ⟨S32x4x64x1, .f32⟩
  | .hbm, ⟨31, _⟩ => ⟨S32x4x64x129, .f32⟩
  | .hbm, ⟨32, _⟩ => ⟨S1x32x4x64x128, .f32⟩
  | .hbm, ⟨33, _⟩ => ⟨S32x4x64x128, .f32⟩
  | .hbm, ⟨34, _⟩ => ⟨S32x4x64x1, .f32⟩
  | .hbm, ⟨35, _⟩ => ⟨S32x4x64x129, .f32⟩
  | .hbm, ⟨36, _⟩ => ⟨S32x4x64x128, .f32⟩
  | .hbm, ⟨37, _⟩ => ⟨S32x4x64x128, .f32⟩
  | _, _ => ⟨S32x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== GsK.lean ====
abbrev S32x8x128 : Shape := ⟨3, ![32, 8, 128]⟩
abbrev S32x8x256 : Shape := ⟨3, ![32, 8, 256]⟩
abbrev S32x1x128 : Shape := ⟨3, ![32, 1, 128]⟩
abbrev S128x512 : Shape := ⟨2, ![128, 512]⟩
abbrev S1x512 : Shape := ⟨2, ![1, 512]⟩
abbrev S8x256 : Shape := ⟨2, ![8, 256]⟩
abbrev S2x32x4x128x256 : Shape := ⟨5, ![2, 32, 4, 128, 256]⟩
abbrev S32x4x128x256 : Shape := ⟨4, ![32, 4, 128, 256]⟩
abbrev S8x8x128 : Shape := ⟨3, ![8, 8, 128]⟩
abbrev S8x8x256 : Shape := ⟨3, ![8, 8, 256]⟩
abbrev S8x1x128 : Shape := ⟨3, ![8, 1, 128]⟩
abbrev S1x8x4x128x256 : Shape := ⟨5, ![1, 8, 4, 128, 256]⟩
abbrev S8x4x128x256 : Shape := ⟨4, ![8, 4, 128, 256]⟩
abbrev S8x128 : Shape := ⟨2, ![8, 128]⟩
abbrev S1x1x128 : Shape := ⟨3, ![1, 1, 128]⟩
abbrev S1x128 : Shape := ⟨2, ![1, 128]⟩
abbrev S8x512 : Shape := ⟨2, ![8, 512]⟩
abbrev S1x8x128 : Shape := ⟨3, ![1, 8, 128]⟩
abbrev S1x8x256 : Shape := ⟨3, ![1, 8, 256]⟩
abbrev S128x128 : Shape := ⟨2, ![128, 128]⟩
abbrev S8 : Shape := ⟨1, ![8]⟩
abbrev S8x1 : Shape := ⟨2, ![8, 1]⟩
abbrev S1x1x4x128x256 : Shape := ⟨5, ![1, 1, 4, 128, 256]⟩
abbrev S4x128x256 : Shape := ⟨3, ![4, 128, 256]⟩
abbrev S1x128x256 : Shape := ⟨3, ![1, 128, 256]⟩
abbrev S128x256 : Shape := ⟨2, ![128, 256]⟩
abbrev S128 : Shape := ⟨1, ![128]⟩
abbrev S128x1 : Shape := ⟨2, ![128, 1]⟩
abbrev S1x256 : Shape := ⟨2, ![1, 256]⟩
abbrev S1x4x128x256 : Shape := ⟨4, ![1, 4, 128, 256]⟩

abbrev nBuf : Space → Nat
  | .hbm => 11
  | .vmem => 19
  | .smem => 0
  | _ => 0

abbrev bufTy : (tb : Table) → Fin (tcTables nBuf tb) → BufTy
  | .hbm, ⟨0, _⟩ => ⟨S32x8x128, .f32⟩
  | .hbm, ⟨1, _⟩ => ⟨S32x8x128, .f32⟩
  | .hbm, ⟨2, _⟩ => ⟨S32x8x256, .f32⟩
  | .hbm, ⟨3, _⟩ => ⟨S32x8x256, .f32⟩
  | .hbm, ⟨4, _⟩ => ⟨S32x1x128, .f32⟩
  | .hbm, ⟨5, _⟩ => ⟨S128x512, .bf16⟩
  | .hbm, ⟨6, _⟩ => ⟨S1x512, .f32⟩
  | .hbm, ⟨7, _⟩ => ⟨S8x256, .f32⟩
  | .hbm, ⟨8, _⟩ => ⟨S2x32x4x128x256, .f32⟩
  | .hbm, ⟨9, _⟩ => ⟨S32x8x256, .f32⟩
  | .hbm, ⟨10, _⟩ => ⟨S32x4x128x256, .f32⟩
  | .local _ .vmem, ⟨0, _⟩ => ⟨S128x512, .bf16⟩
  | .local _ .vmem, ⟨1, _⟩ => ⟨S1x512, .f32⟩
  | .local _ .vmem, ⟨2, _⟩ => ⟨S8x256, .f32⟩
  | .local _ .vmem, ⟨3, _⟩ => ⟨S8x8x128, .f32⟩
  | .local _ .vmem, ⟨4, _⟩ => ⟨S8x8x128, .f32⟩
  | .local _ .vmem, ⟨5, _⟩ => ⟨S8x8x128, .f32⟩
  | .local _ .vmem, ⟨6, _⟩ => ⟨S8x8x128, .f32⟩
  | .local _ .vmem, ⟨7, _⟩ => ⟨S8x8x256, .f32⟩
  | .local _ .vmem, ⟨8, _⟩ => ⟨S8x8x256, .f32⟩
  | .local _ .vmem, ⟨9, _⟩ => ⟨S8x8x256, .f32⟩
  | .local _ .vmem, ⟨10, _⟩ => ⟨S8x8x256, .f32⟩
  | .local _ .vmem, ⟨11, _⟩ => ⟨S8x1x128, .f32⟩
  | .local _ .vmem, ⟨12, _⟩ => ⟨S8x1x128, .f32⟩
  | .local _ .vmem, ⟨13, _⟩ => ⟨S1x8x4x128x256, .f32⟩
  | .local _ .vmem, ⟨14, _⟩ => ⟨S1x8x4x128x256, .f32⟩
  | .local _ .vmem, ⟨15, _⟩ => ⟨S8x8x256, .f32⟩
  | .local _ .vmem, ⟨16, _⟩ => ⟨S8x8x256, .f32⟩
  | .local _ .vmem, ⟨17, _⟩ => ⟨S8x4x128x256, .f32⟩
  | .local _ .vmem, ⟨18, _⟩ => ⟨S8x4x128x256, .f32⟩
  | _, _ => ⟨S32x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x4x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== GsRIdeal.lean ====
abbrev S32x8x128 : Shape := ⟨3, ![32, 8, 128]⟩
abbrev S32x8x256 : Shape := ⟨3, ![32, 8, 256]⟩
abbrev S32x1x128 : Shape := ⟨3, ![32, 1, 128]⟩
abbrev S128x512 : Shape := ⟨2, ![128, 512]⟩
abbrev S1x512 : Shape := ⟨2, ![1, 512]⟩
abbrev S8x256 : Shape := ⟨2, ![8, 256]⟩
abbrev S2x32x4x128x256 : Shape := ⟨5, ![2, 32, 4, 128, 256]⟩
abbrev S32x128 : Shape := ⟨2, ![32, 128]⟩
abbrev S32x512 : Shape := ⟨2, ![32, 512]⟩
abbrev S512 : Shape := ⟨1, ![512]⟩
abbrev S_ : Shape := ⟨0, ![]⟩
abbrev S32x4x128 : Shape := ⟨3, ![32, 4, 128]⟩
abbrev S1x32x4x128x256 : Shape := ⟨5, ![1, 32, 4, 128, 256]⟩
abbrev S32x4x128x256 : Shape := ⟨4, ![32, 4, 128, 256]⟩
abbrev S32x4x128x1 : Shape := ⟨4, ![32, 4, 128, 1]⟩
abbrev S32x4x256 : Shape := ⟨3, ![32, 4, 256]⟩
abbrev S32x4x1x256 : Shape := ⟨4, ![32, 4, 1, 256]⟩

abbrev nBuf : Space → Nat
  | .hbm => 50
  | .vmem => 0
  | .smem => 0
  | _ => 0

abbrev bufTy : (tb : Table) → Fin (tcTables nBuf tb) → BufTy
  | .hbm, ⟨0, _⟩ => ⟨S32x8x128, .f32⟩
  | .hbm, ⟨1, _⟩ => ⟨S32x8x128, .f32⟩
  | .hbm, ⟨2, _⟩ => ⟨S32x8x256, .f32⟩
  | .hbm, ⟨3, _⟩ => ⟨S32x8x256, .f32⟩
  | .hbm, ⟨4, _⟩ => ⟨S32x1x128, .f32⟩
  | .hbm, ⟨5, _⟩ => ⟨S128x512, .bf16⟩
  | .hbm, ⟨6, _⟩ => ⟨S1x512, .f32⟩
  | .hbm, ⟨7, _⟩ => ⟨S8x256, .f32⟩
  | .hbm, ⟨8, _⟩ => ⟨S2x32x4x128x256, .f32⟩
  | .hbm, ⟨9, _⟩ => ⟨S32x128, .f32⟩
  | .hbm, ⟨10, _⟩ => ⟨S128x512, .f32⟩
  | .hbm, ⟨11, _⟩ => ⟨S32x512, .f32⟩
  | .hbm, ⟨12, _⟩ => ⟨S512, .f32⟩
  | .hbm, ⟨13, _⟩ => ⟨S1x512, .f32⟩
  | .hbm, ⟨14, _⟩ => ⟨S32x512, .f32⟩
  | .hbm, ⟨15, _⟩ => ⟨S32x512, .f32⟩
  | .hbm, ⟨16, _⟩ => ⟨S32x512, .f32⟩
  | .hbm, ⟨17, _⟩ => ⟨S_, .f32⟩
  | .hbm, ⟨18, _⟩ => ⟨S32x512, .f32⟩
  | .hbm, ⟨19, _⟩ => ⟨S32x512, .f32⟩
  | .hbm, ⟨20, _⟩ => ⟨S32x512, .f32⟩
  | .hbm, ⟨21, _⟩ => ⟨S32x512, .f32⟩
  | .hbm, ⟨22, _⟩ => ⟨S32x512, .i1⟩
  | .hbm, ⟨23, _⟩ => ⟨S32x512, .f32⟩
  | .hbm, ⟨24, _⟩ => ⟨S32x512, .f32⟩
  | .hbm, ⟨25, _⟩ => ⟨S32x512, .f32⟩
  | .hbm, ⟨26, _⟩ => ⟨S32x512, .f32⟩
  | .hbm, ⟨27, _⟩ => ⟨S32x512, .f32⟩
  | .hbm, ⟨28, _⟩ => ⟨S32x512, .f32⟩
  | .hbm, ⟨29, _⟩ => ⟨S32x512, .f32⟩
  | .hbm, ⟨30, _⟩ => ⟨S32x512, .f32⟩
  | .hbm, ⟨31, _⟩ => ⟨S32x512, .f32⟩
  | .hbm, ⟨32, _⟩ => ⟨S32x4x128, .f32⟩
  | .hbm, ⟨33, _⟩ => ⟨S_, .f32⟩
  | .hbm, ⟨34, _⟩ => ⟨S32x4x128, .f32⟩
  | .hbm, ⟨35, _⟩ => ⟨S32x4x128, .f32⟩
  | .hbm, ⟨36, _⟩ => ⟨S1x32x4x128x256, .f32⟩
  | .hbm, ⟨37, _⟩ => ⟨S32x4x128x256, .f32⟩
  | .hbm, ⟨38, _⟩ => ⟨S32x4x128, .f32⟩
  | .hbm, ⟨39, _⟩ => ⟨S32x4x128x1, .f32⟩
  | .hbm, ⟨40, _⟩ => ⟨S32x4x128x256, .f32⟩
  | .hbm, ⟨41, _⟩ => ⟨S32x4x128x256, .f32⟩
  | .hbm, ⟨42, _⟩ => ⟨S32x4x128, .f32⟩
  | .hbm, ⟨43, _⟩ => ⟨S32x4x128x1, .f32⟩
  | .hbm, ⟨44, _⟩ => ⟨S32x4x256, .f32⟩
  | .hbm, ⟨45, _⟩ => ⟨S32x4x1x256, .f32⟩
  | .hbm, ⟨46, _⟩ => ⟨S32x4x128x256, .f32⟩
  | .hbm, ⟨47, _⟩ => ⟨S32x4x128x256, .f32⟩
  | .hbm, ⟨48, _⟩ => ⟨S32x4x128x256, .f32⟩
  | .hbm, ⟨49, _⟩ => ⟨S32x4x128x256, .f32⟩
  | _, _ => ⟨S32x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v7 : Ref sig .tc := ⟨.hbm, 31, rfl⟩
abbrev main_v8 : Ref sig .tc := ⟨.hbm, 32, rfl⟩
abbrev main_cst : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩

abbrev nD : Nat := 1
abbrev τ : Topo := Topo.v7x

variable {F : FTy → Type} [FloatOps F]
-- ==== SpK.lean ====
abbrev S8192x9856 : Shape := ⟨2, ![8192, 9856]⟩
abbrev S32 : Shape := ⟨1, ![32]⟩
abbrev S2048x32 : Shape := ⟨2, ![2048, 32]⟩
abbrev S2048x128 : Shape := ⟨2, ![2048, 128]⟩
abbrev S8192x2048 : Shape := ⟨2, ![8192, 2048]⟩
abbrev S4x128x256 : Shape := ⟨3, ![4, 128, 256]⟩
abbrev S512x2048 : Shape := ⟨2, ![512, 2048]⟩
abbrev S512x256 : Shape := ⟨2, ![512, 256]⟩
abbrev S512x128 : Shape := ⟨2, ![512, 128]⟩
abbrev S1x128x256 : Shape := ⟨3, ![1, 128, 256]⟩
abbrev S4x128x128 : Shape := ⟨3, ![4, 128, 128]⟩
abbrev S128x128 : Shape := ⟨2, ![128, 128]⟩
abbrev S256x128 : Shape := ⟨2, ![256, 128]⟩
abbrev S128x256 : Shape := ⟨2, ![128, 256]⟩
abbrev S1x128x128 : Shape := ⟨3, ![1, 128, 128]⟩
abbrev S256x256 : Shape := ⟨2, ![256, 256]⟩
abbrev S128x2048 : Shape := ⟨2, ![128, 2048]⟩
abbrev S1024x128 : Shape := ⟨2, ![1024, 128]⟩
abbrev S1024x256 : Shape := ⟨2, ![1024, 256]⟩
abbrev S128 : Shape := ⟨1, ![128]⟩
abbrev S128x1 : Shape := ⟨2, ![128, 1]⟩
abbrev S1 : Shape := ⟨1, ![1]⟩

abbrev nBuf : Space → Nat
  | .hbm => 11
  | .vmem => 20
  | .smem => 1
  | _ => 0

abbrev bufTy : (tb : Table) → Fin (tcTables nBuf tb) → BufTy
  | .hbm, ⟨0, _⟩ => ⟨S8192x9856, .f32⟩
  | .hbm, ⟨1, _⟩ => ⟨S32, .f32⟩
  | .hbm, ⟨2, _⟩ => ⟨S2048x32, .f32⟩
  | .hbm, ⟨3, _⟩ => ⟨S2048x32, .f32⟩
  | .hbm, ⟨4, _⟩ => ⟨S2048x128, .f32⟩
  | .hbm, ⟨5, _⟩ => ⟨S2048x32, .f32⟩
  | .hbm, ⟨6, _⟩ => ⟨S2048x32, .f32⟩
  | .hbm, ⟨7, _⟩ => ⟨S2048x128, .f32⟩
  | .hbm, ⟨8, _⟩ => ⟨S8192x2048, .bf16⟩
  | .hbm, ⟨9, _⟩ => ⟨S4x128x256, .f32⟩
  | .hbm, ⟨10, _⟩ => ⟨S4x128x256, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x2048, .bf16⟩
  | .local _ .vmem, ⟨13, _⟩ => ⟨S512x2048, .bf16⟩
  | .local _ .vmem, ⟨14, _⟩ => ⟨S1x128x256, .f32⟩
  | .local _ .vmem, ⟨15, _⟩ => ⟨S1x128x256, .f32⟩
  | .local _ .vmem, ⟨16, _⟩ => ⟨S1x128x256, .f32⟩
  | .local _ .vmem, ⟨17, _⟩ => ⟨S1x128x256, .f32⟩
  | .local _ .vmem, ⟨18, _⟩ => ⟨S4x128x128, .bf16⟩
  | .local _ .vmem, ⟨19, _⟩ => ⟨S4x128x128, .bf16⟩
  | .local _ .smem, ⟨0, _⟩ => ⟨S32, .f32⟩
  | _, _ => ⟨S8192x9856, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c36_i32 : BitVec 32 := 36#32
  let c0_i32 : BitVec 32 := 0#32
  ![v1.toNat, c36_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c37_i32 : BitVec 32 := 37#32
  let c0_i32 : BitVec 32 := 0#32
  ![v1.toNat, c37_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== SpRIdeal.lean ====
abbrev S8192x9856 : Shape := ⟨2, ![8192, 9856]⟩
abbrev S32 : Shape := ⟨1, ![32]⟩
abbrev S2048x32 : Shape := ⟨2, ![2048, 32]⟩
abbrev S8192x256 : Shape := ⟨2, ![8192, 256]⟩
abbrev S4x2048x4x64 : Shape := ⟨4, ![4, 2048, 4, 64]⟩
abbrev S2048x1x32 : Shape := ⟨3, ![2048, 1, 32]⟩
abbrev S4x2048x4x32 : Shape := ⟨4, ![4, 2048, 4, 32]⟩
abbrev S1x2048x1x32 : Shape := ⟨4, ![1, 2048, 1, 32]⟩
abbrev S4x128x4x64 : Shape := ⟨4, ![4, 128, 4, 64]⟩
abbrev S4x128x256 : Shape := ⟨3, ![4, 128, 256]⟩

abbrev nBuf : Space → Nat
  | .hbm => 31
  | .vmem => 0
  | .smem => 0
  | _ => 0

abbrev bufTy : (tb : Table) → Fin (tcTables nBuf tb) → BufTy
  | .hbm, ⟨0, _⟩ => ⟨S8192x9856, .f32⟩
  | .hbm, ⟨1, _⟩ => ⟨S32, .f32⟩
  | .hbm, ⟨2, _⟩ => ⟨S2048x32, .f32⟩
  | .hbm, ⟨3, _⟩ => ⟨S2048x32, .f32⟩
  | .hbm, ⟨4, _⟩ => ⟨S8192x256, .f32⟩
  | .hbm, ⟨5, _⟩ => ⟨S4x2048x4x64, .f32⟩
  | .hbm, ⟨6, _⟩ => ⟨S2048x1x32, .f32⟩
  | .hbm, ⟨7, _⟩ => ⟨S2048x1x32, .f32⟩
  | .hbm, ⟨8, _⟩ => ⟨S4x2048x4x32, .f32⟩
  | .hbm, ⟨9, _⟩ => ⟨S4x2048x4x32, .f32⟩
  | .hbm, ⟨10, _⟩ => ⟨S1x2048x1x32, .f32⟩
  | .hbm, ⟨11, _⟩ => ⟨S4x2048x4x32, .f32⟩
  | .hbm, ⟨12, _⟩ => ⟨S4x2048x4x32, .f32⟩
  | .hbm, ⟨13, _⟩ => ⟨S1x2048x1x32, .f32⟩
  | .hbm, ⟨14, _⟩ => ⟨S4x2048x4x32, .f32⟩
  | .hbm, ⟨15, _⟩ => ⟨S4x2048x4x32, .f32⟩
  | .hbm, ⟨16, _⟩ => ⟨S4x2048x4x32, .f32⟩
  | .hbm, ⟨17, _⟩ => ⟨S1x2048x1x32, .f32⟩
  | .hbm, ⟨18, _⟩ => ⟨S4x2048x4x32, .f32⟩
  | .hbm, ⟨19, _⟩ => ⟨S4x2048x4x32, .f32⟩
  | .hbm, ⟨20, _⟩ => ⟨S1x2048x1x32, .f32⟩
  | .hbm, ⟨21, _⟩ => ⟨S4x2048x4x32, .f32⟩
  | .hbm, ⟨22, _⟩ => ⟨S4x2048x4x32, .f32⟩
  | .hbm, ⟨23, _⟩ => ⟨S4x2048x4x32, .f32⟩
  | .hbm, ⟨24, _⟩ => ⟨S4x2048x4x64, .f32⟩
  | .hbm, ⟨25, _⟩ => ⟨S8192x256, .f32⟩
  | .hbm, ⟨26, _⟩ => ⟨S4x2048x4x64, .f32⟩
  | .hbm, ⟨27, _⟩ => ⟨S4x128x4x64, .f32⟩
  | .hbm, ⟨28, _⟩ => ⟨S4x128x256, .f32⟩
  | .hbm, ⟨29, _⟩ => ⟨S4x128x4x64, .f32⟩
  | .hbm, ⟨30, _⟩ => ⟨S4x128x256, .f32⟩
  | _, _ => ⟨S8192x9856, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩

abbrev nD : Nat := 1
abbrev τ : Topo := Topo.v7x

variable {F : FTy → Type} [FloatOps F]
-- ==== Proof.Softmax.lean ====
module

public import Idealize.ShloMosaic.PureOps.Ideal
public import Idealize.ShloMosaic.PureOps.IdealRules
public import Idealize.ShloMosaic.Lib.Pointwise

@[expose] public section

noncomputable section

/-! Softmax over extended reals: the form in powers of two with the division after the weighted sum,
and the form in powers of e with the division before it, are equal when the scores are real numbers. -/

namespace Cert.Proof.Softmax

open Idealize.ShloMosaic

/-- The single-precision pattern of minus infinity. -/
theorem bits_negInf : Ideal.ofBits .f32 0xFF800000#32 = ⊥ := by simp [Ideal.ofBits, Ideal.ieee]

/-- The single-precision pattern of plus infinity. -/
theorem bits_posInf : Ideal.ofBits .f32 0x7F800000#32 = ⊤ := by simp [Ideal.ofBits, Ideal.ieee]

/-- The single-precision pattern of one sixteenth. -/
theorem bits_sixteenth : Ideal.ofBits .f32 0x3D800000#32 = ((16⁻¹ : ℝ) : EReal) := by
  simp [Ideal.ofBits, Ideal.ieee]
  norm_num
  rw [← EReal.coe_mul]
  norm_num

/-- An extended real whose magnitude is below plus infinity is a real number. -/
theorem real_of_abs_lt {x : EReal} (h : max x (-x) < ⊤) : ∃ r : ℝ, x = (r : EReal) := by
  induction x with
  | bot => simp at h
  | top => simp at h
  | coe r => exact ⟨r, rfl⟩

/-- A maximum taken as a fold is the value at an index that dominates all others. -/
theorem fold_max_of_le {n : ℕ} (f : Fin n → EReal) (k₀ : Fin n) (h : ∀ k, f k ≤ f k₀) :
    Finset.univ.fold max ⊥ f = f k₀ := by
  have e : Finset.univ.fold max ⊥ f = Finset.univ.sup f := rfl
  rw [e]
  exact le_antisymm (Finset.sup_le fun k _ => h k) (Finset.le_sup (Finset.mem_univ k₀))

/-- A real factor that is not negative comes out of a sum of extended reals. -/
theorem sum_mul_real {ι : Type} (s : Finset ι) (f : ι → EReal) {r : ℝ} (hr : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha, mul_comm,
      EReal.left_distrib_of_nonneg_of_ne_top (by exact_mod_cast hr) (EReal.coe_ne_top r), mul_comm _ (f a), mul_comm _ (∑ k ∈ s, f k), ih]

/-- A sum of real numbers is the sum taken in the reals. -/
theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- A power of two of scaled scores is the exponential of the scores' difference. -/
theorem exp2_scaled (a b : ℝ) :
    Ideal.exp2 (((a * (Real.log 2)⁻¹ : ℝ) : EReal) - ((b * (Real.log 2)⁻¹ : ℝ) : EReal)) = ((Real.exp (a - b) : ℝ) : EReal) := by
  have hl : Real.log 2 ≠ 0 := (Real.log_pos one_lt_two).ne'
  rw [← EReal.coe_sub, Ideal.exp2_coe]
  congr 1
  show (2 : ℝ) ^ (_ : ℝ) = _
  rw [Real.rpow_def_of_pos two_pos]
  congr 1
  field_simp

/-- The kernel's attention of one query over real scores: powers of two of the scores, already divided by
`log 2`, weighted, summed and then multiplied by the reciprocal of their sum. -/
theorem softmax_eq {n : ℕ} [NeZero n] (x : Fin n → ℝ) (v : Fin n → EReal) (z s : Fin n → EReal)
    (hz : ∀ k, z k = ((x k * (Real.log 2)⁻¹ : ℝ) : EReal)) (hs : ∀ k, s k = (x k : EReal)) :
    (∑ k, Ideal.exp2 (z k - Finset.univ.fold max ⊥ z) * v k) *
        Ideal.div 1 (∑ k, Ideal.exp2 (z k - Finset.univ.fold max ⊥ z)) =
      ∑ k, v k * Ideal.div (Ideal.exp (s k - Finset.univ.fold max ⊥ s))
        (∑ l, Ideal.exp (s l - Finset.univ.fold max ⊥ s)) := by
  obtain ⟨k₀, hk₀⟩ := Finite.exists_max x
  have hl : 0 < (Real.log 2)⁻¹ := inv_pos.mpr (Real.log_pos one_lt_two)
  have mz : Finset.univ.fold max ⊥ z = ((x k₀ * (Real.log 2)⁻¹ : ℝ) : EReal) := by
    rw [fold_max_of_le z k₀ (fun k => by
      rw [hz, hz]; exact_mod_cast mul_le_mul_of_nonneg_right (hk₀ k) hl.le), hz]
  have ms : Finset.univ.fold max ⊥ s = (x k₀ : EReal) := by
    rw [fold_max_of_le s k₀ (fun k => by rw [hs, hs]; exact_mod_cast hk₀ k), hs]
  have ez : ∀ k, Ideal.exp2 (z k - Finset.univ.fold max ⊥ z) = ((Real.exp (x k - x k₀) : ℝ) : EReal) := fun k => by
    rw [mz, hz, exp2_scaled]
  have es : ∀ k, Ideal.exp (s k - Finset.univ.fold max ⊥ s) = ((Real.exp (x k - x k₀) : ℝ) : EReal) := fun k => by
    rw [ms, hs, ← EReal.coe_sub, Ideal.exp_coe]
  simp only [ez, es, coe_sum]
  have hD : 0 < ∑ k, Real.exp (x k - x k₀) :=
    Finset.sum_pos (fun k _ => Real.exp_pos _) ⟨k₀, Finset.mem_univ _⟩
  simp only [Ideal.div_coe hD.ne', one_mul]
  rw [sum_mul_real _ _ (one_div_pos.mpr hD).le]
  refine Finset.sum_congr rfl fun k _ => ?_
  rw [mul_comm _ (v k), mul_assoc]

/-- A product of two real rows, the first scaled entry by entry, summed: the scale comes out. -/
theorem dot_real {n : ℕ} (q κ : Fin n → EReal) (hq : ∀ d, ∃ r : ℝ, q d = r) (hκ : ∀ d, ∃ r : ℝ, κ d = r) :
    ∃ y : ℝ, (∑ d, q d * κ d = (y : EReal)) ∧ ∀ c : ℝ, ∑ d, q d * (c : EReal) * κ d = ((y * c : ℝ) : EReal) := by
  choose q' hq' using hq
  choose κ' hκ' using hκ
  refine ⟨∑ d, q' d * κ' d, ?_, fun c => ?_⟩
  · simp only [hq', hκ', ← EReal.coe_mul, coe_sum]
  · simp only [hq', hκ', ← EReal.coe_mul, coe_sum]
    congr 1
    rw [Finset.sum_mul]
    exact Finset.sum_congr rfl fun d _ => by ring

end Cert.Proof.Softmax

end
-- ==== Proof.MemRef.lean ====
module

public import proofs.«01_k».proof.Proof.Gen.MemRIdeal.Run
public import Idealize.ShloMosaic.Lib.Pointwise

@[expose] public section

set_option maxRecDepth 16384

noncomputable section

namespace Cert.Proof.MemRef

open Idealize.ShloMosaic Idealize.ShloMosaic.TcCoe Idealize.SL.Sem
open Cert.MemRIdeal Cert.MemRIdeal.Gen Cert.MemRIdeal.Value

/-- One entry as the reference computes it. -/
def refk (q : Fin 256 → EReal) (k : Fin 256 → Fin 256 → EReal) (v : Fin 256 → EReal) (g : EReal) : EReal :=
  (∑ a, v a * Ideal.div (Ideal.exp ((∑ d, q d * k a d) * Ideal.ofBits .f32 0x3D800000#32 -
      max (Ideal.ofBits .f32 0xFF800000#32) (Finset.univ.fold max (Ideal.ofBits .f32 0xFF800000#32)
        (fun b => (∑ d, q d * k b d) * Ideal.ofBits .f32 0x3D800000#32))))
    (∑ a, Ideal.exp ((∑ d, q d * k a d) * Ideal.ofBits .f32 0x3D800000#32 -
      max (Ideal.ofBits .f32 0xFF800000#32) (Finset.univ.fold max (Ideal.ofBits .f32 0xFF800000#32)
        (fun b => (∑ d, q d * k b d) * Ideal.ofBits .f32 0x3D800000#32))))) *
  (g * Ideal.div 1 (1 + Ideal.exp (-g)))

/-- The scaled scores. -/
def SC (H : FVec Ideal S8192x9856 .f32) (KV : FVec Ideal S1024x2048 .f32) : FVec Ideal S4x4x2048x256 .f32 :=
  mulf (Host.dotGeneral dot_S4x2048x4x256_S4x256x4x256_S4x4x2048x256_3_3_1_1_02_02 none (shapeCast _ (extractStridedSlice S8192x1024 ![0, 6144] H slices_S8192x9856_S8192x1024_0_6144) shapeCasts_S8192x1024_S4x2048x4x256) (shapeCast _ (extractStridedSlice S1024x1024 ![0, 0] KV slices_S1024x2048_S1024x1024_0_0) shapeCasts_S1024x1024_S4x256x4x256)) (broadcastInDim S4x4x2048x256 ![] bcast_S_S4x4x2048x256 (constant S_ .f32 0x3D800000#32))

/-- The scores, entry by entry. -/
theorem SC_at (H : FVec Ideal S8192x9856 .f32) (KV : FVec Ideal S1024x2048 .f32) (b h : Fin 4) (q : Fin 2048) (a : Fin 256) :
    SC H KV (ix4 b h q a) = (∑ d : Fin 256, H (ix2 ⟨(b : ℕ) * 2048 + q, by omega⟩ ⟨6144 + ((h : ℕ) * 256 + d), by omega⟩) *
      KV (ix2 ⟨(b : ℕ) * 256 + a, by omega⟩ ⟨(h : ℕ) * 256 + d, by omega⟩)) * Ideal.ofBits .f32 0x3D800000#32 := by
  pointwise [SC]

/-- A host maximum over the last of four axes, at any sizes. -/
theorem host_max {n0 n1 n2 n3 : ℕ} (x : FVec Ideal ⟨4, ![n0, n1, n2, n3]⟩ .f32) (init : FVec Ideal S_ .f32)
    (h : (⟨4, ![n0, n1, n2, n3]⟩ : Shape).ReducesTo [3] ⟨3, ![n0, n1, n2]⟩) (hu : 0 < S_.numel) (a : Fin n0) (b : Fin n1) (q : Fin n2) :
    Host.reduce FloatOps.maximumf x init h hu (ix3 a b q) = Finset.univ.fold max (init (Shape.Idx.first hu)) fun k => x (ix4 a b q k) := by
  simp only [pointwise]

/-- The maximum of each row of scores. -/
def MX (S : FVec Ideal S4x4x2048x256 .f32) : FVec Ideal S4x4x2048 .f32 :=
  Host.reduce FloatOps.maximumf S (constant S_ .f32 0xFF800000#32) reducesTo_S4x4x2048x256_S4x4x2048_d3 h_S_

/-- The row maximum, entry by entry. -/
theorem MX_at (S : FVec Ideal S4x4x2048x256 .f32) (b h : Fin 4) (q : Fin 2048) :
    MX S (ix3 b h q) = Finset.univ.fold max (Ideal.ofBits .f32 0xFF800000#32) fun k => S (ix4 b h q k) :=
  host_max S (constant S_ .f32 0xFF800000#32) reducesTo_S4x4x2048x256_S4x4x2048_d3 h_S_ b h q

/-- The weights of one row of scores. -/
def WT (S : FVec Ideal S4x4x2048x256 .f32) (M : FVec Ideal S4x4x2048 .f32) : FVec Ideal S4x4x2048x256 .f32 :=
  Host.exp (subf S (broadcastInDim S4x4x2048x256 ![0, 1, 2, 3] bcast_S4x4x2048x1_S4x4x2048x256_0_1_2_3 (broadcastInDim S4x4x2048x1 ![0, 1, 2] bcast_S4x4x2048_S4x4x2048x1_0_1_2 (maximumf (broadcastInDim S4x4x2048 ![] bcast_S_S4x4x2048 (constant S_ .f32 0xFF800000#32)) M))))

/-- The weights, entry by entry. -/
theorem WT_at (S : FVec Ideal S4x4x2048x256 .f32) (M : FVec Ideal S4x4x2048 .f32) (b h : Fin 4) (q : Fin 2048) (a : Fin 256) :
    WT S M (ix4 b h q a) = Ideal.exp (S (ix4 b h q a) - max (Ideal.ofBits .f32 0xFF800000#32) (M (ix3 b h q))) := by
  pointwise [WT]

/-- The weights divided by their sum. -/

def PN (P : FVec Ideal S4x4x2048x256 .f32) : FVec Ideal S4x4x2048x256 .f32 := (Host.divf P (broadcastInDim S4x4x2048x256 ![0, 1, 2, 3] bcast_S4x4x2048x1_S4x4x2048x256_0_1_2_3 (broadcastInDim S4x4x2048x1 ![0, 1, 2] bcast_S4x4x2048_S4x4x2048x1_0_1_2 (Host.reduceAdd P (constant S_ .f32 0x00000000#32) reducesTo_S4x4x2048x256_S4x4x2048_d3 h_S_))))

/-- The softmax, entry by entry. -/
theorem PN_at (P : FVec Ideal S4x4x2048x256 .f32) (b h : Fin 4) (q : Fin 2048) (a : Fin 256) :
    PN P (ix4 b h q a) = Ideal.div (P (ix4 b h q a)) (∑ k, P (ix4 b h q k)) := by
  pointwise [PN]

/-- The weighted values. -/

def OV (KV : FVec Ideal S1024x2048 .f32) (P : FVec Ideal S4x4x2048x256 .f32) : FVec Ideal S4x2048x4x256 .f32 := (transpose S4x2048x4x256 [0, 3, 1, 2] (Host.dotGeneral dot_S4x256x4x256_S4x4x2048x256_S4x4x256x2048_1_3_3_2_02_01 none (shapeCast _ (extractStridedSlice S1024x1024 ![0, 1024] KV slices_S1024x2048_S1024x1024_0_1024) shapeCasts_S1024x1024_S4x256x4x256) P) transposes_S4x4x256x2048_S4x2048x4x256_0_3_1_2)

/-- The weighted values, entry by entry. -/
theorem OV_at (KV : FVec Ideal S1024x2048 .f32) (P : FVec Ideal S4x4x2048x256 .f32) (b h : Fin 4) (q : Fin 2048) (a : Fin 256) :
    OV KV P (ix4 b q h a) = ∑ k : Fin 256, KV (ix2 ⟨(b : ℕ) * 256 + k, by omega⟩ ⟨1024 + ((h : ℕ) * 256 + a), by omega⟩) * P (ix4 b h q k) := by
  pointwise [OV]

/-- The gate. -/

def GT (H : FVec Ideal S8192x9856 .f32) : FVec Ideal S4x2048x1024 .f32 := (mulf (shapeCast _ (extractStridedSlice S8192x1024 ![0, 7168] H slices_S8192x9856_S8192x1024_0_7168) shapeCasts_S8192x1024_S4x2048x1024) (Host.divf (broadcastInDim S4x2048x1024 ![] bcast_S_S4x2048x1024 (constant S_ .f32 0x3F800000#32)) (addf (broadcastInDim S4x2048x1024 ![] bcast_S_S4x2048x1024 (constant S_ .f32 0x3F800000#32)) (Host.exp (Host.negf (shapeCast _ (extractStridedSlice S8192x1024 ![0, 7168] H slices_S8192x9856_S8192x1024_0_7168) shapeCasts_S8192x1024_S4x2048x1024))))))

/-- The gate, entry by entry. -/
theorem GT_at (H : FVec Ideal S8192x9856 .f32) (b : Fin 4) (q : Fin 2048) (a : Fin 1024) :
    GT H (ix3 b q a) = H (ix2 ⟨(b : ℕ) * 2048 + q, by omega⟩ ⟨7168 + a, by omega⟩) * Ideal.div 1 (1 + Ideal.exp (-(H (ix2 ⟨(b : ℕ) * 2048 + q, by omega⟩ ⟨7168 + a, by omega⟩)))) := by
  pointwise [GT]

/-- The gated values. -/
def FIN (O : FVec Ideal S4x2048x4x256 .f32) (G : FVec Ideal S4x2048x1024 .f32) : FVec Ideal S8192x1024 .bf16 :=
  truncf .bf16 (shapeCast _ (mulf (shapeCast _ O shapeCasts_S4x2048x4x256_S4x2048x1024) G) shapeCasts_S4x2048x1024_S8192x1024) bitsLt_bf16_f32

/-- The gated values, entry by entry. -/
theorem FIN_at (O : FVec Ideal S4x2048x4x256 .f32) (G : FVec Ideal S4x2048x1024 .f32) (r : Fin 8192) (l : Fin 1024) :
    FIN O G (ix2 r l) = O (ix4 ⟨(r : ℕ) / 2048, by omega⟩ ⟨(r : ℕ) % 2048, by omega⟩ ⟨(l : ℕ) / 256, by omega⟩ ⟨(l : ℕ) % 256, by omega⟩) *
      G (ix3 ⟨(r : ℕ) / 2048, by omega⟩ ⟨(r : ℕ) % 2048, by omega⟩ l) := by
  pointwise [FIN]

/-- The reference as one function of its arguments. -/
def REF (H : FVec Ideal S8192x9856 .f32) (KV : FVec Ideal S1024x2048 .f32) : FVec Ideal S8192x1024 .bf16 :=
  FIN (OV KV (PN (WT (SC H KV) (MX (SC H KV))))) (GT H)

/-- The reference's result is that function. -/
theorem res_eq (m : (ℓ : Loc nD τ sig) → Buf (Elt Ideal) ℓ) (c : Dev nD) :
    res_main_v28 (F := Ideal) m c = REF (m ((c.tc : Thread nD τ).loc main_arg0)) (m ((c.tc : Thread nD τ).loc main_arg1)) := rfl

/-- The reference, entry by entry. -/
theorem REF_at (H : FVec Ideal S8192x9856 .f32) (KV : FVec Ideal S1024x2048 .f32) (r : Fin 8192) (l : Fin 1024) :
    REF H KV (ix2 r l) =
      refk (fun d => H (ix2 r ⟨6144 + ((l : ℕ) / 256 * 256 + d), by omega⟩))
        (fun a d => KV (ix2 ⟨(r : ℕ) / 2048 * 256 + a, by omega⟩ ⟨(l : ℕ) / 256 * 256 + d, by omega⟩))
        (fun a => KV (ix2 ⟨(r : ℕ) / 2048 * 256 + a, by omega⟩ ⟨1024 + l, by omega⟩)) (H (ix2 r ⟨7168 + l, by omega⟩)) := by
  have hr : ∀ h, (⟨(r : ℕ) / 2048 * 2048 + (r : ℕ) % 2048, h⟩ : Fin 8192) = r := fun h => Fin.ext (Nat.div_add_mod' _ _)
  have hl : ∀ h, (⟨1024 + ((l : ℕ) / 256 * 256 + (l : ℕ) % 256), h⟩ : Fin 2048) = ⟨1024 + l, by omega⟩ :=
    fun h => Fin.ext (congrArg (1024 + ·) (Nat.div_add_mod' _ _))
  unfold REF
  rw [FIN_at, OV_at, GT_at]
  simp only [PN_at, WT_at, MX_at, SC_at, hr, hl]
  rfl

end Cert.Proof.MemRef

end
-- ==== Proof.MemValue.lean ====
module

public import proofs.«01_k».proof.Proof.Gen.MemKIdeal.Value
public import Idealize.ShloMosaic.Lib.Pipeline.ValueKit
public import Idealize.ShloMosaic.Lib.Pointwise

@[expose] public section

set_option maxRecDepth 16384

set_option pp.maxSteps 300
noncomputable section

namespace Cert.Proof.Mem

open Idealize.ShloMosaic Idealize.ShloMosaic.TcCoe Idealize.SL.Sem
open Idealize.ShloMosaic.Pipeline (Dat)
open Cert.MemKIdeal Cert.MemKIdeal.Gen

variable (m : (ℓ : Loc nD τ sig) → Buf (Elt Ideal) ℓ)

/-- The value named in place of the kernel's scale. -/
abbrev sc : EReal := Named.named (F := Ideal) (φ := .f32) κ "scale_log2e" 1035512379#32

/-- One entry as the kernel computes it. -/
def kern (q : Fin 256 → EReal) (k : Fin 256 → Fin 256 → EReal) (v : Fin 256 → EReal) (g : EReal) : EReal :=
  ((∑ a, FloatOps.exp2 (F := Ideal) (φ := .f32) (∑ d, q d * sc * k a d -
      Finset.univ.fold max (Ideal.ofBits .f32 0xFF800000#32) (fun b => ∑ d, q d * sc * k b d)) * v a) *
    Ideal.div 1 (∑ a, FloatOps.exp2 (F := Ideal) (φ := .f32) (∑ d, q d * sc * k a d -
      Finset.univ.fold max (Ideal.ofBits .f32 0xFF800000#32) (fun b => ∑ d, q d * sc * k b d)))) *
  (g * Ideal.div 1 (1 + Ideal.exp (0 - g)))

set_option maxHeartbeats 1000000 in
/-- What a point of the grid leaves in its output block, entry by entry. -/
theorem point (c : Dev nD) (t : Fin cfg0.N) (r : Fin 512) (l : Fin 1024) (Q G : FVec Ideal S512x1024 .f32) (K V : FVec Ideal S256x1024 .f32) :
   out0_A_4 (F := Ideal) c (grid0.coords t) (ms0_0 t) (hs0_0 t) (ms0_1 t) (hs0_1 t) (ms0_2 t) (hs0_2 t) (ms0_3 t) (hs0_3 t) (ms0_4 t) (hs0_4 t) Q G K V (ix2 r l : S512x1024.Idx) =
    kern (fun d => Q (ix2 r ⟨(l : ℕ) / 256 * 256 + d, by omega⟩))
      (fun a d => K (ix2 a ⟨(l : ℕ) / 256 * 256 + d, by omega⟩))
      (fun a => V (ix2 a l)) (G (ix2 r l)) := by
  show (_ : EReal) = _
  frame_out
  canon_tiles x h
  all_goals open_payloads
  all_goals idx_vars x
  all_goals have h0 : (r : ℕ) = x0 := h0
  all_goals obtain rfl : r = x0 := Fin.ext h0
  case piece0 =>
    obtain ⟨l, hl⟩ := l
    obtain rfl : l = 768 + (x1 : ℕ) := h1
    have e2 : (768 + (x1 : ℕ)) / 256 * 256 = 768 := by omega
    pointwise [kern, e2]
    split <;> rfl
  case piece1 =>
    obtain ⟨l, hl⟩ := l
    obtain rfl : l = 512 + (x1 : ℕ) := h1
    have e2 : (512 + (x1 : ℕ)) / 256 * 256 = 512 := by omega
    pointwise [kern, e2]
    split <;> rfl
  case piece2 =>
    obtain ⟨l, hl⟩ := l
    obtain rfl : l = 256 + (x1 : ℕ) := h1
    have e2 : (256 + (x1 : ℕ)) / 256 * 256 = 256 := by omega
    pointwise [kern, e2]
    split <;> rfl
  case piece3 =>
    obtain ⟨l, hl⟩ := l
    obtain rfl : l = (x1 : ℕ) := h1
    have e2 : (x1 : ℕ) / 256 * 256 = 0 := by omega
    pointwise [kern, e2, zero_add]
    split <;> rfl

/-- The blocks that the windows read at each point. -/
theorem idx : ∀ t : Fin cfg0.N, win0_0.index t = ![t.val, 6] ∧ win0_1.index t = ![t.val, 7] ∧
    win0_2.index t = ![t.val / 4, 0] ∧ win0_3.index t = ![t.val / 4, 1] ∧ win0_4.index t = ![t.val, 0] :=
  (by decide +kernel : ∀ t : Fin grid0.N, _)

/-- The block of queries that a point reads. -/
theorem X0_at (c : Dev nD) (t : Fin cfg0.N) (r : Fin 512) (l : Fin 1024) (h : 512 * t.val + r < 8192) :
    X0_0 m c t (ix2 r l : S512x1024.Idx) = m ((c : Thread nD τ).loc main_arg0) (ix2 ⟨512 * t.val + r, h⟩ ⟨6144 + l, by omega⟩ : S8192x9856.Idx) := by
  unfold X0_0 Pipeline.Window.fill
  rw [dif_pos (moved0_0 t _)]
  blk_point [iblk, V, idx t]

/-- The block of gates that a point reads. -/
theorem X1_at (c : Dev nD) (t : Fin cfg0.N) (r : Fin 512) (l : Fin 1024) (h : 512 * t.val + r < 8192) :
    X0_1 m c t (ix2 r l : S512x1024.Idx) = m ((c : Thread nD τ).loc main_arg0) (ix2 ⟨512 * t.val + r, h⟩ ⟨7168 + l, by omega⟩ : S8192x9856.Idx) := by
  unfold X0_1 Pipeline.Window.fill
  rw [dif_pos (moved0_1 t _)]
  blk_point [iblk, V, idx t]

/-- The block of keys that a point reads. -/
theorem X2_at (c : Dev nD) (t : Fin cfg0.N) (r : Fin 256) (l : Fin 1024) (h : 256 * (t.val / 4) + r < 1024) :
    iblk m c 2 t (ix2 r l : S256x1024.Idx) = m ((c : Thread nD τ).loc main_arg1) (ix2 ⟨256 * (t.val / 4) + r, h⟩ ⟨l, by omega⟩ : S1024x2048.Idx) := by
  blk_point [iblk, V, idx t]

/-- The block of values that a point reads. -/
theorem X3_at (c : Dev nD) (t : Fin cfg0.N) (r : Fin 256) (l : Fin 1024) (h : 256 * (t.val / 4) + r < 1024) :
    iblk m c 3 t (ix2 r l : S256x1024.Idx) = m ((c : Thread nD τ).loc main_arg1) (ix2 ⟨256 * (t.val / 4) + r, h⟩ ⟨1024 + l, by omega⟩ : S1024x2048.Idx) := by
  blk_point [iblk, V, idx t]

/-- Entries are equal when everything they are computed from is. -/
theorem kern_congr {q q' : Fin 256 → EReal} {k k' : Fin 256 → Fin 256 → EReal} {v v' : Fin 256 → EReal} {g g' : EReal}
    (hq : ∀ d, q d = q' d) (hk : ∀ a d, k a d = k' a d) (hv : ∀ a, v a = v' a) (hg : g = g') : kern q k v g = kern q' k' v' g' := by
  rw [funext hq, funext fun a => funext (hk a), funext hv, hg]

/-- One entry of the array that the kernel leaves. -/
def entry (H : FVec Ideal S8192x9856 .f32) (KV : FVec Ideal S1024x2048 .f32) (r : Fin 8192) (l : Fin 1024) : EReal :=
  kern (fun d => H (ix2 r ⟨6144 + ((l : ℕ) / 256 * 256 + d), by omega⟩))
    (fun a d => KV (ix2 ⟨(r : ℕ) / 2048 * 256 + a, by omega⟩ ⟨(l : ℕ) / 256 * 256 + d, by omega⟩))
    (fun a => KV (ix2 ⟨(r : ℕ) / 2048 * 256 + a, by omega⟩ ⟨1024 + l, by omega⟩)) (H (ix2 r ⟨7168 + l, by omega⟩))

/-- The whole array that the kernel leaves. -/
def KOUT (H : FVec Ideal S8192x9856 .f32) (KV : FVec Ideal S1024x2048 .f32) : FVec Ideal S8192x1024 .bf16 := fun i => entry H KV (i 0) (i 1)

/-- The array that the kernel leaves. -/
theorem final (c : Dev nD) : (dats m 0 c).arrAt 4 (cfgs 0).N =
    KOUT (m ((c : Thread nD τ).loc main_arg0)) (m ((c : Thread nD τ).loc main_arg1)) := by
  refine (dats m 0 c).arrAt_eq_of_covers 4 _ (by decide +kernel) fun t hf y => ?_
  have ht : t.val < 16 := lt_of_lt_of_eq t.isLt N_0
  blk_simp
  rw [after0_4]
  unfold outsAt0
  obtain ⟨r, l, rfl⟩ : ∃ (r : Fin 512) (l : Fin 1024), y = (ix2 r l : S512x1024.Idx) := ⟨y 0, y 1, eq_ix2 y⟩
  have e : (win0_4.blk t).view.emb (ix2 r l : S512x1024.Idx) = (ix2 ⟨512 * t.val + r, by omega⟩ ⟨l, by omega⟩ : S8192x1024.Idx) := by
    blk_ext [idx t]
  rw [e]
  refine (point c t r l _ _ _ _).trans ?_
  refine kern_congr (fun d => ?_) (fun a d => ?_) (fun a => ?_) ?_
  · exact (X0_at m c t r _ (by omega)).trans (congrArg (m _) ((ix2_inj ..).2 ⟨rfl, Fin.ext rfl⟩))
  · exact (X2_at m c t a _ (by omega)).trans (congrArg (m _) ((ix2_inj ..).2 ⟨Fin.ext (by show 256 * (t.val / 4) + a.val = (512 * t.val + r.val) / 2048 * 256 + a.val; omega), Fin.ext rfl⟩))
  · exact (X3_at m c t a l (by omega)).trans (congrArg (m _) ((ix2_inj ..).2 ⟨Fin.ext (by show 256 * (t.val / 4) + a.val = (512 * t.val + r.val) / 2048 * 256 + a.val; omega), Fin.ext rfl⟩))
  · exact X1_at m c t r l (by omega)

end Cert.Proof.Mem

end
-- ==== Proof.MemClaim.lean ====
module

public import proofs.«01_k».proof.Defs
public import proofs.«01_k».proof.Proof.Softmax
public import proofs.«01_k».proof.Proof.MemRef
public import proofs.«01_k».proof.Proof.MemValue
public import proofs.«01_k».proof.Proof.Gen.MemK.Frame
public import proofs.«01_k».proof.Proof.Gen.MemKIdeal.Frame
public import proofs.«01_k».proof.Proof.Gen.MemRIdeal.Run
public import Idealize.ShloMosaic.Lib.Claim

@[expose] public section

set_option maxRecDepth 16384
set_option pp.maxSteps 300

noncomputable section

namespace Cert.Proof.MemClaim

open Idealize.ShloMosaic Idealize.ShloMosaic.TcCoe Idealize.SL.Sem
open Cert.Proof.Softmax
open Cert.Proof.Mem (sc kern KOUT entry)
open Cert.Proof.MemRef (refk REF REF_at)

/-- The kernel's named scale is one sixteenth of the inverse of log 2. -/
theorem sc_eq : sc = ((16⁻¹ * (Real.log 2)⁻¹ : ℝ) : EReal) :=
  IdealRules.named_const.ideal_named_scalar _ _ _ _ rfl

/-- On finite queries and keys the kernel's entry is the reference's. -/
theorem kern_eq_refk (q : Fin 256 → EReal) (k : Fin 256 → Fin 256 → EReal) (v : Fin 256 → EReal) (g : EReal)
    (hq : ∀ d, ∃ r : ℝ, q d = r) (hk : ∀ a d, ∃ r : ℝ, k a d = r) : kern q k v g = refk q k v g := by
  choose y hy hc using fun a => dot_real q (k a) hq (hk a)
  have hz : ∀ a, ∑ d, q d * sc * k a d = ((y a * 16⁻¹ * (Real.log 2)⁻¹ : ℝ) : EReal) := fun a => by
    rw [sc_eq, hc a, mul_assoc]
  have hs : ∀ a, (∑ d, q d * k a d) * Ideal.ofBits .f32 0x3D800000#32 = ((y a * 16⁻¹ : ℝ) : EReal) := fun a => by
    rw [hy a, bits_sixteenth, EReal.coe_mul]
  have h := softmax_eq (fun a => y a * 16⁻¹) v _ _ hz hs
  unfold kern refk
  rw [bits_negInf, zero_sub, max_eq_right bot_le]
  exact congrArg (· * _) h

/-- A comparison of a magnitude with infinity that comes out one holds of a real. -/
theorem real_of_bit (x : EReal) (e : BitVec.ofBool (decide (FloatOps.absf (F := Ideal) (φ := .f32) x < Ideal.ofBits .f32 2139095040#32)) = 1#1) :
    ∃ r : ℝ, x = r := by
  have b : Ideal.ofBits .f32 2139095040#32 = ⊤ := bits_posInf
  rw [b] at e
  refine real_of_abs_lt (x := x) ?_
  by_contra hn
  have hd : decide (FloatOps.absf (F := Ideal) (φ := .f32) x < (⊤ : EReal)) = false := decide_eq_false hn
  rw [hd] at e
  exact absurd e (by decide)

section
variable [hP : Cert.Pre_mem_scores_finite.Facts]

/-- The condition makes every query a real. -/
theorem query_real (H : FVec Ideal Cert.Pre_mem_scores_finite.S8192x9856 .f32) (KV : FVec Ideal Cert.Pre_mem_scores_finite.S1024x2048 .f32)
    (h : (Cert.Pre_mem_scores_finite.fn (F := Ideal) H KV).1 = fun _ => 1#1) (r : Fin 8192) (l : ℕ) (hl : l < 1024) (h' : 6144 + l < 9856) :
    ∃ x : ℝ, H (ix2 r ⟨6144 + l, h'⟩ : Cert.Pre_mem_scores_finite.S8192x9856.Idx) = x := by
  have e := congrFun h (ix2 r ⟨l, hl⟩ : Cert.Pre_mem_scores_finite.S8192x1024.Idx)
  pointwise [Cert.Pre_mem_scores_finite.fn] at e
  exact real_of_bit _ e

/-- The condition makes every key a real. -/
theorem key_real (H : FVec Ideal Cert.Pre_mem_scores_finite.S8192x9856 .f32) (KV : FVec Ideal Cert.Pre_mem_scores_finite.S1024x2048 .f32)
    (h : (Cert.Pre_mem_scores_finite.fn (F := Ideal) H KV).2 = fun _ => 1#1) (r : Fin 1024) (l : ℕ) (hl : l < 1024) (h' : l < 2048) :
    ∃ x : ℝ, KV (ix2 r ⟨l, h'⟩ : Cert.Pre_mem_scores_finite.S1024x2048.Idx) = x := by
  have e := congrFun h (ix2 r ⟨l, hl⟩ : Cert.Pre_mem_scores_finite.S1024x1024.Idx)
  pointwise [Cert.Pre_mem_scores_finite.fn] at e
  exact real_of_bit _ e

/-- The kernel's array is the reference's, on finite queries and keys. -/
theorem kout_eq_ref (H : FVec Ideal Cert.Pre_mem_scores_finite.S8192x9856 .f32) (KV : FVec Ideal Cert.Pre_mem_scores_finite.S1024x2048 .f32)
    (h1 : (Cert.Pre_mem_scores_finite.fn (F := Ideal) H KV).1 = fun _ => 1#1)
    (h2 : (Cert.Pre_mem_scores_finite.fn (F := Ideal) H KV).2 = fun _ => 1#1) : KOUT H KV = REF H KV := by
  funext i
  refine Eq.trans ?_ ((congrArg (REF H KV) (eq_ix2 i)).trans (REF_at H KV (i 0) (i 1))).symm
  exact kern_eq_refk _ _ _ _ (fun d => query_real H KV h1 _ _ (by omega) _) (fun a d => key_real H KV h2 _ _ (by omega) _)
end

/-- The facts the condition's operations take. -/
instance preFacts : Cert.Pre_mem_scores_finite.Facts where
  slices_S8192x9856_S8192x1024_0_6144 := by decide
  bcast_S_S8192x1024 := by decide
  slices_S1024x2048_S1024x1024_0_0 := by decide
  bcast_S_S1024x1024 := by decide

theorem frame_k : Cert.quiescent_MemK := fun m g _ => Cert.MemK.Gen.frame m g

theorem frame_ki : Cert.quiescent_MemKIdeal := fun m g _ => Cert.MemKIdeal.Gen.frame m g

theorem frame_ki_pre : Cert.quiescent_MemKIdeal_pre_mem_scores_finite := fun m g _ => Cert.MemKIdeal.Gen.frame m g

theorem frame_ri : Cert.quiescent_MemRIdeal := fun m g _ =>
  (θ_run _ _ _).mono (fun r h => ⟨fun c => (h c).2, sem_eq_zero_of_no_sems (by decide) r.2⟩) (Cert.MemRIdeal.Value.run m g)

theorem frame_ri_pre : Cert.quiescent_MemRIdeal_pre_mem_scores_finite := fun m g _ => frame_ri m g trivial

theorem preserves : Cert.preserves_MemK_MemKIdeal := IdealRules.named_const.statement _ _ _ _ _ rfl

/-- The kernel's run and the reference's end with the same array. -/
theorem algebraic : Cert.algebraic_MemKIdeal_MemRIdeal_pre_mem_scores_finite := fun m g m' g' hp ha =>
  ⟨fun c => KOUT (m ((c.tc : Thread Cert.MemKIdeal.nD Cert.MemKIdeal.τ).loc Cert.MemKIdeal.main_arg0)) (m ((c.tc : Thread Cert.MemKIdeal.nD Cert.MemKIdeal.τ).loc Cert.MemKIdeal.main_arg1)),
    (θ_run _ _ _).mono (fun r h c => ⟨(h c).1.trans (Cert.Proof.Mem.final m c), (h c).2.1, (h c).2.2⟩) (Cert.MemKIdeal.Value.run_blocks m g),
    (θ_run _ _ _).mono (fun r h c => ⟨(h c).1.trans ((Cert.Proof.MemRef.res_eq m' c).trans (by
        rw [(ha c).1, (ha c).2]
        exact (kout_eq_ref _ _ (hp c).1 (hp c).2).symm)), (h c).2.1, (h c).2.2⟩) (Cert.MemRIdeal.Value.run m' g')⟩

end Cert.Proof.MemClaim
end
-- ==== Proof.OutKIdealRun.lean ====
module

public import proofs.«01_k».proof.Proof.Gen.OutKIdeal.Frame
public import proofs.«01_k».proof.Proof.Gen.OutKIdeal.Skeleton
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.OutKIdeal.Hand

open Cert.OutKIdeal Cert.OutKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The small output is computed at the first eight points only. -/
theorem cond_iff : ∀ t : Fin cfg0.N, k0_cond1 (grid0.coords t) = 1#1 ↔ t.val < 8 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [k0_cond1, e0, e1]
    word_cmp : ∀ t : Fin grid0.N, k0_cond1 (grid0.coords t) = 1#1 ↔ t.val < 8)

/-- The small output is written back at the points before the eighth, which starts its last block, and at the last. -/
theorem flush8 : ∀ t : Fin cfg0.N, (cfg0.win 8).flush t = true ↔ (t.val < 7 ∨ t.val = 31) :=
  (by decide +kernel : ∀ t : Fin grid0.N, win0_8.flush t = true ↔ (t.val < 7 ∨ t.val = 31))

theorem fetch8 : ∀ t : Fin cfg0.N, (cfg0.win 8).fetch t = false :=
  (by decide +kernel : ∀ t : Fin grid0.N, win0_8.fetch t = false)

/-- Whole-buffer rectangles. -/
abbrev r0 := Rect.unit (s := S1x4096x512) ![0, 0, 0] S1x4096x512.size inb_S1x4096x512_S1x4096x512_0_0_0
abbrev r1 := Rect.unit (s := S2048x2048) ![0, 0] S2048x2048.size inb_S2048x2048_S2048x2048_0_0
abbrev r2 := Rect.unit (s := S2048x1024) ![0, 0] S2048x1024.size inb_S2048x1024_S2048x1024_0_0
abbrev r4 := Rect.unit (s := S32x4096) ![0, 0] S32x4096.size inb_S32x4096_S32x4096_0_0
abbrev r5 := Rect.unit (s := S2048x512) ![0, 0] S2048x512.size inb_S2048x512_S2048x512_0_0
abbrev r6 := Rect.unit (s := S32x512) ![0, 0] S32x512.size inb_S32x512_S32x512_0_0

/-- What a point leaves in the large output's block. -/
def out7 (x0 : Vec F S1x4096x512 .f32) (x1 : Vec F S2048x2048 .bf16) (x2 : Vec F S2048x1024 .bf16) (x3 : Vec F S2048x1024 .bf16) (x5 : Vec F S2048x512 .f32) : Vec F S2048x512 .f32 :=
  View.canon [⟨r5, k0_pay2 (View.ld x0 r0) (View.ld x1 r1) (View.ld x2 r2) (View.ld x3 r2) (View.ld x5 r5)⟩]

/-- What one of the first eight points leaves in the small output's block. -/
def out8 (x0 : Vec F S1x4096x512 .f32) (x4 : Vec F S32x4096 .bf16) (x6 : Vec F S32x512 .f32) : Vec F S32x512 .f32 :=
  View.canon [⟨r6, k0_pay3 (View.ld x0 r0) (View.ld x4 r4) (View.ld x6 r6)⟩]

theorem cover7 (x0 : Vec F S2048x512 .f32) (y : S2048x512.Idx) :
    ∃ p ∈ ([⟨r5, x0⟩] : List (View.Piece (Elt F) S2048x512 .f32)), y ∈ p.1.set :=
  View.cover_of_tiled _ S2048x512.size (by rfl) y

theorem cover8 (x0 : Vec F S32x512 .f32) (y : S32x512.Idx) :
    ∃ p ∈ ([⟨r6, x0⟩] : List (View.Piece (Elt F) S32x512 .f32)), y ∈ p.1.set :=
  View.cover_of_tiled _ S32x512.size (by rfl) y

set_option maxHeartbeats 2000000 in
/-- The body where the small output is computed: both outputs end at their products. -/
theorem run_first (c : Dev nD) (E : Set ℕ) (i : grid0.Coords) (arg2 : Memref sig .tc .vmem S1x4096x512 .f32) (harg2 : arg2.IsWhole) (arg3 : Memref sig .tc .vmem S2048x2048 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S32x4096 .bf16) (harg6 : arg6.IsWhole) (arg7 : Memref sig .tc .vmem S2048x512 .f32) (harg7 : arg7.IsWhole) (arg8 : Memref sig .tc .vmem S32x512 .f32) (harg8 : arg8.IsWhole) (arg9 : Memref sig .tc .vmem S2048x512 .f32) (harg9 : arg9.IsWhole) (arg10 : Memref sig .tc .vmem S32x512 .f32) (harg10 : arg10.IsWhole)
    (hc0 : k0_cond1 i = 1#1)
    (x0 : Vec F S1x4096x512 .f32) (x1 : Vec F S2048x2048 .bf16) (x2 : Vec F S2048x1024 .bf16) (x3 : Vec F S2048x1024 .bf16) (x4 : Vec F S32x4096 .bf16) (x5 : Vec F S2048x512 .f32) (x6 : Vec F S32x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out7 x0 x1 x2 x3 x5) ∗ owns (c : Thread nD τ) arg10 fullShare (out8 x0 x4 x6)) -∗ K ⟨⟩))
      ⊢ wp frame (wpE (defs₀ (F := F)) Variants.none c none) E (cc0_out_proj i arg2 harg2 arg3 harg3 arg4 harg4 arg5 harg5 arg6 harg6 arg7 harg7 arg8 harg8 arg9 harg9 arg10 harg10) K := by
  simp only [cc0_out_proj_eq_skeleton]; unfold cc0_out_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover7 _)
  iexists _; isplitr
  swap; · iexact H8
  ipureintro
  exact View.read_writes_eq_canon _ _ _ (cover8 _)

set_option maxHeartbeats 2000000 in
/-- The body where the small output is not computed: its buffer ends as it was found. -/
theorem run_later (c : Dev nD) (E : Set ℕ) (i : grid0.Coords) (arg2 : Memref sig .tc .vmem S1x4096x512 .f32) (harg2 : arg2.IsWhole) (arg3 : Memref sig .tc .vmem S2048x2048 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S32x4096 .bf16) (harg6 : arg6.IsWhole) (arg7 : Memref sig .tc .vmem S2048x512 .f32) (harg7 : arg7.IsWhole) (arg8 : Memref sig .tc .vmem S32x512 .f32) (harg8 : arg8.IsWhole) (arg9 : Memref sig .tc .vmem S2048x512 .f32) (harg9 : arg9.IsWhole) (arg10 : Memref sig .tc .vmem S32x512 .f32) (harg10 : arg10.IsWhole)
    (hc0 : ¬ k0_cond1 i = 1#1)
    (x0 : Vec F S1x4096x512 .f32) (x1 : Vec F S2048x2048 .bf16) (x2 : Vec F S2048x1024 .bf16) (x3 : Vec F S2048x1024 .bf16) (x4 : Vec F S32x4096 .bf16) (x5 : Vec F S2048x512 .f32) (x6 : Vec F S32x512 .f32) (x8 : Vec F S32x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare x8
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out7 x0 x1 x2 x3 x5) ∗ owns (c : Thread nD τ) arg10 fullShare x8) -∗ K ⟨⟩))
      ⊢ wp frame (wpE (defs₀ (F := F)) Variants.none c none) E (cc0_out_proj i arg2 harg2 arg3 harg3 arg4 harg4 arg5 harg5 arg6 harg6 arg7 harg7 arg8 harg8 arg9 harg9 arg10 harg10) K := by
  simp only [cc0_out_proj_eq_skeleton]; unfold cc0_out_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf0 hf1 hf2 hf3 hf4 hf5 hf6 hf8
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover7 _)
  iexists f8; isplitr; · ipureintro; rfl
  iexact H8

/-- The point whose small block is in the buffer at `t`. -/
def src (t : Fin cfg0.N) : Fin cfg0.N := ⟨min t.val 7, lt_of_le_of_lt (Nat.min_le_left _ _) t.isLt⟩

theorem src_first (t : Fin cfg0.N) (h : t.val < 8) : src t = t := Fin.ext (by show min t.val 7 = t.val; omega)

theorem src_later (t t' : Fin cfg0.N) (h : 7 ≤ t.val) (h' : 7 ≤ t'.val) : src t = src t' :=
  Fin.ext (by show min t.val 7 = min t'.val 7; omega)

/-- The data of the run: each input's buffer at its block, each output's at what the body leaves in it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 5 t)
    | ⟨8, _⟩ => out8 (iblk m c 0 (src t)) (iblk m c 4 (src t)) (iblk m c 6 (src t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = out7 (iblk m c 0 t) (iblk m c 1 t) (iblk m c 2 t) (iblk m c 3 t) (iblk m c 5 t) := by dsimp only [dats]
theorem after_8 (c : Dev nD) (t : Fin cfg0.N) : (dats m 0 c).after 8 t = out8 (iblk m c 0 (src t)) (iblk m c 4 (src t)) (iblk m c 6 (src t)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

theorem idle_first (t : Fin cfg0.N) (h : t.val < 8) : cfg0.idle 8 (cfg0.grid.coords t) = false := by
  show (!(k0_cond1 (grid0.coords t) == 1#1)) = false
  rw [(cond_iff t).mpr h]; rfl

theorem idle_later (t : Fin cfg0.N) (h : ¬ t.val < 8) : cfg0.idle 8 (cfg0.grid.coords t) = true := by
  show (!(k0_cond1 (grid0.coords t) == 1#1)) = true
  rw [beq_eq_false_iff_ne.mpr fun e => h ((cond_iff t).mp e)]; rfl

/-- After the first eight points the small output's buffer holds the eighth point's block. -/
theorem before_8 (c : Dev nD) : ∀ (n : ℕ) (hn : n < cfg0.N) (h : 8 ≤ n) (d), (dats m 0 c).before 8 ⟨n, hn⟩ d = (dats m 0 c).after 8 ⟨n, hn⟩ := by
  intro n
  induction n with
  | zero => intro hn h; omega
  | succ n ih =>
    intro hn h d
    have hN : n + 1 < 32 := lt_of_lt_of_eq hn N_0
    have hn' : n < cfg0.N := by omega
    rw [(dats m 0 c).before_of_pos 8 ⟨n + 1, hn⟩ (Nat.succ_ne_zero n) (fetch8 _) d]
    have e : (⟨(⟨n + 1, hn⟩ : Fin cfg0.N).val - 1, Nat.lt_of_le_of_lt (Nat.sub_le _ _) (⟨n + 1, hn⟩ : Fin cfg0.N).isLt⟩ : Fin cfg0.N) = ⟨n, hn'⟩ := Fin.ext rfl
    rw [e, if_neg (fun hf => by have := (flush8 _).mp hf; dsimp only at this; omega)]
    have ea : (dats m 0 c).after 8 ⟨n + 1, hn⟩ = (dats m 0 c).after 8 ⟨n, hn'⟩ := by
      rw [after_8, after_8, src_later ⟨n + 1, hn⟩ ⟨n, hn'⟩ (by dsimp only; omega) (by dsimp only; omega)]
    rw [ea]
    unfold Dat.left
    by_cases h7 : n < 8
    · rw [idle_first ⟨n, hn'⟩ h7]; rfl
    · rw [idle_later ⟨n, hn'⟩ h7]
      exact ih hn' (by omega) d

/-- What the body is called with, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (dats m 0 c).leavesExact 8 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  unfold Dat.leavesExact
  by_cases h8 : t.val < 8
  · rw [idle_first t h8]
    dsimp only
    rw [after_8, src_first t h8]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first c Set.univ (grid0.coords t) _ _ _ _ _ _ _ _ _ _ _ _ _ _ _ _ _ _ ((cond_iff t).mpr h8) (iblk m c 0 t) (iblk m c 1 t) (iblk m c 2 t) (iblk m c 3 t) (iblk m c 4 t) (iblk m c 5 t) (iblk m c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [idle_later t h8]
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_later c Set.univ (grid0.coords t) _ _ _ _ _ _ _ _ _ _ _ _ _ _ _ _ _ _ (fun e => h8 ((cond_iff t).mp e)) (iblk m c 0 t) (iblk m c 1 t) (iblk m c 2 t) (iblk m c 3 t) (iblk m c 4 t) (iblk m c 5 t) (iblk m c 6 t) ((dats m 0 c).before 8 t d8) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    cases hfl : (cfg0.win 8).flush t
    · dsimp only
      iexists d8
      iexact H8
    · dsimp only
      rw [← before_8 m c t.val t.isLt (by omega) d8]
      iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run, with every semaphore at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The run ends, leaves the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.OutKIdeal.Hand

end
-- ==== Proof.OutClaim.lean ====
module

public import proofs.«01_k».proof.Defs
public import proofs.«01_k».proof.Proof.OutKRun
public import proofs.«01_k».proof.Proof.OutKIdealRun
public import proofs.«01_k».proof.Proof.Gen.OutRIdeal.Run
public import Idealize.ShloMosaic.Lib.Claim
public import Idealize.ShloMosaic.Lib.Pipeline.ValueKit
public import Idealize.ShloMosaic.Lib.Pointwise

@[expose] public section

set_option maxRecDepth 16384
set_option pp.maxSteps 300

noncomputable section

namespace Cert.Proof.OutClaim

open Idealize.ShloMosaic Idealize.ShloMosaic.TcCoe Idealize.SL.Sem
open Idealize.ShloMosaic.Pipeline (Dat)

/-- A sum over 4096 as the sums over its first 2048, next 1024 and last 1024 terms. -/
theorem sum_split (f : Fin 4096 → EReal) :
    ∑ k : Fin 4096, f k = (∑ k : Fin 2048, f ⟨k, by omega⟩ + ∑ k : Fin 1024, f ⟨2048 + k, by omega⟩) + ∑ k : Fin 1024, f ⟨3072 + k, by omega⟩ := by
  refine (Fin.sum_univ_add (a := 3072) (b := 1024) f).trans (congrArg₂ (· + ·) ?_ rfl)
  exact Fin.sum_univ_add (a := 2048) (b := 1024) fun k : Fin (2048 + 1024) => f ⟨k, by omega⟩

section kernel
open Cert.OutKIdeal Cert.OutKIdeal.Gen Cert.OutKIdeal.Hand

variable (m : (ℓ : Loc nD τ sig) → Buf (Elt Ideal) ℓ)

/-- One entry of the three arrays side by side. -/
def cat (A : FVec Ideal S8192x2048 .bf16) (B C : FVec Ideal S8192x1024 .bf16) (r : Fin 8192) (k : Fin 4096) : EReal :=
  if h : k.val < 2048 then A (ix2 r ⟨k, h⟩) else if h' : k.val - 2048 < 1024 then B (ix2 r ⟨k - 2048, h'⟩) else C (ix2 r ⟨k - 2048 - 1024, by omega⟩)

theorem cat_lo (A : FVec Ideal S8192x2048 .bf16) (B C : FVec Ideal S8192x1024 .bf16) (r : Fin 8192) (k : Fin 2048) :
    cat A B C r ⟨k, by omega⟩ = A (ix2 r k) := dif_pos k.isLt

theorem cat_mid (A : FVec Ideal S8192x2048 .bf16) (B C : FVec Ideal S8192x1024 .bf16) (r : Fin 8192) (k : Fin 1024) :
    cat A B C r ⟨2048 + k, by omega⟩ = B (ix2 r k) := by
  have h1 : ¬ 2048 + k.val < 2048 := by omega
  have h2 : 2048 + k.val - 2048 < 1024 := by omega
  unfold cat
  rw [dif_neg h1, dif_pos h2]
  exact congrArg B (congrArg (ix2 r) (Fin.ext (by show 2048 + k.val - 2048 = k.val; omega)))

theorem cat_hi (A : FVec Ideal S8192x2048 .bf16) (B C : FVec Ideal S8192x1024 .bf16) (r : Fin 8192) (k : Fin 1024) :
    cat A B C r ⟨3072 + k, by omega⟩ = C (ix2 r k) := by
  have h1 : ¬ 3072 + k.val < 2048 := by omega
  have h2 : ¬ 3072 + k.val - 2048 < 1024 := by omega
  unfold cat
  rw [dif_neg h1, dif_neg h2]
  exact congrArg C (congrArg (ix2 r) (Fin.ext (by show 3072 + k.val - 2048 - 1024 = k.val; omega)))

/-- One entry of the large result. -/
def entry (A : FVec Ideal S8192x2048 .bf16) (B C : FVec Ideal S8192x1024 .bf16) (W : FVec Ideal S2x4096x4096 .f32) (X : FVec Ideal S8192x4096 .f32)
    (r : Fin 8192) (l : Fin 4096) : EReal :=
  X (ix2 r l) + ∑ k : Fin 4096, cat A B C r k * W (ix3 0 k l)

/-- One entry of the small result. -/
def entrys (M : FVec Ideal S32x4096 .bf16) (W : FVec Ideal S2x4096x4096 .f32) (X : FVec Ideal S32x4096 .f32)
    (r : Fin 32) (l : Fin 4096) : EReal :=
  X (ix2 r l) + ∑ k : Fin 4096, M (ix2 r k) * W (ix3 0 k l)

def KOUT (A : FVec Ideal S8192x2048 .bf16) (B C : FVec Ideal S8192x1024 .bf16) (W : FVec Ideal S2x4096x4096 .f32) (X : FVec Ideal S8192x4096 .f32) :
    FVec Ideal S8192x4096 .f32 := fun i => entry A B C W X (i 0) (i 1)

def KOUTS (M : FVec Ideal S32x4096 .bf16) (W : FVec Ideal S2x4096x4096 .f32) (X : FVec Ideal S32x4096 .f32) :
    FVec Ideal S32x4096 .f32 := fun i => entrys M W X (i 0) (i 1)

/-- What a point leaves in the large block, entry by entry. -/
theorem point (W : FVec Ideal S1x4096x512 .f32) (A : FVec Ideal S2048x2048 .bf16) (B C : FVec Ideal S2048x1024 .bf16) (X : FVec Ideal S2048x512 .f32)
    (r : Fin 2048) (l : Fin 512) :
    out7 (F := Ideal) W A B C X (ix2 r l : S2048x512.Idx) =
      ((∑ k : Fin 2048, A (ix2 r k) * W (ix3 0 ⟨k, by omega⟩ l) + ∑ k : Fin 1024, B (ix2 r k) * W (ix3 0 ⟨2048 + k, by omega⟩ l))
        + ∑ k : Fin 1024, C (ix2 r k) * W (ix3 0 ⟨3072 + k, by omega⟩ l)) + X (ix2 r l) := by
  show (_ : EReal) = _
  unfold out7
  frame_out
  pointwise [k0_pay2, k0_pay1]

/-- What a point leaves in the small block, entry by entry. -/
theorem points (W : FVec Ideal S1x4096x512 .f32) (M : FVec Ideal S32x4096 .bf16) (X : FVec Ideal S32x512 .f32) (r : Fin 32) (l : Fin 512) :
    out8 (F := Ideal) W M X (ix2 r l : S32x512.Idx) = ∑ k : Fin 4096, M (ix2 r k) * W (ix3 0 k l) + X (ix2 r l) := by
  show (_ : EReal) = _
  unfold out8
  frame_out
  pointwise [k0_pay3, k0_pay1]

/-- The blocks that the windows are on at each point. -/
theorem idx : ∀ t : Fin cfg0.N, win0_0.index t = ![0, 0, t.val % 8] ∧ win0_1.index t = ![t.val / 8, 0] ∧ win0_2.index t = ![t.val / 8, 0]
    ∧ win0_3.index t = ![t.val / 8, 0] ∧ win0_4.index t = ![0, 0] ∧ win0_5.index t = ![t.val / 8, t.val % 8] ∧ win0_7.index t = ![t.val / 8, t.val % 8] :=
  (by decide +kernel : ∀ t : Fin grid0.N, _)

/-- The small windows' blocks at the first eight points, -/
theorem idxs : ∀ t : Fin cfg0.N, t.val < 8 → win0_6.index t = ![0, t.val] :=
  (by decide +kernel : ∀ t : Fin grid0.N, _)

/-- and the small output's at every point. -/
theorem idxo : ∀ t : Fin cfg0.N, win0_8.index t = ![0, min t.val 7] :=
  (by decide +kernel : ∀ t : Fin grid0.N, _)

theorem W_at (c : Dev nD) (t : Fin cfg0.N) (k : Fin 4096) (l : Fin 512) (h : 512 * (t.val % 8) + l < 4096) :
    iblk m c 0 t (ix3 0 k l : S1x4096x512.Idx) = m ((c : Thread nD τ).loc main_arg4) (ix3 0 k ⟨512 * (t.val % 8) + l, h⟩ : S2x4096x4096.Idx) := by
  blk_point [iblk, V, idx t]

theorem A_at (c : Dev nD) (t : Fin cfg0.N) (r : Fin 2048) (k : Fin 2048) (h : 2048 * (t.val / 8) + r < 8192) :
    iblk m c 1 t (ix2 r k : S2048x2048.Idx) = m ((c : Thread nD τ).loc main_arg0) (ix2 ⟨2048 * (t.val / 8) + r, h⟩ k : S8192x2048.Idx) := by
  blk_point [iblk, V, idx t]

theorem B_at (c : Dev nD) (t : Fin cfg0.N) (r : Fin 2048) (k : Fin 1024) (h : 2048 * (t.val / 8) + r < 8192) :
    iblk m c 2 t (ix2 r k : S2048x1024.Idx) = m ((c : Thread nD τ).loc main_arg1) (ix2 ⟨2048 * (t.val / 8) + r, h⟩ k : S8192x1024.Idx) := by
  blk_point [iblk, V, idx t]

theorem C_at (c : Dev nD) (t : Fin cfg0.N) (r : Fin 2048) (k : Fin 1024) (h : 2048 * (t.val / 8) + r < 8192) :
    iblk m c 3 t (ix2 r k : S2048x1024.Idx) = m ((c : Thread nD τ).loc main_arg2) (ix2 ⟨2048 * (t.val / 8) + r, h⟩ k : S8192x1024.Idx) := by
  blk_point [iblk, V, idx t]

theorem M_at (c : Dev nD) (t : Fin cfg0.N) (r : Fin 32) (k : Fin 4096) :
    iblk m c 4 t (ix2 r k : S32x4096.Idx) = m ((c : Thread nD τ).loc main_arg3) (ix2 r k : S32x4096.Idx) := by
  blk_point [iblk, V, idx t]

theorem X_at (c : Dev nD) (t : Fin cfg0.N) (r : Fin 2048) (l : Fin 512) (h : 2048 * (t.val / 8) + r < 8192) (h' : 512 * (t.val % 8) + l < 4096) :
    iblk m c 5 t (ix2 r l : S2048x512.Idx) = m ((c : Thread nD τ).loc main_arg5) (ix2 ⟨2048 * (t.val / 8) + r, h⟩ ⟨512 * (t.val % 8) + l, h'⟩ : S8192x4096.Idx) := by
  blk_point [iblk, V, idx t]

theorem Xs_at (c : Dev nD) (t : Fin cfg0.N) (ht : t.val < 8) (r : Fin 32) (l : Fin 512) (h : 512 * t.val + l < 4096) :
    iblk m c 6 t (ix2 r l : S32x512.Idx) = m ((c : Thread nD τ).loc main_arg6) (ix2 r ⟨512 * t.val + l, h⟩ : S32x4096.Idx) := by
  blk_point [iblk, V, idxs t ht]

/-- The large array that the kernel leaves. -/
theorem final (c : Dev nD) : (dats m 0 c).arrAt 7 (cfgs 0).N = KOUT (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 7 _ (by decide +kernel) fun t hf y => ?_
  have ht : t.val < 32 := lt_of_lt_of_eq t.isLt N_0
  blk_simp
  rw [after_7]
  obtain ⟨r, l, rfl⟩ : ∃ (r : Fin 2048) (l : Fin 512), y = (ix2 r l : S2048x512.Idx) := ⟨y 0, y 1, eq_ix2 y⟩
  have e : (win0_7.blk t).view.emb (ix2 r l : S2048x512.Idx) = (ix2 ⟨2048 * (t.val / 8) + r, by omega⟩ ⟨512 * (t.val % 8) + l, by omega⟩ : S8192x4096.Idx) := by
    blk_ext [idx t]
  rw [e]
  refine (point _ _ _ _ _ r l).trans ?_
  show _ = entry _ _ _ _ _ _ _
  unfold entry
  rw [sum_split]
  refine (add_comm _ _).trans ?_
  refine congrArg₂ (· + ·) (X_at m c t r l (by omega) (by omega)) (congrArg₂ (· + ·) (congrArg₂ (· + ·) ?_ ?_) ?_)
  · refine Finset.sum_congr rfl fun k _ => congrArg₂ (· * ·) ((A_at m c t r k (by omega)).trans ?_) (W_at m c t _ l (by omega))
    exact (cat_lo _ _ _ _ k).symm
  · refine Finset.sum_congr rfl fun k _ => congrArg₂ (· * ·) ((B_at m c t r k (by omega)).trans ?_) (W_at m c t _ l (by omega))
    exact (cat_mid _ _ _ _ k).symm
  · refine Finset.sum_congr rfl fun k _ => congrArg₂ (· * ·) ((C_at m c t r k (by omega)).trans ?_) (W_at m c t _ l (by omega))
    exact (cat_hi _ _ _ _ k).symm

/-- The small array that the kernel leaves. -/
theorem finals (c : Dev nD) : (dats m 0 c).arrAt 8 (cfgs 0).N = KOUTS (m ((c : Thread nD τ).loc main_arg3)) (m ((c : Thread nD τ).loc main_arg4)) (m ((c : Thread nD τ).loc main_arg6)) := by
  refine (dats m 0 c).arrAt_eq_of_covers 8 _ (by decide +kernel) fun t hf y => ?_
  have ht : t.val < 32 := lt_of_lt_of_eq t.isLt N_0
  blk_simp
  rw [after_8]
  obtain ⟨r, l, rfl⟩ : ∃ (r : Fin 32) (l : Fin 512), y = (ix2 r l : S32x512.Idx) := ⟨y 0, y 1, eq_ix2 y⟩
  have e : (win0_8.blk t).view.emb (ix2 r l : S32x512.Idx) = (ix2 r ⟨512 * min t.val 7 + l, by omega⟩ : S32x4096.Idx) := by
    blk_ext [idxo t]
  rw [e]
  have hs : (src t).val = min t.val 7 := rfl
  refine (points _ _ _ r l).trans ?_
  show _ = entrys _ _ _ _ _
  unfold entrys
  refine (add_comm _ _).trans ?_
  have hc : ∀ (a b : ℕ) (ha : a < 4096) (hb : b < 4096), a = b → (⟨a, ha⟩ : Fin 4096) = ⟨b, hb⟩ := fun a b _ _ h => Fin.ext h
  refine congrArg₂ (· + ·) ((Xs_at m c (src t) (by omega) r l (by omega)).trans ?_) (Finset.sum_congr rfl fun k _ => congrArg₂ (· * ·) (M_at m c (src t) r k) ((W_at m c (src t) k l (by omega)).trans ?_))
  · exact congrArg _ (congrArg₂ ix2 rfl (hc _ _ _ _ (by omega)))
  · exact congrArg _ (congrArg (ix3 0 k) (hc _ _ _ _ (by omega)))

/-- The kernel's run, with both results. -/
theorem run_k (ρ : Dev nD → PrngReg) : θ_run defs (onTc (τ := τ) (main (F := Ideal))) ⟨m, fun _ => 0, ρ⟩ fun r => ∀ c : Dev nD,
    r.2.mem ((c.tc : Thread nD τ).loc main_v0_0) = KOUT (m ((c : Thread nD τ).loc main_arg0)) (m ((c : Thread nD τ).loc main_arg1)) (m ((c : Thread nD τ).loc main_arg2)) (m ((c : Thread nD τ).loc main_arg4)) (m ((c : Thread nD τ).loc main_arg5))
    ∧ r.2.mem ((c.tc : Thread nD τ).loc main_v0_1) = KOUTS (m ((c : Thread nD τ).loc main_arg3)) (m ((c : Thread nD τ).loc main_arg4)) (m ((c : Thread nD τ).loc main_arg6)) :=
  (θ_run defs _ _).mono (fun r h c => ⟨((h c).1 7).trans (final m c), ((h c).1 8).trans (finals m c)⟩) (run_main m ρ)

end kernel

section reference
open Cert.OutRIdeal Cert.OutRIdeal.Gen

/-- One entry of the reference's large result. -/
theorem ref_at (A : FVec Ideal S8192x2048 .bf16) (B C : FVec Ideal S8192x1024 .bf16) (W : FVec Ideal S2x4096x4096 .f32) (X : FVec Ideal S8192x4096 .f32)
    (r : Fin 8192) (l : Fin 4096) :
    addf X (Host.dotGeneral dot_S8192x4096_S4096x4096_S8192x4096_1_0_0_1_n_n none (extf .f32 ((concatenate S8192x4096 1 [⟨S8192x2048, (A : (⟨S8192x2048, .bf16⟩ : BufTy).Contents (Elt Ideal))⟩, ⟨S8192x1024, (B : (⟨S8192x1024, .bf16⟩ : BufTy).Contents (Elt Ideal))⟩, ⟨S8192x1024, (C : (⟨S8192x1024, .bf16⟩ : BufTy).Contents (Elt Ideal))⟩] Cert.OutRIdeal.Gen.facts.concatenates_S8192x2048_S8192x1024_S8192x1024_S8192x4096_d1 : (⟨S8192x4096, .bf16⟩ : BufTy).Contents (Elt Ideal))) Cert.OutRIdeal.Gen.facts.bitsLt_bf16_f32)
      (shapeCast _ (extractStridedSlice S1x4096x4096 ![0, 0, 0] W Cert.OutRIdeal.Gen.facts.slices_S2x4096x4096_S1x4096x4096_0_0_0) Cert.OutRIdeal.Gen.facts.shapeCasts_S1x4096x4096_S4096x4096))
      (ix2 r l : S8192x4096.Idx) = entry A B C W X r l := by
  show (_ : EReal) = _
  pointwise []
  unfold entry cat
  rfl

/-- One entry of the reference's small result. -/
theorem refs_at (M : FVec Ideal S32x4096 .bf16) (W : FVec Ideal S2x4096x4096 .f32) (X : FVec Ideal S32x4096 .f32) (r : Fin 32) (l : Fin 4096) :
    addf X (Host.dotGeneral dot_S32x4096_S4096x4096_S32x4096_1_0_0_1_n_n none (extf .f32 M Cert.OutRIdeal.Gen.facts.bitsLt_bf16_f32)
      (shapeCast _ (extractStridedSlice S1x4096x4096 ![0, 0, 0] W Cert.OutRIdeal.Gen.facts.slices_S2x4096x4096_S1x4096x4096_0_0_0) Cert.OutRIdeal.Gen.facts.shapeCasts_S1x4096x4096_S4096x4096))
      (ix2 r l : S32x4096.Idx) = entrys M W X r l := by
  show (_ : EReal) = _
  pointwise [entrys]

end reference

theorem frame_k : Cert.quiescent_OutK := fun m g _ => Cert.OutK.Hand.frame m g

theorem frame_ki : Cert.quiescent_OutKIdeal := fun m g _ => Cert.OutKIdeal.Hand.frame m g

theorem frame_ri : Cert.quiescent_OutRIdeal := fun m g _ =>
  (θ_run _ _ _).mono (fun r h => ⟨fun c => (h c).2.2, sem_eq_zero_of_no_sems (by decide) r.2⟩) (Cert.OutRIdeal.Value.run m g)

theorem preserves : Cert.preserves_OutK_OutKIdeal := trivial

/-- The kernel's run and the reference's end with the same arrays. -/
theorem algebraic : Cert.algebraic_OutKIdeal_OutRIdeal := fun m g m' g' hp ha =>
  ⟨fun c => KOUT (m ((c.tc : Thread Cert.OutKIdeal.nD Cert.OutKIdeal.τ).loc Cert.OutKIdeal.main_arg0)) (m ((c.tc : Thread Cert.OutKIdeal.nD Cert.OutKIdeal.τ).loc Cert.OutKIdeal.main_arg1)) (m ((c.tc : Thread Cert.OutKIdeal.nD Cert.OutKIdeal.τ).loc Cert.OutKIdeal.main_arg2)) (m ((c.tc : Thread Cert.OutKIdeal.nD Cert.OutKIdeal.τ).loc Cert.OutKIdeal.main_arg4)) (m ((c.tc : Thread Cert.OutKIdeal.nD Cert.OutKIdeal.τ).loc Cert.OutKIdeal.main_arg5)), fun c => KOUTS (m ((c.tc : Thread Cert.OutKIdeal.nD Cert.OutKIdeal.τ).loc Cert.OutKIdeal.main_arg3)) (m ((c.tc : Thread Cert.OutKIdeal.nD Cert.OutKIdeal.τ).loc Cert.OutKIdeal.main_arg4)) (m ((c.tc : Thread Cert.OutKIdeal.nD Cert.OutKIdeal.τ).loc Cert.OutKIdeal.main_arg6)),
    (θ_run _ _ _).mono (fun r h c => ⟨(h.1 c).1, (h.1 c).2, h.2 c⟩) (θ_run_and (run_k m g) (Cert.OutKIdeal.Hand.unchanged m g)),
    (θ_run _ _ _).mono (fun r h c => ⟨(h c).1.trans (by
        rw [(ha c).1, (ha c).2.1, (ha c).2.2.1, (ha c).2.2.2.2.1, (ha c).2.2.2.2.2.1]
        funext i
        exact (congrArg _ (eq_ix2 i)).trans (ref_at _ _ _ _ _ (i 0) (i 1))),
      (h c).2.1.trans (by
        rw [(ha c).2.2.2.1, (ha c).2.2.2.2.1, (ha c).2.2.2.2.2.2]
        funext i
        exact (congrArg _ (eq_ix2 i)).trans (refs_at _ _ _ (i 0) (i 1))), (h c).2.2⟩) (Cert.OutRIdeal.Value.run m' g')⟩

end Cert.Proof.OutClaim
end
-- ==== Proof.InKIdealRun.lean ====
module

public import proofs.«01_k».proof.Proof.Gen.InKIdeal.Frame
public import proofs.«01_k».proof.Proof.Gen.InKIdeal.Skeleton
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384
set_option pp.maxSteps 300

noncomputable section

namespace Cert.InKIdeal.Hand

open Cert.InKIdeal Cert.InKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The whole blocks at these points. -/
theorem cond1_iff : ∀ t : Fin cfg0.N, k0_cond1 (grid0.coords t) = 1#1 ↔ t.val % 20 < 19 :=
  (fun t => by
    have ht : t.val < 80 := Nat.lt_of_lt_of_eq t.isLt N_0
    have e0 : (grid0.coords t 0).val = t.val / 20 % 4 := Pipeline.Grid.coords_val t 0 (by decide) rfl
    have e1 : (grid0.coords t 1).val = t.val / 1 % 20 := Pipeline.Grid.coords_val t 1 (by decide) rfl
    simp only [k0_cond1, e0, e1]
    word_cmp : ∀ t : Fin grid0.N, k0_cond1 (grid0.coords t) = 1#1 ↔ t.val % 20 < 19)

/-- The small output is computed at these points. -/
theorem cond2_iff : ∀ t : Fin cfg0.N, k0_cond2 (grid0.coords t) = 1#1 ↔ t.val < 20 :=
  (fun t => by
    have ht : t.val < 80 := Nat.lt_of_lt_of_eq t.isLt N_0
    have e0 : (grid0.coords t 0).val = t.val / 20 % 4 := Pipeline.Grid.coords_val t 0 (by decide) rfl
    have e1 : (grid0.coords t 1).val = t.val / 1 % 20 := Pipeline.Grid.coords_val t 1 (by decide) rfl
    simp only [k0_cond2, e0, e1]
    word_cmp : ∀ t : Fin grid0.N, k0_cond2 (grid0.coords t) = 1#1 ↔ t.val < 20)

/-- The last, cut block at these points. -/
theorem cond3_iff : ∀ t : Fin cfg0.N, k0_cond3 (grid0.coords t) = 1#1 ↔ t.val % 20 = 19 :=
  (fun t => by
    have ht : t.val < 80 := Nat.lt_of_lt_of_eq t.isLt N_0
    have e0 : (grid0.coords t 0).val = t.val / 20 % 4 := Pipeline.Grid.coords_val t 0 (by decide) rfl
    have e1 : (grid0.coords t 1).val = t.val / 1 % 20 := Pipeline.Grid.coords_val t 1 (by decide) rfl
    simp only [k0_cond3, e0, e1]
    word_cmp : ∀ t : Fin grid0.N, k0_cond3 (grid0.coords t) = 1#1 ↔ t.val % 20 = 19)

/-- The small output is computed at these points. -/
theorem cond4_iff : ∀ t : Fin cfg0.N, k0_cond4 (grid0.coords t) = 1#1 ↔ t.val < 20 :=
  (fun t => by
    have ht : t.val < 80 := Nat.lt_of_lt_of_eq t.isLt N_0
    have e0 : (grid0.coords t 0).val = t.val / 20 % 4 := Pipeline.Grid.coords_val t 0 (by decide) rfl
    have e1 : (grid0.coords t 1).val = t.val / 1 % 20 := Pipeline.Grid.coords_val t 1 (by decide) rfl
    simp only [k0_cond4, e0, e1]
    word_cmp : ∀ t : Fin grid0.N, k0_cond4 (grid0.coords t) = 1#1 ↔ t.val < 20)

/-- The small output is written back at the points before the nineteenth column's, and at the last. -/
theorem flush4 : ∀ t : Fin cfg0.N, (cfg0.win 4).flush t = true ↔ (t.val < 19 ∨ t.val = 79) :=
  (by decide +kernel : ∀ t : Fin grid0.N, win0_4.flush t = true ↔ (t.val < 19 ∨ t.val = 79))

theorem fetch4 : ∀ t : Fin cfg0.N, (cfg0.win 4).fetch t = false :=
  (by decide +kernel : ∀ t : Fin grid0.N, win0_4.fetch t = false)

/-- The part of each output block that lies inside its array. -/
theorem xsize3 : ∀ t : Fin cfg0.N, t.val % 20 = 19 → ∀ a, (cfg0.win 3).xsize (cfg0.grid.coords t) a = S2048x128.size a :=
  (by decide +kernel : ∀ t : Fin grid0.N, t.val % 20 = 19 → ∀ a : Fin 2, win0_3.xsize (grid0.coords t) a = S2048x128.size a)

theorem xsize4 : ∀ t : Fin cfg0.N, 19 ≤ t.val → ∀ a, (cfg0.win 4).xsize (cfg0.grid.coords t) a = S32x128.size a :=
  (by decide +kernel : ∀ t : Fin grid0.N, 19 ≤ t.val → ∀ a : Fin 2, win0_4.xsize (grid0.coords t) a = S32x128.size a)

/-- The rectangles that the body reads and writes. -/
abbrev r0 := Rect.unit (s := S1x512x4096) ![0, 0, 0] S1x512x4096.size inb_S1x512x4096_S1x512x4096_0_0_0
abbrev r0p := Rect.unit (s := S1x512x4096) ![0, 0, 0] S1x128x4096.size inb_S1x512x4096_S1x128x4096_0_0_0
abbrev r1 := Rect.unit (s := S2048x4096) ![0, 0] S2048x4096.size inb_S2048x4096_S2048x4096_0_0
abbrev r2 := Rect.unit (s := S32x4096) ![0, 0] S32x4096.size inb_S32x4096_S32x4096_0_0
abbrev r3 := Rect.unit (s := S2048x512) ![0, 0] S2048x512.size inb_S2048x512_S2048x512_0_0
abbrev r3p := Rect.unit (s := S2048x512) ![0, 0] S2048x128.size inb_S2048x512_S2048x128_0_0
abbrev r4 := Rect.unit (s := S32x512) ![0, 0] S32x512.size inb_S32x512_S32x512_0_0
abbrev r4p := Rect.unit (s := S32x512) ![0, 0] S32x128.size inb_S32x512_S32x128_0_0

/-- What a point at a whole block leaves in the large output's buffer, -/
def full3 (x0 : Vec F S1x512x4096 .f32) (x1 : Vec F S2048x4096 .bf16) : Vec F S2048x512 .f32 :=
  View.canon [⟨r3, k0_pay2 (View.ld x0 r0) (View.ld x1 r1)⟩]

/-- what a point at the cut block leaves there (in its first columns), -/
def part3 (x0 : Vec F S1x512x4096 .f32) (x1 : Vec F S2048x4096 .bf16) : Vec F S2048x512 .f32 :=
  View.canon [⟨r3p, k0_pay5 (View.ld x0 r0p) (View.ld x1 r1)⟩]

/-- and the same of the small output's buffer. -/
def full4 (x0 : Vec F S1x512x4096 .f32) (x2 : Vec F S32x4096 .bf16) : Vec F S32x512 .f32 :=
  View.canon [⟨r4, k0_pay3 (View.ld x0 r0) (View.ld x2 r2)⟩]

def part4 (x0 : Vec F S1x512x4096 .f32) (x2 : Vec F S32x4096 .bf16) : Vec F S32x512 .f32 :=
  View.canon [⟨r4p, k0_pay6 (View.ld x0 r0p) (View.ld x2 r2)⟩]

theorem cover3 (x0 : Vec F S2048x512 .f32) (y : S2048x512.Idx) :
    ∃ p ∈ ([⟨r3, x0⟩] : List (View.Piece (Elt F) S2048x512 .f32)), y ∈ p.1.set :=
  View.cover_of_tiled _ S2048x512.size (by rfl) y

theorem cover4 (x0 : Vec F S32x512 .f32) (y : S32x512.Idx) :
    ∃ p ∈ ([⟨r4, x0⟩] : List (View.Piece (Elt F) S32x512 .f32)), y ∈ p.1.set :=
  View.cover_of_tiled _ S32x512.size (by rfl) y

set_option maxHeartbeats 2000000 in
/-- A whole block, with the small output. -/
theorem run_full_first (c : Dev nD) (E : Set ℕ) (i : grid0.Coords) (arg2 : Memref sig .tc .vmem S1x512x4096 .f32) (harg2 : arg2.IsWhole) (arg3 : Memref sig .tc .vmem S2048x4096 .bf16) (harg3 : arg3.IsWhole) (arg4 : Memref sig .tc .vmem S32x4096 .bf16) (harg4 : arg4.IsWhole) (arg5 : Memref sig .tc .vmem S2048x512 .f32) (harg5 : arg5.IsWhole) (arg6 : Memref sig .tc .vmem S32x512 .f32) (harg6 : arg6.IsWhole)
    (hc0 : k0_cond1 i = 1#1) (hc1 : ¬ k0_cond3 i = 1#1) (hc2 : k0_cond2 i = 1#1)
    (x0 : Vec F S1x512x4096 .f32) (x1 : Vec F S2048x4096 .bf16) (x2 : Vec F S32x4096 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (full3 x0 x1) ∗ owns (c : Thread nD τ) arg6 fullShare (full4 x0 x2)) -∗ K ⟨⟩))
      ⊢ wp frame (wpE (defs₀ (F := F)) Variants.none c none) E (cc0_in_proj i arg2 harg2 arg3 harg3 arg4 harg4 arg5 harg5 arg6 harg6) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3 _)
  iexists _; isplitr
  swap; · iexact H4
  ipureintro
  exact View.read_writes_eq_canon _ _ _ (cover4 _)

set_option maxHeartbeats 2000000 in
/-- A whole block, without the small output: its buffer ends as it was found. -/
theorem run_full_later (c : Dev nD) (E : Set ℕ) (i : grid0.Coords) (arg2 : Memref sig .tc .vmem S1x512x4096 .f32) (harg2 : arg2.IsWhole) (arg3 : Memref sig .tc .vmem S2048x4096 .bf16) (harg3 : arg3.IsWhole) (arg4 : Memref sig .tc .vmem S32x4096 .bf16) (harg4 : arg4.IsWhole) (arg5 : Memref sig .tc .vmem S2048x512 .f32) (harg5 : arg5.IsWhole) (arg6 : Memref sig .tc .vmem S32x512 .f32) (harg6 : arg6.IsWhole)
    (hc0 : k0_cond1 i = 1#1) (hc1 : ¬ k0_cond3 i = 1#1) (hc2 : ¬ k0_cond2 i = 1#1)
    (x0 : Vec F S1x512x4096 .f32) (x1 : Vec F S2048x4096 .bf16) (x2 : Vec F S32x4096 .bf16) (x4 : Vec F S32x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x4
        ∗ (iprop(owns (c : Thread nD τ) arg2 fullShare x0 ∗ owns (c : Thread nD τ) arg3 fullShare x1 ∗ owns (c : Thread nD τ) arg4 fullShare x2 ∗ owns (c : Thread nD τ) arg5 fullShare (full3 x0 x1) ∗ owns (c : Thread nD τ) arg6 fullShare x4) -∗ K ⟨⟩))
      ⊢ wp frame (wpE (defs₀ (F := F)) Variants.none c none) E (cc0_in_proj i arg2 harg2 arg3 harg3 arg4 harg4 arg5 harg5 arg6 harg6) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3 _)
  iexists f4; isplitr; · ipureintro; rfl
  iexact H4

set_option maxHeartbeats 2000000 in
/-- The cut block, with the small output. -/
theorem run_part_first (c : Dev nD) (E : Set ℕ) (i : grid0.Coords) (arg2 : Memref sig .tc .vmem S1x512x4096 .f32) (harg2 : arg2.IsWhole) (arg3 : Memref sig .tc .vmem S2048x4096 .bf16) (harg3 : arg3.IsWhole) (arg4 : Memref sig .tc .vmem S32x4096 .bf16) (harg4 : arg4.IsWhole) (arg5 : Memref sig .tc .vmem S2048x512 .f32) (harg5 : arg5.IsWhole) (arg6 : Memref sig .tc .vmem S32x512 .f32) (harg6 : arg6.IsWhole)
    (hc0 : k0_cond3 i = 1#1) (hc1 : ¬ k0_cond1 i = 1#1) (hc2 : k0_cond4 i = 1#1)
    (x0 : Vec F S1x512x4096 .f32) (x1 : Vec F S2048x4096 .bf16) (x2 : Vec F S32x4096 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ (∃ X, owns (c : Thread nD τ) arg5 fullShare X ∗ ⌜∀ y ∈ r3p.set, X y = part3 x0 x1 y⌝) ∗ (∃ X, owns (c : Thread nD τ) arg6 fullShare X ∗ ⌜∀ y ∈ r4p.set, X y = part4 x0 x2 y⌝)) -∗ K ⟨⟩))
      ⊢ wp frame (wpE (defs₀ (F := F)) Variants.none c none) E (cc0_in_proj i arg2 harg2 arg3 harg3 arg4 harg4 arg5 harg5 arg6 harg6) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _
    isplitl [H3]
    · iexists _; isplitr
      swap; · iexact H3
      ipureintro; rfl
    ipureintro
    exact fun y hy => View.read_writes_apply_eq_canon _ _ y _ ⟨_, List.mem_singleton_self _, hy⟩
  iexists _
  isplitl [H4]
  · iexists _; isplitr
    swap; · iexact H4
    ipureintro; rfl
  ipureintro
  exact fun y hy => View.read_writes_apply_eq_canon _ _ y _ ⟨_, List.mem_singleton_self _, hy⟩

set_option maxHeartbeats 2000000 in
/-- The cut block, without the small output: its buffer ends as it was found. -/
theorem run_part_later (c : Dev nD) (E : Set ℕ) (i : grid0.Coords) (arg2 : Memref sig .tc .vmem S1x512x4096 .f32) (harg2 : arg2.IsWhole) (arg3 : Memref sig .tc .vmem S2048x4096 .bf16) (harg3 : arg3.IsWhole) (arg4 : Memref sig .tc .vmem S32x4096 .bf16) (harg4 : arg4.IsWhole) (arg5 : Memref sig .tc .vmem S2048x512 .f32) (harg5 : arg5.IsWhole) (arg6 : Memref sig .tc .vmem S32x512 .f32) (harg6 : arg6.IsWhole)
    (hc0 : k0_cond3 i = 1#1) (hc1 : ¬ k0_cond1 i = 1#1) (hc2 : ¬ k0_cond4 i = 1#1)
    (x0 : Vec F S1x512x4096 .f32) (x1 : Vec F S2048x4096 .bf16) (x2 : Vec F S32x4096 .bf16) (x4 : Vec F S32x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x4
        ∗ (iprop(owns (c : Thread nD τ) arg2 fullShare x0 ∗ owns (c : Thread nD τ) arg3 fullShare x1 ∗ owns (c : Thread nD τ) arg4 fullShare x2 ∗ (∃ X, owns (c : Thread nD τ) arg5 fullShare X ∗ ⌜∀ y ∈ r3p.set, X y = part3 x0 x1 y⌝) ∗ owns (c : Thread nD τ) arg6 fullShare x4) -∗ K ⟨⟩))
      ⊢ wp frame (wpE (defs₀ (F := F)) Variants.none c none) E (cc0_in_proj i arg2 harg2 arg3 harg3 arg4 harg4 arg5 harg5 arg6 harg6) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _
    isplitl [H3]
    · iexists _; isplitr
      swap; · iexact H3
      ipureintro; rfl
    ipureintro
    exact fun y hy => View.read_writes_apply_eq_canon _ _ y _ ⟨_, List.mem_singleton_self _, hy⟩
  iexists f4; isplitr; · ipureintro; rfl
  iexact H4

/-- The point whose small block is in the buffer at `t`. -/
def src (t : Fin cfg0.N) : Fin cfg0.N := ⟨min t.val 19, lt_of_le_of_lt (Nat.min_le_left _ _) t.isLt⟩

theorem src_first (t : Fin cfg0.N) (h : t.val < 20) : src t = t := Fin.ext (by show min t.val 19 = t.val; omega)

theorem src_later (t t' : Fin cfg0.N) (h : 19 ≤ t.val) (h' : 19 ≤ t'.val) : src t = src t' :=
  Fin.ext (by show min t.val 19 = min t'.val 19; omega)

/-- What point `t` leaves in the large output's buffer, -/
def big (c : Dev nD) (t : Fin cfg0.N) : Vec F S2048x512 .f32 :=
  if t.val % 20 < 19 then full3 (iblk m c 0 t) (iblk m c 1 t) else part3 (iblk m c 0 t) (iblk m c 1 t)

/-- and one of the first twenty points in the small output's. -/
def small (c : Dev nD) (t : Fin cfg0.N) : Vec F S32x512 .f32 :=
  if t.val % 20 < 19 then full4 (iblk m c 0 t) (iblk m c 2 t) else part4 (iblk m c 0 t) (iblk m c 2 t)

/-- The data of the run: each input's buffer at its block, each output's at what the body leaves in it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => big m c t
    | ⟨4, _⟩ => small m c (src t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = big m c t := by dsimp only [dats]
theorem after_4 (c : Dev nD) (t : Fin cfg0.N) : (dats m 0 c).after 4 t = small m c (src t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

theorem idle3 (t : Fin cfg0.N) : cfg0.idle 3 (cfg0.grid.coords t) = false := by
  show (!(k0_cond1 (grid0.coords t) == 1#1) && !(k0_cond3 (grid0.coords t) == 1#1)) = false
  by_cases h : t.val % 20 < 19
  · rw [(cond1_iff t).mpr h]; rfl
  · rw [(cond3_iff t).mpr (by omega)]; exact Bool.and_false _

theorem idle_first (t : Fin cfg0.N) (h : t.val < 20) : cfg0.idle 4 (cfg0.grid.coords t) = false := by
  show (!(k0_cond1 (grid0.coords t) == 1#1 && k0_cond2 (grid0.coords t) == 1#1) && !(k0_cond3 (grid0.coords t) == 1#1 && k0_cond4 (grid0.coords t) == 1#1)) = false
  by_cases h' : t.val % 20 < 19
  · rw [(cond1_iff t).mpr h', (cond2_iff t).mpr h]; rfl
  · rw [(cond3_iff t).mpr (by omega), (cond4_iff t).mpr h]; exact Bool.and_false _

theorem idle_later (t : Fin cfg0.N) (h : ¬ t.val < 20) : cfg0.idle 4 (cfg0.grid.coords t) = true := by
  show (!(k0_cond1 (grid0.coords t) == 1#1 && k0_cond2 (grid0.coords t) == 1#1) && !(k0_cond3 (grid0.coords t) == 1#1 && k0_cond4 (grid0.coords t) == 1#1)) = true
  rw [(beq_eq_false_iff_ne (b := 1#1)).mpr fun e => h ((cond2_iff t).mp e), (beq_eq_false_iff_ne (b := 1#1)).mpr fun e => h ((cond4_iff t).mp e),
    Bool.and_false, Bool.and_false]
  rfl

/-- A buffer filled in its leading part, read in a leading part no larger. -/
theorem cut_fill_le {G : Pipeline.Grid} (w : Window sig G) {α : Type} (i i' : G.Coords) (hx : ∀ a, w.xsize i a ≤ w.xsize i' a) (d X : w.block.Idx → α) :
    w.cut i (w.fill i' d (w.cut i' X)) = w.cut i X := by
  funext j
  have hm : w.moved i' (w.xinj i j) = true := (w.moved_iff i' _).mpr fun a => lt_of_lt_of_le (j a).isLt (hx a)
  show w.fill i' d (w.cut i' X) (w.xinj i j) = X (w.xinj i j)
  unfold Window.fill
  rw [dif_pos hm]

/-- After the first twenty points the small output's buffer holds what the twentieth left. -/
theorem before_4 (c : Dev nD) (h19 : 19 < cfg0.N) : ∀ (n : ℕ) (hn : n < cfg0.N) (h : 20 ≤ n) (d), (dats m 0 c).before 4 ⟨n, hn⟩ d = (dats m 0 c).kept 4 ⟨19, h19⟩ d := by
  intro n
  induction n with
  | zero => intro hn h; omega
  | succ n ih =>
    intro hn h d
    have hN : n + 1 < 80 := lt_of_lt_of_eq hn N_0
    have hn' : n < cfg0.N := by omega
    rw [(dats m 0 c).before_of_pos 4 ⟨n + 1, hn⟩ (Nat.succ_ne_zero n) (fetch4 _) d]
    have e : (⟨(⟨n + 1, hn⟩ : Fin cfg0.N).val - 1, Nat.lt_of_le_of_lt (Nat.sub_le _ _) (⟨n + 1, hn⟩ : Fin cfg0.N).isLt⟩ : Fin cfg0.N) = ⟨n, hn'⟩ := Fin.ext rfl
    rw [e, if_neg (fun hf => by have := (flush4 _).mp hf; dsimp only at this; omega)]
    unfold Dat.left
    by_cases h7 : n < 20
    · obtain rfl : n = 19 := by omega
      rw [idle_first ⟨19, hn'⟩ h7]
    · rw [idle_later ⟨n, hn'⟩ h7]
      exact ih hn' (by omega) d

theorem cut_before_4 (c : Dev nD) (t : Fin cfg0.N) (h : 20 ≤ t.val) (d) :
    (cfg0.win 4).cut (cfg0.grid.coords t) ((dats m 0 c).before 4 t d) = (cfg0.win 4).cut (cfg0.grid.coords t) ((dats m 0 c).after 4 t) := by
  have h19 : 19 < cfg0.N := by have := t.isLt; omega
  rw [show (dats m 0 c).before 4 t d = (dats m 0 c).kept 4 ⟨19, h19⟩ d from before_4 m c h19 t.val t.isLt h d]
  have ea : (dats m 0 c).after 4 t = (dats m 0 c).after 4 ⟨19, h19⟩ := by
    rw [after_4, after_4, src_later t ⟨19, h19⟩ (by omega) (le_refl 19)]
  rw [ea]
  unfold Dat.kept
  exact cut_fill_le _ _ _ (fun a => le_of_eq ((xsize4 t (by omega) a).trans (xsize4 ⟨19, h19⟩ (le_refl 19) a).symm)) _ _

/-- A buffer right in the part that is written back is what the large output's window asks, -/
theorem leaves_3 (c : Dev nD) (t : Fin cfg0.N) (X : Vec F S2048x512 .f32)
    (h : (cfg0.win 3).cut (cfg0.grid.coords t) X = (cfg0.win 3).cut (cfg0.grid.coords t) ((dats m 0 c).after 3 t)) :
    owns (c : Thread nD τ) (st0_3 t) fullShare X ⊢ ((dats m 0 c).leaves 3 t : sProp 𝕄) := by
  unfold Dat.leaves
  rw [idle3 t]
  dsimp only
  iintro H
  iexists X
  rw [(cfg0.win 3).fill_congr_cut _ h]
  iexact H

/-- the small output's at the first twenty points, -/
theorem leaves_4 (c : Dev nD) (t : Fin cfg0.N) (ht : t.val < 20) (X : Vec F S32x512 .f32)
    (h : (cfg0.win 4).cut (cfg0.grid.coords t) X = (cfg0.win 4).cut (cfg0.grid.coords t) ((dats m 0 c).after 4 t)) :
    owns (c : Thread nD τ) (st0_4 t) fullShare X ⊢ ((dats m 0 c).leaves 4 t : sProp 𝕄) := by
  unfold Dat.leaves
  rw [idle_first t ht]
  dsimp only
  iintro H
  iexists X
  rw [(cfg0.win 4).fill_congr_cut _ h]
  iexact H

/-- and later, as found. -/
theorem leaves_4_later (c : Dev nD) (t : Fin cfg0.N) (ht : ¬ t.val < 20) (d) :
    owns (c : Thread nD τ) (st0_4 t) fullShare ((dats m 0 c).before 4 t d) ⊢ ((dats m 0 c).leaves 4 t : sProp 𝕄) := by
  unfold Dat.leaves
  rw [idle_later t ht]
  dsimp only
  cases hfl : (cfg0.win 4).flush t
  · dsimp only
    iintro H
    iexists d
    iexact H
  · dsimp only
    iintro H
    iexists ((dats m 0 c).before 4 t d)
    rw [(cfg0.win 4).fill_congr_cut _ (cut_before_4 m c t (by omega) d)]
    iexact H

/-- An index in the first columns is one that the partial store writes. -/
theorem mem3 (t : Fin cfg0.N) (ht : t.val % 20 = 19) (j : ((cfg0.win 3).xblock (cfg0.grid.coords t)).Idx) :
    ((cfg0.win 3).xinj (cfg0.grid.coords t) j : S2048x512.Idx) ∈ r3p.set :=
  Rect.mem_set_unit.mpr fun a => ⟨by fin_cases a <;> exact Nat.zero_le _, lt_of_lt_of_eq (j a).isLt ((xsize3 t ht a).trans (by fin_cases a <;> rfl))⟩

theorem mem4 (t : Fin cfg0.N) (ht : 19 ≤ t.val) (j : ((cfg0.win 4).xblock (cfg0.grid.coords t)).Idx) :
    ((cfg0.win 4).xinj (cfg0.grid.coords t) j : S32x512.Idx) ∈ r4p.set :=
  Rect.mem_set_unit.mpr fun a => ⟨by fin_cases a <;> exact Nat.zero_le _, lt_of_lt_of_eq (j a).isLt ((xsize4 t ht a).trans (by fin_cases a <;> rfl))⟩

theorem cut_part3 (c : Dev nD) (t : Fin cfg0.N) (ht : t.val % 20 = 19) (X : Vec F S2048x512 .f32) (h : ∀ y ∈ r3p.set, X y = part3 (iblk m c 0 t) (iblk m c 1 t) y) :
    (cfg0.win 3).cut (cfg0.grid.coords t) X = (cfg0.win 3).cut (cfg0.grid.coords t) ((dats m 0 c).after 3 t) := by
  rw [after_3]
  unfold big
  rw [if_neg (by omega)]
  exact funext fun j => h _ (mem3 t ht j)

theorem cut_part4 (c : Dev nD) (t : Fin cfg0.N) (ht : t.val = 19) (X : Vec F S32x512 .f32) (h : ∀ y ∈ r4p.set, X y = part4 (iblk m c 0 t) (iblk m c 2 t) y) :
    (cfg0.win 4).cut (cfg0.grid.coords t) X = (cfg0.win 4).cut (cfg0.grid.coords t) ((dats m 0 c).after 4 t) := by
  rw [after_4, src_first t (by omega)]
  unfold small
  rw [if_neg (by omega)]
  exact funext fun j => h _ (mem4 t (by omega) j)

theorem cut_full3 (c : Dev nD) (t : Fin cfg0.N) (ht : t.val % 20 < 19) :
    (cfg0.win 3).cut (cfg0.grid.coords t) (full3 (iblk m c 0 t) (iblk m c 1 t)) = (cfg0.win 3).cut (cfg0.grid.coords t) ((dats m 0 c).after 3 t) := by
  rw [after_3]
  unfold big
  rw [if_pos ht]

theorem cut_full4 (c : Dev nD) (t : Fin cfg0.N) (ht : t.val < 19) :
    (cfg0.win 4).cut (cfg0.grid.coords t) (full4 (iblk m c 0 t) (iblk m c 2 t)) = (cfg0.win 4).cut (cfg0.grid.coords t) ((dats m 0 c).after 4 t) := by
  rw [after_4, src_first t (by omega)]
  unfold small
  rw [if_pos (by omega)]

/-- What the body is called with, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leaves 3 t ∗ (dats m 0 c).leaves 4 t)

theorem sound_body (c : Dev nD) (t : Fin cfg0.N) :
    bodyPre m c t ⊢ wp frame (wpE (defs₀ (F := F)) Variants.none c none) Set.univ (bodyAt0 t) (fun _ => bodyPost m c t) := by
  have hN : t.val < 80 := lt_of_lt_of_eq t.isLt N_0
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2]
  by_cases hj : t.val % 20 < 19 <;> by_cases hi : t.val < 20
  · iintro ⟨HΦ, Ho, ⟨%d0, H0⟩, ⟨%d1, H1⟩, ⟨%d2, H2⟩, ⟨%d3, H3⟩, ⟨%d4, H4⟩⟩
    iapply (run_full_first c Set.univ (grid0.coords t) _ _ _ _ _ _ _ _ _ _ ((cond1_iff t).mpr hj) (fun e => absurd ((cond3_iff t).mp e) (by omega)) ((cond2_iff t).mpr hi) (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iapply (leaves_3 m c t _ (cut_full3 m c t hj)); iexact H3
    iapply (leaves_4 m c t hi _ (cut_full4 m c t (by omega))); iexact H4
  · iintro ⟨HΦ, Ho, ⟨%d0, H0⟩, ⟨%d1, H1⟩, ⟨%d2, H2⟩, ⟨%d3, H3⟩, ⟨%d4, H4⟩⟩
    iapply (run_full_later c Set.univ (grid0.coords t) _ _ _ _ _ _ _ _ _ _ ((cond1_iff t).mpr hj) (fun e => absurd ((cond3_iff t).mp e) (by omega)) (fun e => hi ((cond2_iff t).mp e)) (iblk m c 0 t) (iblk m c 1 t) (iblk m c 2 t) ((dats m 0 c).before 4 t d4) _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iapply (leaves_3 m c t _ (cut_full3 m c t hj)); iexact H3
    iapply (leaves_4_later m c t hi d4); iexact H4
  · iintro ⟨HΦ, Ho, ⟨%d0, H0⟩, ⟨%d1, H1⟩, ⟨%d2, H2⟩, ⟨%d3, H3⟩, ⟨%d4, H4⟩⟩
    iapply (run_part_first c Set.univ (grid0.coords t) _ _ _ _ _ _ _ _ _ _ ((cond3_iff t).mpr (by omega)) (fun e => hj ((cond1_iff t).mp e)) ((cond4_iff t).mpr hi) (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    iintro ⟨H0, H1, H2, ⟨%X3, H3, %e3⟩, ⟨%X4, H4, %e4⟩⟩
    isplitl [HΦ]; · iexact HΦ
    isplitl [Ho]; · iexact Ho
    isplitl [H0]; · iexact H0
    isplitl [H1]; · iexact H1
    isplitl [H2]; · iexact H2
    isplitl [H3]; · iapply (leaves_3 m c t _ (cut_part3 m c t (by omega) _ e3)); iexact H3
    iapply (leaves_4 m c t hi _ (cut_part4 m c t (by omega) _ e4)); iexact H4
  · iintro ⟨HΦ, Ho, ⟨%d0, H0⟩, ⟨%d1, H1⟩, ⟨%d2, H2⟩, ⟨%d3, H3⟩, ⟨%d4, H4⟩⟩
    iapply (run_part_later c Set.univ (grid0.coords t) _ _ _ _ _ _ _ _ _ _ ((cond3_iff t).mpr (by omega)) (fun e => hj ((cond1_iff t).mp e)) (fun e => hi ((cond4_iff t).mp e)) (iblk m c 0 t) (iblk m c 1 t) (iblk m c 2 t) ((dats m 0 c).before 4 t d4) _)
    isplitl [H0]; · iexact H0
    isplitl [H1]; · iexact H1
    isplitl [H2]; · iexact H2
    isplitl [H3]; · iexists _; iexact H3
    isplitl [H4]; · iexact H4
    iintro ⟨H0, H1, H2, ⟨%X3, H3, %e3⟩, H4⟩
    isplitl [HΦ]; · iexact HΦ
    isplitl [Ho]; · iexact Ho
    isplitl [H0]; · iexact H0
    isplitl [H1]; · iexact H1
    isplitl [H2]; · iexact H2
    isplitl [H3]; · iapply (leaves_3 m c t _ (cut_part3 m c t (by omega) _ e3)); iexact H3
    iapply (leaves_4_later m c t hi d4); iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run, with every semaphore at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The run ends, leaves the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.InKIdeal.Hand

end
-- ==== Proof.InClaim.lean ====
module

public import proofs.«01_k».proof.Defs
public import proofs.«01_k».proof.Proof.InKRun
public import proofs.«01_k».proof.Proof.InKIdealRun
public import proofs.«01_k».proof.Proof.Gen.InRIdeal.Run
public import Idealize.ShloMosaic.Lib.Claim
public import Idealize.ShloMosaic.Lib.Pipeline.ValueKit
public import Idealize.ShloMosaic.Lib.Pointwise

@[expose] public section

set_option maxRecDepth 16384
set_option pp.maxSteps 300

noncomputable section

namespace Cert.Proof.InClaim

open Idealize.ShloMosaic Idealize.ShloMosaic.TcCoe Idealize.SL.Sem
open Idealize.ShloMosaic.Pipeline (Dat)

/-- The column of the weights that column `n` of the results is made with. -/
def wcol (n : ℕ) : ℕ :=
  if n < 2048 then n else if n - 2048 < 2048 then 2560 + (n - 2048) else if n - 2048 - 2048 < 1024 then 5632 + (n - 2048 - 2048) else if n - 2048 - 2048 - 1024 < 1024 then 6672 + (n - 2048 - 2048 - 1024) else if n - 2048 - 2048 - 1024 - 1024 < 1024 then 7696 + (n - 2048 - 2048 - 1024 - 1024) else if n - 2048 - 2048 - 1024 - 1024 - 1024 < 1024 then 8720 + (n - 2048 - 2048 - 1024 - 1024 - 1024) else if n - 2048 - 2048 - 1024 - 1024 - 1024 - 1024 < 512 then 4608 + (n - 2048 - 2048 - 1024 - 1024 - 1024 - 1024) else if n - 2048 - 2048 - 1024 - 1024 - 1024 - 1024 - 512 < 512 then 5120 + (n - 2048 - 2048 - 1024 - 1024 - 1024 - 1024 - 512) else if n - 2048 - 2048 - 1024 - 1024 - 1024 - 1024 - 512 - 512 < 512 then 2048 + (n - 2048 - 2048 - 1024 - 1024 - 1024 - 1024 - 512 - 512) else 6656 + (n - 2048 - 2048 - 1024 - 1024 - 1024 - 1024 - 512 - 512 - 512)

theorem wcol_lt (n : ℕ) (h : n < 10240) : wcol n < 9744 := by
  unfold wcol
  split_ifs <;> omega

/-- A choice between two entries is the entry at the chosen place. -/
theorem pick {α : Type} {N : ℕ} (f : Fin N → α) (P : Prop) [Decidable P] (a b : ℕ) (ha : P → a < N) (e : ¬ P → α) (hq : (if P then a else b) < N)
    (he : ∀ h : ¬ P, e h = f ⟨b, by rwa [if_neg h] at hq⟩) : (if h : P then f ⟨a, ha h⟩ else e h) = f ⟨if P then a else b, hq⟩ := by
  by_cases h : P
  · rw [dif_pos h]
    exact congrArg f (Fin.ext (if_pos h).symm)
  · rw [dif_neg h, he h]
    exact congrArg f (Fin.ext (if_neg h).symm)

section kernel
open Cert.InKIdeal Cert.InKIdeal.Gen Cert.InKIdeal.Hand

variable (m : (ℓ : Loc nD τ sig) → Buf (Elt Ideal) ℓ)

/-- One entry of the large result. -/
def entry (X : FVec Ideal S8192x4096 .bf16) (W : FVec Ideal S2x4096x9744 .f32) (r : Fin 8192) (n : Fin 9856) : EReal :=
  ∑ k : Fin 4096, X (ix2 r k) * W (ix3 0 k ⟨wcol n, wcol_lt n (by omega)⟩)

/-- One entry of the small result. -/
def entrys (X : FVec Ideal S32x4096 .bf16) (W : FVec Ideal S2x4096x9744 .f32) (r : Fin 32) (n : Fin 9856) : EReal :=
  ∑ k : Fin 4096, X (ix2 r k) * W (ix3 0 k ⟨wcol n, wcol_lt n (by omega)⟩)

def KIN (X : FVec Ideal S8192x4096 .bf16) (W : FVec Ideal S2x4096x9744 .f32) : FVec Ideal S8192x9856 .f32 := fun i => entry X W (i 0) (i 1)

def KINS (X : FVec Ideal S32x4096 .bf16) (W : FVec Ideal S2x4096x9744 .f32) : FVec Ideal S32x9856 .f32 := fun i => entrys X W (i 0) (i 1)

/-- The kernel's weight operand: the columns in the results' order, one after another as rows. -/
def rows (W : FVec Ideal S2x4096x9744 .f32) : FVec Ideal S2x10240x4096 .f32 :=
  concatenate S2x10240x4096 1 [⟨S2x2048x4096, (extractStridedSlice S2x2048x4096 ![0, 0, 0] (transpose S2x9744x4096 [0, 2, 1] W Cert.InKIdeal.Gen.facts.transposes_S2x4096x9744_S2x9744x4096_0_2_1 : (⟨S2x9744x4096, .f32⟩ : BufTy).Contents (Elt Ideal)) Cert.InKIdeal.Gen.facts.slices_S2x9744x4096_S2x2048x4096_0_0_0 : (⟨S2x2048x4096, .f32⟩ : BufTy).Contents (Elt Ideal))⟩, ⟨S2x2048x4096, (extractStridedSlice S2x2048x4096 ![0, 2560, 0] (transpose S2x9744x4096 [0, 2, 1] W Cert.InKIdeal.Gen.facts.transposes_S2x4096x9744_S2x9744x4096_0_2_1 : (⟨S2x9744x4096, .f32⟩ : BufTy).Contents (Elt Ideal)) Cert.InKIdeal.Gen.facts.slices_S2x9744x4096_S2x2048x4096_0_2560_0 : (⟨S2x2048x4096, .f32⟩ : BufTy).Contents (Elt Ideal))⟩, ⟨S2x1024x4096, (extractStridedSlice S2x1024x4096 ![0, 5632, 0] (transpose S2x9744x4096 [0, 2, 1] W Cert.InKIdeal.Gen.facts.transposes_S2x4096x9744_S2x9744x4096_0_2_1 : (⟨S2x9744x4096, .f32⟩ : BufTy).Contents (Elt Ideal)) Cert.InKIdeal.Gen.facts.slices_S2x9744x4096_S2x1024x4096_0_5632_0 : (⟨S2x1024x4096, .f32⟩ : BufTy).Contents (Elt Ideal))⟩, ⟨S2x1024x4096, (extractStridedSlice S2x1024x4096 ![0, 6672, 0] (transpose S2x9744x4096 [0, 2, 1] W Cert.InKIdeal.Gen.facts.transposes_S2x4096x9744_S2x9744x4096_0_2_1 : (⟨S2x9744x4096, .f32⟩ : BufTy).Contents (Elt Ideal)) Cert.InKIdeal.Gen.facts.slices_S2x9744x4096_S2x1024x4096_0_6672_0 : (⟨S2x1024x4096, .f32⟩ : BufTy).Contents (Elt Ideal))⟩, ⟨S2x1024x4096, (extractStridedSlice S2x1024x4096 ![0, 7696, 0] (transpose S2x9744x4096 [0, 2, 1] W Cert.InKIdeal.Gen.facts.transposes_S2x4096x9744_S2x9744x4096_0_2_1 : (⟨S2x9744x4096, .f32⟩ : BufTy).Contents (Elt Ideal)) Cert.InKIdeal.Gen.facts.slices_S2x9744x4096_S2x1024x4096_0_7696_0 : (⟨S2x1024x4096, .f32⟩ : BufTy).Contents (Elt Ideal))⟩, ⟨S2x1024x4096, (extractStridedSlice S2x1024x4096 ![0, 8720, 0] (transpose S2x9744x4096 [0, 2, 1] W Cert.InKIdeal.Gen.facts.transposes_S2x4096x9744_S2x9744x4096_0_2_1 : (⟨S2x9744x4096, .f32⟩ : BufTy).Contents (Elt Ideal)) Cert.InKIdeal.Gen.facts.slices_S2x9744x4096_S2x1024x4096_0_8720_0 : (⟨S2x1024x4096, .f32⟩ : BufTy).Contents (Elt Ideal))⟩, ⟨S2x512x4096, (extractStridedSlice S2x512x4096 ![0, 4608, 0] (transpose S2x9744x4096 [0, 2, 1] W Cert.InKIdeal.Gen.facts.transposes_S2x4096x9744_S2x9744x4096_0_2_1 : (⟨S2x9744x4096, .f32⟩ : BufTy).Contents (Elt Ideal)) Cert.InKIdeal.Gen.facts.slices_S2x9744x4096_S2x512x4096_0_4608_0 : (⟨S2x512x4096, .f32⟩ : BufTy).Contents (Elt Ideal))⟩, ⟨S2x512x4096, (extractStridedSlice S2x512x4096 ![0, 5120, 0] (transpose S2x9744x4096 [0, 2, 1] W Cert.InKIdeal.Gen.facts.transposes_S2x4096x9744_S2x9744x4096_0_2_1 : (⟨S2x9744x4096, .f32⟩ : BufTy).Contents (Elt Ideal)) Cert.InKIdeal.Gen.facts.slices_S2x9744x4096_S2x512x4096_0_5120_0 : (⟨S2x512x4096, .f32⟩ : BufTy).Contents (Elt Ideal))⟩, ⟨S2x512x4096, (extractStridedSlice S2x512x4096 ![0, 2048, 0] (transpose S2x9744x4096 [0, 2, 1] W Cert.InKIdeal.Gen.facts.transposes_S2x4096x9744_S2x9744x4096_0_2_1 : (⟨S2x9744x4096, .f32⟩ : BufTy).Contents (Elt Ideal)) Cert.InKIdeal.Gen.facts.slices_S2x9744x4096_S2x512x4096_0_2048_0 : (⟨S2x512x4096, .f32⟩ : BufTy).Contents (Elt Ideal))⟩, ⟨S2x512x4096, (extractStridedSlice S2x512x4096 ![0, 6656, 0] (transpose S2x9744x4096 [0, 2, 1] W Cert.InKIdeal.Gen.facts.transposes_S2x4096x9744_S2x9744x4096_0_2_1 : (⟨S2x9744x4096, .f32⟩ : BufTy).Contents (Elt Ideal)) Cert.InKIdeal.Gen.facts.slices_S2x9744x4096_S2x512x4096_0_6656_0 : (⟨S2x512x4096, .f32⟩ : BufTy).Contents (Elt Ideal))⟩] Cert.InKIdeal.Gen.facts.concatenates_S2x2048x4096_S2x2048x4096_S2x1024x4096_S2x1024x4096_S2x1024x4096_S2x1024x4096_S2x512x4096_S2x512x4096_S2x512x4096_S2x512x4096_S2x10240x4096_d1

theorem rows_at (W : FVec Ideal S2x4096x9744 .f32) (k : Fin 4096) (n : Fin 10240) :
    rows W (ix3 0 n k : S2x10240x4096.Idx) = W (ix3 0 k ⟨wcol n, wcol_lt n n.isLt⟩ : S2x4096x9744.Idx) := by
  show (_ : EReal) = _
  unfold rows
  pointwise []
  unfold wcol
  refine pick (fun q => W (ix3 0 k q)) _ _ _ _ _ _ fun _ => ?_
  refine pick (fun q => W (ix3 0 k q)) _ _ _ _ _ _ fun _ => ?_
  refine pick (fun q => W (ix3 0 k q)) _ _ _ _ _ _ fun _ => ?_
  refine pick (fun q => W (ix3 0 k q)) _ _ _ _ _ _ fun _ => ?_
  refine pick (fun q => W (ix3 0 k q)) _ _ _ _ _ _ fun _ => ?_
  refine pick (fun q => W (ix3 0 k q)) _ _ _ _ _ _ fun _ => ?_
  refine pick (fun q => W (ix3 0 k q)) _ _ _ _ _ _ fun _ => ?_
  refine pick (fun q => W (ix3 0 k q)) _ _ _ _ _ _ fun _ => ?_
  refine pick (fun q => W (ix3 0 k q)) _ _ _ _ _ _ fun _ => ?_
  rfl

theorem V_v11 (c : Dev nD) : V m c main_v11 = rows (m ((c : Thread nD τ).loc main_arg2)) := by
  unfold rows
  after_results <;> rfl

/-- One entry of a block's product, large -/
def row (W : FVec Ideal S1x512x4096 .f32) (X : FVec Ideal S2048x4096 .bf16) (r : Fin 2048) (l : Fin 512) : EReal :=
  ∑ k : Fin 4096, X (ix2 r k) * W (ix3 0 l k)

/-- and small. -/
def rows' (W : FVec Ideal S1x512x4096 .f32) (X : FVec Ideal S32x4096 .bf16) (r : Fin 32) (l : Fin 512) : EReal :=
  ∑ k : Fin 4096, X (ix2 r k) * W (ix3 0 l k)

/-- What a point leaves in the large block, entry by entry: a whole block, -/
theorem point (W : FVec Ideal S1x512x4096 .f32) (X : FVec Ideal S2048x4096 .bf16) (r : Fin 2048) (l : Fin 512) :
    full3 (F := Ideal) W X (ix2 r l : S2048x512.Idx) = row W X r l := by
  show (_ : EReal) = _
  unfold full3
  frame_out
  pointwise [k0_pay2, k0_pay1, row]

/-- the cut one, -/
theorem pointp (W : FVec Ideal S1x512x4096 .f32) (X : FVec Ideal S2048x4096 .bf16) (r : Fin 2048) (l : Fin 512) (h : l.val < 128) :
    part3 (F := Ideal) W X (ix2 r l : S2048x512.Idx) = row W X r l := by
  show (_ : EReal) = _
  have e : (ix2 r l : S2048x512.Idx) = r3p.emb (ix2 r ⟨l, h⟩ : S2048x128.Idx) := by
    blk_ext []
  unfold part3
  rw [e, View.canon_cons_emb]
  pointwise [k0_pay5, k0_pay4, row]

/-- and the same of the small block. -/
theorem points (W : FVec Ideal S1x512x4096 .f32) (X : FVec Ideal S32x4096 .bf16) (r : Fin 32) (l : Fin 512) :
    full4 (F := Ideal) W X (ix2 r l : S32x512.Idx) = rows' W X r l := by
  show (_ : EReal) = _
  unfold full4
  frame_out
  pointwise [k0_pay3, k0_pay1, rows']

theorem pointsp (W : FVec Ideal S1x512x4096 .f32) (X : FVec Ideal S32x4096 .bf16) (r : Fin 32) (l : Fin 512) (h : l.val < 128) :
    part4 (F := Ideal) W X (ix2 r l : S32x512.Idx) = rows' W X r l := by
  show (_ : EReal) = _
  have e : (ix2 r l : S32x512.Idx) = r4p.emb (ix2 r ⟨l, h⟩ : S32x128.Idx) := by
    blk_ext []
  unfold part4
  rw [e, View.canon_cons_emb]
  pointwise [k0_pay6, k0_pay4, rows']

/-- The blocks that the windows are on at each point. -/
theorem idx : ∀ t : Fin cfg0.N, win0_0.index t = ![0, t.val % 20, 0] ∧ win0_1.index t = ![t.val / 20, 0] ∧ win0_2.index t = ![0, 0]
    ∧ win0_3.index t = ![t.val / 20, t.val % 20] ∧ win0_4.index t = ![0, min t.val 19] :=
  (by decide +kernel : ∀ t : Fin grid0.N, _)

theorem W_at (c : Dev nD) (t : Fin cfg0.N) (l : Fin 512) (k : Fin 4096) (h : 512 * (t.val % 20) + l < 10240) :
    iblk m c 0 t (ix3 0 l k : S1x512x4096.Idx) = (m ((c : Thread nD τ).loc main_arg2)) (ix3 0 k ⟨wcol (512 * (t.val % 20) + l), wcol_lt _ h⟩ : S2x4096x9744.Idx) := by
  refine Eq.trans ?_ (rows_at (m ((c : Thread nD τ).loc main_arg2)) k ⟨512 * (t.val % 20) + l, h⟩)
  rw [← V_v11 m c]
  unfold iblk
  refine congrArg (V m c main_v11) (?_ : (win0_0.blk t).view.emb (ix3 0 l k : S1x512x4096.Idx) = (ix3 0 ⟨512 * (t.val % 20) + l, h⟩ k : S2x10240x4096.Idx))
  blk_ext [idx t]

theorem X_at (c : Dev nD) (t : Fin cfg0.N) (r : Fin 2048) (k : Fin 4096) (h : 2048 * (t.val / 20) + r < 8192) :
    iblk m c 1 t (ix2 r k : S2048x4096.Idx) = (m ((c : Thread nD τ).loc main_arg0)) (ix2 ⟨2048 * (t.val / 20) + r, h⟩ k : S8192x4096.Idx) := by
  rw [← V_main_arg0 m c]
  unfold iblk
  refine congrArg (V m c main_arg0) (?_ : (win0_1.blk t).view.emb (ix2 r k : S2048x4096.Idx) = (ix2 ⟨2048 * (t.val / 20) + r, h⟩ k : S8192x4096.Idx))
  blk_ext [idx t]

theorem Xs_at (c : Dev nD) (t : Fin cfg0.N) (r : Fin 32) (k : Fin 4096) :
    iblk m c 2 t (ix2 r k : S32x4096.Idx) = (m ((c : Thread nD τ).loc main_arg1)) (ix2 r k : S32x4096.Idx) := by
  rw [← V_main_arg1 m c]
  unfold iblk
  refine congrArg (V m c main_arg1) (?_ : (win0_2.blk t).view.emb (ix2 r k : S32x4096.Idx) = (ix2 r k : S32x4096.Idx))
  blk_ext [idx t]

/-- The large output's buffer after a point, in the columns that lie in the array, -/
theorem big_at (c : Dev nD) (t : Fin cfg0.N) (r : Fin 2048) (l : Fin 512) (h : 2048 * (t.val / 20) + r < 8192) (h' : 512 * (t.val % 20) + l < 9856) :
    big m c t (ix2 r l : S2048x512.Idx) = entry (m ((c : Thread nD τ).loc main_arg0)) (m ((c : Thread nD τ).loc main_arg2)) ⟨2048 * (t.val / 20) + r, h⟩ ⟨512 * (t.val % 20) + l, h'⟩ := by
  have hs : row (iblk m c 0 t) (iblk m c 1 t) r l
      = entry (m ((c : Thread nD τ).loc main_arg0)) (m ((c : Thread nD τ).loc main_arg2)) ⟨2048 * (t.val / 20) + r, h⟩ ⟨512 * (t.val % 20) + l, h'⟩ :=
    Finset.sum_congr rfl fun k _ => congrArg₂ (· * ·) (X_at m c t r k h) (W_at m c t l k (by omega))
  unfold big
  by_cases hj : t.val % 20 < 19
  · rw [if_pos hj]
    exact (point _ _ r l).trans hs
  · rw [if_neg hj]
    exact (pointp _ _ r l (by omega)).trans hs

/-- and the small output's. -/
theorem small_at (c : Dev nD) (t : Fin cfg0.N) (ht : t.val < 20) (r : Fin 32) (l : Fin 512) (h' : 512 * t.val + l < 9856) :
    small m c t (ix2 r l : S32x512.Idx) = entrys (m ((c : Thread nD τ).loc main_arg1)) (m ((c : Thread nD τ).loc main_arg2)) r ⟨512 * t.val + l, h'⟩ := by
  have e : t.val % 20 = t.val := Nat.mod_eq_of_lt ht
  have hs : rows' (iblk m c 0 t) (iblk m c 2 t) r l
      = entrys (m ((c : Thread nD τ).loc main_arg1)) (m ((c : Thread nD τ).loc main_arg2)) r ⟨512 * t.val + l, h'⟩ := by
    refine Finset.sum_congr rfl fun k _ => congrArg₂ (· * ·) (Xs_at m c t r k) ((W_at m c t l k (by omega)).trans ?_)
    exact congrArg _ (congrArg (ix3 0 k) (Fin.ext (congrArg (fun q => wcol (512 * q + l.val)) e)))
  unfold small
  by_cases hj : t.val % 20 < 19
  · rw [if_pos hj]
    exact (points _ _ r l).trans hs
  · rw [if_neg hj]
    exact (pointsp _ _ r l (by omega)).trans hs

/-- How much of each output block lies in its array. -/
theorem xs3 : ∀ t : Fin cfg0.N, win0_3.xsize (grid0.coords t) 0 = 2048 ∧ win0_3.xsize (grid0.coords t) 1 = min 512 (9856 - 512 * (t.val % 20)) :=
  (by decide +kernel : ∀ t : Fin grid0.N, _)

theorem xs4 : ∀ t : Fin cfg0.N, win0_4.xsize (grid0.coords t) 0 = 32 ∧ win0_4.xsize (grid0.coords t) 1 = min 512 (9856 - 512 * min t.val 19) :=
  (by decide +kernel : ∀ t : Fin grid0.N, _)

/-- The large array that the kernel leaves. -/
theorem final (c : Dev nD) : (dats m 0 c).arrAt 3 (cfgs 0).N = KIN (m ((c : Thread nD τ).loc main_arg0)) (m ((c : Thread nD τ).loc main_arg2)) := by
  refine (dats m 0 c).arrAt_eq_of_covers 3 _ (by decide +kernel) fun t hf y => ?_
  have ht : t.val < 80 := lt_of_lt_of_eq t.isLt N_0
  have h0 : (y 0).val < 2048 := lt_of_lt_of_eq (y 0).isLt (xs3 t).1
  have h1 : (y 1).val < min 512 (9856 - 512 * (t.val % 20)) := lt_of_lt_of_eq (y 1).isLt (xs3 t).2
  blk_simp
  rw [after_3]
  have e : (win0_3.blk t).view.emb y = (ix2 ⟨2048 * (t.val / 20) + (y 0).val, by omega⟩ ⟨512 * (t.val % 20) + (y 1).val, by omega⟩ : S8192x9856.Idx) := by
    blk_ext [idx t]
  rw [e]
  have ey : ((cfg0.win 3).xinj (cfg0.grid.coords t) y : S2048x512.Idx) = ix2 ⟨(y 0).val, h0⟩ ⟨(y 1).val, by omega⟩ := eq_ix2 _
  exact (congrArg (big m c t) ey).trans (big_at m c t ⟨(y 0).val, h0⟩ ⟨(y 1).val, by omega⟩ (by dsimp only; omega) (by dsimp only; omega))

/-- The small array that the kernel leaves. -/
theorem finals (c : Dev nD) : (dats m 0 c).arrAt 4 (cfgs 0).N = KINS (m ((c : Thread nD τ).loc main_arg1)) (m ((c : Thread nD τ).loc main_arg2)) := by
  refine (dats m 0 c).arrAt_eq_of_covers 4 _ (by decide +kernel) fun t hf y => ?_
  have ht : t.val < 80 := lt_of_lt_of_eq t.isLt N_0
  have h0 : (y 0).val < 32 := lt_of_lt_of_eq (y 0).isLt (xs4 t).1
  have h1 : (y 1).val < min 512 (9856 - 512 * min t.val 19) := lt_of_lt_of_eq (y 1).isLt (xs4 t).2
  blk_simp
  rw [after_4]
  have e : (win0_4.blk t).view.emb y = (ix2 ⟨(y 0).val, h0⟩ ⟨512 * min t.val 19 + (y 1).val, by omega⟩ : S32x9856.Idx) := by
    blk_ext [idx t]
  rw [e]
  have ey : ((cfg0.win 4).xinj (cfg0.grid.coords t) y : S32x512.Idx) = ix2 ⟨(y 0).val, h0⟩ ⟨(y 1).val, by omega⟩ := eq_ix2 _
  have hs : (src t).val = min t.val 19 := rfl
  exact (congrArg (small m c (src t)) ey).trans (small_at m c (src t) (by omega) ⟨(y 0).val, h0⟩ ⟨(y 1).val, by omega⟩ (by dsimp only; omega))

/-- The kernel's run, with both results. -/
theorem run_k (ρ : Dev nD → PrngReg) : θ_run defs (onTc (τ := τ) (main (F := Ideal))) ⟨m, fun _ => 0, ρ⟩ fun r => ∀ c : Dev nD,
    r.2.mem ((c.tc : Thread nD τ).loc main_v12_0) = KIN (m ((c : Thread nD τ).loc main_arg0)) (m ((c : Thread nD τ).loc main_arg2))
    ∧ r.2.mem ((c.tc : Thread nD τ).loc main_v12_1) = KINS (m ((c : Thread nD τ).loc main_arg1)) (m ((c : Thread nD τ).loc main_arg2)) :=
  (θ_run defs _ _).mono (fun r h c => ⟨((h c).1 3).trans (final m c), ((h c).1 4).trans (finals m c)⟩) (run_main m ρ)

end kernel

section reference
open Cert.InRIdeal Cert.InRIdeal.Gen

/-- The reference's choice of columns, -/
def cols (D : FVec Ideal S8192x9744 .f32) : FVec Ideal S8192x9856 .f32 :=
  concatenate S8192x9856 1 [⟨S8192x2048, (extractStridedSlice S8192x2048 ![0, 0] D Cert.InRIdeal.Gen.facts.slices_S8192x9744_S8192x2048_0_0 : (⟨S8192x2048, .f32⟩ : BufTy).Contents (Elt Ideal))⟩, ⟨S8192x2048, (extractStridedSlice S8192x2048 ![0, 2560] D Cert.InRIdeal.Gen.facts.slices_S8192x9744_S8192x2048_0_2560 : (⟨S8192x2048, .f32⟩ : BufTy).Contents (Elt Ideal))⟩, ⟨S8192x1024, (extractStridedSlice S8192x1024 ![0, 5632] D Cert.InRIdeal.Gen.facts.slices_S8192x9744_S8192x1024_0_5632 : (⟨S8192x1024, .f32⟩ : BufTy).Contents (Elt Ideal))⟩, ⟨S8192x1024, (extractStridedSlice S8192x1024 ![0, 6672] D Cert.InRIdeal.Gen.facts.slices_S8192x9744_S8192x1024_0_6672 : (⟨S8192x1024, .f32⟩ : BufTy).Contents (Elt Ideal))⟩, ⟨S8192x1024, (extractStridedSlice S8192x1024 ![0, 7696] D Cert.InRIdeal.Gen.facts.slices_S8192x9744_S8192x1024_0_7696 : (⟨S8192x1024, .f32⟩ : BufTy).Contents (Elt Ideal))⟩, ⟨S8192x1024, (extractStridedSlice S8192x1024 ![0, 8720] D Cert.InRIdeal.Gen.facts.slices_S8192x9744_S8192x1024_0_8720 : (⟨S8192x1024, .f32⟩ : BufTy).Contents (Elt Ideal))⟩, ⟨S8192x512, (extractStridedSlice S8192x512 ![0, 4608] D Cert.InRIdeal.Gen.facts.slices_S8192x9744_S8192x512_0_4608 : (⟨S8192x512, .f32⟩ : BufTy).Contents (Elt Ideal))⟩, ⟨S8192x512, (extractStridedSlice S8192x512 ![0, 5120] D Cert.InRIdeal.Gen.facts.slices_S8192x9744_S8192x512_0_5120 : (⟨S8192x512, .f32⟩ : BufTy).Contents (Elt Ideal))⟩, ⟨S8192x512, (extractStridedSlice S8192x512 ![0, 2048] D Cert.InRIdeal.Gen.facts.slices_S8192x9744_S8192x512_0_2048 : (⟨S8192x512, .f32⟩ : BufTy).Contents (Elt Ideal))⟩, ⟨S8192x128, (extractStridedSlice S8192x128 ![0, 6656] D Cert.InRIdeal.Gen.facts.slices_S8192x9744_S8192x128_0_6656 : (⟨S8192x128, .f32⟩ : BufTy).Contents (Elt Ideal))⟩] Cert.InRIdeal.Gen.facts.concatenates_S8192x2048_S8192x2048_S8192x1024_S8192x1024_S8192x1024_S8192x1024_S8192x512_S8192x512_S8192x512_S8192x128_S8192x9856_d1

theorem cols_at (D : FVec Ideal S8192x9744 .f32) (r : Fin 8192) (n : Fin 9856) :
    cols D (ix2 r n : S8192x9856.Idx) = D (ix2 r ⟨wcol n, wcol_lt n (by omega)⟩ : S8192x9744.Idx) := by
  show (_ : EReal) = _
  unfold cols
  pointwise []
  unfold wcol
  refine pick (fun q => D (ix2 r q)) _ _ _ _ _ _ fun _ => ?_
  refine pick (fun q => D (ix2 r q)) _ _ _ _ _ _ fun _ => ?_
  refine pick (fun q => D (ix2 r q)) _ _ _ _ _ _ fun _ => ?_
  refine pick (fun q => D (ix2 r q)) _ _ _ _ _ _ fun _ => ?_
  refine pick (fun q => D (ix2 r q)) _ _ _ _ _ _ fun _ => ?_
  refine pick (fun q => D (ix2 r q)) _ _ _ _ _ _ fun _ => ?_
  refine pick (fun q => D (ix2 r q)) _ _ _ _ _ _ fun _ => ?_
  refine pick (fun q => D (ix2 r q)) _ _ _ _ _ _ fun _ => ?_
  refine pick (fun q => D (ix2 r q)) _ _ _ _ _ _ fun _ => ?_
  rfl

/-- and its product, entry by entry. -/
theorem dot_at (X : FVec Ideal S8192x4096 .bf16) (W : FVec Ideal S2x4096x9744 .f32) (r : Fin 8192) (q : Fin 9744) :
    Host.dotGeneral (F := Ideal) dot_S8192x4096_S4096x9744_S8192x9744_1_0_0_1_n_n none (extf .f32 X Cert.InRIdeal.Gen.facts.bitsLt_bf16_f32)
      (shapeCast _ (extractStridedSlice S1x4096x9744 ![0, 0, 0] W Cert.InRIdeal.Gen.facts.slices_S2x4096x9744_S1x4096x9744_0_0_0) Cert.InRIdeal.Gen.facts.shapeCasts_S1x4096x9744_S4096x9744)
      (ix2 r q : S8192x9744.Idx) = ∑ k : Fin 4096, X (ix2 r k) * W (ix3 0 k q) := by
  show (_ : EReal) = _
  pointwise []

theorem ref (X : FVec Ideal S8192x4096 .bf16) (W : FVec Ideal S2x4096x9744 .f32) :
    cols (Host.dotGeneral (F := Ideal) dot_S8192x4096_S4096x9744_S8192x9744_1_0_0_1_n_n none (extf .f32 X Cert.InRIdeal.Gen.facts.bitsLt_bf16_f32)
      (shapeCast _ (extractStridedSlice S1x4096x9744 ![0, 0, 0] W Cert.InRIdeal.Gen.facts.slices_S2x4096x9744_S1x4096x9744_0_0_0) Cert.InRIdeal.Gen.facts.shapeCasts_S1x4096x9744_S4096x9744))
      = KIN X W := by
  funext i
  exact (congrArg _ (eq_ix2 i)).trans ((cols_at _ (i 0) (i 1)).trans (dot_at X W (i 0) _))

/-- The reference's choice of columns, -/
def colss (D : FVec Ideal S32x9744 .f32) : FVec Ideal S32x9856 .f32 :=
  concatenate S32x9856 1 [⟨S32x2048, (extractStridedSlice S32x2048 ![0, 0] D Cert.InRIdeal.Gen.facts.slices_S32x9744_S32x2048_0_0 : (⟨S32x2048, .f32⟩ : BufTy).Contents (Elt Ideal))⟩, ⟨S32x2048, (extractStridedSlice S32x2048 ![0, 2560] D Cert.InRIdeal.Gen.facts.slices_S32x9744_S32x2048_0_2560 : (⟨S32x2048, .f32⟩ : BufTy).Contents (Elt Ideal))⟩, ⟨S32x1024, (extractStridedSlice S32x1024 ![0, 5632] D Cert.InRIdeal.Gen.facts.slices_S32x9744_S32x1024_0_5632 : (⟨S32x1024, .f32⟩ : BufTy).Contents (Elt Ideal))⟩, ⟨S32x1024, (extractStridedSlice S32x1024 ![0, 6672] D Cert.InRIdeal.Gen.facts.slices_S32x9744_S32x1024_0_6672 : (⟨S32x1024, .f32⟩ : BufTy).Contents (Elt Ideal))⟩, ⟨S32x1024, (extractStridedSlice S32x1024 ![0, 7696] D Cert.InRIdeal.Gen.facts.slices_S32x9744_S32x1024_0_7696 : (⟨S32x1024, .f32⟩ : BufTy).Contents (Elt Ideal))⟩, ⟨S32x1024, (extractStridedSlice S32x1024 ![0, 8720] D Cert.InRIdeal.Gen.facts.slices_S32x9744_S32x1024_0_8720 : (⟨S32x1024, .f32⟩ : BufTy).Contents (Elt Ideal))⟩, ⟨S32x512, (extractStridedSlice S32x512 ![0, 4608] D Cert.InRIdeal.Gen.facts.slices_S32x9744_S32x512_0_4608 : (⟨S32x512, .f32⟩ : BufTy).Contents (Elt Ideal))⟩, ⟨S32x512, (extractStridedSlice S32x512 ![0, 5120] D Cert.InRIdeal.Gen.facts.slices_S32x9744_S32x512_0_5120 : (⟨S32x512, .f32⟩ : BufTy).Contents (Elt Ideal))⟩, ⟨S32x512, (extractStridedSlice S32x512 ![0, 2048] D Cert.InRIdeal.Gen.facts.slices_S32x9744_S32x512_0_2048 : (⟨S32x512, .f32⟩ : BufTy).Contents (Elt Ideal))⟩, ⟨S32x128, (extractStridedSlice S32x128 ![0, 6656] D Cert.InRIdeal.Gen.facts.slices_S32x9744_S32x128_0_6656 : (⟨S32x128, .f32⟩ : BufTy).Contents (Elt Ideal))⟩] Cert.InRIdeal.Gen.facts.concatenates_S32x2048_S32x2048_S32x1024_S32x1024_S32x1024_S32x1024_S32x512_S32x512_S32x512_S32x128_S32x9856_d1

theorem colss_at (D : FVec Ideal S32x9744 .f32) (r : Fin 32) (n : Fin 9856) :
    colss D (ix2 r n : S32x9856.Idx) = D (ix2 r ⟨wcol n, wcol_lt n (by omega)⟩ : S32x9744.Idx) := by
  show (_ : EReal) = _
  unfold colss
  pointwise []
  unfold wcol
  refine pick (fun q => D (ix2 r q)) _ _ _ _ _ _ fun _ => ?_
  refine pick (fun q => D (ix2 r q)) _ _ _ _ _ _ fun _ => ?_
  refine pick (fun q => D (ix2 r q)) _ _ _ _ _ _ fun _ => ?_
  refine pick (fun q => D (ix2 r q)) _ _ _ _ _ _ fun _ => ?_
  refine pick (fun q => D (ix2 r q)) _ _ _ _ _ _ fun _ => ?_
  refine pick (fun q => D (ix2 r q)) _ _ _ _ _ _ fun _ => ?_
  refine pick (fun q => D (ix2 r q)) _ _ _ _ _ _ fun _ => ?_
  refine pick (fun q => D (ix2 r q)) _ _ _ _ _ _ fun _ => ?_
  refine pick (fun q => D (ix2 r q)) _ _ _ _ _ _ fun _ => ?_
  rfl

/-- and its product, entry by entry. -/
theorem dots_at (X : FVec Ideal S32x4096 .bf16) (W : FVec Ideal S2x4096x9744 .f32) (r : Fin 32) (q : Fin 9744) :
    Host.dotGeneral (F := Ideal) dot_S32x4096_S4096x9744_S32x9744_1_0_0_1_n_n none (extf .f32 X Cert.InRIdeal.Gen.facts.bitsLt_bf16_f32)
      (shapeCast _ (extractStridedSlice S1x4096x9744 ![0, 0, 0] W Cert.InRIdeal.Gen.facts.slices_S2x4096x9744_S1x4096x9744_0_0_0) Cert.InRIdeal.Gen.facts.shapeCasts_S1x4096x9744_S4096x9744)
      (ix2 r q : S32x9744.Idx) = ∑ k : Fin 4096, X (ix2 r k) * W (ix3 0 k q) := by
  show (_ : EReal) = _
  pointwise []

theorem refs (X : FVec Ideal S32x4096 .bf16) (W : FVec Ideal S2x4096x9744 .f32) :
    colss (Host.dotGeneral (F := Ideal) dot_S32x4096_S4096x9744_S32x9744_1_0_0_1_n_n none (extf .f32 X Cert.InRIdeal.Gen.facts.bitsLt_bf16_f32)
      (shapeCast _ (extractStridedSlice S1x4096x9744 ![0, 0, 0] W Cert.InRIdeal.Gen.facts.slices_S2x4096x9744_S1x4096x9744_0_0_0) Cert.InRIdeal.Gen.facts.shapeCasts_S1x4096x9744_S4096x9744))
      = KINS X W := by
  funext i
  exact (congrArg _ (eq_ix2 i)).trans ((colss_at _ (i 0) (i 1)).trans (dots_at X W (i 0) _))

theorem res0 (m : (ℓ : Loc nD τ sig) → Buf (Elt Ideal) ℓ) (c : Dev nD) : Value.res_main_v14 m c = KIN (m ((c : Thread nD τ).loc main_arg0)) (m ((c : Thread nD τ).loc main_arg2)) := by
  refine Eq.trans ?_ (ref _ _)
  unfold Value.res_main_v14 cols
  rfl

theorem res1 (m : (ℓ : Loc nD τ sig) → Buf (Elt Ideal) ℓ) (c : Dev nD) : Value.res_main_v29 m c = KINS (m ((c : Thread nD τ).loc main_arg1)) (m ((c : Thread nD τ).loc main_arg2)) := by
  refine Eq.trans ?_ (refs _ _)
  unfold Value.res_main_v29 colss
  rfl

end reference

theorem frame_k : Cert.quiescent_InK := fun m g _ => Cert.InK.Hand.frame m g

theorem frame_ki : Cert.quiescent_InKIdeal := fun m g _ => Cert.InKIdeal.Hand.frame m g

theorem frame_ri : Cert.quiescent_InRIdeal := fun m g _ =>
  (θ_run _ _ _).mono (fun r h => ⟨fun c => (h c).2.2, sem_eq_zero_of_no_sems (by decide) r.2⟩) (Cert.InRIdeal.Value.run m g)

theorem preserves : Cert.preserves_InK_InKIdeal := trivial

/-- The kernel's run and the reference's end with the same arrays. -/
theorem algebraic : Cert.algebraic_InKIdeal_InRIdeal := fun m g m' g' hp ha =>
  ⟨fun c => KIN (m ((c.tc : Thread Cert.InKIdeal.nD Cert.InKIdeal.τ).loc Cert.InKIdeal.main_arg0)) (m ((c.tc : Thread Cert.InKIdeal.nD Cert.InKIdeal.τ).loc Cert.InKIdeal.main_arg2)), fun c => KINS (m ((c.tc : Thread Cert.InKIdeal.nD Cert.InKIdeal.τ).loc Cert.InKIdeal.main_arg1)) (m ((c.tc : Thread Cert.InKIdeal.nD Cert.InKIdeal.τ).loc Cert.InKIdeal.main_arg2)),
    (θ_run _ _ _).mono (fun r h c => ⟨(h.1 c).1, (h.1 c).2, h.2 c⟩) (θ_run_and (run_k m g) (Cert.InKIdeal.Hand.unchanged m g)),
    (θ_run _ _ _).mono (fun r h c => ⟨(h c).1.trans ((res0 m' c).trans (congrArg₂ KIN (ha c).1 (ha c).2.2)),
      (h c).2.1.trans ((res1 m' c).trans (congrArg₂ KINS (ha c).2.1 (ha c).2.2)), (h c).2.2⟩) (Cert.InRIdeal.Value.run m' g')⟩

end Cert.Proof.InClaim
end
-- ==== Proof.KvClaim.lean ====
module

public import proofs.«01_k».proof.Defs
public import proofs.«01_k».proof.Proof.Gen.KvK.Frame
public import proofs.«01_k».proof.Proof.Gen.KvKIdeal.Value
public import proofs.«01_k».proof.Proof.Gen.KvRIdeal.Run
public import Idealize.ShloMosaic.Lib.Claim
public import Idealize.ShloMosaic.Lib.Pipeline.ValueKit
public import Idealize.ShloMosaic.Lib.Pointwise

@[expose] public section

set_option maxRecDepth 16384
set_option pp.maxSteps 300

noncomputable section

namespace Cert.Proof.KvClaim

open Idealize.ShloMosaic Idealize.ShloMosaic.TcCoe Idealize.SL.Sem
open Idealize.ShloMosaic.Pipeline (Dat)

section kernel
open Cert.KvKIdeal Cert.KvKIdeal.Gen

variable (m : (ℓ : Loc nD τ sig) → Buf (Elt Ideal) ℓ)

/-- One entry of the product. -/
def entry (X : FVec Ideal S1024x4096 .bf16) (W : FVec Ideal S2x4096x2048 .f32) (r : Fin 1024) (l : Fin 2048) : EReal :=
  ∑ k : Fin 4096, X (ix2 r k) * W (ix3 0 k l)

/-- The whole product. -/
def KOUT (X : FVec Ideal S1024x4096 .bf16) (W : FVec Ideal S2x4096x2048 .f32) : FVec Ideal S1024x2048 .f32 := fun i => entry X W (i 0) (i 1)

/-- What a point of the grid leaves in its output block, entry by entry. -/
theorem point (X : FVec Ideal S1024x4096 .bf16) (W : FVec Ideal S1x4096x512 .f32) (r : Fin 1024) (l : Fin 512) :
    out0_2 (F := Ideal) X W (ix2 r l : S1024x512.Idx) = ∑ k : Fin 4096, X (ix2 r k) * W (ix3 0 k l) := by
  show (_ : EReal) = _
  frame_out
  pointwise [k0_pay1]

/-- The blocks that the windows read at each point. -/
theorem idx : ∀ t : Fin cfg0.N, win0_0.index t = ![0, 0] ∧ win0_1.index t = ![0, 0, t.val] ∧ win0_2.index t = ![0, t.val] :=
  (by decide +kernel : ∀ t : Fin grid0.N, _)

/-- The block of weights that a point reads. -/
theorem X1_at (c : Dev nD) (t : Fin cfg0.N) (k : Fin 4096) (l : Fin 512) (h : 512 * t.val + l < 2048) :
    iblk m c 1 t (ix3 0 k l : S1x4096x512.Idx) = m ((c : Thread nD τ).loc main_arg1) (ix3 0 k ⟨512 * t.val + l, h⟩ : S2x4096x2048.Idx) := by
  blk_point [iblk, V, idx t]

/-- The block of rows that a point reads. -/
theorem X0_at (c : Dev nD) (t : Fin cfg0.N) (r : Fin 1024) (k : Fin 4096) :
    iblk m c 0 t (ix2 r k : S1024x4096.Idx) = m ((c : Thread nD τ).loc main_arg0) (ix2 r k : S1024x4096.Idx) := by
  blk_point [iblk, V, idx t]

/-- The array that the kernel leaves. -/
theorem final (c : Dev nD) : (dats m 0 c).arrAt 2 (cfgs 0).N =
    KOUT (m ((c : Thread nD τ).loc main_arg0)) (m ((c : Thread nD τ).loc main_arg1)) := by
  refine (dats m 0 c).arrAt_eq_of_covers 2 _ (by decide +kernel) fun t hf y => ?_
  have ht : t.val < 4 := lt_of_lt_of_eq t.isLt N_0
  blk_simp
  rw [after0_2]
  obtain ⟨r, l, rfl⟩ : ∃ (r : Fin 1024) (l : Fin 512), y = (ix2 r l : S1024x512.Idx) := ⟨y 0, y 1, eq_ix2 y⟩
  have e : (win0_2.blk t).view.emb (ix2 r l : S1024x512.Idx) = (ix2 r ⟨512 * t.val + l, by omega⟩ : S1024x2048.Idx) := by
    blk_ext [idx t]
  rw [e]
  refine (point _ _ r l).trans ?_
  show _ = entry _ _ r ⟨512 * t.val + l, _⟩
  unfold entry
  refine Finset.sum_congr rfl fun k _ => ?_
  exact congrArg₂ (· * ·) (X0_at m c t r k) (X1_at m c t k l (by omega))

end kernel

/-- One entry of the reference's product. -/
theorem ref_at (X : FVec Ideal Cert.KvRIdeal.S1024x4096 .bf16) (W : FVec Ideal Cert.KvRIdeal.S2x4096x2048 .f32) (r : Fin 1024) (l : Fin 2048) :
    Host.dotGeneral Cert.KvRIdeal.dot_S1024x4096_S4096x2048_S1024x2048_1_0_0_1_n_n none (extf .f32 X Cert.KvRIdeal.Gen.facts.bitsLt_bf16_f32)
      (shapeCast _ (extractStridedSlice Cert.KvRIdeal.S1x4096x2048 ![0, 0, 0] W Cert.KvRIdeal.Gen.facts.slices_S2x4096x2048_S1x4096x2048_0_0_0) Cert.KvRIdeal.Gen.facts.shapeCasts_S1x4096x2048_S4096x2048)
      (ix2 r l : Cert.KvRIdeal.S1024x2048.Idx) = entry X W r l := by
  show (_ : EReal) = _
  pointwise [entry]

theorem frame_k : Cert.quiescent_KvK := fun m g _ => Cert.KvK.Gen.frame m g

theorem frame_ki : Cert.quiescent_KvKIdeal := fun m g _ => Cert.KvKIdeal.Gen.frame m g

theorem frame_ri : Cert.quiescent_KvRIdeal := fun m g _ =>
  (θ_run _ _ _).mono (fun r h => ⟨fun c => (h c).2, sem_eq_zero_of_no_sems (by decide) r.2⟩) (Cert.KvRIdeal.Value.run m g)

theorem preserves : Cert.preserves_KvK_KvKIdeal := trivial

/-- The kernel's run and the reference's end with the same array. -/
theorem algebraic : Cert.algebraic_KvKIdeal_KvRIdeal := fun m g m' g' hp ha =>
  ⟨fun c => KOUT (m ((c.tc : Thread Cert.KvKIdeal.nD Cert.KvKIdeal.τ).loc Cert.KvKIdeal.main_arg0)) (m ((c.tc : Thread Cert.KvKIdeal.nD Cert.KvKIdeal.τ).loc Cert.KvKIdeal.main_arg1)),
    (θ_run _ _ _).mono (fun r h c => ⟨(h c).1.trans (final m c), (h c).2.1, (h c).2.2⟩) (Cert.KvKIdeal.Value.run_blocks m g),
    (θ_run _ _ _).mono (fun r h c => ⟨(h c).1.trans (by
        rw [(ha c).1, (ha c).2]
        funext i
        exact (congrArg _ (eq_ix2 i)).trans (ref_at _ _ (i 0) (i 1))), (h c).2.1, (h c).2.2⟩) (Cert.KvRIdeal.Value.run m' g')⟩

end Cert.Proof.KvClaim
end
-- ==== Proof.Rms.lean ====
module

public import Idealize.ShloMosaic.Lib.Pointwise

@[expose] public section

noncomputable section

namespace Cert.Proof.Rms

open Idealize.ShloMosaic

/-- One entry of a row divided by the root of its mean square and scaled. -/
def rms (x : Fin 4096 → EReal) (g : EReal) (l : Fin 4096) : EReal :=
  x l * Ideal.rsqrt (Ideal.div (∑ k, x k * x k) (Ideal.ofBits .f32 0x45800000#32) + Ideal.ofBits .f32 0x358637BD#32) * g

/-- Entries are equal when the rows and the scales are. -/
theorem rms_congr {x x' : Fin 4096 → EReal} {g g' : EReal} (l : Fin 4096) (hx : ∀ k, x k = x' k) (hg : g = g') : rms x g l = rms x' g' l := by
  rw [funext hx, hg]

end Cert.Proof.Rms
end
-- ==== Proof.MnClaim.lean ====
module

public import proofs.«01_k».proof.Defs
public import proofs.«01_k».proof.Proof.Rms
public import proofs.«01_k».proof.Proof.Gen.MnK.Frame
public import proofs.«01_k».proof.Proof.Gen.MnKIdeal.Value
public import proofs.«01_k».proof.Proof.Gen.MnRIdeal.Run
public import Idealize.ShloMosaic.Lib.Claim
public import Idealize.ShloMosaic.Lib.Pipeline.ValueKit
public import Idealize.ShloMosaic.Lib.Pointwise

@[expose] public section

set_option maxRecDepth 16384
set_option pp.maxSteps 300

noncomputable section

namespace Cert.Proof.MnClaim

open Idealize.ShloMosaic Idealize.ShloMosaic.TcCoe Idealize.SL.Sem
open Idealize.ShloMosaic.Pipeline (Dat)
open Cert.Proof.Rms (rms rms_congr)

section kernel
open Cert.MnKIdeal Cert.MnKIdeal.Gen

variable (m : (ℓ : Loc nD τ sig) → Buf (Elt Ideal) ℓ)

/-- The whole array of rows normalized by one row of scales. -/
def KOUT (p : Fin 2) (X : FVec Ideal S1024x4096 .f32) (G : FVec Ideal S2x4096 .f32) : FVec Ideal S1024x4096 .bf16 := fun i =>
  rms (fun k => X (ix2 (i 0) k)) (G (ix2 p (i 1))) (i 1)

/-- What a point of the grid leaves in its first output block, entry by entry. -/
theorem point2 (X : FVec Ideal S256x4096 .f32) (G : FVec Ideal S2x4096 .f32) (r : Fin 256) (l : Fin 4096) :
    out0_2 (F := Ideal) X G (ix2 r l : S256x4096.Idx) = rms (fun k => X (ix2 r k)) (G (ix2 0 l)) l := by
  show (_ : EReal) = _
  frame_out
  pointwise [k0_pay1, k0_pay2, rms]

/-- What a point of the grid leaves in its second output block, entry by entry. -/
theorem point3 (X : FVec Ideal S256x4096 .f32) (G : FVec Ideal S2x4096 .f32) (r : Fin 256) (l : Fin 4096) :
    out0_3 (F := Ideal) X G (ix2 r l : S256x4096.Idx) = rms (fun k => X (ix2 r k)) (G (ix2 1 l)) l := by
  show (_ : EReal) = _
  frame_out
  pointwise [k0_pay1, k0_pay3, rms]

/-- The blocks that the windows read at each point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The block of rows that a point reads. -/
theorem X0_at (c : Dev nD) (t : Fin cfg0.N) (r : Fin 256) (k : Fin 4096) (h : 256 * t.val + r < 1024) :
    iblk m c 0 t (ix2 r k : S256x4096.Idx) = m ((c : Thread nD τ).loc main_arg0) (ix2 ⟨256 * t.val + r, h⟩ k : S1024x4096.Idx) := by
  blk_point [iblk, V, idx t]

/-- The scales that a point reads. -/
theorem X1_at (c : Dev nD) (t : Fin cfg0.N) (p : Fin 2) (l : Fin 4096) :
    iblk m c 1 t (ix2 p l : S2x4096.Idx) = m ((c : Thread nD τ).loc main_arg1) (ix2 p l : S2x4096.Idx) := by
  blk_point [iblk, V, idx t]

/-- The array that the kernel leaves in its output of window 2. -/
theorem final2 (c : Dev nD) : (dats m 0 c).arrAt 2 (cfgs 0).N =
    KOUT 0 (m ((c : Thread nD τ).loc main_arg0)) (m ((c : Thread nD τ).loc main_arg1)) := by
  refine (dats m 0 c).arrAt_eq_of_covers 2 _ (by decide +kernel) fun t hf y => ?_
  have ht : t.val < 4 := lt_of_lt_of_eq t.isLt N_0
  blk_simp
  rw [after0_2]
  obtain ⟨r, l, rfl⟩ : ∃ (r : Fin 256) (l : Fin 4096), y = (ix2 r l : S256x4096.Idx) := ⟨y 0, y 1, eq_ix2 y⟩
  have e : (win0_2.blk t).view.emb (ix2 r l : S256x4096.Idx) = (ix2 ⟨256 * t.val + r, by omega⟩ l : S1024x4096.Idx) := by
    blk_ext [idx t]
  rw [e]
  refine (point2 _ _ r l).trans ?_
  exact rms_congr l (fun k => X0_at m c t r k (by omega)) (X1_at m c t 0 l)

/-- The array that the kernel leaves in its output of window 3. -/
theorem final3 (c : Dev nD) : (dats m 0 c).arrAt 3 (cfgs 0).N =
    KOUT 1 (m ((c : Thread nD τ).loc main_arg0)) (m ((c : Thread nD τ).loc main_arg1)) := by
  refine (dats m 0 c).arrAt_eq_of_covers 3 _ (by decide +kernel) fun t hf y => ?_
  have ht : t.val < 4 := lt_of_lt_of_eq t.isLt N_0
  blk_simp
  rw [after0_3]
  obtain ⟨r, l, rfl⟩ : ∃ (r : Fin 256) (l : Fin 4096), y = (ix2 r l : S256x4096.Idx) := ⟨y 0, y 1, eq_ix2 y⟩
  have e : (win0_3.blk t).view.emb (ix2 r l : S256x4096.Idx) = (ix2 ⟨256 * t.val + r, by omega⟩ l : S1024x4096.Idx) := by
    blk_ext [idx t]
  rw [e]
  refine (point3 _ _ r l).trans ?_
  exact rms_congr l (fun k => X0_at m c t r k (by omega)) (X1_at m c t 1 l)

end kernel

open Cert.MnRIdeal Cert.MnRIdeal.Gen in
/-- One entry of the reference's array of scale row 0. -/
theorem ref0_at (X : FVec Ideal S1024x4096 .f32) (G : FVec Ideal S2x4096 .f32) (r : Fin 1024) (l : Fin 4096) :
    truncf .bf16 (mulf (mulf X (broadcastInDim S1024x4096 ![0, 1] bcast_S1024x1_S1024x4096_0_1 (Host.rsqrt (addf (Host.divf (broadcastInDim S1024x1 ![0] bcast_S1024_S1024x1_0 (Host.reduceAdd (mulf X X) (constant S_ .f32 0x00000000#32) reducesTo_S1024x4096_S1024_d1 h_S_)) (broadcastInDim S1024x1 ![] bcast_S_S1024x1 (constant S_ .f32 0x45800000#32))) (broadcastInDim S1024x1 ![] bcast_S_S1024x1 (constant S_ .f32 0x358637BD#32)))))) (broadcastInDim S1024x4096 ![0, 1] bcast_S1x4096_S1024x4096_0_1 (broadcastInDim S1x4096 ![1] bcast_S4096_S1x4096_1 (shapeCast _ (extractStridedSlice S1x4096 ![0, 0] G slices_S2x4096_S1x4096_0_0) shapeCasts_S1x4096_S4096)))) bitsLt_bf16_f32
      (ix2 r l : S1024x4096.Idx) = rms (fun k => X (ix2 r k)) (G (ix2 0 l)) l := by
  show (_ : EReal) = _
  pointwise [rms]

open Cert.MnRIdeal Cert.MnRIdeal.Gen in
/-- One entry of the reference's array of scale row 1. -/
theorem ref1_at (X : FVec Ideal S1024x4096 .f32) (G : FVec Ideal S2x4096 .f32) (r : Fin 1024) (l : Fin 4096) :
    truncf .bf16 (mulf (mulf X (broadcastInDim S1024x4096 ![0, 1] bcast_S1024x1_S1024x4096_0_1 (Host.rsqrt (addf (Host.divf (broadcastInDim S1024x1 ![0] bcast_S1024_S1024x1_0 (Host.reduceAdd (mulf X X) (constant S_ .f32 0x00000000#32) reducesTo_S1024x4096_S1024_d1 h_S_)) (broadcastInDim S1024x1 ![] bcast_S_S1024x1 (constant S_ .f32 0x45800000#32))) (broadcastInDim S1024x1 ![] bcast_S_S1024x1 (constant S_ .f32 0x358637BD#32)))))) (broadcastInDim S1024x4096 ![0, 1] bcast_S1x4096_S1024x4096_0_1 (broadcastInDim S1x4096 ![1] bcast_S4096_S1x4096_1 (shapeCast _ (extractStridedSlice S1x4096 ![1, 0] G slices_S2x4096_S1x4096_1_0) shapeCasts_S1x4096_S4096)))) bitsLt_bf16_f32
      (ix2 r l : S1024x4096.Idx) = rms (fun k => X (ix2 r k)) (G (ix2 1 l)) l := by
  show (_ : EReal) = _
  pointwise [rms]

theorem frame_k : Cert.quiescent_MnK := fun m g _ => Cert.MnK.Gen.frame m g

theorem frame_ki : Cert.quiescent_MnKIdeal := fun m g _ => Cert.MnKIdeal.Gen.frame m g

theorem frame_ri : Cert.quiescent_MnRIdeal := fun m g _ =>
  (θ_run _ _ _).mono (fun r h => ⟨fun c => (h c).2.2, sem_eq_zero_of_no_sems (by decide) r.2⟩) (Cert.MnRIdeal.Value.run m g)

theorem preserves : Cert.preserves_MnK_MnKIdeal := trivial

/-- The kernel's run and the reference's end with the same arrays. -/
theorem algebraic : Cert.algebraic_MnKIdeal_MnRIdeal := fun m g m' g' hp ha =>
  ⟨fun c => KOUT 0 (m ((c.tc : Thread Cert.MnKIdeal.nD Cert.MnKIdeal.τ).loc Cert.MnKIdeal.main_arg0)) (m ((c.tc : Thread Cert.MnKIdeal.nD Cert.MnKIdeal.τ).loc Cert.MnKIdeal.main_arg1)),
    fun c => KOUT 1 (m ((c.tc : Thread Cert.MnKIdeal.nD Cert.MnKIdeal.τ).loc Cert.MnKIdeal.main_arg0)) (m ((c.tc : Thread Cert.MnKIdeal.nD Cert.MnKIdeal.τ).loc Cert.MnKIdeal.main_arg1)),
    (θ_run _ _ _).mono (fun r h c => ⟨(h c).1.trans (final2 m c), (h c).2.1.trans (final3 m c), (h c).2.2.1, (h c).2.2.2⟩) (Cert.MnKIdeal.Value.run_blocks m g),
    (θ_run _ _ _).mono (fun r h c => ⟨(h c).1.trans (by
        rw [(ha c).1, (ha c).2]
        funext i
        exact (congrArg _ (eq_ix2 i)).trans (ref0_at _ _ (i 0) (i 1))), (h c).2.1.trans (by
        rw [(ha c).1, (ha c).2]
        funext i
        exact (congrArg _ (eq_ix2 i)).trans (ref1_at _ _ (i 0) (i 1))), (h c).2.2.1, (h c).2.2.2⟩) (Cert.MnRIdeal.Value.run m' g')⟩

end Cert.Proof.MnClaim
end
-- ==== Proof.NpClaim.lean ====
module

public import proofs.«01_k».proof.Defs
public import proofs.«01_k».proof.Proof.Rms
public import proofs.«01_k».proof.Proof.Gen.NpK.Frame
public import proofs.«01_k».proof.Proof.Gen.NpKIdeal.Value
public import proofs.«01_k».proof.Proof.Gen.NpRIdeal.Run
public import Idealize.ShloMosaic.Lib.Claim
public import Idealize.ShloMosaic.Lib.Pipeline.ValueKit
public import Idealize.ShloMosaic.Lib.Pointwise

@[expose] public section

set_option maxRecDepth 16384
set_option pp.maxSteps 300

noncomputable section

namespace Cert.Proof.NpClaim

open Idealize.ShloMosaic Idealize.ShloMosaic.TcCoe Idealize.SL.Sem
open Idealize.ShloMosaic.Pipeline (Dat)
open Cert.Proof.Rms (rms rms_congr)

section kernel
open Cert.NpKIdeal Cert.NpKIdeal.Gen

variable (m : (ℓ : Loc nD τ sig) → Buf (Elt Ideal) ℓ)

/-- The whole normalized array. -/
def KOUT (X : FVec Ideal S8192x4096 .f32) (G : FVec Ideal S4096 .f32) : FVec Ideal S8192x4096 .f32 := fun i =>
  rms (fun k => X (ix2 (i 0) k)) (G (ix1 (i 1))) (i 1)

/-- What a point of the grid leaves in its output block, entry by entry. -/
theorem point (X : FVec Ideal S512x4096 .f32) (G : FVec Ideal S1x4096 .f32) (r : Fin 512) (l : Fin 4096) :
    out0_2 (F := Ideal) X G (ix2 r l : S512x4096.Idx) = rms (fun k => X (ix2 r k)) (G (ix2 0 l)) l := by
  show (_ : EReal) = _
  frame_out
  pointwise [k0_pay1, rms]

/-- The blocks that the windows read at each point. -/
theorem idx : ∀ t : Fin cfg0.N, win0_0.index t = ![t.val, 0] ∧ win0_1.index t = ![0, 0] ∧ win0_2.index t = ![t.val, 0] :=
  (by decide +kernel : ∀ t : Fin grid0.N, _)

/-- The block of rows that a point reads. -/
theorem X0_at (c : Dev nD) (t : Fin cfg0.N) (r : Fin 512) (k : Fin 4096) (h : 512 * t.val + r < 8192) :
    iblk m c 0 t (ix2 r k : S512x4096.Idx) = m ((c : Thread nD τ).loc main_arg0) (ix2 ⟨512 * t.val + r, h⟩ k : S8192x4096.Idx) := by
  blk_point [iblk, V, idx t]

/-- The scales that a point reads. -/
theorem X1_at (c : Dev nD) (t : Fin cfg0.N) (l : Fin 4096) :
    iblk m c 1 t (ix2 0 l : S1x4096.Idx) = m ((c : Thread nD τ).loc main_arg1) (ix1 l : S4096.Idx) := by
  blk_point [iblk, idx t]

/-- The array that the kernel leaves. -/
theorem final (c : Dev nD) : (dats m 0 c).arrAt 2 (cfgs 0).N =
    KOUT (m ((c : Thread nD τ).loc main_arg0)) (m ((c : Thread nD τ).loc main_arg1)) := by
  refine (dats m 0 c).arrAt_eq_of_covers 2 _ (by decide +kernel) fun t hf y => ?_
  have ht : t.val < 16 := lt_of_lt_of_eq t.isLt N_0
  blk_simp
  rw [after0_2]
  obtain ⟨r, l, rfl⟩ : ∃ (r : Fin 512) (l : Fin 4096), y = (ix2 r l : S512x4096.Idx) := ⟨y 0, y 1, eq_ix2 y⟩
  have e : (win0_2.blk t).view.emb (ix2 r l : S512x4096.Idx) = (ix2 ⟨512 * t.val + r, by omega⟩ l : S8192x4096.Idx) := by
    blk_ext [idx t]
  rw [e]
  refine (point _ _ r l).trans ?_
  exact rms_congr l (fun k => X0_at m c t r k (by omega)) (X1_at m c t l)

end kernel

open Cert.NpRIdeal Cert.NpRIdeal.Gen in
/-- One entry of the reference's array. -/
theorem ref_at (X : FVec Ideal S8192x4096 .f32) (G : FVec Ideal S4096 .f32) (r : Fin 8192) (l : Fin 4096) :
    (mulf (mulf X (broadcastInDim S8192x4096 ![0, 1] bcast_S8192x1_S8192x4096_0_1 (Host.rsqrt (addf (Host.divf (broadcastInDim S8192x1 ![0] bcast_S8192_S8192x1_0 (Host.reduceAdd (mulf X X) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 G)))
      (ix2 r l : S8192x4096.Idx) = rms (fun k => X (ix2 r k)) (G (ix1 l)) l := by
  show (_ : EReal) = _
  pointwise [rms]

theorem frame_k : Cert.quiescent_NpK := fun m g _ => Cert.NpK.Gen.frame m g

theorem frame_ki : Cert.quiescent_NpKIdeal := fun m g _ => Cert.NpKIdeal.Gen.frame m g

theorem frame_ri : Cert.quiescent_NpRIdeal := fun m g _ =>
  (θ_run _ _ _).mono (fun r h => ⟨fun c => (h c).2, sem_eq_zero_of_no_sems (by decide) r.2⟩) (Cert.NpRIdeal.Value.run m g)

theorem preserves : Cert.preserves_NpK_NpKIdeal := trivial

/-- The kernel's run and the reference's end with the same array. -/
theorem algebraic : Cert.algebraic_NpKIdeal_NpRIdeal := fun m g m' g' hp ha =>
  ⟨fun c => KOUT (m ((c.tc : Thread Cert.NpKIdeal.nD Cert.NpKIdeal.τ).loc Cert.NpKIdeal.main_arg0)) (m ((c.tc : Thread Cert.NpKIdeal.nD Cert.NpKIdeal.τ).loc Cert.NpKIdeal.main_arg1)),
    (θ_run _ _ _).mono (fun r h c => ⟨(h c).1.trans (final m c), (h c).2.1, (h c).2.2⟩) (Cert.NpKIdeal.Value.run_blocks m g),
    (θ_run _ _ _).mono (fun r h c => ⟨(h c).1.trans (by
        rw [(ha c).1, (ha c).2]
        funext i
        exact (congrArg _ (eq_ix2 i)).trans (ref_at _ _ (i 0) (i 1))), (h c).2.1, (h c).2.2⟩) (Cert.NpRIdeal.Value.run m' g')⟩

end Cert.Proof.NpClaim
end
-- ==== Proof.NsClaim.lean ====
module

public import proofs.«01_k».proof.Defs
public import proofs.«01_k».proof.Proof.Rms
public import proofs.«01_k».proof.Proof.Gen.NsK.Frame
public import proofs.«01_k».proof.Proof.Gen.NsKIdeal.Value
public import proofs.«01_k».proof.Proof.Gen.NsRIdeal.Run
public import Idealize.ShloMosaic.Lib.Claim
public import Idealize.ShloMosaic.Lib.Pipeline.ValueKit
public import Idealize.ShloMosaic.Lib.Pointwise

@[expose] public section

set_option maxRecDepth 16384
set_option pp.maxSteps 300

noncomputable section

namespace Cert.Proof.NsClaim

open Idealize.ShloMosaic Idealize.ShloMosaic.TcCoe Idealize.SL.Sem
open Idealize.ShloMosaic.Pipeline (Dat)
open Cert.Proof.Rms (rms rms_congr)

section kernel
open Cert.NsKIdeal Cert.NsKIdeal.Gen

variable (m : (ℓ : Loc nD τ sig) → Buf (Elt Ideal) ℓ)

/-- The whole normalized array. -/
def KOUT (X : FVec Ideal S32x4096 .f32) (G : FVec Ideal S4096 .f32) : FVec Ideal S32x4096 .f32 := fun i =>
  rms (fun k => X (ix2 (i 0) k)) (G (ix1 (i 1))) (i 1)

/-- What a point of the grid leaves in its output block, entry by entry. -/
theorem point (X : FVec Ideal S32x4096 .f32) (G : FVec Ideal S1x4096 .f32) (r : Fin 32) (l : Fin 4096) :
    out0_2 (F := Ideal) X G (ix2 r l : S32x4096.Idx) = rms (fun k => X (ix2 r k)) (G (ix2 0 l)) l := by
  show (_ : EReal) = _
  frame_out
  pointwise [k0_pay1, rms]

/-- The blocks that the windows read at each point. -/
theorem idx : ∀ t : Fin cfg0.N, win0_0.index t = ![t.val, 0] ∧ win0_1.index t = ![0, 0] ∧ win0_2.index t = ![t.val, 0] :=
  (by decide +kernel : ∀ t : Fin grid0.N, _)

/-- The block of rows that a point reads. -/
theorem X0_at (c : Dev nD) (t : Fin cfg0.N) (r : Fin 32) (k : Fin 4096) (h : 32 * t.val + r < 32) :
    iblk m c 0 t (ix2 r k : S32x4096.Idx) = m ((c : Thread nD τ).loc main_arg0) (ix2 ⟨32 * t.val + r, h⟩ k : S32x4096.Idx) := by
  blk_point [iblk, V, idx t]

/-- The scales that a point reads. -/
theorem X1_at (c : Dev nD) (t : Fin cfg0.N) (l : Fin 4096) :
    iblk m c 1 t (ix2 0 l : S1x4096.Idx) = m ((c : Thread nD τ).loc main_arg1) (ix1 l : S4096.Idx) := by
  blk_point [iblk, idx t]

/-- The array that the kernel leaves. -/
theorem final (c : Dev nD) : (dats m 0 c).arrAt 2 (cfgs 0).N =
    KOUT (m ((c : Thread nD τ).loc main_arg0)) (m ((c : Thread nD τ).loc main_arg1)) := by
  refine (dats m 0 c).arrAt_eq_of_covers 2 _ (by decide +kernel) fun t hf y => ?_
  have ht : t.val < 1 := lt_of_lt_of_eq t.isLt N_0
  blk_simp
  rw [after0_2]
  obtain ⟨r, l, rfl⟩ : ∃ (r : Fin 32) (l : Fin 4096), y = (ix2 r l : S32x4096.Idx) := ⟨y 0, y 1, eq_ix2 y⟩
  have e : (win0_2.blk t).view.emb (ix2 r l : S32x4096.Idx) = (ix2 ⟨32 * t.val + r, by omega⟩ l : S32x4096.Idx) := by
    blk_ext [idx t]
  rw [e]
  refine (point _ _ r l).trans ?_
  exact rms_congr l (fun k => X0_at m c t r k (by omega)) (X1_at m c t l)

end kernel

open Cert.NsRIdeal Cert.NsRIdeal.Gen in
/-- One entry of the reference's array. -/
theorem ref_at (X : FVec Ideal S32x4096 .f32) (G : FVec Ideal S4096 .f32) (r : Fin 32) (l : Fin 4096) :
    (mulf (mulf X (broadcastInDim S32x4096 ![0, 1] bcast_S32x1_S32x4096_0_1 (Host.rsqrt (addf (Host.divf (broadcastInDim S32x1 ![0] bcast_S32_S32x1_0 (Host.reduceAdd (mulf X X) (constant S_ .f32 0x00000000#32) reducesTo_S32x4096_S32_d1 h_S_)) (broadcastInDim S32x1 ![] bcast_S_S32x1 (constant S_ .f32 0x45800000#32))) (broadcastInDim S32x1 ![] bcast_S_S32x1 (constant S_ .f32 0x358637BD#32)))))) (broadcastInDim S32x4096 ![0, 1] bcast_S1x4096_S32x4096_0_1 (broadcastInDim S1x4096 ![1] bcast_S4096_S1x4096_1 G)))
      (ix2 r l : S32x4096.Idx) = rms (fun k => X (ix2 r k)) (G (ix1 l)) l := by
  show (_ : EReal) = _
  pointwise [rms]

theorem frame_k : Cert.quiescent_NsK := fun m g _ => Cert.NsK.Gen.frame m g

theorem frame_ki : Cert.quiescent_NsKIdeal := fun m g _ => Cert.NsKIdeal.Gen.frame m g

theorem frame_ri : Cert.quiescent_NsRIdeal := fun m g _ =>
  (θ_run _ _ _).mono (fun r h => ⟨fun c => (h c).2, sem_eq_zero_of_no_sems (by decide) r.2⟩) (Cert.NsRIdeal.Value.run m g)

theorem preserves : Cert.preserves_NsK_NsKIdeal := trivial

/-- The kernel's run and the reference's end with the same array. -/
theorem algebraic : Cert.algebraic_NsKIdeal_NsRIdeal := fun m g m' g' hp ha =>
  ⟨fun c => KOUT (m ((c.tc : Thread Cert.NsKIdeal.nD Cert.NsKIdeal.τ).loc Cert.NsKIdeal.main_arg0)) (m ((c.tc : Thread Cert.NsKIdeal.nD Cert.NsKIdeal.τ).loc Cert.NsKIdeal.main_arg1)),
    (θ_run _ _ _).mono (fun r h c => ⟨(h c).1.trans (final m c), (h c).2.1, (h c).2.2⟩) (Cert.NsKIdeal.Value.run_blocks m g),
    (θ_run _ _ _).mono (fun r h c => ⟨(h c).1.trans (by
        rw [(ha c).1, (ha c).2]
        funext i
        exact (congrArg _ (eq_ix2 i)).trans (ref_at _ _ (i 0) (i 1))), (h c).2.1, (h c).2.2⟩) (Cert.NsRIdeal.Value.run m' g')⟩

end Cert.Proof.NsClaim
end
-- ==== Proof.XpClaim.lean ====
module

public import proofs.«01_k».proof.Defs
public import proofs.«01_k».proof.Proof.Rms
public import proofs.«01_k».proof.Proof.Gen.XpK.Frame
public import proofs.«01_k».proof.Proof.Gen.XpKIdeal.Value
public import proofs.«01_k».proof.Proof.Gen.XpRIdeal.Run
public import Idealize.ShloMosaic.Lib.Claim
public import Idealize.ShloMosaic.Lib.Pipeline.ValueKit
public import Idealize.ShloMosaic.Lib.Pointwise

@[expose] public section

set_option maxRecDepth 16384
set_option pp.maxSteps 300

noncomputable section

namespace Cert.Proof.XpClaim

open Idealize.ShloMosaic Idealize.ShloMosaic.TcCoe Idealize.SL.Sem
open Idealize.ShloMosaic.Pipeline (Dat)
open Cert.Proof.Rms (rms rms_congr)

section kernel
open Cert.XpKIdeal Cert.XpKIdeal.Gen

variable (m : (ℓ : Loc nD τ sig) → Buf (Elt Ideal) ℓ)

/-- The whole normalized array. -/
def KOUT (X : FVec Ideal S8192x4096 .f32) (G : FVec Ideal S4096 .f32) : FVec Ideal S8192x4096 .bf16 := fun i =>
  rms (fun k => X (ix2 (i 0) k)) (G (ix1 (i 1))) (i 1)

/-- What a point of the grid leaves in its output block, entry by entry. -/
theorem point (X : FVec Ideal S512x4096 .f32) (G : FVec Ideal S1x4096 .f32) (r : Fin 512) (l : Fin 4096) :
    out0_2 (F := Ideal) X G (ix2 r l : S512x4096.Idx) = rms (fun k => X (ix2 r k)) (G (ix2 0 l)) l := by
  show (_ : EReal) = _
  frame_out
  pointwise [k0_pay1, rms]

/-- The blocks that the windows read at each point. -/
theorem idx : ∀ t : Fin cfg0.N, win0_0.index t = ![t.val, 0] ∧ win0_1.index t = ![0, 0] ∧ win0_2.index t = ![t.val, 0] :=
  (by decide +kernel : ∀ t : Fin grid0.N, _)

/-- The block of rows that a point reads. -/
theorem X0_at (c : Dev nD) (t : Fin cfg0.N) (r : Fin 512) (k : Fin 4096) (h : 512 * t.val + r < 8192) :
    iblk m c 0 t (ix2 r k : S512x4096.Idx) = m ((c : Thread nD τ).loc main_arg0) (ix2 ⟨512 * t.val + r, h⟩ k : S8192x4096.Idx) := by
  blk_point [iblk, V, idx t]

/-- The scales that a point reads. -/
theorem X1_at (c : Dev nD) (t : Fin cfg0.N) (l : Fin 4096) :
    iblk m c 1 t (ix2 0 l : S1x4096.Idx) = m ((c : Thread nD τ).loc main_arg1) (ix1 l : S4096.Idx) := by
  blk_point [iblk, idx t]

/-- The array that the kernel leaves. -/
theorem final (c : Dev nD) : (dats m 0 c).arrAt 2 (cfgs 0).N =
    KOUT (m ((c : Thread nD τ).loc main_arg0)) (m ((c : Thread nD τ).loc main_arg1)) := by
  refine (dats m 0 c).arrAt_eq_of_covers 2 _ (by decide +kernel) fun t hf y => ?_
  have ht : t.val < 16 := lt_of_lt_of_eq t.isLt N_0
  blk_simp
  rw [after0_2]
  obtain ⟨r, l, rfl⟩ : ∃ (r : Fin 512) (l : Fin 4096), y = (ix2 r l : S512x4096.Idx) := ⟨y 0, y 1, eq_ix2 y⟩
  have e : (win0_2.blk t).view.emb (ix2 r l : S512x4096.Idx) = (ix2 ⟨512 * t.val + r, by omega⟩ l : S8192x4096.Idx) := by
    blk_ext [idx t]
  rw [e]
  refine (point _ _ r l).trans ?_
  exact rms_congr l (fun k => X0_at m c t r k (by omega)) (X1_at m c t l)

end kernel

open Cert.XpRIdeal Cert.XpRIdeal.Gen in
/-- One entry of the reference's array. -/
theorem ref_at (X : FVec Ideal S8192x4096 .f32) (G : FVec Ideal S4096 .f32) (r : Fin 8192) (l : Fin 4096) :
    truncf .bf16 (mulf (mulf X (broadcastInDim S8192x4096 ![0, 1] bcast_S8192x1_S8192x4096_0_1 (Host.rsqrt (addf (Host.divf (broadcastInDim S8192x1 ![0] bcast_S8192_S8192x1_0 (Host.reduceAdd (mulf X X) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 G))) bitsLt_bf16_f32
      (ix2 r l : S8192x4096.Idx) = rms (fun k => X (ix2 r k)) (G (ix1 l)) l := by
  show (_ : EReal) = _
  pointwise [rms]

theorem frame_k : Cert.quiescent_XpK := fun m g _ => Cert.XpK.Gen.frame m g

theorem frame_ki : Cert.quiescent_XpKIdeal := fun m g _ => Cert.XpKIdeal.Gen.frame m g

theorem frame_ri : Cert.quiescent_XpRIdeal := fun m g _ =>
  (θ_run _ _ _).mono (fun r h => ⟨fun c => (h c).2, sem_eq_zero_of_no_sems (by decide) r.2⟩) (Cert.XpRIdeal.Value.run m g)

theorem preserves : Cert.preserves_XpK_XpKIdeal := trivial

/-- The kernel's run and the reference's end with the same array. -/
theorem algebraic : Cert.algebraic_XpKIdeal_XpRIdeal := fun m g m' g' hp ha =>
  ⟨fun c => KOUT (m ((c.tc : Thread Cert.XpKIdeal.nD Cert.XpKIdeal.τ).loc Cert.XpKIdeal.main_arg0)) (m ((c.tc : Thread Cert.XpKIdeal.nD Cert.XpKIdeal.τ).loc Cert.XpKIdeal.main_arg1)),
    (θ_run _ _ _).mono (fun r h c => ⟨(h c).1.trans (final m c), (h c).2.1, (h c).2.2⟩) (Cert.XpKIdeal.Value.run_blocks m g),
    (θ_run _ _ _).mono (fun r h c => ⟨(h c).1.trans (by
        rw [(ha c).1, (ha c).2]
        funext i
        exact (congrArg _ (eq_ix2 i)).trans (ref_at _ _ (i 0) (i 1))), (h c).2.1, (h c).2.2⟩) (Cert.XpRIdeal.Value.run m' g')⟩

end Cert.Proof.XpClaim
end
-- ==== Proof.XsClaim.lean ====
module

public import proofs.«01_k».proof.Defs
public import proofs.«01_k».proof.Proof.Rms
public import proofs.«01_k».proof.Proof.Gen.XsK.Frame
public import proofs.«01_k».proof.Proof.Gen.XsKIdeal.Value
public import proofs.«01_k».proof.Proof.Gen.XsRIdeal.Run
public import Idealize.ShloMosaic.Lib.Claim
public import Idealize.ShloMosaic.Lib.Pipeline.ValueKit
public import Idealize.ShloMosaic.Lib.Pointwise

@[expose] public section

set_option maxRecDepth 16384
set_option pp.maxSteps 300

noncomputable section

namespace Cert.Proof.XsClaim

open Idealize.ShloMosaic Idealize.ShloMosaic.TcCoe Idealize.SL.Sem
open Idealize.ShloMosaic.Pipeline (Dat)
open Cert.Proof.Rms (rms rms_congr)

section kernel
open Cert.XsKIdeal Cert.XsKIdeal.Gen

variable (m : (ℓ : Loc nD τ sig) → Buf (Elt Ideal) ℓ)

/-- The whole normalized array. -/
def KOUT (X : FVec Ideal S32x4096 .f32) (G : FVec Ideal S4096 .f32) : FVec Ideal S32x4096 .bf16 := fun i =>
  rms (fun k => X (ix2 (i 0) k)) (G (ix1 (i 1))) (i 1)

/-- What a point of the grid leaves in its output block, entry by entry. -/
theorem point (X : FVec Ideal S32x4096 .f32) (G : FVec Ideal S1x4096 .f32) (r : Fin 32) (l : Fin 4096) :
    out0_2 (F := Ideal) X G (ix2 r l : S32x4096.Idx) = rms (fun k => X (ix2 r k)) (G (ix2 0 l)) l := by
  show (_ : EReal) = _
  frame_out
  pointwise [k0_pay1, rms]

/-- The blocks that the windows read at each point. -/
theorem idx : ∀ t : Fin cfg0.N, win0_0.index t = ![t.val, 0] ∧ win0_1.index t = ![0, 0] ∧ win0_2.index t = ![t.val, 0] :=
  (by decide +kernel : ∀ t : Fin grid0.N, _)

/-- The block of rows that a point reads. -/
theorem X0_at (c : Dev nD) (t : Fin cfg0.N) (r : Fin 32) (k : Fin 4096) (h : 32 * t.val + r < 32) :
    iblk m c 0 t (ix2 r k : S32x4096.Idx) = m ((c : Thread nD τ).loc main_arg0) (ix2 ⟨32 * t.val + r, h⟩ k : S32x4096.Idx) := by
  blk_point [iblk, V, idx t]

/-- The scales that a point reads. -/
theorem X1_at (c : Dev nD) (t : Fin cfg0.N) (l : Fin 4096) :
    iblk m c 1 t (ix2 0 l : S1x4096.Idx) = m ((c : Thread nD τ).loc main_arg1) (ix1 l : S4096.Idx) := by
  blk_point [iblk, idx t]

/-- The array that the kernel leaves. -/
theorem final (c : Dev nD) : (dats m 0 c).arrAt 2 (cfgs 0).N =
    KOUT (m ((c : Thread nD τ).loc main_arg0)) (m ((c : Thread nD τ).loc main_arg1)) := by
  refine (dats m 0 c).arrAt_eq_of_covers 2 _ (by decide +kernel) fun t hf y => ?_
  have ht : t.val < 1 := lt_of_lt_of_eq t.isLt N_0
  blk_simp
  rw [after0_2]
  obtain ⟨r, l, rfl⟩ : ∃ (r : Fin 32) (l : Fin 4096), y = (ix2 r l : S32x4096.Idx) := ⟨y 0, y 1, eq_ix2 y⟩
  have e : (win0_2.blk t).view.emb (ix2 r l : S32x4096.Idx) = (ix2 ⟨32 * t.val + r, by omega⟩ l : S32x4096.Idx) := by
    blk_ext [idx t]
  rw [e]
  refine (point _ _ r l).trans ?_
  exact rms_congr l (fun k => X0_at m c t r k (by omega)) (X1_at m c t l)

end kernel

open Cert.XsRIdeal Cert.XsRIdeal.Gen in
/-- One entry of the reference's array. -/
theorem ref_at (X : FVec Ideal S32x4096 .f32) (G : FVec Ideal S4096 .f32) (r : Fin 32) (l : Fin 4096) :
    truncf .bf16 (mulf (mulf X (broadcastInDim S32x4096 ![0, 1] bcast_S32x1_S32x4096_0_1 (Host.rsqrt (addf (Host.divf (broadcastInDim S32x1 ![0] bcast_S32_S32x1_0 (Host.reduceAdd (mulf X X) (constant S_ .f32 0x00000000#32) reducesTo_S32x4096_S32_d1 h_S_)) (broadcastInDim S32x1 ![] bcast_S_S32x1 (constant S_ .f32 0x45800000#32))) (broadcastInDim S32x1 ![] bcast_S_S32x1 (constant S_ .f32 0x358637BD#32)))))) (broadcastInDim S32x4096 ![0, 1] bcast_S1x4096_S32x4096_0_1 (broadcastInDim S1x4096 ![1] bcast_S4096_S1x4096_1 G))) bitsLt_bf16_f32
      (ix2 r l : S32x4096.Idx) = rms (fun k => X (ix2 r k)) (G (ix1 l)) l := by
  show (_ : EReal) = _
  pointwise [rms]

theorem frame_k : Cert.quiescent_XsK := fun m g _ => Cert.XsK.Gen.frame m g

theorem frame_ki : Cert.quiescent_XsKIdeal := fun m g _ => Cert.XsKIdeal.Gen.frame m g

theorem frame_ri : Cert.quiescent_XsRIdeal := fun m g _ =>
  (θ_run _ _ _).mono (fun r h => ⟨fun c => (h c).2, sem_eq_zero_of_no_sems (by decide) r.2⟩) (Cert.XsRIdeal.Value.run m g)

theorem preserves : Cert.preserves_XsK_XsKIdeal := trivial

/-- The kernel's run and the reference's end with the same array. -/
theorem algebraic : Cert.algebraic_XsKIdeal_XsRIdeal := fun m g m' g' hp ha =>
  ⟨fun c => KOUT (m ((c.tc : Thread Cert.XsKIdeal.nD Cert.XsKIdeal.τ).loc Cert.XsKIdeal.main_arg0)) (m ((c.tc : Thread Cert.XsKIdeal.nD Cert.XsKIdeal.τ).loc Cert.XsKIdeal.main_arg1)),
    (θ_run _ _ _).mono (fun r h c => ⟨(h c).1.trans (final m c), (h c).2.1, (h c).2.2⟩) (Cert.XsKIdeal.Value.run_blocks m g),
    (θ_run _ _ _).mono (fun r h c => ⟨(h c).1.trans (by
        rw [(ha c).1, (ha c).2]
        funext i
        exact (congrArg _ (eq_ix2 i)).trans (ref_at _ _ (i 0) (i 1))), (h c).2.1, (h c).2.2⟩) (Cert.XsRIdeal.Value.run m' g')⟩

end Cert.Proof.XsClaim
end
-- ==== Proof.SsKIdealFrame.lean ====
module

public import proofs.«01_k».proof.Proof.Gen.SsKIdeal.Frame.RunA
public import Idealize.ShloMosaic.Lib.Claim

@[expose] public section

set_option maxRecDepth 16384

noncomputable section

namespace Cert.Proof.SsKIdealFrame

open Cert.SsKIdeal Cert.SsKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
variable (m : (ℓ : Loc nD τ sig) → Buf (Elt F) ℓ) (ρ : Dev nD → PrngReg)

/-- What a point leaves in the staging buffer of window 9, from the blocks that it reads. -/
def left9 (c : Dev nD) (t : Fin cfg0.N) (x0 : Vec F S1x128 .f32) (x1 : Vec F S1x128 .f32) (x2 : Vec F S32x128 .f32) (x3 : Vec F S4x16x128 .f32) (x4 : Vec F S4x16x128 .f32) (x5 : Vec F S4x1x256 .f32) (x6 : Vec F S4x1x256 .f32) (x7 : Vec F S1x4x4x64x128 .f32) (x8 : Vec F S1x4x4x64x128 .f32) : Vec F S4x16x128 .f32 :=
  VO0_9.read (Elt F) (VO0_9.writes (Elt F) VO0_9.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) x0 x1 x2 x3 x4 x5 x6 x7 x8).1)

/-- The stores of a point fill the block of window 9. -/
theorem filled9 (c : Dev nD) (t : Fin cfg0.N) (x0 : Vec F S1x128 .f32) (x1 : Vec F S1x128 .f32) (x2 : Vec F S32x128 .f32) (x3 : Vec F S4x16x128 .f32) (x4 : Vec F S4x16x128 .f32) (x5 : Vec F S4x1x256 .f32) (x6 : Vec F S4x1x256 .f32) (x7 : Vec F S1x4x4x64x128 .f32) (x8 : Vec F S1x4x4x64x128 .f32) (y) :
    ∃ pc ∈ (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) x0 x1 x2 x3 x4 x5 x6 x7 x8).1, y ∈ pc.1.set :=
  View.cover_of_tiledL (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) x0 x1 x2 x3 x4 x5 x6 x7 x8).1 ![1, 16, 128] (by sl_kernel_rfl) y

/-- What a point leaves in the staging buffer of window 10, from the blocks that it reads. -/
def left10 (c : Dev nD) (t : Fin cfg0.N) (x0 : Vec F S1x128 .f32) (x1 : Vec F S1x128 .f32) (x2 : Vec F S32x128 .f32) (x3 : Vec F S4x16x128 .f32) (x4 : Vec F S4x16x128 .f32) (x5 : Vec F S4x1x256 .f32) (x6 : Vec F S4x1x256 .f32) (x7 : Vec F S1x4x4x64x128 .f32) (x8 : Vec F S1x4x4x64x128 .f32) : Vec F S4x4x64x128 .f32 :=
  VO0_10.read (Elt F) (VO0_10.writes (Elt F) VO0_10.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) x0 x1 x2 x3 x4 x5 x6 x7 x8).2.1)

/-- The stores of a point fill the block of window 10. -/
theorem filled10 (c : Dev nD) (t : Fin cfg0.N) (x0 : Vec F S1x128 .f32) (x1 : Vec F S1x128 .f32) (x2 : Vec F S32x128 .f32) (x3 : Vec F S4x16x128 .f32) (x4 : Vec F S4x16x128 .f32) (x5 : Vec F S4x1x256 .f32) (x6 : Vec F S4x1x256 .f32) (x7 : Vec F S1x4x4x64x128 .f32) (x8 : Vec F S1x4x4x64x128 .f32) (y) :
    ∃ pc ∈ (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) x0 x1 x2 x3 x4 x5 x6 x7 x8).2.1, y ∈ pc.1.set :=
  View.cover_of_tiledL (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) x0 x1 x2 x3 x4 x5 x6 x7 x8).2.1 ![1, 1, 64, 128] (by sl_kernel_rfl) y

/-- What a point leaves in the staging buffer of window 11, from the blocks that it reads. -/
def left11 (c : Dev nD) (t : Fin cfg0.N) (x0 : Vec F S1x128 .f32) (x1 : Vec F S1x128 .f32) (x2 : Vec F S32x128 .f32) (x3 : Vec F S4x16x128 .f32) (x4 : Vec F S4x16x128 .f32) (x5 : Vec F S4x1x256 .f32) (x6 : Vec F S4x1x256 .f32) (x7 : Vec F S1x4x4x64x128 .f32) (x8 : Vec F S1x4x4x64x128 .f32) : Vec F S4x4x64x128 .f32 :=
  VO0_11.read (Elt F) (VO0_11.writes (Elt F) VO0_11.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) x0 x1 x2 x3 x4 x5 x6 x7 x8).2.2.1)

/-- The stores of a point fill the block of window 11. -/
theorem filled11 (c : Dev nD) (t : Fin cfg0.N) (x0 : Vec F S1x128 .f32) (x1 : Vec F S1x128 .f32) (x2 : Vec F S32x128 .f32) (x3 : Vec F S4x16x128 .f32) (x4 : Vec F S4x16x128 .f32) (x5 : Vec F S4x1x256 .f32) (x6 : Vec F S4x1x256 .f32) (x7 : Vec F S1x4x4x64x128 .f32) (x8 : Vec F S1x4x4x64x128 .f32) (y) :
    ∃ pc ∈ (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) x0 x1 x2 x3 x4 x5 x6 x7 x8).2.2.1, y ∈ pc.1.set :=
  View.cover_of_tiledL (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) x0 x1 x2 x3 x4 x5 x6 x7 x8).2.2.1 ![1, 1, 64, 128] (by sl_kernel_rfl) y

/-- The proof data of the pipeline: inputs stay at their blocks, outputs end at what the point leaves. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => left9 c t (iblk m c 0 t) (iblk m c 1 t) (iblk m c 2 t) (iblk m c 3 t) (iblk m c 4 t) (iblk m c 5 t) (iblk m c 6 t) (iblk m c 7 t) (iblk m c 8 t)
    | ⟨10, _⟩ => left10 c t (iblk m c 0 t) (iblk m c 1 t) (iblk m c 2 t) (iblk m c 3 t) (iblk m c 4 t) (iblk m c 5 t) (iblk m c 6 t) (iblk m c 7 t) (iblk m c 8 t)
    | ⟨11, _⟩ => left11 c t (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

/-- The arrays are those that the region finds. -/
theorem data_A (c : Dev nD) (w : Fin cfg0.W) : (data m 0 c).A w = V m c (Pipeline.arrRef spec0 w) := by
  dsimp only [data]

theorem ends0 (c : Dev nD) (t : Fin cfg0.N) : (data m 0 c).after 0 t = iblk m c 0 t := by dsimp only [data]
theorem ends1 (c : Dev nD) (t : Fin cfg0.N) : (data m 0 c).after 1 t = iblk m c 1 t := by dsimp only [data]
theorem ends2 (c : Dev nD) (t : Fin cfg0.N) : (data m 0 c).after 2 t = iblk m c 2 t := by dsimp only [data]
theorem ends3 (c : Dev nD) (t : Fin cfg0.N) : (data m 0 c).after 3 t = iblk m c 3 t := by dsimp only [data]
theorem ends4 (c : Dev nD) (t : Fin cfg0.N) : (data m 0 c).after 4 t = iblk m c 4 t := by dsimp only [data]
theorem ends5 (c : Dev nD) (t : Fin cfg0.N) : (data m 0 c).after 5 t = iblk m c 5 t := by dsimp only [data]
theorem ends6 (c : Dev nD) (t : Fin cfg0.N) : (data m 0 c).after 6 t = iblk m c 6 t := by dsimp only [data]
theorem ends7 (c : Dev nD) (t : Fin cfg0.N) : (data m 0 c).after 7 t = iblk m c 7 t := by dsimp only [data]
theorem ends8 (c : Dev nD) (t : Fin cfg0.N) : (data m 0 c).after 8 t = iblk m c 8 t := by dsimp only [data]
theorem ends9 (c : Dev nD) (t : Fin cfg0.N) : (data m 0 c).after 9 t = left9 c t (iblk m c 0 t) (iblk m c 1 t) (iblk m c 2 t) (iblk m c 3 t) (iblk m c 4 t) (iblk m c 5 t) (iblk m c 6 t) (iblk m c 7 t) (iblk m c 8 t) := by dsimp only [data]
theorem ends10 (c : Dev nD) (t : Fin cfg0.N) : (data m 0 c).after 10 t = left10 c t (iblk m c 0 t) (iblk m c 1 t) (iblk m c 2 t) (iblk m c 3 t) (iblk m c 4 t) (iblk m c 5 t) (iblk m c 6 t) (iblk m c 7 t) (iblk m c 8 t) := by dsimp only [data]
theorem ends11 (c : Dev nD) (t : Fin cfg0.N) : (data m 0 c).after 11 t = left11 c t (iblk m c 0 t) (iblk m c 1 t) (iblk m c 2 t) (iblk m c 3 t) (iblk m c 4 t) (iblk m c 5 t) (iblk m c 6 t) (iblk m c 7 t) (iblk m c 8 t) := by dsimp only [data]
theorem starts0 (c : Dev nD) (t : Fin cfg0.N) (d) : (data m 0 c).before 0 t d = iblk m c 0 t := before0_0_of m (data m 0 c) (data_A m c 0) (ends0 m c) t d
theorem starts1 (c : Dev nD) (t : Fin cfg0.N) (d) : (data m 0 c).before 1 t d = iblk m c 1 t := before0_1_of m (data m 0 c) (data_A m c 1) (ends1 m c) t d
theorem starts2 (c : Dev nD) (t : Fin cfg0.N) (d) : (data m 0 c).before 2 t d = iblk m c 2 t := before0_2_of m (data m 0 c) (data_A m c 2) (ends2 m c) t d
theorem starts3 (c : Dev nD) (t : Fin cfg0.N) (d) : (data m 0 c).before 3 t d = iblk m c 3 t := before0_3_of m (data m 0 c) (data_A m c 3) (ends3 m c) t d
theorem starts4 (c : Dev nD) (t : Fin cfg0.N) (d) : (data m 0 c).before 4 t d = iblk m c 4 t := before0_4_of m (data m 0 c) (data_A m c 4) (ends4 m c) t d
theorem starts5 (c : Dev nD) (t : Fin cfg0.N) (d) : (data m 0 c).before 5 t d = iblk m c 5 t := before0_5_of m (data m 0 c) (data_A m c 5) (ends5 m c) t d
theorem starts6 (c : Dev nD) (t : Fin cfg0.N) (d) : (data m 0 c).before 6 t d = iblk m c 6 t := before0_6_of m (data m 0 c) (data_A m c 6) (ends6 m c) t d
theorem starts7 (c : Dev nD) (t : Fin cfg0.N) (d) : (data m 0 c).before 7 t d = iblk m c 7 t := before0_7_of m (data m 0 c) (data_A m c 7) (ends7 m c) t d
theorem starts8 (c : Dev nD) (t : Fin cfg0.N) (d) : (data m 0 c).before 8 t d = iblk m c 8 t := before0_8_of m (data m 0 c) (data_A m c 8) (ends8 m c) t d

set_option maxHeartbeats 800000 in
/-- The body at any point takes the staging buffers from their contents before to those after. -/
theorem body_at (c : Dev nD) (t : Fin cfg0.N) :
    iprop((data m 0 c).Φ t.castSucc ∗ (data m 0 c).owesAt () t.castSucc
      ∗ (∃ d, owns (c : Thread nD τ) (ms0_0 t) fullShare ((data m 0 c).before 0 t d))
      ∗ (∃ d, owns (c : Thread nD τ) (ms0_1 t) fullShare ((data m 0 c).before 1 t d))
      ∗ (∃ d, owns (c : Thread nD τ) (ms0_2 t) fullShare ((data m 0 c).before 2 t d))
      ∗ (∃ d, owns (c : Thread nD τ) (ms0_3 t) fullShare ((data m 0 c).before 3 t d))
      ∗ (∃ d, owns (c : Thread nD τ) (ms0_4 t) fullShare ((data m 0 c).before 4 t d))
      ∗ (∃ d, owns (c : Thread nD τ) (ms0_5 t) fullShare ((data m 0 c).before 5 t d))
      ∗ (∃ d, owns (c : Thread nD τ) (ms0_6 t) fullShare ((data m 0 c).before 6 t d))
      ∗ (∃ d, owns (c : Thread nD τ) (ms0_7 t) fullShare ((data m 0 c).before 7 t d))
      ∗ (∃ d, owns (c : Thread nD τ) (ms0_8 t) fullShare ((data m 0 c).before 8 t d))
      ∗ (∃ d, owns (c : Thread nD τ) (ms0_9 t) fullShare ((data m 0 c).before 9 t d))
      ∗ (∃ d, owns (c : Thread nD τ) (ms0_10 t) fullShare ((data m 0 c).before 10 t d))
      ∗ (∃ d, owns (c : Thread nD τ) (ms0_11 t) fullShare ((data m 0 c).before 11 t d)))
      ⊢ wp frame (wpE (defs₀ (F := F)) Variants.none c none) Set.univ (bodyAt0 t) (fun _ =>
        iprop((data m 0 c).Φ t.succ ∗ (data m 0 c).owesAt () t.succ
        ∗ owns (c : Thread nD τ) (ms0_0 t) fullShare ((data m 0 c).after 0 t)
        ∗ owns (c : Thread nD τ) (ms0_1 t) fullShare ((data m 0 c).after 1 t)
        ∗ owns (c : Thread nD τ) (ms0_2 t) fullShare ((data m 0 c).after 2 t)
        ∗ owns (c : Thread nD τ) (ms0_3 t) fullShare ((data m 0 c).after 3 t)
        ∗ owns (c : Thread nD τ) (ms0_4 t) fullShare ((data m 0 c).after 4 t)
        ∗ owns (c : Thread nD τ) (ms0_5 t) fullShare ((data m 0 c).after 5 t)
        ∗ owns (c : Thread nD τ) (ms0_6 t) fullShare ((data m 0 c).after 6 t)
        ∗ owns (c : Thread nD τ) (ms0_7 t) fullShare ((data m 0 c).after 7 t)
        ∗ owns (c : Thread nD τ) (ms0_8 t) fullShare ((data m 0 c).after 8 t)
        ∗ owns (c : Thread nD τ) (ms0_9 t) fullShare ((data m 0 c).after 9 t)
        ∗ owns (c : Thread nD τ) (ms0_10 t) fullShare ((data m 0 c).after 10 t)
        ∗ owns (c : Thread nD τ) (ms0_11 t) fullShare ((data m 0 c).after 11 t))) := by
  unfold bodyAt0
  simp only [starts0, starts1, starts2, starts3, starts4, starts5, starts6, starts7, starts8]
  rw [show (data m 0 c).Φ t.succ = (data m 0 c).Φ t.castSucc from rfl,
    show (data m 0 c).owesAt () t.succ = (data m 0 c).owesAt () t.castSucc from rfl,
    ends0, ends1, ends2, ends3, ends4, ends5, ends6, ends7, ends8, ends9, ends10, ends11]
  unfold left9 left10 left11
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, ⟨%e9, H9⟩, ⟨%e10, H10⟩, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (filled9 c t _ _ _ _ _ _ _ _ _)
  isplitl [H10]
  · unfold owns; iexists _; isplitr
    swap; · iexact H10
    ipureintro; exact View.read_writes_of_cover _ _ _ _ _ (filled10 c t _ _ _ _ _ _ _ _ _)
  unfold owns; iexists _; isplitr
  swap; · iexact H11
  ipureintro; exact View.read_writes_of_cover _ _ _ _ _ (filled11 c t _ _ _ _ _ _ _ _ _)

/-- The obligation of the pipeline about its body, at every point. -/
theorem obligation (c : Dev nD) : BodyObligation (data (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (body_at m c t) rfl .rfl fun _ => .rfl

set_option backward.isDefEq.respectTransparency.types false in
/-- The whole run, with the arrays of the pipeline and the counters at its end. -/
theorem whole : θ_run defs (onTc (τ := τ) (main (F := F))) (s₀ m ρ) (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_A m) (hΦ := fun _ _ => rfl)

/-- The run ends, with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (data m) (data_A m) ((θ_run defs _ _).mono (fun _ h => h.1) (whole m ρ)))
    ((θ_run defs _ _).mono (fun _ h => h.2) (whole m ρ))

end Cert.Proof.SsKIdealFrame

end
-- ==== Proof.Cells.lean ====
module

public import Idealize.ShloMosaic.Lib.Pipeline.ValueKit
public import Idealize.ShloMosaic.Lib.Pointwise
public import Idealize.ShloMosaic.Lib.WholeRead

@[expose] public section

set_option maxRecDepth 16384
noncomputable section

namespace Cert.Proof.Cells

open Idealize.ShloMosaic Idealize.ShloMosaic.TcCoe Idealize.SL.Sem

/-- A load from one entry of the leading axis of a whole buffer reads the buffer's own entry. -/
theorem read1 {sig : RefSig} {κ : Kind} {sp : Space} {n : ℕ} {D : Fin (n + 1) → ℕ} {e : EltTy} {M : Memref sig κ sp ⟨n + 1, D⟩ e}
    (h : M.IsWhole) (X : (⟨n + 1, D⟩ : Shape).Idx → Elt Ideal e) (r : Rect ⟨n + 1, D⟩) {d : Fin n → ℕ} (lr : LoadRect ⟨n, d⟩)
    (h0 : r.size 0 = 1) (hs : ∀ i, r.size i.succ = d i) (hst : ∀ a, r.stride a = 1)
    (hR : lr.shape.numel = (r.withinL (lr.consLift r.size h0 hs) hst).shape.numel) (x : lr.shape.Idx) (j : (⟨n + 1, D⟩ : Shape).Idx)
    (hj0 : (j 0).val = r.off 0) (hj : ∀ i : Fin n, (j i.succ).val = r.off i.succ + lr.off i + lr.stride i * (x i).val) :
    LoadRect.valAlong hR (M.view.readAt (Elt Ideal) (r.withinL (lr.consLift r.size h0 hs) hst) (h.unread X)) x = X j := by
  refine (Memref.IsWhole.readAt_unread h X _ _).trans (congrArg X (funext fun a => Fin.ext ?_))
  have hx : Shape.reshapeEquiv hR x = Fin.cons ⟨0, Nat.one_pos⟩ x := Shape.reshapeEquiv_cons_one (d := lr.size) _ _
  rw [hx, LoadRect.idx_apply]
  refine Fin.cases ?_ (fun i => ?_) a
  · rw [hj0]; rfl
  · rw [hj i]; rfl

/-- A load from one entry of the two leading axes of a whole buffer reads the buffer's own entry. -/
theorem read2 {sig : RefSig} {κ : Kind} {sp : Space} {n : ℕ} {D : Fin (n + 2) → ℕ} {e : EltTy} {M : Memref sig κ sp ⟨n + 2, D⟩ e}
    (h : M.IsWhole) (X : (⟨n + 2, D⟩ : Shape).Idx → Elt Ideal e) (r : Rect ⟨n + 2, D⟩) {d : Fin n → ℕ} (lr : LoadRect ⟨n, d⟩)
    (d1 : Fin (n + 1) → ℕ) (h0 : d1 0 = 1) (hs : ∀ i, d1 i.succ = d i)
    (h1 : r.size 0 = 1) (hs1 : ∀ i, r.size i.succ = d1 i) (hst : ∀ a, r.stride a = 1)
    (hR : lr.shape.numel = (r.withinL ((lr.consLift d1 h0 hs).consLift r.size h1 hs1) hst).shape.numel) (x : lr.shape.Idx) (j : (⟨n + 2, D⟩ : Shape).Idx)
    (hj0 : (j 0).val = r.off 0) (hj1 : (j 1).val = r.off 1) (hj : ∀ i : Fin n, (j i.succ.succ).val = r.off i.succ.succ + lr.off i + lr.stride i * (x i).val) :
    LoadRect.valAlong hR (M.view.readAt (Elt Ideal) (r.withinL ((lr.consLift d1 h0 hs).consLift r.size h1 hs1) hst) (h.unread X)) x = X j := by
  refine (Memref.IsWhole.readAt_unread h X _ _).trans (congrArg X (funext fun a => Fin.ext ?_))
  have e1 : Shape.reshapeEquiv (lr.numel_consLift d1 h0 hs) x = Fin.cons ⟨0, Nat.one_pos⟩ x := Shape.reshapeEquiv_cons_one (d := lr.size) _ _
  have e2 := Shape.reshapeEquiv_reshapeEquiv ((lr.consLift d1 h0 hs).numel_consLift r.size h1 hs1) (lr.numel_consLift d1 h0 hs) x
  rw [e1] at e2
  have hx : Shape.reshapeEquiv hR x = Fin.cons ⟨0, Nat.one_pos⟩ (Fin.cons ⟨0, Nat.one_pos⟩ x) :=
    e2.symm.trans (Shape.reshapeEquiv_cons_one (d := (lr.consLift d1 h0 hs).size) _ _)
  rw [hx, LoadRect.idx_apply]
  refine Fin.cases ?_ (fun i => Fin.cases ?_ (fun i => ?_) i) a
  · rw [hj0]; rfl
  · exact Eq.trans rfl hj1.symm
  · rw [hj i]; rfl

/-- A choice on the equality of two words is a choice on the equality of the numbers they hold. -/
theorem pick {α : Type} {a b : ℕ} (ha : a < 4294967296) (hb : b < 4294967296) (u v : α) :
    Scalar.select (IntOp.cmpi CmpIPredicate.eq (BitVec.ofNat 32 a) (BitVec.ofNat 32 b)) u v = if a = b then u else v := by
  by_cases e : a = b
  · rw [if_pos e, e]
    exact if_pos (by simp [IntOp.cmpi])
  · rw [if_neg e]
    refine if_neg fun h => e ?_
    have h' : (BitVec.ofNat 32 a) = BitVec.ofNat 32 b := by
      by_contra n
      have z : (BitVec.ofNat 32 a == BitVec.ofNat 32 b) = false := beq_eq_false_iff_ne.mpr n
      simp only [IntOp.cmpi, z] at h
      exact absurd h (by decide)
    have := congrArg BitVec.toNat h'
    simpa [BitVec.toNat_ofNat, Nat.mod_eq_of_lt ha, Nat.mod_eq_of_lt hb] using this

/-- A sum that keeps one of its terms is that term. -/
theorem diag {n : ℕ} (hn : n ≤ 4294967296) (d : Fin n) (f : Fin n → EReal) :
    (∑ x : Fin n, Scalar.select (IntOp.cmpi CmpIPredicate.eq (BitVec.ofNat 32 (d : ℕ)) (BitVec.ofNat 32 (x : ℕ))) (f x) 0) = f d := by
  have e : ∀ x : Fin n, Scalar.select (IntOp.cmpi CmpIPredicate.eq (BitVec.ofNat 32 (d : ℕ)) (BitVec.ofNat 32 (x : ℕ))) (f x) 0 = if d = x then f x else 0 := fun x =>
    (pick (by omega) (by omega) _ _).trans (if_congr Fin.ext_iff.symm rfl rfl)
  rw [Finset.sum_congr rfl fun x _ => e x]
  simp

/-- A choice on the sixth bit of a lane's number. -/
theorem half {α : Type} {a : ℕ} (ha : a < 128) (u v : α) :
    Scalar.select (IntOp.cmpi CmpIPredicate.eq (IntOp.andi (BitVec.ofNat 32 a) 32#32) 0#32) u v = if a / 32 % 2 = 0 then u else v := by
  have e : ∀ a : Fin 128, (IntOp.cmpi CmpIPredicate.eq (IntOp.andi (BitVec.ofNat 32 (a : ℕ)) 32#32) 0#32 = 1#1) ↔ ((a : ℕ) / 32 % 2 = 0) := by
    decide
  exact if_congr (e ⟨a, ha⟩) rfl rfl

end Cert.Proof.Cells
end
-- ==== Proof.SsValue.lean ====
module

public import proofs.«01_k».proof.Proof.SsKIdealFrame
public import proofs.«01_k».proof.Proof.Cells
public import Idealize.ShloMosaic.Lib.Pipeline.ValueKit
public import Idealize.ShloMosaic.Lib.Pointwise

@[expose] public section

set_option maxRecDepth 16384
noncomputable section

namespace Cert.Proof.Ss

open Idealize.ShloMosaic Idealize.ShloMosaic.TcCoe Idealize.SL.Sem
open Idealize.ShloMosaic.Pipeline (Dat)
open Cert.SsKIdeal Cert.SsKIdeal.Gen Cert.Proof.SsKIdealFrame

variable (m : (ℓ : Loc nD τ sig) → Buf (Elt Ideal) ℓ)

/-- A head's cache with its columns moved down by one and a new last column. -/
def put (w : Fin 128) (old : Fin 128 → EReal) (new : EReal) : EReal :=
  if (w : ℕ) = 127 then new else old ⟨((w : ℕ) + 1) % 128, Nat.mod_lt _ (by omega)⟩

/-- Two heads' row turned by the tables of cosines and of signed sines. -/
def turn (x : Fin 128 → EReal) (A B : FVec Ideal S1x128 .f32) (l : Fin 128) : EReal :=
  x l * A (ix2 0 l) + (if (l : ℕ) / 32 % 2 = 0 then x ⟨((l : ℕ) + 32) % 128, Nat.mod_lt _ (by omega)⟩ else x ⟨((l : ℕ) + 96) % 128, Nat.mod_lt _ (by omega)⟩) * B (ix2 0 l)

set_option maxHeartbeats 2000000 in
/-- What a point of the grid leaves in its block of the first cache, entry by entry. -/
theorem point10 (c : Dev nD) (t : Fin cfg0.N) (s : Fin 4) (h : Fin 4) (d : Fin 64) (w : Fin 128)
    (A B : FVec Ideal S1x128 .f32) (SK : FVec Ideal S32x128 .f32) (Q G : FVec Ideal S4x16x128 .f32) (K V : FVec Ideal S4x1x256 .f32) (KB VB : FVec Ideal S1x4x4x64x128 .f32) :
    left10 (F := Ideal) c t A B SK Q G K V KB VB (ix4 s h d w : S4x4x64x128.Idx) =
      put w (fun j => KB (ix5 0 s h d j)) (turn (fun l => K (ix3 s 0 ⟨128 * ((h : ℕ) / 2) + l, by omega⟩)) A B ⟨64 * ((h : ℕ) % 2) + d, by omega⟩) := by
  show (_ : EReal) = _
  unfold left10
  frame_out
  canon_tiles x hx
  all_goals open_payloads
  all_goals idx_vars x
  case piece0 =>
    pointwise []
    have e0 : 3 + 0 + 1 * (x0 : ℕ) = s := congrArg (fun j : S4x4x64x128.Idx => (j 0 : ℕ)) hx
    have e1 : 0 + 3 + 1 * (x1 : ℕ) = h := congrArg (fun j : S4x4x64x128.Idx => (j 1 : ℕ)) hx
    have e2 : 0 + 0 + 1 * (x2 : ℕ) = d := congrArg (fun j : S4x4x64x128.Idx => (j 2 : ℕ)) hx
    have e3 : 0 + 0 + 1 * (x3 : ℕ) = w := congrArg (fun j : S4x4x64x128.Idx => (j 3 : ℕ)) hx
    have e4 : 64 * ((h : ℕ) % 2) + (d : ℕ) = 64 + (x2 : ℕ) := by omega
    rw [Cells.diag (by omega), Cells.pick (by omega) (by omega), Cells.half (by omega)]
    unfold put turn
    refine if_congr (by rw [← e3]; omega) ?_ ?_
    · refine congrArg₂ (· + ·) (congrArg₂ (· * ·) ?_ ?_) (congrArg₂ (· * ·) (if_congr (by simp only [e4]) ?_ ?_) ?_)
      · exact Cells.read1 _ _ _ _ _ _ _ _ _ _ (show (s : ℕ) = 3 by omega) (Fin.forall_fin_two.mpr ⟨rfl, (show 128 * ((h : ℕ) / 2) + (64 * ((h : ℕ) % 2) + (d : ℕ)) = 0 + 128 + 1 * (64 + (x2 : ℕ)) by omega)⟩)
      · exact congrArg A (congrArg (ix2 0) (Fin.ext e4.symm))
      · exact Cells.read1 _ _ _ _ _ _ _ _ _ _ (show (s : ℕ) = 3 by omega) (Fin.forall_fin_two.mpr ⟨rfl, (show 128 * ((h : ℕ) / 2) + ((64 * ((h : ℕ) % 2) + (d : ℕ) + 32) % 128) = 0 + 128 + 1 * (((64 + (x2 : ℕ) + 128 - 96) % 128)) by omega)⟩)
      · exact Cells.read1 _ _ _ _ _ _ _ _ _ _ (show (s : ℕ) = 3 by omega) (Fin.forall_fin_two.mpr ⟨rfl, (show 128 * ((h : ℕ) / 2) + ((64 * ((h : ℕ) % 2) + (d : ℕ) + 96) % 128) = 0 + 128 + 1 * (((64 + (x2 : ℕ) + 128 - 32) % 128)) by omega)⟩)
      · exact congrArg B (congrArg (ix2 0) (Fin.ext e4.symm))
    · exact Cells.read2 _ _ _ _ _ _ _ _ _ _ _ _ _ rfl (show (s : ℕ) = 3 by omega)
        fun | 0 => (show (h : ℕ) = 0 + 3 + 1 * 0 by omega) | 1 => (show (d : ℕ) = 0 + 0 + 1 * (x2 : ℕ) by omega) | 2 => (show ((w : ℕ) + 1) % 128 = 0 + 0 + 1 * (((x3 : ℕ) + 128 - 127) % 128) by omega)
  case piece1 =>
    pointwise []
    have e0 : 3 + 0 + 1 * (x0 : ℕ) = s := congrArg (fun j : S4x4x64x128.Idx => (j 0 : ℕ)) hx
    have e1 : 0 + 2 + 1 * (x1 : ℕ) = h := congrArg (fun j : S4x4x64x128.Idx => (j 1 : ℕ)) hx
    have e2 : 0 + 0 + 1 * (x2 : ℕ) = d := congrArg (fun j : S4x4x64x128.Idx => (j 2 : ℕ)) hx
    have e3 : 0 + 0 + 1 * (x3 : ℕ) = w := congrArg (fun j : S4x4x64x128.Idx => (j 3 : ℕ)) hx
    have e4 : 64 * ((h : ℕ) % 2) + (d : ℕ) = (x2 : ℕ) := by omega
    rw [Cells.diag (by omega), Cells.pick (by omega) (by omega), Cells.half (by omega)]
    unfold put turn
    refine if_congr (by rw [← e3]; omega) ?_ ?_
    · refine congrArg₂ (· + ·) (congrArg₂ (· * ·) ?_ ?_) (congrArg₂ (· * ·) (if_congr (by simp only [e4]) ?_ ?_) ?_)
      · exact Cells.read1 _ _ _ _ _ _ _ _ _ _ (show (s : ℕ) = 3 by omega) (Fin.forall_fin_two.mpr ⟨rfl, (show 128 * ((h : ℕ) / 2) + (64 * ((h : ℕ) % 2) + (d : ℕ)) = 0 + 128 + 1 * ((x2 : ℕ)) by omega)⟩)
      · exact congrArg A (congrArg (ix2 0) (Fin.ext e4.symm))
      · exact Cells.read1 _ _ _ _ _ _ _ _ _ _ (show (s : ℕ) = 3 by omega) (Fin.forall_fin_two.mpr ⟨rfl, (show 128 * ((h : ℕ) / 2) + ((64 * ((h : ℕ) % 2) + (d : ℕ) + 32) % 128) = 0 + 128 + 1 * ((((x2 : ℕ) + 128 - 96) % 128)) by omega)⟩)
      · exact Cells.read1 _ _ _ _ _ _ _ _ _ _ (show (s : ℕ) = 3 by omega) (Fin.forall_fin_two.mpr ⟨rfl, (show 128 * ((h : ℕ) / 2) + ((64 * ((h : ℕ) % 2) + (d : ℕ) + 96) % 128) = 0 + 128 + 1 * ((((x2 : ℕ) + 128 - 32) % 128)) by omega)⟩)
      · exact congrArg B (congrArg (ix2 0) (Fin.ext e4.symm))
    · exact Cells.read2 _ _ _ _ _ _ _ _ _ _ _ _ _ rfl (show (s : ℕ) = 3 by omega)
        fun | 0 => (show (h : ℕ) = 0 + 2 + 1 * 0 by omega) | 1 => (show (d : ℕ) = 0 + 0 + 1 * (x2 : ℕ) by omega) | 2 => (show ((w : ℕ) + 1) % 128 = 0 + 0 + 1 * (((x3 : ℕ) + 128 - 127) % 128) by omega)
  case piece2 =>
    pointwise []
    have e0 : 3 + 0 + 1 * (x0 : ℕ) = s := congrArg (fun j : S4x4x64x128.Idx => (j 0 : ℕ)) hx
    have e1 : 0 + 1 + 1 * (x1 : ℕ) = h := congrArg (fun j : S4x4x64x128.Idx => (j 1 : ℕ)) hx
    have e2 : 0 + 0 + 1 * (x2 : ℕ) = d := congrArg (fun j : S4x4x64x128.Idx => (j 2 : ℕ)) hx
    have e3 : 0 + 0 + 1 * (x3 : ℕ) = w := congrArg (fun j : S4x4x64x128.Idx => (j 3 : ℕ)) hx
    have e4 : 64 * ((h : ℕ) % 2) + (d : ℕ) = 64 + (x2 : ℕ) := by omega
    rw [Cells.diag (by omega), Cells.pick (by omega) (by omega), Cells.half (by omega)]
    unfold put turn
    refine if_congr (by rw [← e3]; omega) ?_ ?_
    · refine congrArg₂ (· + ·) (congrArg₂ (· * ·) ?_ ?_) (congrArg₂ (· * ·) (if_congr (by simp only [e4]) ?_ ?_) ?_)
      · exact Cells.read1 _ _ _ _ _ _ _ _ _ _ (show (s : ℕ) = 3 by omega) (Fin.forall_fin_two.mpr ⟨rfl, (show 128 * ((h : ℕ) / 2) + (64 * ((h : ℕ) % 2) + (d : ℕ)) = 0 + 0 + 1 * (64 + (x2 : ℕ)) by omega)⟩)
      · exact congrArg A (congrArg (ix2 0) (Fin.ext e4.symm))
      · exact Cells.read1 _ _ _ _ _ _ _ _ _ _ (show (s : ℕ) = 3 by omega) (Fin.forall_fin_two.mpr ⟨rfl, (show 128 * ((h : ℕ) / 2) + ((64 * ((h : ℕ) % 2) + (d : ℕ) + 32) % 128) = 0 + 0 + 1 * (((64 + (x2 : ℕ) + 128 - 96) % 128)) by omega)⟩)
      · exact Cells.read1 _ _ _ _ _ _ _ _ _ _ (show (s : ℕ) = 3 by omega) (Fin.forall_fin_two.mpr ⟨rfl, (show 128 * ((h : ℕ) / 2) + ((64 * ((h : ℕ) % 2) + (d : ℕ) + 96) % 128) = 0 + 0 + 1 * (((64 + (x2 : ℕ) + 128 - 32) % 128)) by omega)⟩)
      · exact congrArg B (congrArg (ix2 0) (Fin.ext e4.symm))
    · exact Cells.read2 _ _ _ _ _ _ _ _ _ _ _ _ _ rfl (show (s : ℕ) = 3 by omega)
        fun | 0 => (show (h : ℕ) = 0 + 1 + 1 * 0 by omega) | 1 => (show (d : ℕ) = 0 + 0 + 1 * (x2 : ℕ) by omega) | 2 => (show ((w : ℕ) + 1) % 128 = 0 + 0 + 1 * (((x3 : ℕ) + 128 - 127) % 128) by omega)
  case piece3 =>
    pointwise []
    have e0 : 3 + 0 + 1 * (x0 : ℕ) = s := congrArg (fun j : S4x4x64x128.Idx => (j 0 : ℕ)) hx
    have e1 : 0 + 0 + 1 * (x1 : ℕ) = h := congrArg (fun j : S4x4x64x128.Idx => (j 1 : ℕ)) hx
    have e2 : 0 + 0 + 1 * (x2 : ℕ) = d := congrArg (fun j : S4x4x64x128.Idx => (j 2 : ℕ)) hx
    have e3 : 0 + 0 + 1 * (x3 : ℕ) = w := congrArg (fun j : S4x4x64x128.Idx => (j 3 : ℕ)) hx
    have e4 : 64 * ((h : ℕ) % 2) + (d : ℕ) = (x2 : ℕ) := by omega
    rw [Cells.diag (by omega), Cells.pick (by omega) (by omega), Cells.half (by omega)]
    unfold put turn
    refine if_congr (by rw [← e3]; omega) ?_ ?_
    · refine congrArg₂ (· + ·) (congrArg₂ (· * ·) ?_ ?_) (congrArg₂ (· * ·) (if_congr (by simp only [e4]) ?_ ?_) ?_)
      · exact Cells.read1 _ _ _ _ _ _ _ _ _ _ (show (s : ℕ) = 3 by omega) (Fin.forall_fin_two.mpr ⟨rfl, (show 128 * ((h : ℕ) / 2) + (64 * ((h : ℕ) % 2) + (d : ℕ)) = 0 + 0 + 1 * ((x2 : ℕ)) by omega)⟩)
      · exact congrArg A (congrArg (ix2 0) (Fin.ext e4.symm))
      · exact Cells.read1 _ _ _ _ _ _ _ _ _ _ (show (s : ℕ) = 3 by omega) (Fin.forall_fin_two.mpr ⟨rfl, (show 128 * ((h : ℕ) / 2) + ((64 * ((h : ℕ) % 2) + (d : ℕ) + 32) % 128) = 0 + 0 + 1 * ((((x2 : ℕ) + 128 - 96) % 128)) by omega)⟩)
      · exact Cells.read1 _ _ _ _ _ _ _ _ _ _ (show (s : ℕ) = 3 by omega) (Fin.forall_fin_two.mpr ⟨rfl, (show 128 * ((h : ℕ) / 2) + ((64 * ((h : ℕ) % 2) + (d : ℕ) + 96) % 128) = 0 + 0 + 1 * ((((x2 : ℕ) + 128 - 32) % 128)) by omega)⟩)
      · exact congrArg B (congrArg (ix2 0) (Fin.ext e4.symm))
    · exact Cells.read2 _ _ _ _ _ _ _ _ _ _ _ _ _ rfl (show (s : ℕ) = 3 by omega)
        fun | 0 => (show (h : ℕ) = 0 + 0 + 1 * 0 by omega) | 1 => (show (d : ℕ) = 0 + 0 + 1 * (x2 : ℕ) by omega) | 2 => (show ((w : ℕ) + 1) % 128 = 0 + 0 + 1 * (((x3 : ℕ) + 128 - 127) % 128) by omega)
  case piece4 =>
    pointwise []
    have e0 : 2 + 0 + 1 * (x0 : ℕ) = s := congrArg (fun j : S4x4x64x128.Idx => (j 0 : ℕ)) hx
    have e1 : 0 + 3 + 1 * (x1 : ℕ) = h := congrArg (fun j : S4x4x64x128.Idx => (j 1 : ℕ)) hx
    have e2 : 0 + 0 + 1 * (x2 : ℕ) = d := congrArg (fun j : S4x4x64x128.Idx => (j 2 : ℕ)) hx
    have e3 : 0 + 0 + 1 * (x3 : ℕ) = w := congrArg (fun j : S4x4x64x128.Idx => (j 3 : ℕ)) hx
    have e4 : 64 * ((h : ℕ) % 2) + (d : ℕ) = 64 + (x2 : ℕ) := by omega
    rw [Cells.diag (by omega), Cells.pick (by omega) (by omega), Cells.half (by omega)]
    unfold put turn
    refine if_congr (by rw [← e3]; omega) ?_ ?_
    · refine congrArg₂ (· + ·) (congrArg₂ (· * ·) ?_ ?_) (congrArg₂ (· * ·) (if_congr (by simp only [e4]) ?_ ?_) ?_)
      · exact Cells.read1 _ _ _ _ _ _ _ _ _ _ (show (s : ℕ) = 2 by omega) (Fin.forall_fin_two.mpr ⟨rfl, (show 128 * ((h : ℕ) / 2) + (64 * ((h : ℕ) % 2) + (d : ℕ)) = 0 + 128 + 1 * (64 + (x2 : ℕ)) by omega)⟩)
      · exact congrArg A (congrArg (ix2 0) (Fin.ext e4.symm))
      · exact Cells.read1 _ _ _ _ _ _ _ _ _ _ (show (s : ℕ) = 2 by omega) (Fin.forall_fin_two.mpr ⟨rfl, (show 128 * ((h : ℕ) / 2) + ((64 * ((h : ℕ) % 2) + (d : ℕ) + 32) % 128) = 0 + 128 + 1 * (((64 + (x2 : ℕ) + 128 - 96) % 128)) by omega)⟩)
      · exact Cells.read1 _ _ _ _ _ _ _ _ _ _ (show (s : ℕ) = 2 by omega) (Fin.forall_fin_two.mpr ⟨rfl, (show 128 * ((h : ℕ) / 2) + ((64 * ((h : ℕ) % 2) + (d : ℕ) + 96) % 128) = 0 + 128 + 1 * (((64 + (x2 : ℕ) + 128 - 32) % 128)) by omega)⟩)
      · exact congrArg B (congrArg (ix2 0) (Fin.ext e4.symm))
    · exact Cells.read2 _ _ _ _ _ _ _ _ _ _ _ _ _ rfl (show (s : ℕ) = 2 by omega)
        fun | 0 => (show (h : ℕ) = 0 + 3 + 1 * 0 by omega) | 1 => (show (d : ℕ) = 0 + 0 + 1 * (x2 : ℕ) by omega) | 2 => (show ((w : ℕ) + 1) % 128 = 0 + 0 + 1 * (((x3 : ℕ) + 128 - 127) % 128) by omega)
  case piece5 =>
    pointwise []
    have e0 : 2 + 0 + 1 * (x0 : ℕ) = s := congrArg (fun j : S4x4x64x128.Idx => (j 0 : ℕ)) hx
    have e1 : 0 + 2 + 1 * (x1 : ℕ) = h := congrArg (fun j : S4x4x64x128.Idx => (j 1 : ℕ)) hx
    have e2 : 0 + 0 + 1 * (x2 : ℕ) = d := congrArg (fun j : S4x4x64x128.Idx => (j 2 : ℕ)) hx
    have e3 : 0 + 0 + 1 * (x3 : ℕ) = w := congrArg (fun j : S4x4x64x128.Idx => (j 3 : ℕ)) hx
    have e4 : 64 * ((h : ℕ) % 2) + (d : ℕ) = (x2 : ℕ) := by omega
    rw [Cells.diag (by omega), Cells.pick (by omega) (by omega), Cells.half (by omega)]
    unfold put turn
    refine if_congr (by rw [← e3]; omega) ?_ ?_
    · refine congrArg₂ (· + ·) (congrArg₂ (· * ·) ?_ ?_) (congrArg₂ (· * ·) (if_congr (by simp only [e4]) ?_ ?_) ?_)
      · exact Cells.read1 _ _ _ _ _ _ _ _ _ _ (show (s : ℕ) = 2 by omega) (Fin.forall_fin_two.mpr ⟨rfl, (show 128 * ((h : ℕ) / 2) + (64 * ((h : ℕ) % 2) + (d : ℕ)) = 0 + 128 + 1 * ((x2 : ℕ)) by omega)⟩)
      · exact congrArg A (congrArg (ix2 0) (Fin.ext e4.symm))
      · exact Cells.read1 _ _ _ _ _ _ _ _ _ _ (show (s : ℕ) = 2 by omega) (Fin.forall_fin_two.mpr ⟨rfl, (show 128 * ((h : ℕ) / 2) + ((64 * ((h : ℕ) % 2) + (d : ℕ) + 32) % 128) = 0 + 128 + 1 * ((((x2 : ℕ) + 128 - 96) % 128)) by omega)⟩)
      · exact Cells.read1 _ _ _ _ _ _ _ _ _ _ (show (s : ℕ) = 2 by omega) (Fin.forall_fin_two.mpr ⟨rfl, (show 128 * ((h : ℕ) / 2) + ((64 * ((h : ℕ) % 2) + (d : ℕ) + 96) % 128) = 0 + 128 + 1 * ((((x2 : ℕ) + 128 - 32) % 128)) by omega)⟩)
      · exact congrArg B (congrArg (ix2 0) (Fin.ext e4.symm))
    · exact Cells.read2 _ _ _ _ _ _ _ _ _ _ _ _ _ rfl (show (s : ℕ) = 2 by omega)
        fun | 0 => (show (h : ℕ) = 0 + 2 + 1 * 0 by omega) | 1 => (show (d : ℕ) = 0 + 0 + 1 * (x2 : ℕ) by omega) | 2 => (show ((w : ℕ) + 1) % 128 = 0 + 0 + 1 * (((x3 : ℕ) + 128 - 127) % 128) by omega)
  case piece6 =>
    pointwise []
    have e0 : 2 + 0 + 1 * (x0 : ℕ) = s := congrArg (fun j : S4x4x64x128.Idx => (j 0 : ℕ)) hx
    have e1 : 0 + 1 + 1 * (x1 : ℕ) = h := congrArg (fun j : S4x4x64x128.Idx => (j 1 : ℕ)) hx
    have e2 : 0 + 0 + 1 * (x2 : ℕ) = d := congrArg (fun j : S4x4x64x128.Idx => (j 2 : ℕ)) hx
    have e3 : 0 + 0 + 1 * (x3 : ℕ) = w := congrArg (fun j : S4x4x64x128.Idx => (j 3 : ℕ)) hx
    have e4 : 64 * ((h : ℕ) % 2) + (d : ℕ) = 64 + (x2 : ℕ) := by omega
    rw [Cells.diag (by omega), Cells.pick (by omega) (by omega), Cells.half (by omega)]
    unfold put turn
    refine if_congr (by rw [← e3]; omega) ?_ ?_
    · refine congrArg₂ (· + ·) (congrArg₂ (· * ·) ?_ ?_) (congrArg₂ (· * ·) (if_congr (by simp only [e4]) ?_ ?_) ?_)
      · exact Cells.read1 _ _ _ _ _ _ _ _ _ _ (show (s : ℕ) = 2 by omega) (Fin.forall_fin_two.mpr ⟨rfl, (show 128 * ((h : ℕ) / 2) + (64 * ((h : ℕ) % 2) + (d : ℕ)) = 0 + 0 + 1 * (64 + (x2 : ℕ)) by omega)⟩)
      · exact congrArg A (congrArg (ix2 0) (Fin.ext e4.symm))
      · exact Cells.read1 _ _ _ _ _ _ _ _ _ _ (show (s : ℕ) = 2 by omega) (Fin.forall_fin_two.mpr ⟨rfl, (show 128 * ((h : ℕ) / 2) + ((64 * ((h : ℕ) % 2) + (d : ℕ) + 32) % 128) = 0 + 0 + 1 * (((64 + (x2 : ℕ) + 128 - 96) % 128)) by omega)⟩)
      · exact Cells.read1 _ _ _ _ _ _ _ _ _ _ (show (s : ℕ) = 2 by omega) (Fin.forall_fin_two.mpr ⟨rfl, (show 128 * ((h : ℕ) / 2) + ((64 * ((h : ℕ) % 2) + (d : ℕ) + 96) % 128) = 0 + 0 + 1 * (((64 + (x2 : ℕ) + 128 - 32) % 128)) by omega)⟩)
      · exact congrArg B (congrArg (ix2 0) (Fin.ext e4.symm))
    · exact Cells.read2 _ _ _ _ _ _ _ _ _ _ _ _ _ rfl (show (s : ℕ) = 2 by omega)
        fun | 0 => (show (h : ℕ) = 0 + 1 + 1 * 0 by omega) | 1 => (show (d : ℕ) = 0 + 0 + 1 * (x2 : ℕ) by omega) | 2 => (show ((w : ℕ) + 1) % 128 = 0 + 0 + 1 * (((x3 : ℕ) + 128 - 127) % 128) by omega)
  case piece7 =>
    pointwise []
    have e0 : 2 + 0 + 1 * (x0 : ℕ) = s := congrArg (fun j : S4x4x64x128.Idx => (j 0 : ℕ)) hx
    have e1 : 0 + 0 + 1 * (x1 : ℕ) = h := congrArg (fun j : S4x4x64x128.Idx => (j 1 : ℕ)) hx
    have e2 : 0 + 0 + 1 * (x2 : ℕ) = d := congrArg (fun j : S4x4x64x128.Idx => (j 2 : ℕ)) hx
    have e3 : 0 + 0 + 1 * (x3 : ℕ) = w := congrArg (fun j : S4x4x64x128.Idx => (j 3 : ℕ)) hx
    have e4 : 64 * ((h : ℕ) % 2) + (d : ℕ) = (x2 : ℕ) := by omega
    rw [Cells.diag (by omega), Cells.pick (by omega) (by omega), Cells.half (by omega)]
    unfold put turn
    refine if_congr (by rw [← e3]; omega) ?_ ?_
    · refine congrArg₂ (· + ·) (congrArg₂ (· * ·) ?_ ?_) (congrArg₂ (· * ·) (if_congr (by simp only [e4]) ?_ ?_) ?_)
      · exact Cells.read1 _ _ _ _ _ _ _ _ _ _ (show (s : ℕ) = 2 by omega) (Fin.forall_fin_two.mpr ⟨rfl, (show 128 * ((h : ℕ) / 2) + (64 * ((h : ℕ) % 2) + (d : ℕ)) = 0 + 0 + 1 * ((x2 : ℕ)) by omega)⟩)
      · exact congrArg A (congrArg (ix2 0) (Fin.ext e4.symm))
      · exact Cells.read1 _ _ _ _ _ _ _ _ _ _ (show (s : ℕ) = 2 by omega) (Fin.forall_fin_two.mpr ⟨rfl, (show 128 * ((h : ℕ) / 2) + ((64 * ((h : ℕ) % 2) + (d : ℕ) + 32) % 128) = 0 + 0 + 1 * ((((x2 : ℕ) + 128 - 96) % 128)) by omega)⟩)
      · exact Cells.read1 _ _ _ _ _ _ _ _ _ _ (show (s : ℕ) = 2 by omega) (Fin.forall_fin_two.mpr ⟨rfl, (show 128 * ((h : ℕ) / 2) + ((64 * ((h : ℕ) % 2) + (d : ℕ) + 96) % 128) = 0 + 0 + 1 * ((((x2 : ℕ) + 128 - 32) % 128)) by omega)⟩)
      · exact congrArg B (congrArg (ix2 0) (Fin.ext e4.symm))
    · exact Cells.read2 _ _ _ _ _ _ _ _ _ _ _ _ _ rfl (show (s : ℕ) = 2 by omega)
        fun | 0 => (show (h : ℕ) = 0 + 0 + 1 * 0 by omega) | 1 => (show (d : ℕ) = 0 + 0 + 1 * (x2 : ℕ) by omega) | 2 => (show ((w : ℕ) + 1) % 128 = 0 + 0 + 1 * (((x3 : ℕ) + 128 - 127) % 128) by omega)
  case piece8 =>
    pointwise []
    have e0 : 1 + 0 + 1 * (x0 : ℕ) = s := congrArg (fun j : S4x4x64x128.Idx => (j 0 : ℕ)) hx
    have e1 : 0 + 3 + 1 * (x1 : ℕ) = h := congrArg (fun j : S4x4x64x128.Idx => (j 1 : ℕ)) hx
    have e2 : 0 + 0 + 1 * (x2 : ℕ) = d := congrArg (fun j : S4x4x64x128.Idx => (j 2 : ℕ)) hx
    have e3 : 0 + 0 + 1 * (x3 : ℕ) = w := congrArg (fun j : S4x4x64x128.Idx => (j 3 : ℕ)) hx
    have e4 : 64 * ((h : ℕ) % 2) + (d : ℕ) = 64 + (x2 : ℕ) := by omega
    rw [Cells.diag (by omega), Cells.pick (by omega) (by omega), Cells.half (by omega)]
    unfold put turn
    refine if_congr (by rw [← e3]; omega) ?_ ?_
    · refine congrArg₂ (· + ·) (congrArg₂ (· * ·) ?_ ?_) (congrArg₂ (· * ·) (if_congr (by simp only [e4]) ?_ ?_) ?_)
      · exact Cells.read1 _ _ _ _ _ _ _ _ _ _ (show (s : ℕ) = 1 by omega) (Fin.forall_fin_two.mpr ⟨rfl, (show 128 * ((h : ℕ) / 2) + (64 * ((h : ℕ) % 2) + (d : ℕ)) = 0 + 128 + 1 * (64 + (x2 : ℕ)) by omega)⟩)
      · exact congrArg A (congrArg (ix2 0) (Fin.ext e4.symm))
      · exact Cells.read1 _ _ _ _ _ _ _ _ _ _ (show (s : ℕ) = 1 by omega) (Fin.forall_fin_two.mpr ⟨rfl, (show 128 * ((h : ℕ) / 2) + ((64 * ((h : ℕ) % 2) + (d : ℕ) + 32) % 128) = 0 + 128 + 1 * (((64 + (x2 : ℕ) + 128 - 96) % 128)) by omega)⟩)
      · exact Cells.read1 _ _ _ _ _ _ _ _ _ _ (show (s : ℕ) = 1 by omega) (Fin.forall_fin_two.mpr ⟨rfl, (show 128 * ((h : ℕ) / 2) + ((64 * ((h : ℕ) % 2) + (d : ℕ) + 96) % 128) = 0 + 128 + 1 * (((64 + (x2 : ℕ) + 128 - 32) % 128)) by omega)⟩)
      · exact congrArg B (congrArg (ix2 0) (Fin.ext e4.symm))
    · exact Cells.read2 _ _ _ _ _ _ _ _ _ _ _ _ _ rfl (show (s : ℕ) = 1 by omega)
        fun | 0 => (show (h : ℕ) = 0 + 3 + 1 * 0 by omega) | 1 => (show (d : ℕ) = 0 + 0 + 1 * (x2 : ℕ) by omega) | 2 => (show ((w : ℕ) + 1) % 128 = 0 + 0 + 1 * (((x3 : ℕ) + 128 - 127) % 128) by omega)
  case piece9 =>
    pointwise []
    have e0 : 1 + 0 + 1 * (x0 : ℕ) = s := congrArg (fun j : S4x4x64x128.Idx => (j 0 : ℕ)) hx
    have e1 : 0 + 2 + 1 * (x1 : ℕ) = h := congrArg (fun j : S4x4x64x128.Idx => (j 1 : ℕ)) hx
    have e2 : 0 + 0 + 1 * (x2 : ℕ) = d := congrArg (fun j : S4x4x64x128.Idx => (j 2 : ℕ)) hx
    have e3 : 0 + 0 + 1 * (x3 : ℕ) = w := congrArg (fun j : S4x4x64x128.Idx => (j 3 : ℕ)) hx
    have e4 : 64 * ((h : ℕ) % 2) + (d : ℕ) = (x2 : ℕ) := by omega
    rw [Cells.diag (by omega), Cells.pick (by omega) (by omega), Cells.half (by omega)]
    unfold put turn
    refine if_congr (by rw [← e3]; omega) ?_ ?_
    · refine congrArg₂ (· + ·) (congrArg₂ (· * ·) ?_ ?_) (congrArg₂ (· * ·) (if_congr (by simp only [e4]) ?_ ?_) ?_)
      · exact Cells.read1 _ _ _ _ _ _ _ _ _ _ (show (s : ℕ) = 1 by omega) (Fin.forall_fin_two.mpr ⟨rfl, (show 128 * ((h : ℕ) / 2) + (64 * ((h : ℕ) % 2) + (d : ℕ)) = 0 + 128 + 1 * ((x2 : ℕ)) by omega)⟩)
      · exact congrArg A (congrArg (ix2 0) (Fin.ext e4.symm))
      · exact Cells.read1 _ _ _ _ _ _ _ _ _ _ (show (s : ℕ) = 1 by omega) (Fin.forall_fin_two.mpr ⟨rfl, (show 128 * ((h : ℕ) / 2) + ((64 * ((h : ℕ) % 2) + (d : ℕ) + 32) % 128) = 0 + 128 + 1 * ((((x2 : ℕ) + 128 - 96) % 128)) by omega)⟩)
      · exact Cells.read1 _ _ _ _ _ _ _ _ _ _ (show (s : ℕ) = 1 by omega) (Fin.forall_fin_two.mpr ⟨rfl, (show 128 * ((h : ℕ) / 2) + ((64 * ((h : ℕ) % 2) + (d : ℕ) + 96) % 128) = 0 + 128 + 1 * ((((x2 : ℕ) + 128 - 32) % 128)) by omega)⟩)
      · exact congrArg B (congrArg (ix2 0) (Fin.ext e4.symm))
    · exact Cells.read2 _ _ _ _ _ _ _ _ _ _ _ _ _ rfl (show (s : ℕ) = 1 by omega)
        fun | 0 => (show (h : ℕ) = 0 + 2 + 1 * 0 by omega) | 1 => (show (d : ℕ) = 0 + 0 + 1 * (x2 : ℕ) by omega) | 2 => (show ((w : ℕ) + 1) % 128 = 0 + 0 + 1 * (((x3 : ℕ) + 128 - 127) % 128) by omega)
  case piece10 =>
    pointwise []
    have e0 : 1 + 0 + 1 * (x0 : ℕ) = s := congrArg (fun j : S4x4x64x128.Idx => (j 0 : ℕ)) hx
    have e1 : 0 + 1 + 1 * (x1 : ℕ) = h := congrArg (fun j : S4x4x64x128.Idx => (j 1 : ℕ)) hx
    have e2 : 0 + 0 + 1 * (x2 : ℕ) = d := congrArg (fun j : S4x4x64x128.Idx => (j 2 : ℕ)) hx
    have e3 : 0 + 0 + 1 * (x3 : ℕ) = w := congrArg (fun j : S4x4x64x128.Idx => (j 3 : ℕ)) hx
    have e4 : 64 * ((h : ℕ) % 2) + (d : ℕ) = 64 + (x2 : ℕ) := by omega
    rw [Cells.diag (by omega), Cells.pick (by omega) (by omega), Cells.half (by omega)]
    unfold put turn
    refine if_congr (by rw [← e3]; omega) ?_ ?_
    · refine congrArg₂ (· + ·) (congrArg₂ (· * ·) ?_ ?_) (congrArg₂ (· * ·) (if_congr (by simp only [e4]) ?_ ?_) ?_)
      · exact Cells.read1 _ _ _ _ _ _ _ _ _ _ (show (s : ℕ) = 1 by omega) (Fin.forall_fin_two.mpr ⟨rfl, (show 128 * ((h : ℕ) / 2) + (64 * ((h : ℕ) % 2) + (d : ℕ)) = 0 + 0 + 1 * (64 + (x2 : ℕ)) by omega)⟩)
      · exact congrArg A (congrArg (ix2 0) (Fin.ext e4.symm))
      · exact Cells.read1 _ _ _ _ _ _ _ _ _ _ (show (s : ℕ) = 1 by omega) (Fin.forall_fin_two.mpr ⟨rfl, (show 128 * ((h : ℕ) / 2) + ((64 * ((h : ℕ) % 2) + (d : ℕ) + 32) % 128) = 0 + 0 + 1 * (((64 + (x2 : ℕ) + 128 - 96) % 128)) by omega)⟩)
      · exact Cells.read1 _ _ _ _ _ _ _ _ _ _ (show (s : ℕ) = 1 by omega) (Fin.forall_fin_two.mpr ⟨rfl, (show 128 * ((h : ℕ) / 2) + ((64 * ((h : ℕ) % 2) + (d : ℕ) + 96) % 128) = 0 + 0 + 1 * (((64 + (x2 : ℕ) + 128 - 32) % 128)) by omega)⟩)
      · exact congrArg B (congrArg (ix2 0) (Fin.ext e4.symm))
    · exact Cells.read2 _ _ _ _ _ _ _ _ _ _ _ _ _ rfl (show (s : ℕ) = 1 by omega)
        fun | 0 => (show (h : ℕ) = 0 + 1 + 1 * 0 by omega) | 1 => (show (d : ℕ) = 0 + 0 + 1 * (x2 : ℕ) by omega) | 2 => (show ((w : ℕ) + 1) % 128 = 0 + 0 + 1 * (((x3 : ℕ) + 128 - 127) % 128) by omega)
  case piece11 =>
    pointwise []
    have e0 : 1 + 0 + 1 * (x0 : ℕ) = s := congrArg (fun j : S4x4x64x128.Idx => (j 0 : ℕ)) hx
    have e1 : 0 + 0 + 1 * (x1 : ℕ) = h := congrArg (fun j : S4x4x64x128.Idx => (j 1 : ℕ)) hx
    have e2 : 0 + 0 + 1 * (x2 : ℕ) = d := congrArg (fun j : S4x4x64x128.Idx => (j 2 : ℕ)) hx
    have e3 : 0 + 0 + 1 * (x3 : ℕ) = w := congrArg (fun j : S4x4x64x128.Idx => (j 3 : ℕ)) hx
    have e4 : 64 * ((h : ℕ) % 2) + (d : ℕ) = (x2 : ℕ) := by omega
    rw [Cells.diag (by omega), Cells.pick (by omega) (by omega), Cells.half (by omega)]
    unfold put turn
    refine if_congr (by rw [← e3]; omega) ?_ ?_
    · refine congrArg₂ (· + ·) (congrArg₂ (· * ·) ?_ ?_) (congrArg₂ (· * ·) (if_congr (by simp only [e4]) ?_ ?_) ?_)
      · exact Cells.read1 _ _ _ _ _ _ _ _ _ _ (show (s : ℕ) = 1 by omega) (Fin.forall_fin_two.mpr ⟨rfl, (show 128 * ((h : ℕ) / 2) + (64 * ((h : ℕ) % 2) + (d : ℕ)) = 0 + 0 + 1 * ((x2 : ℕ)) by omega)⟩)
      · exact congrArg A (congrArg (ix2 0) (Fin.ext e4.symm))
      · exact Cells.read1 _ _ _ _ _ _ _ _ _ _ (show (s : ℕ) = 1 by omega) (Fin.forall_fin_two.mpr ⟨rfl, (show 128 * ((h : ℕ) / 2) + ((64 * ((h : ℕ) % 2) + (d : ℕ) + 32) % 128) = 0 + 0 + 1 * ((((x2 : ℕ) + 128 - 96) % 128)) by omega)⟩)
      · exact Cells.read1 _ _ _ _ _ _ _ _ _ _ (show (s : ℕ) = 1 by omega) (Fin.forall_fin_two.mpr ⟨rfl, (show 128 * ((h : ℕ) / 2) + ((64 * ((h : ℕ) % 2) + (d : ℕ) + 96) % 128) = 0 + 0 + 1 * ((((x2 : ℕ) + 128 - 32) % 128)) by omega)⟩)
      · exact congrArg B (congrArg (ix2 0) (Fin.ext e4.symm))
    · exact Cells.read2 _ _ _ _ _ _ _ _ _ _ _ _ _ rfl (show (s : ℕ) = 1 by omega)
        fun | 0 => (show (h : ℕ) = 0 + 0 + 1 * 0 by omega) | 1 => (show (d : ℕ) = 0 + 0 + 1 * (x2 : ℕ) by omega) | 2 => (show ((w : ℕ) + 1) % 128 = 0 + 0 + 1 * (((x3 : ℕ) + 128 - 127) % 128) by omega)
  case piece12 =>
    pointwise []
    have e0 : 0 + 0 + 1 * (x0 : ℕ) = s := congrArg (fun j : S4x4x64x128.Idx => (j 0 : ℕ)) hx
    have e1 : 0 + 3 + 1 * (x1 : ℕ) = h := congrArg (fun j : S4x4x64x128.Idx => (j 1 : ℕ)) hx
    have e2 : 0 + 0 + 1 * (x2 : ℕ) = d := congrArg (fun j : S4x4x64x128.Idx => (j 2 : ℕ)) hx
    have e3 : 0 + 0 + 1 * (x3 : ℕ) = w := congrArg (fun j : S4x4x64x128.Idx => (j 3 : ℕ)) hx
    have e4 : 64 * ((h : ℕ) % 2) + (d : ℕ) = 64 + (x2 : ℕ) := by omega
    rw [Cells.diag (by omega), Cells.pick (by omega) (by omega), Cells.half (by omega)]
    unfold put turn
    refine if_congr (by rw [← e3]; omega) ?_ ?_
    · refine congrArg₂ (· + ·) (congrArg₂ (· * ·) ?_ ?_) (congrArg₂ (· * ·) (if_congr (by simp only [e4]) ?_ ?_) ?_)
      · exact Cells.read1 _ _ _ _ _ _ _ _ _ _ (show (s : ℕ) = 0 by omega) (Fin.forall_fin_two.mpr ⟨rfl, (show 128 * ((h : ℕ) / 2) + (64 * ((h : ℕ) % 2) + (d : ℕ)) = 0 + 128 + 1 * (64 + (x2 : ℕ)) by omega)⟩)
      · exact congrArg A (congrArg (ix2 0) (Fin.ext e4.symm))
      · exact Cells.read1 _ _ _ _ _ _ _ _ _ _ (show (s : ℕ) = 0 by omega) (Fin.forall_fin_two.mpr ⟨rfl, (show 128 * ((h : ℕ) / 2) + ((64 * ((h : ℕ) % 2) + (d : ℕ) + 32) % 128) = 0 + 128 + 1 * (((64 + (x2 : ℕ) + 128 - 96) % 128)) by omega)⟩)
      · exact Cells.read1 _ _ _ _ _ _ _ _ _ _ (show (s : ℕ) = 0 by omega) (Fin.forall_fin_two.mpr ⟨rfl, (show 128 * ((h : ℕ) / 2) + ((64 * ((h : ℕ) % 2) + (d : ℕ) + 96) % 128) = 0 + 128 + 1 * (((64 + (x2 : ℕ) + 128 - 32) % 128)) by omega)⟩)
      · exact congrArg B (congrArg (ix2 0) (Fin.ext e4.symm))
    · exact Cells.read2 _ _ _ _ _ _ _ _ _ _ _ _ _ rfl (show (s : ℕ) = 0 by omega)
        fun | 0 => (show (h : ℕ) = 0 + 3 + 1 * 0 by omega) | 1 => (show (d : ℕ) = 0 + 0 + 1 * (x2 : ℕ) by omega) | 2 => (show ((w : ℕ) + 1) % 128 = 0 + 0 + 1 * (((x3 : ℕ) + 128 - 127) % 128) by omega)
  case piece13 =>
    pointwise []
    have e0 : 0 + 0 + 1 * (x0 : ℕ) = s := congrArg (fun j : S4x4x64x128.Idx => (j 0 : ℕ)) hx
    have e1 : 0 + 2 + 1 * (x1 : ℕ) = h := congrArg (fun j : S4x4x64x128.Idx => (j 1 : ℕ)) hx
    have e2 : 0 + 0 + 1 * (x2 : ℕ) = d := congrArg (fun j : S4x4x64x128.Idx => (j 2 : ℕ)) hx
    have e3 : 0 + 0 + 1 * (x3 : ℕ) = w := congrArg (fun j : S4x4x64x128.Idx => (j 3 : ℕ)) hx
    have e4 : 64 * ((h : ℕ) % 2) + (d : ℕ) = (x2 : ℕ) := by omega
    rw [Cells.diag (by omega), Cells.pick (by omega) (by omega), Cells.half (by omega)]
    unfold put turn
    refine if_congr (by rw [← e3]; omega) ?_ ?_
    · refine congrArg₂ (· + ·) (congrArg₂ (· * ·) ?_ ?_) (congrArg₂ (· * ·) (if_congr (by simp only [e4]) ?_ ?_) ?_)
      · exact Cells.read1 _ _ _ _ _ _ _ _ _ _ (show (s : ℕ) = 0 by omega) (Fin.forall_fin_two.mpr ⟨rfl, (show 128 * ((h : ℕ) / 2) + (64 * ((h : ℕ) % 2) + (d : ℕ)) = 0 + 128 + 1 * ((x2 : ℕ)) by omega)⟩)
      · exact congrArg A (congrArg (ix2 0) (Fin.ext e4.symm))
      · exact Cells.read1 _ _ _ _ _ _ _ _ _ _ (show (s : ℕ) = 0 by omega) (Fin.forall_fin_two.mpr ⟨rfl, (show 128 * ((h : ℕ) / 2) + ((64 * ((h : ℕ) % 2) + (d : ℕ) + 32) % 128) = 0 + 128 + 1 * ((((x2 : ℕ) + 128 - 96) % 128)) by omega)⟩)
      · exact Cells.read1 _ _ _ _ _ _ _ _ _ _ (show (s : ℕ) = 0 by omega) (Fin.forall_fin_two.mpr ⟨rfl, (show 128 * ((h : ℕ) / 2) + ((64 * ((h : ℕ) % 2) + (d : ℕ) + 96) % 128) = 0 + 128 + 1 * ((((x2 : ℕ) + 128 - 32) % 128)) by omega)⟩)
      · exact congrArg B (congrArg (ix2 0) (Fin.ext e4.symm))
    · exact Cells.read2 _ _ _ _ _ _ _ _ _ _ _ _ _ rfl (show (s : ℕ) = 0 by omega)
        fun | 0 => (show (h : ℕ) = 0 + 2 + 1 * 0 by omega) | 1 => (show (d : ℕ) = 0 + 0 + 1 * (x2 : ℕ) by omega) | 2 => (show ((w : ℕ) + 1) % 128 = 0 + 0 + 1 * (((x3 : ℕ) + 128 - 127) % 128) by omega)
  case piece14 =>
    pointwise []
    have e0 : 0 + 0 + 1 * (x0 : ℕ) = s := congrArg (fun j : S4x4x64x128.Idx => (j 0 : ℕ)) hx
    have e1 : 0 + 1 + 1 * (x1 : ℕ) = h := congrArg (fun j : S4x4x64x128.Idx => (j 1 : ℕ)) hx
    have e2 : 0 + 0 + 1 * (x2 : ℕ) = d := congrArg (fun j : S4x4x64x128.Idx => (j 2 : ℕ)) hx
    have e3 : 0 + 0 + 1 * (x3 : ℕ) = w := congrArg (fun j : S4x4x64x128.Idx => (j 3 : ℕ)) hx
    have e4 : 64 * ((h : ℕ) % 2) + (d : ℕ) = 64 + (x2 : ℕ) := by omega
    rw [Cells.diag (by omega), Cells.pick (by omega) (by omega), Cells.half (by omega)]
    unfold put turn
    refine if_congr (by rw [← e3]; omega) ?_ ?_
    · refine congrArg₂ (· + ·) (congrArg₂ (· * ·) ?_ ?_) (congrArg₂ (· * ·) (if_congr (by simp only [e4]) ?_ ?_) ?_)
      · exact Cells.read1 _ _ _ _ _ _ _ _ _ _ (show (s : ℕ) = 0 by omega) (Fin.forall_fin_two.mpr ⟨rfl, (show 128 * ((h : ℕ) / 2) + (64 * ((h : ℕ) % 2) + (d : ℕ)) = 0 + 0 + 1 * (64 + (x2 : ℕ)) by omega)⟩)
      · exact congrArg A (congrArg (ix2 0) (Fin.ext e4.symm))
      · exact Cells.read1 _ _ _ _ _ _ _ _ _ _ (show (s : ℕ) = 0 by omega) (Fin.forall_fin_two.mpr ⟨rfl, (show 128 * ((h : ℕ) / 2) + ((64 * ((h : ℕ) % 2) + (d : ℕ) + 32) % 128) = 0 + 0 + 1 * (((64 + (x2 : ℕ) + 128 - 96) % 128)) by omega)⟩)
      · exact Cells.read1 _ _ _ _ _ _ _ _ _ _ (show (s : ℕ) = 0 by omega) (Fin.forall_fin_two.mpr ⟨rfl, (show 128 * ((h : ℕ) / 2) + ((64 * ((h : ℕ) % 2) + (d : ℕ) + 96) % 128) = 0 + 0 + 1 * (((64 + (x2 : ℕ) + 128 - 32) % 128)) by omega)⟩)
      · exact congrArg B (congrArg (ix2 0) (Fin.ext e4.symm))
    · exact Cells.read2 _ _ _ _ _ _ _ _ _ _ _ _ _ rfl (show (s : ℕ) = 0 by omega)
        fun | 0 => (show (h : ℕ) = 0 + 1 + 1 * 0 by omega) | 1 => (show (d : ℕ) = 0 + 0 + 1 * (x2 : ℕ) by omega) | 2 => (show ((w : ℕ) + 1) % 128 = 0 + 0 + 1 * (((x3 : ℕ) + 128 - 127) % 128) by omega)
  case piece15 =>
    pointwise []
    have e0 : 0 + 0 + 1 * (x0 : ℕ) = s := congrArg (fun j : S4x4x64x128.Idx => (j 0 : ℕ)) hx
    have e1 : 0 + 0 + 1 * (x1 : ℕ) = h := congrArg (fun j : S4x4x64x128.Idx => (j 1 : ℕ)) hx
    have e2 : 0 + 0 + 1 * (x2 : ℕ) = d := congrArg (fun j : S4x4x64x128.Idx => (j 2 : ℕ)) hx
    have e3 : 0 + 0 + 1 * (x3 : ℕ) = w := congrArg (fun j : S4x4x64x128.Idx => (j 3 : ℕ)) hx
    have e4 : 64 * ((h : ℕ) % 2) + (d : ℕ) = (x2 : ℕ) := by omega
    rw [Cells.diag (by omega), Cells.pick (by omega) (by omega), Cells.half (by omega)]
    unfold put turn
    refine if_congr (by rw [← e3]; omega) ?_ ?_
    · refine congrArg₂ (· + ·) (congrArg₂ (· * ·) ?_ ?_) (congrArg₂ (· * ·) (if_congr (by simp only [e4]) ?_ ?_) ?_)
      · exact Cells.read1 _ _ _ _ _ _ _ _ _ _ (show (s : ℕ) = 0 by omega) (Fin.forall_fin_two.mpr ⟨rfl, (show 128 * ((h : ℕ) / 2) + (64 * ((h : ℕ) % 2) + (d : ℕ)) = 0 + 0 + 1 * ((x2 : ℕ)) by omega)⟩)
      · exact congrArg A (congrArg (ix2 0) (Fin.ext e4.symm))
      · exact Cells.read1 _ _ _ _ _ _ _ _ _ _ (show (s : ℕ) = 0 by omega) (Fin.forall_fin_two.mpr ⟨rfl, (show 128 * ((h : ℕ) / 2) + ((64 * ((h : ℕ) % 2) + (d : ℕ) + 32) % 128) = 0 + 0 + 1 * ((((x2 : ℕ) + 128 - 96) % 128)) by omega)⟩)
      · exact Cells.read1 _ _ _ _ _ _ _ _ _ _ (show (s : ℕ) = 0 by omega) (Fin.forall_fin_two.mpr ⟨rfl, (show 128 * ((h : ℕ) / 2) + ((64 * ((h : ℕ) % 2) + (d : ℕ) + 96) % 128) = 0 + 0 + 1 * ((((x2 : ℕ) + 128 - 32) % 128)) by omega)⟩)
      · exact congrArg B (congrArg (ix2 0) (Fin.ext e4.symm))
    · exact Cells.read2 _ _ _ _ _ _ _ _ _ _ _ _ _ rfl (show (s : ℕ) = 0 by omega)
        fun | 0 => (show (h : ℕ) = 0 + 0 + 1 * 0 by omega) | 1 => (show (d : ℕ) = 0 + 0 + 1 * (x2 : ℕ) by omega) | 2 => (show ((w : ℕ) + 1) % 128 = 0 + 0 + 1 * (((x3 : ℕ) + 128 - 127) % 128) by omega)

set_option maxHeartbeats 2000000 in
/-- What a point of the grid leaves in its block of the second cache, entry by entry. -/
theorem point11 (c : Dev nD) (t : Fin cfg0.N) (s : Fin 4) (h : Fin 4) (d : Fin 64) (w : Fin 128)
    (A B : FVec Ideal S1x128 .f32) (SK : FVec Ideal S32x128 .f32) (Q G : FVec Ideal S4x16x128 .f32) (K V : FVec Ideal S4x1x256 .f32) (KB VB : FVec Ideal S1x4x4x64x128 .f32) :
    left11 (F := Ideal) c t A B SK Q G K V KB VB (ix4 s h d w : S4x4x64x128.Idx) =
      put w (fun j => VB (ix5 0 s h d j)) (V (ix3 s 0 ⟨64 * (h : ℕ) + d, by omega⟩)) := by
  show (_ : EReal) = _
  unfold left11
  frame_out
  canon_tiles x hx
  all_goals open_payloads
  all_goals idx_vars x
  case piece0 =>
    pointwise []
    have e0 : 3 + 0 + 1 * (x0 : ℕ) = s := congrArg (fun j : S4x4x64x128.Idx => (j 0 : ℕ)) hx
    have e1 : 0 + 3 + 1 * (x1 : ℕ) = h := congrArg (fun j : S4x4x64x128.Idx => (j 1 : ℕ)) hx
    have e2 : 0 + 0 + 1 * (x2 : ℕ) = d := congrArg (fun j : S4x4x64x128.Idx => (j 2 : ℕ)) hx
    have e3 : 0 + 0 + 1 * (x3 : ℕ) = w := congrArg (fun j : S4x4x64x128.Idx => (j 3 : ℕ)) hx
    rw [Cells.diag (by omega), Cells.pick (by omega) (by omega)]
    unfold put
    refine if_congr (by rw [← e3]; omega) ?_ ?_
    · exact Cells.read1 _ _ _ _ _ _ _ _ _ _ (show (s : ℕ) = 3 by omega) (Fin.forall_fin_two.mpr ⟨rfl, (show 64 * (h : ℕ) + (d : ℕ) = 0 + 128 + 1 * (64 + (x2 : ℕ)) by omega)⟩)
    · exact Cells.read2 _ _ _ _ _ _ _ _ _ _ _ _ _ rfl (show (s : ℕ) = 3 by omega)
        fun | 0 => (show (h : ℕ) = 0 + 3 + 1 * 0 by omega) | 1 => (show (d : ℕ) = 0 + 0 + 1 * (x2 : ℕ) by omega) | 2 => (show ((w : ℕ) + 1) % 128 = 0 + 0 + 1 * (((x3 : ℕ) + 128 - 127) % 128) by omega)
  case piece1 =>
    pointwise []
    have e0 : 3 + 0 + 1 * (x0 : ℕ) = s := congrArg (fun j : S4x4x64x128.Idx => (j 0 : ℕ)) hx
    have e1 : 0 + 2 + 1 * (x1 : ℕ) = h := congrArg (fun j : S4x4x64x128.Idx => (j 1 : ℕ)) hx
    have e2 : 0 + 0 + 1 * (x2 : ℕ) = d := congrArg (fun j : S4x4x64x128.Idx => (j 2 : ℕ)) hx
    have e3 : 0 + 0 + 1 * (x3 : ℕ) = w := congrArg (fun j : S4x4x64x128.Idx => (j 3 : ℕ)) hx
    rw [Cells.diag (by omega), Cells.pick (by omega) (by omega)]
    unfold put
    refine if_congr (by rw [← e3]; omega) ?_ ?_
    · exact Cells.read1 _ _ _ _ _ _ _ _ _ _ (show (s : ℕ) = 3 by omega) (Fin.forall_fin_two.mpr ⟨rfl, (show 64 * (h : ℕ) + (d : ℕ) = 0 + 128 + 1 * ((x2 : ℕ)) by omega)⟩)
    · exact Cells.read2 _ _ _ _ _ _ _ _ _ _ _ _ _ rfl (show (s : ℕ) = 3 by omega)
        fun | 0 => (show (h : ℕ) = 0 + 2 + 1 * 0 by omega) | 1 => (show (d : ℕ) = 0 + 0 + 1 * (x2 : ℕ) by omega) | 2 => (show ((w : ℕ) + 1) % 128 = 0 + 0 + 1 * (((x3 : ℕ) + 128 - 127) % 128) by omega)
  case piece2 =>
    pointwise []
    have e0 : 3 + 0 + 1 * (x0 : ℕ) = s := congrArg (fun j : S4x4x64x128.Idx => (j 0 : ℕ)) hx
    have e1 : 0 + 1 + 1 * (x1 : ℕ) = h := congrArg (fun j : S4x4x64x128.Idx => (j 1 : ℕ)) hx
    have e2 : 0 + 0 + 1 * (x2 : ℕ) = d := congrArg (fun j : S4x4x64x128.Idx => (j 2 : ℕ)) hx
    have e3 : 0 + 0 + 1 * (x3 : ℕ) = w := congrArg (fun j : S4x4x64x128.Idx => (j 3 : ℕ)) hx
    rw [Cells.diag (by omega), Cells.pick (by omega) (by omega)]
    unfold put
    refine if_congr (by rw [← e3]; omega) ?_ ?_
    · exact Cells.read1 _ _ _ _ _ _ _ _ _ _ (show (s : ℕ) = 3 by omega) (Fin.forall_fin_two.mpr ⟨rfl, (show 64 * (h : ℕ) + (d : ℕ) = 0 + 0 + 1 * (64 + (x2 : ℕ)) by omega)⟩)
    · exact Cells.read2 _ _ _ _ _ _ _ _ _ _ _ _ _ rfl (show (s : ℕ) = 3 by omega)
        fun | 0 => (show (h : ℕ) = 0 + 1 + 1 * 0 by omega) | 1 => (show (d : ℕ) = 0 + 0 + 1 * (x2 : ℕ) by omega) | 2 => (show ((w : ℕ) + 1) % 128 = 0 + 0 + 1 * (((x3 : ℕ) + 128 - 127) % 128) by omega)
  case piece3 =>
    pointwise []
    have e0 : 3 + 0 + 1 * (x0 : ℕ) = s := congrArg (fun j : S4x4x64x128.Idx => (j 0 : ℕ)) hx
    have e1 : 0 + 0 + 1 * (x1 : ℕ) = h := congrArg (fun j : S4x4x64x128.Idx => (j 1 : ℕ)) hx
    have e2 : 0 + 0 + 1 * (x2 : ℕ) = d := congrArg (fun j : S4x4x64x128.Idx => (j 2 : ℕ)) hx
    have e3 : 0 + 0 + 1 * (x3 : ℕ) = w := congrArg (fun j : S4x4x64x128.Idx => (j 3 : ℕ)) hx
    rw [Cells.diag (by omega), Cells.pick (by omega) (by omega)]
    unfold put
    refine if_congr (by rw [← e3]; omega) ?_ ?_
    · exact Cells.read1 _ _ _ _ _ _ _ _ _ _ (show (s : ℕ) = 3 by omega) (Fin.forall_fin_two.mpr ⟨rfl, (show 64 * (h : ℕ) + (d : ℕ) = 0 + 0 + 1 * ((x2 : ℕ)) by omega)⟩)
    · exact Cells.read2 _ _ _ _ _ _ _ _ _ _ _ _ _ rfl (show (s : ℕ) = 3 by omega)
        fun | 0 => (show (h : ℕ) = 0 + 0 + 1 * 0 by omega) | 1 => (show (d : ℕ) = 0 + 0 + 1 * (x2 : ℕ) by omega) | 2 => (show ((w : ℕ) + 1) % 128 = 0 + 0 + 1 * (((x3 : ℕ) + 128 - 127) % 128) by omega)
  case piece4 =>
    pointwise []
    have e0 : 2 + 0 + 1 * (x0 : ℕ) = s := congrArg (fun j : S4x4x64x128.Idx => (j 0 : ℕ)) hx
    have e1 : 0 + 3 + 1 * (x1 : ℕ) = h := congrArg (fun j : S4x4x64x128.Idx => (j 1 : ℕ)) hx
    have e2 : 0 + 0 + 1 * (x2 : ℕ) = d := congrArg (fun j : S4x4x64x128.Idx => (j 2 : ℕ)) hx
    have e3 : 0 + 0 + 1 * (x3 : ℕ) = w := congrArg (fun j : S4x4x64x128.Idx => (j 3 : ℕ)) hx
    rw [Cells.diag (by omega), Cells.pick (by omega) (by omega)]
    unfold put
    refine if_congr (by rw [← e3]; omega) ?_ ?_
    · exact Cells.read1 _ _ _ _ _ _ _ _ _ _ (show (s : ℕ) = 2 by omega) (Fin.forall_fin_two.mpr ⟨rfl, (show 64 * (h : ℕ) + (d : ℕ) = 0 + 128 + 1 * (64 + (x2 : ℕ)) by omega)⟩)
    · exact Cells.read2 _ _ _ _ _ _ _ _ _ _ _ _ _ rfl (show (s : ℕ) = 2 by omega)
        fun | 0 => (show (h : ℕ) = 0 + 3 + 1 * 0 by omega) | 1 => (show (d : ℕ) = 0 + 0 + 1 * (x2 : ℕ) by omega) | 2 => (show ((w : ℕ) + 1) % 128 = 0 + 0 + 1 * (((x3 : ℕ) + 128 - 127) % 128) by omega)
  case piece5 =>
    pointwise []
    have e0 : 2 + 0 + 1 * (x0 : ℕ) = s := congrArg (fun j : S4x4x64x128.Idx => (j 0 : ℕ)) hx
    have e1 : 0 + 2 + 1 * (x1 : ℕ) = h := congrArg (fun j : S4x4x64x128.Idx => (j 1 : ℕ)) hx
    have e2 : 0 + 0 + 1 * (x2 : ℕ) = d := congrArg (fun j : S4x4x64x128.Idx => (j 2 : ℕ)) hx
    have e3 : 0 + 0 + 1 * (x3 : ℕ) = w := congrArg (fun j : S4x4x64x128.Idx => (j 3 : ℕ)) hx
    rw [Cells.diag (by omega), Cells.pick (by omega) (by omega)]
    unfold put
    refine if_congr (by rw [← e3]; omega) ?_ ?_
    · exact Cells.read1 _ _ _ _ _ _ _ _ _ _ (show (s : ℕ) = 2 by omega) (Fin.forall_fin_two.mpr ⟨rfl, (show 64 * (h : ℕ) + (d : ℕ) = 0 + 128 + 1 * ((x2 : ℕ)) by omega)⟩)
    · exact Cells.read2 _ _ _ _ _ _ _ _ _ _ _ _ _ rfl (show (s : ℕ) = 2 by omega)
        fun | 0 => (show (h : ℕ) = 0 + 2 + 1 * 0 by omega) | 1 => (show (d : ℕ) = 0 + 0 + 1 * (x2 : ℕ) by omega) | 2 => (show ((w : ℕ) + 1) % 128 = 0 + 0 + 1 * (((x3 : ℕ) + 128 - 127) % 128) by omega)
  case piece6 =>
    pointwise []
    have e0 : 2 + 0 + 1 * (x0 : ℕ) = s := congrArg (fun j : S4x4x64x128.Idx => (j 0 : ℕ)) hx
    have e1 : 0 + 1 + 1 * (x1 : ℕ) = h := congrArg (fun j : S4x4x64x128.Idx => (j 1 : ℕ)) hx
    have e2 : 0 + 0 + 1 * (x2 : ℕ) = d := congrArg (fun j : S4x4x64x128.Idx => (j 2 : ℕ)) hx
    have e3 : 0 + 0 + 1 * (x3 : ℕ) = w := congrArg (fun j : S4x4x64x128.Idx => (j 3 : ℕ)) hx
    rw [Cells.diag (by omega), Cells.pick (by omega) (by omega)]
    unfold put
    refine if_congr (by rw [← e3]; omega) ?_ ?_
    · exact Cells.read1 _ _ _ _ _ _ _ _ _ _ (show (s : ℕ) = 2 by omega) (Fin.forall_fin_two.mpr ⟨rfl, (show 64 * (h : ℕ) + (d : ℕ) = 0 + 0 + 1 * (64 + (x2 : ℕ)) by omega)⟩)
    · exact Cells.read2 _ _ _ _ _ _ _ _ _ _ _ _ _ rfl (show (s : ℕ) = 2 by omega)
        fun | 0 => (show (h : ℕ) = 0 + 1 + 1 * 0 by omega) | 1 => (show (d : ℕ) = 0 + 0 + 1 * (x2 : ℕ) by omega) | 2 => (show ((w : ℕ) + 1) % 128 = 0 + 0 + 1 * (((x3 : ℕ) + 128 - 127) % 128) by omega)
  case piece7 =>
    pointwise []
    have e0 : 2 + 0 + 1 * (x0 : ℕ) = s := congrArg (fun j : S4x4x64x128.Idx => (j 0 : ℕ)) hx
    have e1 : 0 + 0 + 1 * (x1 : ℕ) = h := congrArg (fun j : S4x4x64x128.Idx => (j 1 : ℕ)) hx
    have e2 : 0 + 0 + 1 * (x2 : ℕ) = d := congrArg (fun j : S4x4x64x128.Idx => (j 2 : ℕ)) hx
    have e3 : 0 + 0 + 1 * (x3 : ℕ) = w := congrArg (fun j : S4x4x64x128.Idx => (j 3 : ℕ)) hx
    rw [Cells.diag (by omega), Cells.pick (by omega) (by omega)]
    unfold put
    refine if_congr (by rw [← e3]; omega) ?_ ?_
    · exact Cells.read1 _ _ _ _ _ _ _ _ _ _ (show (s : ℕ) = 2 by omega) (Fin.forall_fin_two.mpr ⟨rfl, (show 64 * (h : ℕ) + (d : ℕ) = 0 + 0 + 1 * ((x2 : ℕ)) by omega)⟩)
    · exact Cells.read2 _ _ _ _ _ _ _ _ _ _ _ _ _ rfl (show (s : ℕ) = 2 by omega)
        fun | 0 => (show (h : ℕ) = 0 + 0 + 1 * 0 by omega) | 1 => (show (d : ℕ) = 0 + 0 + 1 * (x2 : ℕ) by omega) | 2 => (show ((w : ℕ) + 1) % 128 = 0 + 0 + 1 * (((x3 : ℕ) + 128 - 127) % 128) by omega)
  case piece8 =>
    pointwise []
    have e0 : 1 + 0 + 1 * (x0 : ℕ) = s := congrArg (fun j : S4x4x64x128.Idx => (j 0 : ℕ)) hx
    have e1 : 0 + 3 + 1 * (x1 : ℕ) = h := congrArg (fun j : S4x4x64x128.Idx => (j 1 : ℕ)) hx
    have e2 : 0 + 0 + 1 * (x2 : ℕ) = d := congrArg (fun j : S4x4x64x128.Idx => (j 2 : ℕ)) hx
    have e3 : 0 + 0 + 1 * (x3 : ℕ) = w := congrArg (fun j : S4x4x64x128.Idx => (j 3 : ℕ)) hx
    rw [Cells.diag (by omega), Cells.pick (by omega) (by omega)]
    unfold put
    refine if_congr (by rw [← e3]; omega) ?_ ?_
    · exact Cells.read1 _ _ _ _ _ _ _ _ _ _ (show (s : ℕ) = 1 by omega) (Fin.forall_fin_two.mpr ⟨rfl, (show 64 * (h : ℕ) + (d : ℕ) = 0 + 128 + 1 * (64 + (x2 : ℕ)) by omega)⟩)
    · exact Cells.read2 _ _ _ _ _ _ _ _ _ _ _ _ _ rfl (show (s : ℕ) = 1 by omega)
        fun | 0 => (show (h : ℕ) = 0 + 3 + 1 * 0 by omega) | 1 => (show (d : ℕ) = 0 + 0 + 1 * (x2 : ℕ) by omega) | 2 => (show ((w : ℕ) + 1) % 128 = 0 + 0 + 1 * (((x3 : ℕ) + 128 - 127) % 128) by omega)
  case piece9 =>
    pointwise []
    have e0 : 1 + 0 + 1 * (x0 : ℕ) = s := congrArg (fun j : S4x4x64x128.Idx => (j 0 : ℕ)) hx
    have e1 : 0 + 2 + 1 * (x1 : ℕ) = h := congrArg (fun j : S4x4x64x128.Idx => (j 1 : ℕ)) hx
    have e2 : 0 + 0 + 1 * (x2 : ℕ) = d := congrArg (fun j : S4x4x64x128.Idx => (j 2 : ℕ)) hx
    have e3 : 0 + 0 + 1 * (x3 : ℕ) = w := congrArg (fun j : S4x4x64x128.Idx => (j 3 : ℕ)) hx
    rw [Cells.diag (by omega), Cells.pick (by omega) (by omega)]
    unfold put
    refine if_congr (by rw [← e3]; omega) ?_ ?_
    · exact Cells.read1 _ _ _ _ _ _ _ _ _ _ (show (s : ℕ) = 1 by omega) (Fin.forall_fin_two.mpr ⟨rfl, (show 64 * (h : ℕ) + (d : ℕ) = 0 + 128 + 1 * ((x2 : ℕ)) by omega)⟩)
    · exact Cells.read2 _ _ _ _ _ _ _ _ _ _ _ _ _ rfl (show (s : ℕ) = 1 by omega)
        fun | 0 => (show (h : ℕ) = 0 + 2 + 1 * 0 by omega) | 1 => (show (d : ℕ) = 0 + 0 + 1 * (x2 : ℕ) by omega) | 2 => (show ((w : ℕ) + 1) % 128 = 0 + 0 + 1 * (((x3 : ℕ) + 128 - 127) % 128) by omega)
  case piece10 =>
    pointwise []
    have e0 : 1 + 0 + 1 * (x0 : ℕ) = s := congrArg (fun j : S4x4x64x128.Idx => (j 0 : ℕ)) hx
    have e1 : 0 + 1 + 1 * (x1 : ℕ) = h := congrArg (fun j : S4x4x64x128.Idx => (j 1 : ℕ)) hx
    have e2 : 0 + 0 + 1 * (x2 : ℕ) = d := congrArg (fun j : S4x4x64x128.Idx => (j 2 : ℕ)) hx
    have e3 : 0 + 0 + 1 * (x3 : ℕ) = w := congrArg (fun j : S4x4x64x128.Idx => (j 3 : ℕ)) hx
    rw [Cells.diag (by omega), Cells.pick (by omega) (by omega)]
    unfold put
    refine if_congr (by rw [← e3]; omega) ?_ ?_
    · exact Cells.read1 _ _ _ _ _ _ _ _ _ _ (show (s : ℕ) = 1 by omega) (Fin.forall_fin_two.mpr ⟨rfl, (show 64 * (h : ℕ) + (d : ℕ) = 0 + 0 + 1 * (64 + (x2 : ℕ)) by omega)⟩)
    · exact Cells.read2 _ _ _ _ _ _ _ _ _ _ _ _ _ rfl (show (s : ℕ) = 1 by omega)
        fun | 0 => (show (h : ℕ) = 0 + 1 + 1 * 0 by omega) | 1 => (show (d : ℕ) = 0 + 0 + 1 * (x2 : ℕ) by omega) | 2 => (show ((w : ℕ) + 1) % 128 = 0 + 0 + 1 * (((x3 : ℕ) + 128 - 127) % 128) by omega)
  case piece11 =>
    pointwise []
    have e0 : 1 + 0 + 1 * (x0 : ℕ) = s := congrArg (fun j : S4x4x64x128.Idx => (j 0 : ℕ)) hx
    have e1 : 0 + 0 + 1 * (x1 : ℕ) = h := congrArg (fun j : S4x4x64x128.Idx => (j 1 : ℕ)) hx
    have e2 : 0 + 0 + 1 * (x2 : ℕ) = d := congrArg (fun j : S4x4x64x128.Idx => (j 2 : ℕ)) hx
    have e3 : 0 + 0 + 1 * (x3 : ℕ) = w := congrArg (fun j : S4x4x64x128.Idx => (j 3 : ℕ)) hx
    rw [Cells.diag (by omega), Cells.pick (by omega) (by omega)]
    unfold put
    refine if_congr (by rw [← e3]; omega) ?_ ?_
    · exact Cells.read1 _ _ _ _ _ _ _ _ _ _ (show (s : ℕ) = 1 by omega) (Fin.forall_fin_two.mpr ⟨rfl, (show 64 * (h : ℕ) + (d : ℕ) = 0 + 0 + 1 * ((x2 : ℕ)) by omega)⟩)
    · exact Cells.read2 _ _ _ _ _ _ _ _ _ _ _ _ _ rfl (show (s : ℕ) = 1 by omega)
        fun | 0 => (show (h : ℕ) = 0 + 0 + 1 * 0 by omega) | 1 => (show (d : ℕ) = 0 + 0 + 1 * (x2 : ℕ) by omega) | 2 => (show ((w : ℕ) + 1) % 128 = 0 + 0 + 1 * (((x3 : ℕ) + 128 - 127) % 128) by omega)
  case piece12 =>
    pointwise []
    have e0 : 0 + 0 + 1 * (x0 : ℕ) = s := congrArg (fun j : S4x4x64x128.Idx => (j 0 : ℕ)) hx
    have e1 : 0 + 3 + 1 * (x1 : ℕ) = h := congrArg (fun j : S4x4x64x128.Idx => (j 1 : ℕ)) hx
    have e2 : 0 + 0 + 1 * (x2 : ℕ) = d := congrArg (fun j : S4x4x64x128.Idx => (j 2 : ℕ)) hx
    have e3 : 0 + 0 + 1 * (x3 : ℕ) = w := congrArg (fun j : S4x4x64x128.Idx => (j 3 : ℕ)) hx
    rw [Cells.diag (by omega), Cells.pick (by omega) (by omega)]
    unfold put
    refine if_congr (by rw [← e3]; omega) ?_ ?_
    · exact Cells.read1 _ _ _ _ _ _ _ _ _ _ (show (s : ℕ) = 0 by omega) (Fin.forall_fin_two.mpr ⟨rfl, (show 64 * (h : ℕ) + (d : ℕ) = 0 + 128 + 1 * (64 + (x2 : ℕ)) by omega)⟩)
    · exact Cells.read2 _ _ _ _ _ _ _ _ _ _ _ _ _ rfl (show (s : ℕ) = 0 by omega)
        fun | 0 => (show (h : ℕ) = 0 + 3 + 1 * 0 by omega) | 1 => (show (d : ℕ) = 0 + 0 + 1 * (x2 : ℕ) by omega) | 2 => (show ((w : ℕ) + 1) % 128 = 0 + 0 + 1 * (((x3 : ℕ) + 128 - 127) % 128) by omega)
  case piece13 =>
    pointwise []
    have e0 : 0 + 0 + 1 * (x0 : ℕ) = s := congrArg (fun j : S4x4x64x128.Idx => (j 0 : ℕ)) hx
    have e1 : 0 + 2 + 1 * (x1 : ℕ) = h := congrArg (fun j : S4x4x64x128.Idx => (j 1 : ℕ)) hx
    have e2 : 0 + 0 + 1 * (x2 : ℕ) = d := congrArg (fun j : S4x4x64x128.Idx => (j 2 : ℕ)) hx
    have e3 : 0 + 0 + 1 * (x3 : ℕ) = w := congrArg (fun j : S4x4x64x128.Idx => (j 3 : ℕ)) hx
    rw [Cells.diag (by omega), Cells.pick (by omega) (by omega)]
    unfold put
    refine if_congr (by rw [← e3]; omega) ?_ ?_
    · exact Cells.read1 _ _ _ _ _ _ _ _ _ _ (show (s : ℕ) = 0 by omega) (Fin.forall_fin_two.mpr ⟨rfl, (show 64 * (h : ℕ) + (d : ℕ) = 0 + 128 + 1 * ((x2 : ℕ)) by omega)⟩)
    · exact Cells.read2 _ _ _ _ _ _ _ _ _ _ _ _ _ rfl (show (s : ℕ) = 0 by omega)
        fun | 0 => (show (h : ℕ) = 0 + 2 + 1 * 0 by omega) | 1 => (show (d : ℕ) = 0 + 0 + 1 * (x2 : ℕ) by omega) | 2 => (show ((w : ℕ) + 1) % 128 = 0 + 0 + 1 * (((x3 : ℕ) + 128 - 127) % 128) by omega)
  case piece14 =>
    pointwise []
    have e0 : 0 + 0 + 1 * (x0 : ℕ) = s := congrArg (fun j : S4x4x64x128.Idx => (j 0 : ℕ)) hx
    have e1 : 0 + 1 + 1 * (x1 : ℕ) = h := congrArg (fun j : S4x4x64x128.Idx => (j 1 : ℕ)) hx
    have e2 : 0 + 0 + 1 * (x2 : ℕ) = d := congrArg (fun j : S4x4x64x128.Idx => (j 2 : ℕ)) hx
    have e3 : 0 + 0 + 1 * (x3 : ℕ) = w := congrArg (fun j : S4x4x64x128.Idx => (j 3 : ℕ)) hx
    rw [Cells.diag (by omega), Cells.pick (by omega) (by omega)]
    unfold put
    refine if_congr (by rw [← e3]; omega) ?_ ?_
    · exact Cells.read1 _ _ _ _ _ _ _ _ _ _ (show (s : ℕ) = 0 by omega) (Fin.forall_fin_two.mpr ⟨rfl, (show 64 * (h : ℕ) + (d : ℕ) = 0 + 0 + 1 * (64 + (x2 : ℕ)) by omega)⟩)
    · exact Cells.read2 _ _ _ _ _ _ _ _ _ _ _ _ _ rfl (show (s : ℕ) = 0 by omega)
        fun | 0 => (show (h : ℕ) = 0 + 1 + 1 * 0 by omega) | 1 => (show (d : ℕ) = 0 + 0 + 1 * (x2 : ℕ) by omega) | 2 => (show ((w : ℕ) + 1) % 128 = 0 + 0 + 1 * (((x3 : ℕ) + 128 - 127) % 128) by omega)
  case piece15 =>
    pointwise []
    have e0 : 0 + 0 + 1 * (x0 : ℕ) = s := congrArg (fun j : S4x4x64x128.Idx => (j 0 : ℕ)) hx
    have e1 : 0 + 0 + 1 * (x1 : ℕ) = h := congrArg (fun j : S4x4x64x128.Idx => (j 1 : ℕ)) hx
    have e2 : 0 + 0 + 1 * (x2 : ℕ) = d := congrArg (fun j : S4x4x64x128.Idx => (j 2 : ℕ)) hx
    have e3 : 0 + 0 + 1 * (x3 : ℕ) = w := congrArg (fun j : S4x4x64x128.Idx => (j 3 : ℕ)) hx
    rw [Cells.diag (by omega), Cells.pick (by omega) (by omega)]
    unfold put
    refine if_congr (by rw [← e3]; omega) ?_ ?_
    · exact Cells.read1 _ _ _ _ _ _ _ _ _ _ (show (s : ℕ) = 0 by omega) (Fin.forall_fin_two.mpr ⟨rfl, (show 64 * (h : ℕ) + (d : ℕ) = 0 + 0 + 1 * ((x2 : ℕ)) by omega)⟩)
    · exact Cells.read2 _ _ _ _ _ _ _ _ _ _ _ _ _ rfl (show (s : ℕ) = 0 by omega)
        fun | 0 => (show (h : ℕ) = 0 + 0 + 1 * 0 by omega) | 1 => (show (d : ℕ) = 0 + 0 + 1 * (x2 : ℕ) by omega) | 2 => (show ((w : ℕ) + 1) % 128 = 0 + 0 + 1 * (((x3 : ℕ) + 128 - 127) % 128) by omega)

end Cert.Proof.Ss
end
-- ==== Proof.SsClaim.lean ====
module

public import proofs.«01_k».proof.Defs
public import proofs.«01_k».proof.Proof.SsValue
public import proofs.«01_k».proof.Proof.SsKFrame
public import proofs.«01_k».proof.Proof.Gen.SsRIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.SsClaim

open Idealize.ShloMosaic Idealize.ShloMosaic.TcCoe Idealize.SL.Sem
open Idealize.ShloMosaic.Pipeline (Dat)
open Cert.Proof.Ss (put turn point10 point11)
open Cert.Proof.SsKIdealFrame (data ends10 ends11 whole frame)

section kernel
open Cert.SsKIdeal Cert.SsKIdeal.Gen

variable (m : (ℓ : Loc nD τ sig) → Buf (Elt Ideal) ℓ)

/-- A head's row of keys turned by its position. -/
def rope (x : Fin 64 → EReal) (C S : FVec Ideal S1x32 .f32) (d : Fin 64) : EReal :=
  if h : (d : ℕ) < 32 then x d * C (ix2 0 ⟨d, h⟩) - x ⟨(d : ℕ) + 32, by omega⟩ * S (ix2 0 ⟨d, h⟩)
  else x d * C (ix2 0 ⟨(d : ℕ) - 32, by omega⟩) + x ⟨(d : ℕ) - 32, by omega⟩ * S (ix2 0 ⟨(d : ℕ) - 32, by omega⟩)

/-- One entry of the cache of keys, moved by one, with the new turned keys. -/
def knew (K : FVec Ideal S32x1x256 .f32) (KB : FVec Ideal S2x32x4x64x128 .f32) (C S : FVec Ideal S1x32 .f32) (s : Fin 32) (h : Fin 4) (d : Fin 64) (w : Fin 128) : EReal :=
  put w (fun j => KB (ix5 0 s h d j)) (rope (fun d => K (ix3 s 0 ⟨64 * (h : ℕ) + d, by omega⟩)) C S d)

/-- One entry of the cache of values, moved by one, with the new values. -/
def vnew (W : FVec Ideal S32x1x256 .f32) (VB : FVec Ideal S2x32x4x64x128 .f32) (s : Fin 32) (h : Fin 4) (d : Fin 64) (w : Fin 128) : EReal :=
  put w (fun j => VB (ix5 0 s h d j)) (W (ix3 s 0 ⟨64 * (h : ℕ) + d, by omega⟩))

/-- The whole cache of keys -/
def KNEW (K : FVec Ideal S32x1x256 .f32) (KB : FVec Ideal S2x32x4x64x128 .f32) (C S : FVec Ideal S1x32 .f32) : FVec Ideal S32x4x64x128 .f32 := fun i =>
  knew K KB C S (i 0) (i 1) (i 2) (i 3)

/-- and that of values. -/
def VNEW (W : FVec Ideal S32x1x256 .f32) (VB : FVec Ideal S2x32x4x64x128 .f32) : FVec Ideal S32x4x64x128 .f32 := fun i =>
  vnew W VB (i 0) (i 1) (i 2) (i 3)

/-- The cosines of a position, four times in a row. -/
def cosT (C : FVec Ideal S1x32 .f32) : FVec Ideal S1x128 .f32 :=
  concatenate S1x128 1 [⟨S1x32, C⟩, ⟨S1x32, C⟩, ⟨S1x32, C⟩, ⟨S1x32, C⟩] concatenates_S1x32_S1x32_S1x32_S1x32_S1x128_d1

/-- The sines of a position, four times in a row, those of the first halves with the other sign. -/
def sinT (S : FVec Ideal S1x32 .f32) : FVec Ideal S1x128 .f32 :=
  concatenate S1x128 1 [⟨S1x32, Host.negf S⟩, ⟨S1x32, S⟩, ⟨S1x32, Host.negf S⟩, ⟨S1x32, S⟩] concatenates_S1x32_S1x32_S1x32_S1x32_S1x128_d1

theorem cosT_at (C : FVec Ideal S1x32 .f32) (l : Fin 128) : cosT C (ix2 0 l : S1x128.Idx) = C (ix2 0 ⟨(l : ℕ) % 32, by omega⟩) := by
  unfold cosT
  show (_ : EReal) = _
  pointwise []
  split_ifs <;> exact congrArg C (congrArg (ix2 0) (Fin.ext (by dsimp only <;> omega)))

theorem sinT_at (S : FVec Ideal S1x32 .f32) (l : Fin 128) :
    sinT S (ix2 0 l : S1x128.Idx) = if (l : ℕ) / 32 % 2 = 0 then -S (ix2 0 ⟨(l : ℕ) % 32, by omega⟩) else S (ix2 0 ⟨(l : ℕ) % 32, by omega⟩) := by
  unfold sinT
  show (_ : EReal) = _
  pointwise []
  by_cases e : (l : ℕ) / 32 % 2 = 0
  · rw [if_pos e]
    split_ifs
    all_goals first
      | (exfalso; omega)
      | exact congrArg (fun z => -S z) (congrArg (ix2 0) (Fin.ext (by dsimp only <;> omega)))
  · rw [if_neg e]
    split_ifs
    all_goals first
      | (exfalso; omega)
      | exact congrArg S (congrArg (ix2 0) (Fin.ext (by dsimp only <;> omega)))

theorem V_v0 (c : Dev nD) : V m c main_v0 = cosT (m ((c : Thread nD τ).loc main_arg6)) := by
  unfold cosT V hostOps0
  after_results <;> rfl

theorem V_v3 (c : Dev nD) : V m c main_v3 = sinT (m ((c : Thread nD τ).loc main_arg7)) := by
  unfold sinT V hostOps0
  after_results <;> rfl

/-- The blocks that the windows read or write at each point. -/
theorem idx : ∀ t : Fin cfg0.N, win0_0.index t = ![0, 0] ∧ win0_1.index t = ![0, 0] ∧ win0_5.index t = ![t.val, 0, 0] ∧ win0_6.index t = ![t.val, 0, 0]
    ∧ win0_7.index t = ![0, t.val, 0, 0, 0] ∧ win0_8.index t = ![0, t.val, 0, 0, 0] ∧ win0_10.index t = ![t.val, 0, 0, 0] ∧ win0_11.index t = ![t.val, 0, 0, 0] :=
  (by decide +kernel : ∀ t : Fin grid0.N, _)

theorem A_at (c : Dev nD) (t : Fin cfg0.N) (l : Fin 128) :
    iblk m c 0 t (ix2 0 l : S1x128.Idx) = cosT (m ((c : Thread nD τ).loc main_arg6)) (ix2 0 l) := by
  rw [← V_v0 m c]
  unfold iblk
  refine congrArg (V m c main_v0) (?_ : (win0_0.blk t).view.emb (ix2 0 l : S1x128.Idx) = (ix2 0 l : S1x128.Idx))
  blk_ext [idx t]

theorem B_at (c : Dev nD) (t : Fin cfg0.N) (l : Fin 128) :
    iblk m c 1 t (ix2 0 l : S1x128.Idx) = sinT (m ((c : Thread nD τ).loc main_arg7)) (ix2 0 l) := by
  rw [← V_v3 m c]
  unfold iblk
  refine congrArg (V m c main_v3) (?_ : (win0_1.blk t).view.emb (ix2 0 l : S1x128.Idx) = (ix2 0 l : S1x128.Idx))
  blk_ext [idx t]

theorem K_at (c : Dev nD) (t : Fin cfg0.N) (s : Fin 4) (l : Fin 256) (h : 4 * t.val + s < 32) :
    iblk m c 5 t (ix3 s 0 l : S4x1x256.Idx) = m ((c : Thread nD τ).loc main_arg2) (ix3 ⟨4 * t.val + s, h⟩ 0 l : S32x1x256.Idx) := by
  rw [← V_main_arg2 m c]
  unfold iblk
  refine congrArg (V m c main_arg2) (?_ : (win0_5.blk t).view.emb (ix3 s 0 l : S4x1x256.Idx) = (ix3 ⟨4 * t.val + s, h⟩ 0 l : S32x1x256.Idx))
  blk_ext [idx t]

theorem W_at (c : Dev nD) (t : Fin cfg0.N) (s : Fin 4) (l : Fin 256) (h : 4 * t.val + s < 32) :
    iblk m c 6 t (ix3 s 0 l : S4x1x256.Idx) = m ((c : Thread nD τ).loc main_arg3) (ix3 ⟨4 * t.val + s, h⟩ 0 l : S32x1x256.Idx) := by
  rw [← V_main_arg3 m c]
  unfold iblk
  refine congrArg (V m c main_arg3) (?_ : (win0_6.blk t).view.emb (ix3 s 0 l : S4x1x256.Idx) = (ix3 ⟨4 * t.val + s, h⟩ 0 l : S32x1x256.Idx))
  blk_ext [idx t]

theorem KB_at (c : Dev nD) (t : Fin cfg0.N) (s : Fin 4) (h : Fin 4) (d : Fin 64) (w : Fin 128) (hs : 4 * t.val + s < 32) :
    iblk m c 7 t (ix5 0 s h d w : S1x4x4x64x128.Idx) = m ((c : Thread nD τ).loc main_arg4) (ix5 0 ⟨4 * t.val + s, hs⟩ h d w : S2x32x4x64x128.Idx) := by
  rw [← V_main_arg4 m c]
  unfold iblk
  refine congrArg (V m c main_arg4) (?_ : (win0_7.blk t).view.emb (ix5 0 s h d w : S1x4x4x64x128.Idx) = (ix5 0 ⟨4 * t.val + s, hs⟩ h d w : S2x32x4x64x128.Idx))
  blk_ext [idx t]

theorem VB_at (c : Dev nD) (t : Fin cfg0.N) (s : Fin 4) (h : Fin 4) (d : Fin 64) (w : Fin 128) (hs : 4 * t.val + s < 32) :
    iblk m c 8 t (ix5 0 s h d w : S1x4x4x64x128.Idx) = m ((c : Thread nD τ).loc main_arg5) (ix5 0 ⟨4 * t.val + s, hs⟩ h d w : S2x32x4x64x128.Idx) := by
  rw [← V_main_arg5 m c]
  unfold iblk
  refine congrArg (V m c main_arg5) (?_ : (win0_8.blk t).view.emb (ix5 0 s h d w : S1x4x4x64x128.Idx) = (ix5 0 ⟨4 * t.val + s, hs⟩ h d w : S2x32x4x64x128.Idx))
  blk_ext [idx t]

/-- A row of two heads turned by the tables is each head's row turned by its position. -/
theorem turn_rope (x : Fin 256 → EReal) (A B : FVec Ideal S1x128 .f32) (C S : FVec Ideal S1x32 .f32)
    (hA : ∀ l : Fin 128, A (ix2 0 l) = cosT C (ix2 0 l)) (hB : ∀ l : Fin 128, B (ix2 0 l) = sinT S (ix2 0 l)) (h : Fin 4) (d : Fin 64) :
    turn (fun l => x ⟨128 * ((h : ℕ) / 2) + l, by omega⟩) A B ⟨64 * ((h : ℕ) % 2) + d, by omega⟩ = rope (fun d => x ⟨64 * (h : ℕ) + d, by omega⟩) C S d := by
  unfold turn rope
  rw [hA, hB, cosT_at, sinT_at]
  by_cases hd : (d : ℕ) < 32
  · rw [dif_pos hd, if_pos (by dsimp only <;> omega), if_pos (by dsimp only <;> omega)]
    have e : x ⟨64 * (h : ℕ) + d, by omega⟩ * C (ix2 0 ⟨d, hd⟩) - x ⟨64 * (h : ℕ) + ((d : ℕ) + 32), by omega⟩ * S (ix2 0 ⟨d, hd⟩)
        = x ⟨64 * (h : ℕ) + d, by omega⟩ * C (ix2 0 ⟨d, hd⟩) + x ⟨64 * (h : ℕ) + ((d : ℕ) + 32), by omega⟩ * -S (ix2 0 ⟨d, hd⟩) := by
      rw [mul_neg]
      rfl
    refine Eq.trans ?_ e.symm
    refine congrArg₂ (· + ·) (congrArg₂ (· * ·) (congrArg x (Fin.ext ?_)) (congrArg C (congrArg (ix2 0) (Fin.ext ?_))))
      (congrArg₂ (· * ·) (congrArg x (Fin.ext ?_)) (congrArg (fun z => -S z) (congrArg (ix2 0) (Fin.ext ?_))))
    all_goals (dsimp only; omega)
  · rw [dif_neg hd, if_neg (by dsimp only <;> omega), if_neg (by dsimp only <;> omega)]
    refine congrArg₂ (· + ·) (congrArg₂ (· * ·) (congrArg x (Fin.ext ?_)) (congrArg C (congrArg (ix2 0) (Fin.ext ?_))))
      (congrArg₂ (· * ·) (congrArg x (Fin.ext ?_)) (congrArg S (congrArg (ix2 0) (Fin.ext ?_))))
    all_goals (dsimp only; omega)

theorem put_congr (w : Fin 128) {f g : Fin 128 → EReal} {a b : EReal} (hf : ∀ j, f j = g j) (ha : a = b) : put w f a = put w g b := by
  rw [show f = g from funext hf, ha]

/-- The array of keys that the kernel leaves. -/
theorem final10 (c : Dev nD) : (data m 0 c).arrAt 10 (cfgs 0).N =
    KNEW (m ((c : Thread nD τ).loc main_arg2)) (m ((c : Thread nD τ).loc main_arg4)) (m ((c : Thread nD τ).loc main_arg6)) (m ((c : Thread nD τ).loc main_arg7)) := by
  refine (data m 0 c).arrAt_eq_of_covers 10 _ (by decide +kernel) fun t hf y => ?_
  have ht : t.val < 8 := lt_of_lt_of_eq t.isLt N_0
  blk_simp
  rw [ends10]
  obtain ⟨s, h, d, w, rfl⟩ : ∃ (s : Fin 4) (h : Fin 4) (d : Fin 64) (w : Fin 128), y = (ix4 s h d w : S4x4x64x128.Idx) := ⟨y 0, y 1, y 2, y 3, eq_ix4 y⟩
  have e : (win0_10.blk t).view.emb (ix4 s h d w : S4x4x64x128.Idx) = (ix4 ⟨4 * t.val + s, by omega⟩ h d w : S32x4x64x128.Idx) := by
    blk_ext [idx t]
  rw [e]
  refine (point10 c t s h d w _ _ _ _ _ _ _ _ _).trans ?_
  refine put_congr w (fun j => KB_at m c t s h d j (by omega)) ?_
  refine Eq.trans ?_ (turn_rope (fun l => m ((c : Thread nD τ).loc main_arg2) (ix3 ⟨4 * t.val + s, by omega⟩ 0 l : S32x1x256.Idx)) _ _ _ _ (A_at m c t) (B_at m c t) h d)
  exact congrArg (fun x => turn x _ _ _) (funext fun l => K_at m c t s _ (by omega))

/-- The array of values that the kernel leaves. -/
theorem final11 (c : Dev nD) : (data m 0 c).arrAt 11 (cfgs 0).N =
    VNEW (m ((c : Thread nD τ).loc main_arg3)) (m ((c : Thread nD τ).loc main_arg5)) := by
  refine (data m 0 c).arrAt_eq_of_covers 11 _ (by decide +kernel) fun t hf y => ?_
  have ht : t.val < 8 := lt_of_lt_of_eq t.isLt N_0
  blk_simp
  rw [ends11]
  obtain ⟨s, h, d, w, rfl⟩ : ∃ (s : Fin 4) (h : Fin 4) (d : Fin 64) (w : Fin 128), y = (ix4 s h d w : S4x4x64x128.Idx) := ⟨y 0, y 1, y 2, y 3, eq_ix4 y⟩
  have e : (win0_11.blk t).view.emb (ix4 s h d w : S4x4x64x128.Idx) = (ix4 ⟨4 * t.val + s, by omega⟩ h d w : S32x4x64x128.Idx) := by
    blk_ext [idx t]
  rw [e]
  refine (point11 c t s h d w _ _ _ _ _ _ _ _ _).trans ?_
  exact put_congr w (fun j => VB_at m c t s h d j (by omega)) (W_at m c t s _ (by omega))

end kernel

section reference
open Cert.SsRIdeal Cert.SsRIdeal.Gen

/-- One entry of the reference's cache of keys. -/
theorem refk_at (K : FVec Ideal S32x1x256 .f32) (KB : FVec Ideal S2x32x4x64x128 .f32) (C S : FVec Ideal S1x32 .f32) (s : Fin 32) (h : Fin 4) (d : Fin 64) (w : Fin 128) :
    (extractStridedSlice S32x4x64x128 ![0, 0, 0, 1] (concatenate S32x4x64x129 3 [⟨S32x4x64x128, (shapeCast _ (extractStridedSlice S1x32x4x64x128 ![0, 0, 0, 0, 0] KB slices_S2x32x4x64x128_S1x32x4x64x128_0_0_0_0_0) shapeCasts_S1x32x4x64x128_S32x4x64x128)⟩, ⟨S32x4x64x1, (broadcastInDim S32x4x64x1 ![0, 1, 2] bcast_S32x4x64_S32x4x64x1_0_1_2 (concatenate S32x4x64 2 [⟨S32x4x32, (subf (mulf (extractStridedSlice S32x4x32 ![0, 0, 0] (shapeCast _ K shapeCasts_S32x1x256_S32x4x64) slices_S32x4x64_S32x4x32_0_0_0) (broadcastInDim S32x4x32 ![0, 1, 2] bcast_S1x1x32_S32x4x32_0_1_2 (broadcastInDim S1x1x32 ![1, 2] bcast_S1x32_S1x1x32_1_2 C))) (mulf (extractStridedSlice S32x4x32 ![0, 0, 32] (shapeCast _ K shapeCasts_S32x1x256_S32x4x64) slices_S32x4x64_S32x4x32_0_0_32) (broadcastInDim S32x4x32 ![0, 1, 2] bcast_S1x1x32_S32x4x32_0_1_2 (broadcastInDim S1x1x32 ![1, 2] bcast_S1x32_S1x1x32_1_2 S))))⟩, ⟨S32x4x32, (addf (mulf (extractStridedSlice S32x4x32 ![0, 0, 32] (shapeCast _ K shapeCasts_S32x1x256_S32x4x64) slices_S32x4x64_S32x4x32_0_0_32) (broadcastInDim S32x4x32 ![0, 1, 2] bcast_S1x1x32_S32x4x32_0_1_2 (broadcastInDim S1x1x32 ![1, 2] bcast_S1x32_S1x1x32_1_2 C))) (mulf (extractStridedSlice S32x4x32 ![0, 0, 0] (shapeCast _ K shapeCasts_S32x1x256_S32x4x64) slices_S32x4x64_S32x4x32_0_0_0) (broadcastInDim S32x4x32 ![0, 1, 2] bcast_S1x1x32_S32x4x32_0_1_2 (broadcastInDim S1x1x32 ![1, 2] bcast_S1x32_S1x1x32_1_2 S))))⟩] concatenates_S32x4x32_S32x4x32_S32x4x64_d2))⟩] concatenates_S32x4x64x128_S32x4x64x1_S32x4x64x129_d3) slices_S32x4x64x129_S32x4x64x128_0_0_0_1 : FVec Ideal S32x4x64x128 .f32)
      (ix4 s h d w : S32x4x64x128.Idx) = knew K KB C S s h d w := by
  unfold knew put rope
  show (_ : EReal) = _
  pointwise []
  by_cases hw : (w : ℕ) = 127
  · rw [dif_neg (by omega), if_pos hw]
    by_cases hd : (d : ℕ) < 32
    · rw [dif_pos hd, dif_pos hd]
      refine congrArg₂ (· - ·) (congrArg₂ (· * ·) (congrArg K (congrArg (ix3 s 0) (Fin.ext ?_))) rfl) (congrArg₂ (· * ·) (congrArg K (congrArg (ix3 s 0) (Fin.ext ?_))) rfl)
      all_goals (dsimp only; omega)
    · rw [dif_neg hd, dif_neg hd]
      refine congrArg₂ (· + ·) (congrArg₂ (· * ·) (congrArg K (congrArg (ix3 s 0) (Fin.ext ?_))) rfl) (congrArg₂ (· * ·) (congrArg K (congrArg (ix3 s 0) (Fin.ext ?_))) rfl)
      all_goals (dsimp only; omega)
  · rw [dif_pos (by omega), if_neg hw]
    exact congrArg KB (congrArg (ix5 0 s h d) (Fin.ext (show 1 + (w : ℕ) = ((w : ℕ) + 1) % 128 by omega)))

/-- One entry of the reference's cache of values. -/
theorem refv_at (W : FVec Ideal S32x1x256 .f32) (VB : FVec Ideal S2x32x4x64x128 .f32) (s : Fin 32) (h : Fin 4) (d : Fin 64) (w : Fin 128) :
    (extractStridedSlice S32x4x64x128 ![0, 0, 0, 1] (concatenate S32x4x64x129 3 [⟨S32x4x64x128, (shapeCast _ (extractStridedSlice S1x32x4x64x128 ![0, 0, 0, 0, 0] VB slices_S2x32x4x64x128_S1x32x4x64x128_0_0_0_0_0) shapeCasts_S1x32x4x64x128_S32x4x64x128)⟩, ⟨S32x4x64x1, (broadcastInDim S32x4x64x1 ![0, 1, 2] bcast_S32x4x64_S32x4x64x1_0_1_2 (shapeCast _ W shapeCasts_S32x1x256_S32x4x64))⟩] concatenates_S32x4x64x128_S32x4x64x1_S32x4x64x129_d3) slices_S32x4x64x129_S32x4x64x128_0_0_0_1 : FVec Ideal S32x4x64x128 .f32)
      (ix4 s h d w : S32x4x64x128.Idx) = vnew W VB s h d w := by
  unfold vnew put
  show (_ : EReal) = _
  pointwise []
  by_cases hw : (w : ℕ) = 127
  · rw [dif_neg (by omega), if_pos hw]
    exact congrArg W (congrArg (ix3 s 0) (Fin.ext (show (h : ℕ) * 64 + (d : ℕ) = 64 * (h : ℕ) + d by omega)))
  · rw [dif_pos (by omega), if_neg hw]
    exact congrArg VB (congrArg (ix5 0 s h d) (Fin.ext (show 1 + (w : ℕ) = ((w : ℕ) + 1) % 128 by omega)))

end reference

theorem frame_k : Cert.quiescent_SsK := fun m g _ => Cert.Proof.SsKFrame.frame m g

theorem frame_ki : Cert.quiescent_SsKIdeal := fun m g _ => Cert.Proof.SsKIdealFrame.frame m g

theorem frame_ri : Cert.quiescent_SsRIdeal := fun m g _ =>
  (θ_run _ _ _).mono (fun r h => ⟨fun c => (h c).2.2, sem_eq_zero_of_no_sems (by decide) r.2⟩) (Cert.SsRIdeal.Value.run m g)

theorem preserves : Cert.preserves_SsK_SsKIdeal := trivial

open Cert.SsKIdeal Cert.SsKIdeal.Gen in
/-- The kernel's run and the reference's end with the same caches. -/
theorem algebraic : Cert.algebraic_SsKIdeal_SsRIdeal := fun m g m' g' hp ha =>
  ⟨fun c => KNEW (m ((c.tc : Thread nD τ).loc main_arg2)) (m ((c.tc : Thread nD τ).loc main_arg4)) (m ((c.tc : Thread nD τ).loc main_arg6)) (m ((c.tc : Thread nD τ).loc main_arg7)),
    fun c => VNEW (m ((c.tc : Thread nD τ).loc main_arg3)) (m ((c.tc : Thread nD τ).loc main_arg5)),
    (θ_run _ _ _).mono (fun r h c => ⟨((h.2.1 c).1 10).trans (final10 m c), ((h.2.1 c).1 11).trans (final11 m c), h.1.1 c⟩) (θ_run_and (frame m g) (whole m g)),
    (θ_run _ _ _).mono (fun r h c => ⟨(h c).1.trans (by
        rw [(ha c).2.2.1, (ha c).2.2.2.2.1, (ha c).2.2.2.2.2.2.1, (ha c).2.2.2.2.2.2.2.1]
        funext i
        exact (congrArg _ (eq_ix4 i)).trans (refk_at _ _ _ _ (i 0) (i 1) (i 2) (i 3))), (h c).2.1.trans (by
        rw [(ha c).2.2.2.1, (ha c).2.2.2.2.2.1]
        funext i
        exact (congrArg _ (eq_ix4 i)).trans (refv_at _ _ (i 0) (i 1) (i 2) (i 3))), (h c).2.2⟩) (Cert.SsRIdeal.Value.run m' g')⟩

end Cert.Proof.SsClaim
end
-- ==== Proof.GsKIdealFrame.lean ====
module

public import proofs.«01_k».proof.Proof.Gen.GsKIdeal.Frame.RunA
public import Idealize.ShloMosaic.Lib.Claim

@[expose] public section

set_option maxRecDepth 16384

noncomputable section

namespace Cert.Proof.GsKIdealFrame

open Cert.GsKIdeal Cert.GsKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
variable (m : (ℓ : Loc nD τ sig) → Buf (Elt F) ℓ) (ρ : Dev nD → PrngReg)

/-- What a point leaves in the staging buffer of window 9, from the blocks that it reads. -/
def left9 (c : Dev nD) (t : Fin cfg0.N) (x0 : Vec F S128x512 .bf16) (x1 : Vec F S1x512 .f32) (x2 : Vec F S8x256 .f32) (x3 : Vec F S8x8x128 .f32) (x4 : Vec F S8x8x128 .f32) (x5 : Vec F S8x8x256 .f32) (x6 : Vec F S8x8x256 .f32) (x7 : Vec F S8x1x128 .f32) (x8 : Vec F S1x8x4x128x256 .f32) : Vec F S8x8x256 .f32 :=
  VO0_9.read (Elt F) (VO0_9.writes (Elt F) VO0_9.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6 x7 x8).1)

/-- The stores of a point fill the block of window 9. -/
theorem filled9 (c : Dev nD) (t : Fin cfg0.N) (x0 : Vec F S128x512 .bf16) (x1 : Vec F S1x512 .f32) (x2 : Vec F S8x256 .f32) (x3 : Vec F S8x8x128 .f32) (x4 : Vec F S8x8x128 .f32) (x5 : Vec F S8x8x256 .f32) (x6 : Vec F S8x8x256 .f32) (x7 : Vec F S8x1x128 .f32) (x8 : Vec F S1x8x4x128x256 .f32) (y) :
    ∃ pc ∈ (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6 x7 x8).1, y ∈ pc.1.set :=
  View.cover_of_tiledL (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6 x7 x8).1 ![1, 8, 256] (by sl_kernel_rfl) y

/-- What a point leaves in the staging buffer of window 10, from the blocks that it reads. -/
def left10 (c : Dev nD) (t : Fin cfg0.N) (x0 : Vec F S128x512 .bf16) (x1 : Vec F S1x512 .f32) (x2 : Vec F S8x256 .f32) (x3 : Vec F S8x8x128 .f32) (x4 : Vec F S8x8x128 .f32) (x5 : Vec F S8x8x256 .f32) (x6 : Vec F S8x8x256 .f32) (x7 : Vec F S8x1x128 .f32) (x8 : Vec F S1x8x4x128x256 .f32) : Vec F S8x4x128x256 .f32 :=
  VO0_10.read (Elt F) (VO0_10.writes (Elt F) VO0_10.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6 x7 x8).2.1)

/-- The stores of a point fill the block of window 10. -/
theorem filled10 (c : Dev nD) (t : Fin cfg0.N) (x0 : Vec F S128x512 .bf16) (x1 : Vec F S1x512 .f32) (x2 : Vec F S8x256 .f32) (x3 : Vec F S8x8x128 .f32) (x4 : Vec F S8x8x128 .f32) (x5 : Vec F S8x8x256 .f32) (x6 : Vec F S8x8x256 .f32) (x7 : Vec F S8x1x128 .f32) (x8 : Vec F S1x8x4x128x256 .f32) (y) :
    ∃ pc ∈ (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6 x7 x8).2.1, y ∈ pc.1.set :=
  View.cover_of_tiledL (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6 x7 x8).2.1 ![1, 1, 128, 256] (by sl_kernel_rfl) y

/-- The proof data of the pipeline: inputs stay at their blocks, outputs end at what the point leaves. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => left9 c t (iblk m c 0 t) (iblk m c 1 t) (iblk m c 2 t) (iblk m c 3 t) (iblk m c 4 t) (iblk m c 5 t) (iblk m c 6 t) (iblk m c 7 t) (iblk m c 8 t)
    | ⟨10, _⟩ => left10 c t (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

/-- The arrays are those that the region finds. -/
theorem data_A (c : Dev nD) (w : Fin cfg0.W) : (data m 0 c).A w = V m c (Pipeline.arrRef spec0 w) := by
  dsimp only [data]

theorem ends0 (c : Dev nD) (t : Fin cfg0.N) : (data m 0 c).after 0 t = iblk m c 0 t := by dsimp only [data]
theorem ends1 (c : Dev nD) (t : Fin cfg0.N) : (data m 0 c).after 1 t = iblk m c 1 t := by dsimp only [data]
theorem ends2 (c : Dev nD) (t : Fin cfg0.N) : (data m 0 c).after 2 t = iblk m c 2 t := by dsimp only [data]
theorem ends3 (c : Dev nD) (t : Fin cfg0.N) : (data m 0 c).after 3 t = iblk m c 3 t := by dsimp only [data]
theorem ends4 (c : Dev nD) (t : Fin cfg0.N) : (data m 0 c).after 4 t = iblk m c 4 t := by dsimp only [data]
theorem ends5 (c : Dev nD) (t : Fin cfg0.N) : (data m 0 c).after 5 t = iblk m c 5 t := by dsimp only [data]
theorem ends6 (c : Dev nD) (t : Fin cfg0.N) : (data m 0 c).after 6 t = iblk m c 6 t := by dsimp only [data]
theorem ends7 (c : Dev nD) (t : Fin cfg0.N) : (data m 0 c).after 7 t = iblk m c 7 t := by dsimp only [data]
theorem ends8 (c : Dev nD) (t : Fin cfg0.N) : (data m 0 c).after 8 t = iblk m c 8 t := by dsimp only [data]
theorem ends9 (c : Dev nD) (t : Fin cfg0.N) : (data m 0 c).after 9 t = left9 c t (iblk m c 0 t) (iblk m c 1 t) (iblk m c 2 t) (iblk m c 3 t) (iblk m c 4 t) (iblk m c 5 t) (iblk m c 6 t) (iblk m c 7 t) (iblk m c 8 t) := by dsimp only [data]
theorem ends10 (c : Dev nD) (t : Fin cfg0.N) : (data m 0 c).after 10 t = left10 c t (iblk m c 0 t) (iblk m c 1 t) (iblk m c 2 t) (iblk m c 3 t) (iblk m c 4 t) (iblk m c 5 t) (iblk m c 6 t) (iblk m c 7 t) (iblk m c 8 t) := by dsimp only [data]
theorem starts0 (c : Dev nD) (t : Fin cfg0.N) (d) : (data m 0 c).before 0 t d = iblk m c 0 t := before0_0_of m (data m 0 c) (data_A m c 0) (ends0 m c) t d
theorem starts1 (c : Dev nD) (t : Fin cfg0.N) (d) : (data m 0 c).before 1 t d = iblk m c 1 t := before0_1_of m (data m 0 c) (data_A m c 1) (ends1 m c) t d
theorem starts2 (c : Dev nD) (t : Fin cfg0.N) (d) : (data m 0 c).before 2 t d = iblk m c 2 t := before0_2_of m (data m 0 c) (data_A m c 2) (ends2 m c) t d
theorem starts3 (c : Dev nD) (t : Fin cfg0.N) (d) : (data m 0 c).before 3 t d = iblk m c 3 t := before0_3_of m (data m 0 c) (data_A m c 3) (ends3 m c) t d
theorem starts4 (c : Dev nD) (t : Fin cfg0.N) (d) : (data m 0 c).before 4 t d = iblk m c 4 t := before0_4_of m (data m 0 c) (data_A m c 4) (ends4 m c) t d
theorem starts5 (c : Dev nD) (t : Fin cfg0.N) (d) : (data m 0 c).before 5 t d = iblk m c 5 t := before0_5_of m (data m 0 c) (data_A m c 5) (ends5 m c) t d
theorem starts6 (c : Dev nD) (t : Fin cfg0.N) (d) : (data m 0 c).before 6 t d = iblk m c 6 t := before0_6_of m (data m 0 c) (data_A m c 6) (ends6 m c) t d
theorem starts7 (c : Dev nD) (t : Fin cfg0.N) (d) : (data m 0 c).before 7 t d = iblk m c 7 t := before0_7_of m (data m 0 c) (data_A m c 7) (ends7 m c) t d
theorem starts8 (c : Dev nD) (t : Fin cfg0.N) (d) : (data m 0 c).before 8 t d = iblk m c 8 t := before0_8_of m (data m 0 c) (data_A m c 8) (ends8 m c) t d

set_option maxHeartbeats 800000 in
/-- The body at any point takes the staging buffers from their contents before to those after. -/
theorem body_at (c : Dev nD) (t : Fin cfg0.N) :
    iprop((data m 0 c).Φ t.castSucc ∗ (data m 0 c).owesAt () t.castSucc
      ∗ (∃ d, owns (c : Thread nD τ) (ms0_0 t) fullShare ((data m 0 c).before 0 t d))
      ∗ (∃ d, owns (c : Thread nD τ) (ms0_1 t) fullShare ((data m 0 c).before 1 t d))
      ∗ (∃ d, owns (c : Thread nD τ) (ms0_2 t) fullShare ((data m 0 c).before 2 t d))
      ∗ (∃ d, owns (c : Thread nD τ) (ms0_3 t) fullShare ((data m 0 c).before 3 t d))
      ∗ (∃ d, owns (c : Thread nD τ) (ms0_4 t) fullShare ((data m 0 c).before 4 t d))
      ∗ (∃ d, owns (c : Thread nD τ) (ms0_5 t) fullShare ((data m 0 c).before 5 t d))
      ∗ (∃ d, owns (c : Thread nD τ) (ms0_6 t) fullShare ((data m 0 c).before 6 t d))
      ∗ (∃ d, owns (c : Thread nD τ) (ms0_7 t) fullShare ((data m 0 c).before 7 t d))
      ∗ (∃ d, owns (c : Thread nD τ) (ms0_8 t) fullShare ((data m 0 c).before 8 t d))
      ∗ (∃ d, owns (c : Thread nD τ) (ms0_9 t) fullShare ((data m 0 c).before 9 t d))
      ∗ (∃ d, owns (c : Thread nD τ) (ms0_10 t) fullShare ((data m 0 c).before 10 t d)))
      ⊢ wp frame (wpE (defs₀ (F := F)) Variants.none c none) Set.univ (bodyAt0 t) (fun _ =>
        iprop((data m 0 c).Φ t.succ ∗ (data m 0 c).owesAt () t.succ
        ∗ owns (c : Thread nD τ) (ms0_0 t) fullShare ((data m 0 c).after 0 t)
        ∗ owns (c : Thread nD τ) (ms0_1 t) fullShare ((data m 0 c).after 1 t)
        ∗ owns (c : Thread nD τ) (ms0_2 t) fullShare ((data m 0 c).after 2 t)
        ∗ owns (c : Thread nD τ) (ms0_3 t) fullShare ((data m 0 c).after 3 t)
        ∗ owns (c : Thread nD τ) (ms0_4 t) fullShare ((data m 0 c).after 4 t)
        ∗ owns (c : Thread nD τ) (ms0_5 t) fullShare ((data m 0 c).after 5 t)
        ∗ owns (c : Thread nD τ) (ms0_6 t) fullShare ((data m 0 c).after 6 t)
        ∗ owns (c : Thread nD τ) (ms0_7 t) fullShare ((data m 0 c).after 7 t)
        ∗ owns (c : Thread nD τ) (ms0_8 t) fullShare ((data m 0 c).after 8 t)
        ∗ owns (c : Thread nD τ) (ms0_9 t) fullShare ((data m 0 c).after 9 t)
        ∗ owns (c : Thread nD τ) (ms0_10 t) fullShare ((data m 0 c).after 10 t))) := by
  unfold bodyAt0
  simp only [starts0, starts1, starts2, starts3, starts4, starts5, starts6, starts7, starts8]
  rw [show (data m 0 c).Φ t.succ = (data m 0 c).Φ t.castSucc from rfl,
    show (data m 0 c).owesAt () t.succ = (data m 0 c).owesAt () t.castSucc from rfl,
    ends0, ends1, ends2, ends3, ends4, ends5, ends6, ends7, ends8, ends9, ends10]
  unfold left9 left10
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, ⟨%e9, H9⟩, ⟨%e10, H10⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (filled9 c t _ _ _ _ _ _ _ _ _)
  unfold owns; iexists _; isplitr
  swap; · iexact H10
  ipureintro; exact View.read_writes_of_cover _ _ _ _ _ (filled10 c t _ _ _ _ _ _ _ _ _)

/-- The obligation of the pipeline about its body, at every point. -/
theorem obligation (c : Dev nD) : BodyObligation (data (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (body_at m c t) rfl .rfl fun _ => .rfl

set_option backward.isDefEq.respectTransparency.types false in
/-- The whole run, with the arrays of the pipeline and the counters at its end. -/
theorem whole : θ_run defs (onTc (τ := τ) (main (F := F))) (s₀ m ρ) (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_A m) (hΦ := fun _ _ => rfl)

/-- The run ends, with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (data m) (data_A m) ((θ_run defs _ _).mono (fun _ h => h.1) (whole m ρ)))
    ((θ_run defs _ _).mono (fun _ h => h.2) (whole m ρ))

end Cert.Proof.GsKIdealFrame

end
-- ==== Proof.GsValue.lean ====
module

public import proofs.«01_k».proof.Proof.GsKIdealFrame
public import proofs.«01_k».proof.Proof.Cells
public import Idealize.ShloMosaic.Lib.Pipeline.ValueKit
public import Idealize.ShloMosaic.Lib.Pointwise

@[expose] public section

set_option maxRecDepth 16384

noncomputable section

namespace Cert.Proof.Gs

open Idealize.ShloMosaic Idealize.ShloMosaic.TcCoe Idealize.SL.Sem
open Idealize.ShloMosaic.Pipeline (Dat)
open Cert.GsKIdeal Cert.GsKIdeal.Gen Cert.Proof.GsKIdealFrame

variable (m : (ℓ : Loc nD τ sig) → Buf (Elt Ideal) ℓ)

/-- The number that a gate gives for one column of the keys, before its bound. -/
def gate (W : FVec Ideal S128x512 .bf16) (BG : FVec Ideal S1x512 .f32) (r : Fin 128 → EReal) (j : Fin 512) : EReal :=
  (∑ x : Fin 128, r x * W (ix2 x j)) + BG (ix2 0 j)

/-- The decay that such a number stands for. -/
def decay (z : EReal) : EReal :=
  Ideal.exp ((min z 0 - Ideal.log1p (Ideal.exp (0 - max z (-z)))) * Ideal.ofBits FTy.f32 1031798784#32)

set_option maxHeartbeats 2000000 in
/-- What a point of the grid leaves in its block of the states, entry by entry. -/
theorem point10 (c : Dev nD) (t : Fin cfg0.N) (s : Fin 8) (h : Fin 4) (a : Fin 128) (b : Fin 256)
    (W : FVec Ideal S128x512 .bf16) (BG : FVec Ideal S1x512 .f32) (GN : FVec Ideal S8x256 .f32) (Q K : FVec Ideal S8x8x128 .f32) (V G : FVec Ideal S8x8x256 .f32) (LR : FVec Ideal S8x1x128 .f32) (ST : FVec Ideal S1x8x4x128x256 .f32) :
    left10 (F := Ideal) c t W BG GN Q K V G LR ST (ix4 s h a b : S8x4x128x256.Idx) =
      ST (ix5 0 s h a b) * decay (gate W BG (fun x => LR (ix3 s 0 x)) ⟨128 * (h : ℕ) + a, by omega⟩)
        + K (ix3 s ⟨h, by omega⟩ a) * V (ix3 s ⟨h, by omega⟩ b) := by
  show (_ : EReal) = _
  unfold left10
  frame_out
  canon_tiles x hx
  all_goals open_payloads
  all_goals idx_vars x
  case piece0 =>
    pointwise []
    have e0 : 7 + 0 + 1 * (x0 : ℕ) = s := congrArg (fun j : S8x4x128x256.Idx => (j 0 : ℕ)) hx
    have e1 : 0 + 3 + 1 * (x1 : ℕ) = h := congrArg (fun j : S8x4x128x256.Idx => (j 1 : ℕ)) hx
    have e2 : 0 + 0 + 1 * (x2 : ℕ) = a := congrArg (fun j : S8x4x128x256.Idx => (j 2 : ℕ)) hx
    have e3 : 0 + 0 + 1 * (x3 : ℕ) = b := congrArg (fun j : S8x4x128x256.Idx => (j 3 : ℕ)) hx
    obtain rfl : s = 7 := Fin.ext (show (s : ℕ) = 7 by omega)
    obtain rfl : h = 3 := Fin.ext (show (h : ℕ) = 3 by omega)
    obtain rfl : x2 = a := Fin.ext (by omega)
    obtain rfl : x3 = b := Fin.ext (by omega)
    rw [Cells.diag (by omega), Cells.diag (by omega)]
    refine congrArg₂ (· + ·) (congrArg₂ (· * ·) (Cells.read2 _ _ _ _ _ _ _ _ _ _ _ _ _ rfl rfl
        fun | 0 => (show 3 = 0 + 3 + 1 * 0 by omega) | 1 => (show (x2 : ℕ) = 0 + 0 + 1 * (x2 : ℕ) by omega) | 2 => (show (x3 : ℕ) = 0 + 0 + 1 * (x3 : ℕ) by omega)) ?_) rfl
    show decay _ = decay _
    exact congrArg decay (congrArg (gate W BG (fun x => LR (ix3 7 0 x))) (Fin.ext (show 384 + (x2 : ℕ) = 128 * 3 + (x2 : ℕ) by omega)))
  case piece1 =>
    pointwise []
    have e0 : 7 + 0 + 1 * (x0 : ℕ) = s := congrArg (fun j : S8x4x128x256.Idx => (j 0 : ℕ)) hx
    have e1 : 0 + 2 + 1 * (x1 : ℕ) = h := congrArg (fun j : S8x4x128x256.Idx => (j 1 : ℕ)) hx
    have e2 : 0 + 0 + 1 * (x2 : ℕ) = a := congrArg (fun j : S8x4x128x256.Idx => (j 2 : ℕ)) hx
    have e3 : 0 + 0 + 1 * (x3 : ℕ) = b := congrArg (fun j : S8x4x128x256.Idx => (j 3 : ℕ)) hx
    obtain rfl : s = 7 := Fin.ext (show (s : ℕ) = 7 by omega)
    obtain rfl : h = 2 := Fin.ext (show (h : ℕ) = 2 by omega)
    obtain rfl : x2 = a := Fin.ext (by omega)
    obtain rfl : x3 = b := Fin.ext (by omega)
    rw [Cells.diag (by omega), Cells.diag (by omega)]
    refine congrArg₂ (· + ·) (congrArg₂ (· * ·) (Cells.read2 _ _ _ _ _ _ _ _ _ _ _ _ _ rfl rfl
        fun | 0 => (show 2 = 0 + 2 + 1 * 0 by omega) | 1 => (show (x2 : ℕ) = 0 + 0 + 1 * (x2 : ℕ) by omega) | 2 => (show (x3 : ℕ) = 0 + 0 + 1 * (x3 : ℕ) by omega)) ?_) rfl
    show decay _ = decay _
    exact congrArg decay ((Cells.pick (by omega) (by omega) _ _).trans ((if_neg (by omega)).trans (congrArg (gate W BG (fun x => LR (ix3 7 0 x))) (Fin.ext (show 256 + (x2 : ℕ) = 128 * 2 + (x2 : ℕ) by omega)))))
  case piece2 =>
    pointwise []
    have e0 : 7 + 0 + 1 * (x0 : ℕ) = s := congrArg (fun j : S8x4x128x256.Idx => (j 0 : ℕ)) hx
    have e1 : 0 + 1 + 1 * (x1 : ℕ) = h := congrArg (fun j : S8x4x128x256.Idx => (j 1 : ℕ)) hx
    have e2 : 0 + 0 + 1 * (x2 : ℕ) = a := congrArg (fun j : S8x4x128x256.Idx => (j 2 : ℕ)) hx
    have e3 : 0 + 0 + 1 * (x3 : ℕ) = b := congrArg (fun j : S8x4x128x256.Idx => (j 3 : ℕ)) hx
    obtain rfl : s = 7 := Fin.ext (show (s : ℕ) = 7 by omega)
    obtain rfl : h = 1 := Fin.ext (show (h : ℕ) = 1 by omega)
    obtain rfl : x2 = a := Fin.ext (by omega)
    obtain rfl : x3 = b := Fin.ext (by omega)
    rw [Cells.diag (by omega), Cells.diag (by omega)]
    refine congrArg₂ (· + ·) (congrArg₂ (· * ·) (Cells.read2 _ _ _ _ _ _ _ _ _ _ _ _ _ rfl rfl
        fun | 0 => (show 1 = 0 + 1 + 1 * 0 by omega) | 1 => (show (x2 : ℕ) = 0 + 0 + 1 * (x2 : ℕ) by omega) | 2 => (show (x3 : ℕ) = 0 + 0 + 1 * (x3 : ℕ) by omega)) ?_) rfl
    show decay _ = decay _
    exact congrArg decay ((Cells.pick (by omega) (by omega) _ _).trans ((if_neg (by omega)).trans ((Cells.pick (by omega) (by omega) _ _).trans ((if_neg (by omega)).trans (congrArg (gate W BG (fun x => LR (ix3 7 0 x))) (Fin.ext (show 128 + (x2 : ℕ) = 128 * 1 + (x2 : ℕ) by omega)))))))
  case piece3 =>
    pointwise []
    have e0 : 7 + 0 + 1 * (x0 : ℕ) = s := congrArg (fun j : S8x4x128x256.Idx => (j 0 : ℕ)) hx
    have e1 : 0 + 0 + 1 * (x1 : ℕ) = h := congrArg (fun j : S8x4x128x256.Idx => (j 1 : ℕ)) hx
    have e2 : 0 + 0 + 1 * (x2 : ℕ) = a := congrArg (fun j : S8x4x128x256.Idx => (j 2 : ℕ)) hx
    have e3 : 0 + 0 + 1 * (x3 : ℕ) = b := congrArg (fun j : S8x4x128x256.Idx => (j 3 : ℕ)) hx
    obtain rfl : s = 7 := Fin.ext (show (s : ℕ) = 7 by omega)
    obtain rfl : h = 0 := Fin.ext (show (h : ℕ) = 0 by omega)
    obtain rfl : x2 = a := Fin.ext (by omega)
    obtain rfl : x3 = b := Fin.ext (by omega)
    rw [Cells.diag (by omega), Cells.diag (by omega)]
    refine congrArg₂ (· + ·) (congrArg₂ (· * ·) (Cells.read2 _ _ _ _ _ _ _ _ _ _ _ _ _ rfl rfl
        fun | 0 => (show 0 = 0 + 0 + 1 * 0 by omega) | 1 => (show (x2 : ℕ) = 0 + 0 + 1 * (x2 : ℕ) by omega) | 2 => (show (x3 : ℕ) = 0 + 0 + 1 * (x3 : ℕ) by omega)) ?_) rfl
    show decay _ = decay _
    exact congrArg decay ((Cells.pick (by omega) (by omega) _ _).trans ((if_neg (by omega)).trans ((Cells.pick (by omega) (by omega) _ _).trans ((if_neg (by omega)).trans ((Cells.pick (by omega) (by omega) _ _).trans ((if_neg (by omega)).trans (congrArg (gate W BG (fun x => LR (ix3 7 0 x))) (Fin.ext (show (x2 : ℕ) = 128 * 0 + (x2 : ℕ) by omega)))))))))
  case piece4 =>
    pointwise []
    have e0 : 6 + 0 + 1 * (x0 : ℕ) = s := congrArg (fun j : S8x4x128x256.Idx => (j 0 : ℕ)) hx
    have e1 : 0 + 3 + 1 * (x1 : ℕ) = h := congrArg (fun j : S8x4x128x256.Idx => (j 1 : ℕ)) hx
    have e2 : 0 + 0 + 1 * (x2 : ℕ) = a := congrArg (fun j : S8x4x128x256.Idx => (j 2 : ℕ)) hx
    have e3 : 0 + 0 + 1 * (x3 : ℕ) = b := congrArg (fun j : S8x4x128x256.Idx => (j 3 : ℕ)) hx
    obtain rfl : s = 6 := Fin.ext (show (s : ℕ) = 6 by omega)
    obtain rfl : h = 3 := Fin.ext (show (h : ℕ) = 3 by omega)
    obtain rfl : x2 = a := Fin.ext (by omega)
    obtain rfl : x3 = b := Fin.ext (by omega)
    rw [Cells.diag (by omega), Cells.diag (by omega)]
    refine congrArg₂ (· + ·) (congrArg₂ (· * ·) (Cells.read2 _ _ _ _ _ _ _ _ _ _ _ _ _ rfl rfl
        fun | 0 => (show 3 = 0 + 3 + 1 * 0 by omega) | 1 => (show (x2 : ℕ) = 0 + 0 + 1 * (x2 : ℕ) by omega) | 2 => (show (x3 : ℕ) = 0 + 0 + 1 * (x3 : ℕ) by omega)) ?_) rfl
    show decay _ = decay _
    exact congrArg decay (congrArg (gate W BG (fun x => LR (ix3 6 0 x))) (Fin.ext (show 384 + (x2 : ℕ) = 128 * 3 + (x2 : ℕ) by omega)))
  case piece5 =>
    pointwise []
    have e0 : 6 + 0 + 1 * (x0 : ℕ) = s := congrArg (fun j : S8x4x128x256.Idx => (j 0 : ℕ)) hx
    have e1 : 0 + 2 + 1 * (x1 : ℕ) = h := congrArg (fun j : S8x4x128x256.Idx => (j 1 : ℕ)) hx
    have e2 : 0 + 0 + 1 * (x2 : ℕ) = a := congrArg (fun j : S8x4x128x256.Idx => (j 2 : ℕ)) hx
    have e3 : 0 + 0 + 1 * (x3 : ℕ) = b := congrArg (fun j : S8x4x128x256.Idx => (j 3 : ℕ)) hx
    obtain rfl : s = 6 := Fin.ext (show (s : ℕ) = 6 by omega)
    obtain rfl : h = 2 := Fin.ext (show (h : ℕ) = 2 by omega)
    obtain rfl : x2 = a := Fin.ext (by omega)
    obtain rfl : x3 = b := Fin.ext (by omega)
    rw [Cells.diag (by omega), Cells.diag (by omega)]
    refine congrArg₂ (· + ·) (congrArg₂ (· * ·) (Cells.read2 _ _ _ _ _ _ _ _ _ _ _ _ _ rfl rfl
        fun | 0 => (show 2 = 0 + 2 + 1 * 0 by omega) | 1 => (show (x2 : ℕ) = 0 + 0 + 1 * (x2 : ℕ) by omega) | 2 => (show (x3 : ℕ) = 0 + 0 + 1 * (x3 : ℕ) by omega)) ?_) rfl
    show decay _ = decay _
    exact congrArg decay ((Cells.pick (by omega) (by omega) _ _).trans ((if_neg (by omega)).trans (congrArg (gate W BG (fun x => LR (ix3 6 0 x))) (Fin.ext (show 256 + (x2 : ℕ) = 128 * 2 + (x2 : ℕ) by omega)))))
  case piece6 =>
    pointwise []
    have e0 : 6 + 0 + 1 * (x0 : ℕ) = s := congrArg (fun j : S8x4x128x256.Idx => (j 0 : ℕ)) hx
    have e1 : 0 + 1 + 1 * (x1 : ℕ) = h := congrArg (fun j : S8x4x128x256.Idx => (j 1 : ℕ)) hx
    have e2 : 0 + 0 + 1 * (x2 : ℕ) = a := congrArg (fun j : S8x4x128x256.Idx => (j 2 : ℕ)) hx
    have e3 : 0 + 0 + 1 * (x3 : ℕ) = b := congrArg (fun j : S8x4x128x256.Idx => (j 3 : ℕ)) hx
    obtain rfl : s = 6 := Fin.ext (show (s : ℕ) = 6 by omega)
    obtain rfl : h = 1 := Fin.ext (show (h : ℕ) = 1 by omega)
    obtain rfl : x2 = a := Fin.ext (by omega)
    obtain rfl : x3 = b := Fin.ext (by omega)
    rw [Cells.diag (by omega), Cells.diag (by omega)]
    refine congrArg₂ (· + ·) (congrArg₂ (· * ·) (Cells.read2 _ _ _ _ _ _ _ _ _ _ _ _ _ rfl rfl
        fun | 0 => (show 1 = 0 + 1 + 1 * 0 by omega) | 1 => (show (x2 : ℕ) = 0 + 0 + 1 * (x2 : ℕ) by omega) | 2 => (show (x3 : ℕ) = 0 + 0 + 1 * (x3 : ℕ) by omega)) ?_) rfl
    show decay _ = decay _
    exact congrArg decay ((Cells.pick (by omega) (by omega) _ _).trans ((if_neg (by omega)).trans ((Cells.pick (by omega) (by omega) _ _).trans ((if_neg (by omega)).trans (congrArg (gate W BG (fun x => LR (ix3 6 0 x))) (Fin.ext (show 128 + (x2 : ℕ) = 128 * 1 + (x2 : ℕ) by omega)))))))
  case piece7 =>
    pointwise []
    have e0 : 6 + 0 + 1 * (x0 : ℕ) = s := congrArg (fun j : S8x4x128x256.Idx => (j 0 : ℕ)) hx
    have e1 : 0 + 0 + 1 * (x1 : ℕ) = h := congrArg (fun j : S8x4x128x256.Idx => (j 1 : ℕ)) hx
    have e2 : 0 + 0 + 1 * (x2 : ℕ) = a := congrArg (fun j : S8x4x128x256.Idx => (j 2 : ℕ)) hx
    have e3 : 0 + 0 + 1 * (x3 : ℕ) = b := congrArg (fun j : S8x4x128x256.Idx => (j 3 : ℕ)) hx
    obtain rfl : s = 6 := Fin.ext (show (s : ℕ) = 6 by omega)
    obtain rfl : h = 0 := Fin.ext (show (h : ℕ) = 0 by omega)
    obtain rfl : x2 = a := Fin.ext (by omega)
    obtain rfl : x3 = b := Fin.ext (by omega)
    rw [Cells.diag (by omega), Cells.diag (by omega)]
    refine congrArg₂ (· + ·) (congrArg₂ (· * ·) (Cells.read2 _ _ _ _ _ _ _ _ _ _ _ _ _ rfl rfl
        fun | 0 => (show 0 = 0 + 0 + 1 * 0 by omega) | 1 => (show (x2 : ℕ) = 0 + 0 + 1 * (x2 : ℕ) by omega) | 2 => (show (x3 : ℕ) = 0 + 0 + 1 * (x3 : ℕ) by omega)) ?_) rfl
    show decay _ = decay _
    exact congrArg decay ((Cells.pick (by omega) (by omega) _ _).trans ((if_neg (by omega)).trans ((Cells.pick (by omega) (by omega) _ _).trans ((if_neg (by omega)).trans ((Cells.pick (by omega) (by omega) _ _).trans ((if_neg (by omega)).trans (congrArg (gate W BG (fun x => LR (ix3 6 0 x))) (Fin.ext (show (x2 : ℕ) = 128 * 0 + (x2 : ℕ) by omega)))))))))
  case piece8 =>
    pointwise []
    have e0 : 5 + 0 + 1 * (x0 : ℕ) = s := congrArg (fun j : S8x4x128x256.Idx => (j 0 : ℕ)) hx
    have e1 : 0 + 3 + 1 * (x1 : ℕ) = h := congrArg (fun j : S8x4x128x256.Idx => (j 1 : ℕ)) hx
    have e2 : 0 + 0 + 1 * (x2 : ℕ) = a := congrArg (fun j : S8x4x128x256.Idx => (j 2 : ℕ)) hx
    have e3 : 0 + 0 + 1 * (x3 : ℕ) = b := congrArg (fun j : S8x4x128x256.Idx => (j 3 : ℕ)) hx
    obtain rfl : s = 5 := Fin.ext (show (s : ℕ) = 5 by omega)
    obtain rfl : h = 3 := Fin.ext (show (h : ℕ) = 3 by omega)
    obtain rfl : x2 = a := Fin.ext (by omega)
    obtain rfl : x3 = b := Fin.ext (by omega)
    rw [Cells.diag (by omega), Cells.diag (by omega)]
    refine congrArg₂ (· + ·) (congrArg₂ (· * ·) (Cells.read2 _ _ _ _ _ _ _ _ _ _ _ _ _ rfl rfl
        fun | 0 => (show 3 = 0 + 3 + 1 * 0 by omega) | 1 => (show (x2 : ℕ) = 0 + 0 + 1 * (x2 : ℕ) by omega) | 2 => (show (x3 : ℕ) = 0 + 0 + 1 * (x3 : ℕ) by omega)) ?_) rfl
    show decay _ = decay _
    exact congrArg decay (congrArg (gate W BG (fun x => LR (ix3 5 0 x))) (Fin.ext (show 384 + (x2 : ℕ) = 128 * 3 + (x2 : ℕ) by omega)))
  case piece9 =>
    pointwise []
    have e0 : 5 + 0 + 1 * (x0 : ℕ) = s := congrArg (fun j : S8x4x128x256.Idx => (j 0 : ℕ)) hx
    have e1 : 0 + 2 + 1 * (x1 : ℕ) = h := congrArg (fun j : S8x4x128x256.Idx => (j 1 : ℕ)) hx
    have e2 : 0 + 0 + 1 * (x2 : ℕ) = a := congrArg (fun j : S8x4x128x256.Idx => (j 2 : ℕ)) hx
    have e3 : 0 + 0 + 1 * (x3 : ℕ) = b := congrArg (fun j : S8x4x128x256.Idx => (j 3 : ℕ)) hx
    obtain rfl : s = 5 := Fin.ext (show (s : ℕ) = 5 by omega)
    obtain rfl : h = 2 := Fin.ext (show (h : ℕ) = 2 by omega)
    obtain rfl : x2 = a := Fin.ext (by omega)
    obtain rfl : x3 = b := Fin.ext (by omega)
    rw [Cells.diag (by omega), Cells.diag (by omega)]
    refine congrArg₂ (· + ·) (congrArg₂ (· * ·) (Cells.read2 _ _ _ _ _ _ _ _ _ _ _ _ _ rfl rfl
        fun | 0 => (show 2 = 0 + 2 + 1 * 0 by omega) | 1 => (show (x2 : ℕ) = 0 + 0 + 1 * (x2 : ℕ) by omega) | 2 => (show (x3 : ℕ) = 0 + 0 + 1 * (x3 : ℕ) by omega)) ?_) rfl
    show decay _ = decay _
    exact congrArg decay ((Cells.pick (by omega) (by omega) _ _).trans ((if_neg (by omega)).trans (congrArg (gate W BG (fun x => LR (ix3 5 0 x))) (Fin.ext (show 256 + (x2 : ℕ) = 128 * 2 + (x2 : ℕ) by omega)))))
  case piece10 =>
    pointwise []
    have e0 : 5 + 0 + 1 * (x0 : ℕ) = s := congrArg (fun j : S8x4x128x256.Idx => (j 0 : ℕ)) hx
    have e1 : 0 + 1 + 1 * (x1 : ℕ) = h := congrArg (fun j : S8x4x128x256.Idx => (j 1 : ℕ)) hx
    have e2 : 0 + 0 + 1 * (x2 : ℕ) = a := congrArg (fun j : S8x4x128x256.Idx => (j 2 : ℕ)) hx
    have e3 : 0 + 0 + 1 * (x3 : ℕ) = b := congrArg (fun j : S8x4x128x256.Idx => (j 3 : ℕ)) hx
    obtain rfl : s = 5 := Fin.ext (show (s : ℕ) = 5 by omega)
    obtain rfl : h = 1 := Fin.ext (show (h : ℕ) = 1 by omega)
    obtain rfl : x2 = a := Fin.ext (by omega)
    obtain rfl : x3 = b := Fin.ext (by omega)
    rw [Cells.diag (by omega), Cells.diag (by omega)]
    refine congrArg₂ (· + ·) (congrArg₂ (· * ·) (Cells.read2 _ _ _ _ _ _ _ _ _ _ _ _ _ rfl rfl
        fun | 0 => (show 1 = 0 + 1 + 1 * 0 by omega) | 1 => (show (x2 : ℕ) = 0 + 0 + 1 * (x2 : ℕ) by omega) | 2 => (show (x3 : ℕ) = 0 + 0 + 1 * (x3 : ℕ) by omega)) ?_) rfl
    show decay _ = decay _
    exact congrArg decay ((Cells.pick (by omega) (by omega) _ _).trans ((if_neg (by omega)).trans ((Cells.pick (by omega) (by omega) _ _).trans ((if_neg (by omega)).trans (congrArg (gate W BG (fun x => LR (ix3 5 0 x))) (Fin.ext (show 128 + (x2 : ℕ) = 128 * 1 + (x2 : ℕ) by omega)))))))
  case piece11 =>
    pointwise []
    have e0 : 5 + 0 + 1 * (x0 : ℕ) = s := congrArg (fun j : S8x4x128x256.Idx => (j 0 : ℕ)) hx
    have e1 : 0 + 0 + 1 * (x1 : ℕ) = h := congrArg (fun j : S8x4x128x256.Idx => (j 1 : ℕ)) hx
    have e2 : 0 + 0 + 1 * (x2 : ℕ) = a := congrArg (fun j : S8x4x128x256.Idx => (j 2 : ℕ)) hx
    have e3 : 0 + 0 + 1 * (x3 : ℕ) = b := congrArg (fun j : S8x4x128x256.Idx => (j 3 : ℕ)) hx
    obtain rfl : s = 5 := Fin.ext (show (s : ℕ) = 5 by omega)
    obtain rfl : h = 0 := Fin.ext (show (h : ℕ) = 0 by omega)
    obtain rfl : x2 = a := Fin.ext (by omega)
    obtain rfl : x3 = b := Fin.ext (by omega)
    rw [Cells.diag (by omega), Cells.diag (by omega)]
    refine congrArg₂ (· + ·) (congrArg₂ (· * ·) (Cells.read2 _ _ _ _ _ _ _ _ _ _ _ _ _ rfl rfl
        fun | 0 => (show 0 = 0 + 0 + 1 * 0 by omega) | 1 => (show (x2 : ℕ) = 0 + 0 + 1 * (x2 : ℕ) by omega) | 2 => (show (x3 : ℕ) = 0 + 0 + 1 * (x3 : ℕ) by omega)) ?_) rfl
    show decay _ = decay _
    exact congrArg decay ((Cells.pick (by omega) (by omega) _ _).trans ((if_neg (by omega)).trans ((Cells.pick (by omega) (by omega) _ _).trans ((if_neg (by omega)).trans ((Cells.pick (by omega) (by omega) _ _).trans ((if_neg (by omega)).trans (congrArg (gate W BG (fun x => LR (ix3 5 0 x))) (Fin.ext (show (x2 : ℕ) = 128 * 0 + (x2 : ℕ) by omega)))))))))
  case piece12 =>
    pointwise []
    have e0 : 4 + 0 + 1 * (x0 : ℕ) = s := congrArg (fun j : S8x4x128x256.Idx => (j 0 : ℕ)) hx
    have e1 : 0 + 3 + 1 * (x1 : ℕ) = h := congrArg (fun j : S8x4x128x256.Idx => (j 1 : ℕ)) hx
    have e2 : 0 + 0 + 1 * (x2 : ℕ) = a := congrArg (fun j : S8x4x128x256.Idx => (j 2 : ℕ)) hx
    have e3 : 0 + 0 + 1 * (x3 : ℕ) = b := congrArg (fun j : S8x4x128x256.Idx => (j 3 : ℕ)) hx
    obtain rfl : s = 4 := Fin.ext (show (s : ℕ) = 4 by omega)
    obtain rfl : h = 3 := Fin.ext (show (h : ℕ) = 3 by omega)
    obtain rfl : x2 = a := Fin.ext (by omega)
    obtain rfl : x3 = b := Fin.ext (by omega)
    rw [Cells.diag (by omega), Cells.diag (by omega)]
    refine congrArg₂ (· + ·) (congrArg₂ (· * ·) (Cells.read2 _ _ _ _ _ _ _ _ _ _ _ _ _ rfl rfl
        fun | 0 => (show 3 = 0 + 3 + 1 * 0 by omega) | 1 => (show (x2 : ℕ) = 0 + 0 + 1 * (x2 : ℕ) by omega) | 2 => (show (x3 : ℕ) = 0 + 0 + 1 * (x3 : ℕ) by omega)) ?_) rfl
    show decay _ = decay _
    exact congrArg decay (congrArg (gate W BG (fun x => LR (ix3 4 0 x))) (Fin.ext (show 384 + (x2 : ℕ) = 128 * 3 + (x2 : ℕ) by omega)))
  case piece13 =>
    pointwise []
    have e0 : 4 + 0 + 1 * (x0 : ℕ) = s := congrArg (fun j : S8x4x128x256.Idx => (j 0 : ℕ)) hx
    have e1 : 0 + 2 + 1 * (x1 : ℕ) = h := congrArg (fun j : S8x4x128x256.Idx => (j 1 : ℕ)) hx
    have e2 : 0 + 0 + 1 * (x2 : ℕ) = a := congrArg (fun j : S8x4x128x256.Idx => (j 2 : ℕ)) hx
    have e3 : 0 + 0 + 1 * (x3 : ℕ) = b := congrArg (fun j : S8x4x128x256.Idx => (j 3 : ℕ)) hx
    obtain rfl : s = 4 := Fin.ext (show (s : ℕ) = 4 by omega)
    obtain rfl : h = 2 := Fin.ext (show (h : ℕ) = 2 by omega)
    obtain rfl : x2 = a := Fin.ext (by omega)
    obtain rfl : x3 = b := Fin.ext (by omega)
    rw [Cells.diag (by omega), Cells.diag (by omega)]
    refine congrArg₂ (· + ·) (congrArg₂ (· * ·) (Cells.read2 _ _ _ _ _ _ _ _ _ _ _ _ _ rfl rfl
        fun | 0 => (show 2 = 0 + 2 + 1 * 0 by omega) | 1 => (show (x2 : ℕ) = 0 + 0 + 1 * (x2 : ℕ) by omega) | 2 => (show (x3 : ℕ) = 0 + 0 + 1 * (x3 : ℕ) by omega)) ?_) rfl
    show decay _ = decay _
    exact congrArg decay ((Cells.pick (by omega) (by omega) _ _).trans ((if_neg (by omega)).trans (congrArg (gate W BG (fun x => LR (ix3 4 0 x))) (Fin.ext (show 256 + (x2 : ℕ) = 128 * 2 + (x2 : ℕ) by omega)))))
  case piece14 =>
    pointwise []
    have e0 : 4 + 0 + 1 * (x0 : ℕ) = s := congrArg (fun j : S8x4x128x256.Idx => (j 0 : ℕ)) hx
    have e1 : 0 + 1 + 1 * (x1 : ℕ) = h := congrArg (fun j : S8x4x128x256.Idx => (j 1 : ℕ)) hx
    have e2 : 0 + 0 + 1 * (x2 : ℕ) = a := congrArg (fun j : S8x4x128x256.Idx => (j 2 : ℕ)) hx
    have e3 : 0 + 0 + 1 * (x3 : ℕ) = b := congrArg (fun j : S8x4x128x256.Idx => (j 3 : ℕ)) hx
    obtain rfl : s = 4 := Fin.ext (show (s : ℕ) = 4 by omega)
    obtain rfl : h = 1 := Fin.ext (show (h : ℕ) = 1 by omega)
    obtain rfl : x2 = a := Fin.ext (by omega)
    obtain rfl : x3 = b := Fin.ext (by omega)
    rw [Cells.diag (by omega), Cells.diag (by omega)]
    refine congrArg₂ (· + ·) (congrArg₂ (· * ·) (Cells.read2 _ _ _ _ _ _ _ _ _ _ _ _ _ rfl rfl
        fun | 0 => (show 1 = 0 + 1 + 1 * 0 by omega) | 1 => (show (x2 : ℕ) = 0 + 0 + 1 * (x2 : ℕ) by omega) | 2 => (show (x3 : ℕ) = 0 + 0 + 1 * (x3 : ℕ) by omega)) ?_) rfl
    show decay _ = decay _
    exact congrArg decay ((Cells.pick (by omega) (by omega) _ _).trans ((if_neg (by omega)).trans ((Cells.pick (by omega) (by omega) _ _).trans ((if_neg (by omega)).trans (congrArg (gate W BG (fun x => LR (ix3 4 0 x))) (Fin.ext (show 128 + (x2 : ℕ) = 128 * 1 + (x2 : ℕ) by omega)))))))
  case piece15 =>
    pointwise []
    have e0 : 4 + 0 + 1 * (x0 : ℕ) = s := congrArg (fun j : S8x4x128x256.Idx => (j 0 : ℕ)) hx
    have e1 : 0 + 0 + 1 * (x1 : ℕ) = h := congrArg (fun j : S8x4x128x256.Idx => (j 1 : ℕ)) hx
    have e2 : 0 + 0 + 1 * (x2 : ℕ) = a := congrArg (fun j : S8x4x128x256.Idx => (j 2 : ℕ)) hx
    have e3 : 0 + 0 + 1 * (x3 : ℕ) = b := congrArg (fun j : S8x4x128x256.Idx => (j 3 : ℕ)) hx
    obtain rfl : s = 4 := Fin.ext (show (s : ℕ) = 4 by omega)
    obtain rfl : h = 0 := Fin.ext (show (h : ℕ) = 0 by omega)
    obtain rfl : x2 = a := Fin.ext (by omega)
    obtain rfl : x3 = b := Fin.ext (by omega)
    rw [Cells.diag (by omega), Cells.diag (by omega)]
    refine congrArg₂ (· + ·) (congrArg₂ (· * ·) (Cells.read2 _ _ _ _ _ _ _ _ _ _ _ _ _ rfl rfl
        fun | 0 => (show 0 = 0 + 0 + 1 * 0 by omega) | 1 => (show (x2 : ℕ) = 0 + 0 + 1 * (x2 : ℕ) by omega) | 2 => (show (x3 : ℕ) = 0 + 0 + 1 * (x3 : ℕ) by omega)) ?_) rfl
    show decay _ = decay _
    exact congrArg decay ((Cells.pick (by omega) (by omega) _ _).trans ((if_neg (by omega)).trans ((Cells.pick (by omega) (by omega) _ _).trans ((if_neg (by omega)).trans ((Cells.pick (by omega) (by omega) _ _).trans ((if_neg (by omega)).trans (congrArg (gate W BG (fun x => LR (ix3 4 0 x))) (Fin.ext (show (x2 : ℕ) = 128 * 0 + (x2 : ℕ) by omega)))))))))
  case piece16 =>
    pointwise []
    have e0 : 3 + 0 + 1 * (x0 : ℕ) = s := congrArg (fun j : S8x4x128x256.Idx => (j 0 : ℕ)) hx
    have e1 : 0 + 3 + 1 * (x1 : ℕ) = h := congrArg (fun j : S8x4x128x256.Idx => (j 1 : ℕ)) hx
    have e2 : 0 + 0 + 1 * (x2 : ℕ) = a := congrArg (fun j : S8x4x128x256.Idx => (j 2 : ℕ)) hx
    have e3 : 0 + 0 + 1 * (x3 : ℕ) = b := congrArg (fun j : S8x4x128x256.Idx => (j 3 : ℕ)) hx
    obtain rfl : s = 3 := Fin.ext (show (s : ℕ) = 3 by omega)
    obtain rfl : h = 3 := Fin.ext (show (h : ℕ) = 3 by omega)
    obtain rfl : x2 = a := Fin.ext (by omega)
    obtain rfl : x3 = b := Fin.ext (by omega)
    rw [Cells.diag (by omega), Cells.diag (by omega)]
    refine congrArg₂ (· + ·) (congrArg₂ (· * ·) (Cells.read2 _ _ _ _ _ _ _ _ _ _ _ _ _ rfl rfl
        fun | 0 => (show 3 = 0 + 3 + 1 * 0 by omega) | 1 => (show (x2 : ℕ) = 0 + 0 + 1 * (x2 : ℕ) by omega) | 2 => (show (x3 : ℕ) = 0 + 0 + 1 * (x3 : ℕ) by omega)) ?_) rfl
    show decay _ = decay _
    exact congrArg decay (congrArg (gate W BG (fun x => LR (ix3 3 0 x))) (Fin.ext (show 384 + (x2 : ℕ) = 128 * 3 + (x2 : ℕ) by omega)))
  case piece17 =>
    pointwise []
    have e0 : 3 + 0 + 1 * (x0 : ℕ) = s := congrArg (fun j : S8x4x128x256.Idx => (j 0 : ℕ)) hx
    have e1 : 0 + 2 + 1 * (x1 : ℕ) = h := congrArg (fun j : S8x4x128x256.Idx => (j 1 : ℕ)) hx
    have e2 : 0 + 0 + 1 * (x2 : ℕ) = a := congrArg (fun j : S8x4x128x256.Idx => (j 2 : ℕ)) hx
    have e3 : 0 + 0 + 1 * (x3 : ℕ) = b := congrArg (fun j : S8x4x128x256.Idx => (j 3 : ℕ)) hx
    obtain rfl : s = 3 := Fin.ext (show (s : ℕ) = 3 by omega)
    obtain rfl : h = 2 := Fin.ext (show (h : ℕ) = 2 by omega)
    obtain rfl : x2 = a := Fin.ext (by omega)
    obtain rfl : x3 = b := Fin.ext (by omega)
    rw [Cells.diag (by omega), Cells.diag (by omega)]
    refine congrArg₂ (· + ·) (congrArg₂ (· * ·) (Cells.read2 _ _ _ _ _ _ _ _ _ _ _ _ _ rfl rfl
        fun | 0 => (show 2 = 0 + 2 + 1 * 0 by omega) | 1 => (show (x2 : ℕ) = 0 + 0 + 1 * (x2 : ℕ) by omega) | 2 => (show (x3 : ℕ) = 0 + 0 + 1 * (x3 : ℕ) by omega)) ?_) rfl
    show decay _ = decay _
    exact congrArg decay ((Cells.pick (by omega) (by omega) _ _).trans ((if_neg (by omega)).trans (congrArg (gate W BG (fun x => LR (ix3 3 0 x))) (Fin.ext (show 256 + (x2 : ℕ) = 128 * 2 + (x2 : ℕ) by omega)))))
  case piece18 =>
    pointwise []
    have e0 : 3 + 0 + 1 * (x0 : ℕ) = s := congrArg (fun j : S8x4x128x256.Idx => (j 0 : ℕ)) hx
    have e1 : 0 + 1 + 1 * (x1 : ℕ) = h := congrArg (fun j : S8x4x128x256.Idx => (j 1 : ℕ)) hx
    have e2 : 0 + 0 + 1 * (x2 : ℕ) = a := congrArg (fun j : S8x4x128x256.Idx => (j 2 : ℕ)) hx
    have e3 : 0 + 0 + 1 * (x3 : ℕ) = b := congrArg (fun j : S8x4x128x256.Idx => (j 3 : ℕ)) hx
    obtain rfl : s = 3 := Fin.ext (show (s : ℕ) = 3 by omega)
    obtain rfl : h = 1 := Fin.ext (show (h : ℕ) = 1 by omega)
    obtain rfl : x2 = a := Fin.ext (by omega)
    obtain rfl : x3 = b := Fin.ext (by omega)
    rw [Cells.diag (by omega), Cells.diag (by omega)]
    refine congrArg₂ (· + ·) (congrArg₂ (· * ·) (Cells.read2 _ _ _ _ _ _ _ _ _ _ _ _ _ rfl rfl
        fun | 0 => (show 1 = 0 + 1 + 1 * 0 by omega) | 1 => (show (x2 : ℕ) = 0 + 0 + 1 * (x2 : ℕ) by omega) | 2 => (show (x3 : ℕ) = 0 + 0 + 1 * (x3 : ℕ) by omega)) ?_) rfl
    show decay _ = decay _
    exact congrArg decay ((Cells.pick (by omega) (by omega) _ _).trans ((if_neg (by omega)).trans ((Cells.pick (by omega) (by omega) _ _).trans ((if_neg (by omega)).trans (congrArg (gate W BG (fun x => LR (ix3 3 0 x))) (Fin.ext (show 128 + (x2 : ℕ) = 128 * 1 + (x2 : ℕ) by omega)))))))
  case piece19 =>
    pointwise []
    have e0 : 3 + 0 + 1 * (x0 : ℕ) = s := congrArg (fun j : S8x4x128x256.Idx => (j 0 : ℕ)) hx
    have e1 : 0 + 0 + 1 * (x1 : ℕ) = h := congrArg (fun j : S8x4x128x256.Idx => (j 1 : ℕ)) hx
    have e2 : 0 + 0 + 1 * (x2 : ℕ) = a := congrArg (fun j : S8x4x128x256.Idx => (j 2 : ℕ)) hx
    have e3 : 0 + 0 + 1 * (x3 : ℕ) = b := congrArg (fun j : S8x4x128x256.Idx => (j 3 : ℕ)) hx
    obtain rfl : s = 3 := Fin.ext (show (s : ℕ) = 3 by omega)
    obtain rfl : h = 0 := Fin.ext (show (h : ℕ) = 0 by omega)
    obtain rfl : x2 = a := Fin.ext (by omega)
    obtain rfl : x3 = b := Fin.ext (by omega)
    rw [Cells.diag (by omega), Cells.diag (by omega)]
    refine congrArg₂ (· + ·) (congrArg₂ (· * ·) (Cells.read2 _ _ _ _ _ _ _ _ _ _ _ _ _ rfl rfl
        fun | 0 => (show 0 = 0 + 0 + 1 * 0 by omega) | 1 => (show (x2 : ℕ) = 0 + 0 + 1 * (x2 : ℕ) by omega) | 2 => (show (x3 : ℕ) = 0 + 0 + 1 * (x3 : ℕ) by omega)) ?_) rfl
    show decay _ = decay _
    exact congrArg decay ((Cells.pick (by omega) (by omega) _ _).trans ((if_neg (by omega)).trans ((Cells.pick (by omega) (by omega) _ _).trans ((if_neg (by omega)).trans ((Cells.pick (by omega) (by omega) _ _).trans ((if_neg (by omega)).trans (congrArg (gate W BG (fun x => LR (ix3 3 0 x))) (Fin.ext (show (x2 : ℕ) = 128 * 0 + (x2 : ℕ) by omega)))))))))
  case piece20 =>
    pointwise []
    have e0 : 2 + 0 + 1 * (x0 : ℕ) = s := congrArg (fun j : S8x4x128x256.Idx => (j 0 : ℕ)) hx
    have e1 : 0 + 3 + 1 * (x1 : ℕ) = h := congrArg (fun j : S8x4x128x256.Idx => (j 1 : ℕ)) hx
    have e2 : 0 + 0 + 1 * (x2 : ℕ) = a := congrArg (fun j : S8x4x128x256.Idx => (j 2 : ℕ)) hx
    have e3 : 0 + 0 + 1 * (x3 : ℕ) = b := congrArg (fun j : S8x4x128x256.Idx => (j 3 : ℕ)) hx
    obtain rfl : s = 2 := Fin.ext (show (s : ℕ) = 2 by omega)
    obtain rfl : h = 3 := Fin.ext (show (h : ℕ) = 3 by omega)
    obtain rfl : x2 = a := Fin.ext (by omega)
    obtain rfl : x3 = b := Fin.ext (by omega)
    rw [Cells.diag (by omega), Cells.diag (by omega)]
    refine congrArg₂ (· + ·) (congrArg₂ (· * ·) (Cells.read2 _ _ _ _ _ _ _ _ _ _ _ _ _ rfl rfl
        fun | 0 => (show 3 = 0 + 3 + 1 * 0 by omega) | 1 => (show (x2 : ℕ) = 0 + 0 + 1 * (x2 : ℕ) by omega) | 2 => (show (x3 : ℕ) = 0 + 0 + 1 * (x3 : ℕ) by omega)) ?_) rfl
    show decay _ = decay _
    exact congrArg decay (congrArg (gate W BG (fun x => LR (ix3 2 0 x))) (Fin.ext (show 384 + (x2 : ℕ) = 128 * 3 + (x2 : ℕ) by omega)))
  case piece21 =>
    pointwise []
    have e0 : 2 + 0 + 1 * (x0 : ℕ) = s := congrArg (fun j : S8x4x128x256.Idx => (j 0 : ℕ)) hx
    have e1 : 0 + 2 + 1 * (x1 : ℕ) = h := congrArg (fun j : S8x4x128x256.Idx => (j 1 : ℕ)) hx
    have e2 : 0 + 0 + 1 * (x2 : ℕ) = a := congrArg (fun j : S8x4x128x256.Idx => (j 2 : ℕ)) hx
    have e3 : 0 + 0 + 1 * (x3 : ℕ) = b := congrArg (fun j : S8x4x128x256.Idx => (j 3 : ℕ)) hx
    obtain rfl : s = 2 := Fin.ext (show (s : ℕ) = 2 by omega)
    obtain rfl : h = 2 := Fin.ext (show (h : ℕ) = 2 by omega)
    obtain rfl : x2 = a := Fin.ext (by omega)
    obtain rfl : x3 = b := Fin.ext (by omega)
    rw [Cells.diag (by omega), Cells.diag (by omega)]
    refine congrArg₂ (· + ·) (congrArg₂ (· * ·) (Cells.read2 _ _ _ _ _ _ _ _ _ _ _ _ _ rfl rfl
        fun | 0 => (show 2 = 0 + 2 + 1 * 0 by omega) | 1 => (show (x2 : ℕ) = 0 + 0 + 1 * (x2 : ℕ) by omega) | 2 => (show (x3 : ℕ) = 0 + 0 + 1 * (x3 : ℕ) by omega)) ?_) rfl
    show decay _ = decay _
    exact congrArg decay ((Cells.pick (by omega) (by omega) _ _).trans ((if_neg (by omega)).trans (congrArg (gate W BG (fun x => LR (ix3 2 0 x))) (Fin.ext (show 256 + (x2 : ℕ) = 128 * 2 + (x2 : ℕ) by omega)))))
  case piece22 =>
    pointwise []
    have e0 : 2 + 0 + 1 * (x0 : ℕ) = s := congrArg (fun j : S8x4x128x256.Idx => (j 0 : ℕ)) hx
    have e1 : 0 + 1 + 1 * (x1 : ℕ) = h := congrArg (fun j : S8x4x128x256.Idx => (j 1 : ℕ)) hx
    have e2 : 0 + 0 + 1 * (x2 : ℕ) = a := congrArg (fun j : S8x4x128x256.Idx => (j 2 : ℕ)) hx
    have e3 : 0 + 0 + 1 * (x3 : ℕ) = b := congrArg (fun j : S8x4x128x256.Idx => (j 3 : ℕ)) hx
    obtain rfl : s = 2 := Fin.ext (show (s : ℕ) = 2 by omega)
    obtain rfl : h = 1 := Fin.ext (show (h : ℕ) = 1 by omega)
    obtain rfl : x2 = a := Fin.ext (by omega)
    obtain rfl : x3 = b := Fin.ext (by omega)
    rw [Cells.diag (by omega), Cells.diag (by omega)]
    refine congrArg₂ (· + ·) (congrArg₂ (· * ·) (Cells.read2 _ _ _ _ _ _ _ _ _ _ _ _ _ rfl rfl
        fun | 0 => (show 1 = 0 + 1 + 1 * 0 by omega) | 1 => (show (x2 : ℕ) = 0 + 0 + 1 * (x2 : ℕ) by omega) | 2 => (show (x3 : ℕ) = 0 + 0 + 1 * (x3 : ℕ) by omega)) ?_) rfl
    show decay _ = decay _
    exact congrArg decay ((Cells.pick (by omega) (by omega) _ _).trans ((if_neg (by omega)).trans ((Cells.pick (by omega) (by omega) _ _).trans ((if_neg (by omega)).trans (congrArg (gate W BG (fun x => LR (ix3 2 0 x))) (Fin.ext (show 128 + (x2 : ℕ) = 128 * 1 + (x2 : ℕ) by omega)))))))
  case piece23 =>
    pointwise []
    have e0 : 2 + 0 + 1 * (x0 : ℕ) = s := congrArg (fun j : S8x4x128x256.Idx => (j 0 : ℕ)) hx
    have e1 : 0 + 0 + 1 * (x1 : ℕ) = h := congrArg (fun j : S8x4x128x256.Idx => (j 1 : ℕ)) hx
    have e2 : 0 + 0 + 1 * (x2 : ℕ) = a := congrArg (fun j : S8x4x128x256.Idx => (j 2 : ℕ)) hx
    have e3 : 0 + 0 + 1 * (x3 : ℕ) = b := congrArg (fun j : S8x4x128x256.Idx => (j 3 : ℕ)) hx
    obtain rfl : s = 2 := Fin.ext (show (s : ℕ) = 2 by omega)
    obtain rfl : h = 0 := Fin.ext (show (h : ℕ) = 0 by omega)
    obtain rfl : x2 = a := Fin.ext (by omega)
    obtain rfl : x3 = b := Fin.ext (by omega)
    rw [Cells.diag (by omega), Cells.diag (by omega)]
    refine congrArg₂ (· + ·) (congrArg₂ (· * ·) (Cells.read2 _ _ _ _ _ _ _ _ _ _ _ _ _ rfl rfl
        fun | 0 => (show 0 = 0 + 0 + 1 * 0 by omega) | 1 => (show (x2 : ℕ) = 0 + 0 + 1 * (x2 : ℕ) by omega) | 2 => (show (x3 : ℕ) = 0 + 0 + 1 * (x3 : ℕ) by omega)) ?_) rfl
    show decay _ = decay _
    exact congrArg decay ((Cells.pick (by omega) (by omega) _ _).trans ((if_neg (by omega)).trans ((Cells.pick (by omega) (by omega) _ _).trans ((if_neg (by omega)).trans ((Cells.pick (by omega) (by omega) _ _).trans ((if_neg (by omega)).trans (congrArg (gate W BG (fun x => LR (ix3 2 0 x))) (Fin.ext (show (x2 : ℕ) = 128 * 0 + (x2 : ℕ) by omega)))))))))
  case piece24 =>
    pointwise []
    have e0 : 1 + 0 + 1 * (x0 : ℕ) = s := congrArg (fun j : S8x4x128x256.Idx => (j 0 : ℕ)) hx
    have e1 : 0 + 3 + 1 * (x1 : ℕ) = h := congrArg (fun j : S8x4x128x256.Idx => (j 1 : ℕ)) hx
    have e2 : 0 + 0 + 1 * (x2 : ℕ) = a := congrArg (fun j : S8x4x128x256.Idx => (j 2 : ℕ)) hx
    have e3 : 0 + 0 + 1 * (x3 : ℕ) = b := congrArg (fun j : S8x4x128x256.Idx => (j 3 : ℕ)) hx
    obtain rfl : s = 1 := Fin.ext (show (s : ℕ) = 1 by omega)
    obtain rfl : h = 3 := Fin.ext (show (h : ℕ) = 3 by omega)
    obtain rfl : x2 = a := Fin.ext (by omega)
    obtain rfl : x3 = b := Fin.ext (by omega)
    rw [Cells.diag (by omega), Cells.diag (by omega)]
    refine congrArg₂ (· + ·) (congrArg₂ (· * ·) (Cells.read2 _ _ _ _ _ _ _ _ _ _ _ _ _ rfl rfl
        fun | 0 => (show 3 = 0 + 3 + 1 * 0 by omega) | 1 => (show (x2 : ℕ) = 0 + 0 + 1 * (x2 : ℕ) by omega) | 2 => (show (x3 : ℕ) = 0 + 0 + 1 * (x3 : ℕ) by omega)) ?_) rfl
    show decay _ = decay _
    exact congrArg decay (congrArg (gate W BG (fun x => LR (ix3 1 0 x))) (Fin.ext (show 384 + (x2 : ℕ) = 128 * 3 + (x2 : ℕ) by omega)))
  case piece25 =>
    pointwise []
    have e0 : 1 + 0 + 1 * (x0 : ℕ) = s := congrArg (fun j : S8x4x128x256.Idx => (j 0 : ℕ)) hx
    have e1 : 0 + 2 + 1 * (x1 : ℕ) = h := congrArg (fun j : S8x4x128x256.Idx => (j 1 : ℕ)) hx
    have e2 : 0 + 0 + 1 * (x2 : ℕ) = a := congrArg (fun j : S8x4x128x256.Idx => (j 2 : ℕ)) hx
    have e3 : 0 + 0 + 1 * (x3 : ℕ) = b := congrArg (fun j : S8x4x128x256.Idx => (j 3 : ℕ)) hx
    obtain rfl : s = 1 := Fin.ext (show (s : ℕ) = 1 by omega)
    obtain rfl : h = 2 := Fin.ext (show (h : ℕ) = 2 by omega)
    obtain rfl : x2 = a := Fin.ext (by omega)
    obtain rfl : x3 = b := Fin.ext (by omega)
    rw [Cells.diag (by omega), Cells.diag (by omega)]
    refine congrArg₂ (· + ·) (congrArg₂ (· * ·) (Cells.read2 _ _ _ _ _ _ _ _ _ _ _ _ _ rfl rfl
        fun | 0 => (show 2 = 0 + 2 + 1 * 0 by omega) | 1 => (show (x2 : ℕ) = 0 + 0 + 1 * (x2 : ℕ) by omega) | 2 => (show (x3 : ℕ) = 0 + 0 + 1 * (x3 : ℕ) by omega)) ?_) rfl
    show decay _ = decay _
    exact congrArg decay ((Cells.pick (by omega) (by omega) _ _).trans ((if_neg (by omega)).trans (congrArg (gate W BG (fun x => LR (ix3 1 0 x))) (Fin.ext (show 256 + (x2 : ℕ) = 128 * 2 + (x2 : ℕ) by omega)))))
  case piece26 =>
    pointwise []
    have e0 : 1 + 0 + 1 * (x0 : ℕ) = s := congrArg (fun j : S8x4x128x256.Idx => (j 0 : ℕ)) hx
    have e1 : 0 + 1 + 1 * (x1 : ℕ) = h := congrArg (fun j : S8x4x128x256.Idx => (j 1 : ℕ)) hx
    have e2 : 0 + 0 + 1 * (x2 : ℕ) = a := congrArg (fun j : S8x4x128x256.Idx => (j 2 : ℕ)) hx
    have e3 : 0 + 0 + 1 * (x3 : ℕ) = b := congrArg (fun j : S8x4x128x256.Idx => (j 3 : ℕ)) hx
    obtain rfl : s = 1 := Fin.ext (show (s : ℕ) = 1 by omega)
    obtain rfl : h = 1 := Fin.ext (show (h : ℕ) = 1 by omega)
    obtain rfl : x2 = a := Fin.ext (by omega)
    obtain rfl : x3 = b := Fin.ext (by omega)
    rw [Cells.diag (by omega), Cells.diag (by omega)]
    refine congrArg₂ (· + ·) (congrArg₂ (· * ·) (Cells.read2 _ _ _ _ _ _ _ _ _ _ _ _ _ rfl rfl
        fun | 0 => (show 1 = 0 + 1 + 1 * 0 by omega) | 1 => (show (x2 : ℕ) = 0 + 0 + 1 * (x2 : ℕ) by omega) | 2 => (show (x3 : ℕ) = 0 + 0 + 1 * (x3 : ℕ) by omega)) ?_) rfl
    show decay _ = decay _
    exact congrArg decay ((Cells.pick (by omega) (by omega) _ _).trans ((if_neg (by omega)).trans ((Cells.pick (by omega) (by omega) _ _).trans ((if_neg (by omega)).trans (congrArg (gate W BG (fun x => LR (ix3 1 0 x))) (Fin.ext (show 128 + (x2 : ℕ) = 128 * 1 + (x2 : ℕ) by omega)))))))
  case piece27 =>
    pointwise []
    have e0 : 1 + 0 + 1 * (x0 : ℕ) = s := congrArg (fun j : S8x4x128x256.Idx => (j 0 : ℕ)) hx
    have e1 : 0 + 0 + 1 * (x1 : ℕ) = h := congrArg (fun j : S8x4x128x256.Idx => (j 1 : ℕ)) hx
    have e2 : 0 + 0 + 1 * (x2 : ℕ) = a := congrArg (fun j : S8x4x128x256.Idx => (j 2 : ℕ)) hx
    have e3 : 0 + 0 + 1 * (x3 : ℕ) = b := congrArg (fun j : S8x4x128x256.Idx => (j 3 : ℕ)) hx
    obtain rfl : s = 1 := Fin.ext (show (s : ℕ) = 1 by omega)
    obtain rfl : h = 0 := Fin.ext (show (h : ℕ) = 0 by omega)
    obtain rfl : x2 = a := Fin.ext (by omega)
    obtain rfl : x3 = b := Fin.ext (by omega)
    rw [Cells.diag (by omega), Cells.diag (by omega)]
    refine congrArg₂ (· + ·) (congrArg₂ (· * ·) (Cells.read2 _ _ _ _ _ _ _ _ _ _ _ _ _ rfl rfl
        fun | 0 => (show 0 = 0 + 0 + 1 * 0 by omega) | 1 => (show (x2 : ℕ) = 0 + 0 + 1 * (x2 : ℕ) by omega) | 2 => (show (x3 : ℕ) = 0 + 0 + 1 * (x3 : ℕ) by omega)) ?_) rfl
    show decay _ = decay _
    exact congrArg decay ((Cells.pick (by omega) (by omega) _ _).trans ((if_neg (by omega)).trans ((Cells.pick (by omega) (by omega) _ _).trans ((if_neg (by omega)).trans ((Cells.pick (by omega) (by omega) _ _).trans ((if_neg (by omega)).trans (congrArg (gate W BG (fun x => LR (ix3 1 0 x))) (Fin.ext (show (x2 : ℕ) = 128 * 0 + (x2 : ℕ) by omega)))))))))
  case piece28 =>
    pointwise []
    have e0 : 0 + 0 + 1 * (x0 : ℕ) = s := congrArg (fun j : S8x4x128x256.Idx => (j 0 : ℕ)) hx
    have e1 : 0 + 3 + 1 * (x1 : ℕ) = h := congrArg (fun j : S8x4x128x256.Idx => (j 1 : ℕ)) hx
    have e2 : 0 + 0 + 1 * (x2 : ℕ) = a := congrArg (fun j : S8x4x128x256.Idx => (j 2 : ℕ)) hx
    have e3 : 0 + 0 + 1 * (x3 : ℕ) = b := congrArg (fun j : S8x4x128x256.Idx => (j 3 : ℕ)) hx
    obtain rfl : s = 0 := Fin.ext (show (s : ℕ) = 0 by omega)
    obtain rfl : h = 3 := Fin.ext (show (h : ℕ) = 3 by omega)
    obtain rfl : x2 = a := Fin.ext (by omega)
    obtain rfl : x3 = b := Fin.ext (by omega)
    rw [Cells.diag (by omega), Cells.diag (by omega)]
    refine congrArg₂ (· + ·) (congrArg₂ (· * ·) (Cells.read2 _ _ _ _ _ _ _ _ _ _ _ _ _ rfl rfl
        fun | 0 => (show 3 = 0 + 3 + 1 * 0 by omega) | 1 => (show (x2 : ℕ) = 0 + 0 + 1 * (x2 : ℕ) by omega) | 2 => (show (x3 : ℕ) = 0 + 0 + 1 * (x3 : ℕ) by omega)) ?_) rfl
    show decay _ = decay _
    exact congrArg decay (congrArg (gate W BG (fun x => LR (ix3 0 0 x))) (Fin.ext (show 384 + (x2 : ℕ) = 128 * 3 + (x2 : ℕ) by omega)))
  case piece29 =>
    pointwise []
    have e0 : 0 + 0 + 1 * (x0 : ℕ) = s := congrArg (fun j : S8x4x128x256.Idx => (j 0 : ℕ)) hx
    have e1 : 0 + 2 + 1 * (x1 : ℕ) = h := congrArg (fun j : S8x4x128x256.Idx => (j 1 : ℕ)) hx
    have e2 : 0 + 0 + 1 * (x2 : ℕ) = a := congrArg (fun j : S8x4x128x256.Idx => (j 2 : ℕ)) hx
    have e3 : 0 + 0 + 1 * (x3 : ℕ) = b := congrArg (fun j : S8x4x128x256.Idx => (j 3 : ℕ)) hx
    obtain rfl : s = 0 := Fin.ext (show (s : ℕ) = 0 by omega)
    obtain rfl : h = 2 := Fin.ext (show (h : ℕ) = 2 by omega)
    obtain rfl : x2 = a := Fin.ext (by omega)
    obtain rfl : x3 = b := Fin.ext (by omega)
    rw [Cells.diag (by omega), Cells.diag (by omega)]
    refine congrArg₂ (· + ·) (congrArg₂ (· * ·) (Cells.read2 _ _ _ _ _ _ _ _ _ _ _ _ _ rfl rfl
        fun | 0 => (show 2 = 0 + 2 + 1 * 0 by omega) | 1 => (show (x2 : ℕ) = 0 + 0 + 1 * (x2 : ℕ) by omega) | 2 => (show (x3 : ℕ) = 0 + 0 + 1 * (x3 : ℕ) by omega)) ?_) rfl
    show decay _ = decay _
    exact congrArg decay ((Cells.pick (by omega) (by omega) _ _).trans ((if_neg (by omega)).trans (congrArg (gate W BG (fun x => LR (ix3 0 0 x))) (Fin.ext (show 256 + (x2 : ℕ) = 128 * 2 + (x2 : ℕ) by omega)))))
  case piece30 =>
    pointwise []
    have e0 : 0 + 0 + 1 * (x0 : ℕ) = s := congrArg (fun j : S8x4x128x256.Idx => (j 0 : ℕ)) hx
    have e1 : 0 + 1 + 1 * (x1 : ℕ) = h := congrArg (fun j : S8x4x128x256.Idx => (j 1 : ℕ)) hx
    have e2 : 0 + 0 + 1 * (x2 : ℕ) = a := congrArg (fun j : S8x4x128x256.Idx => (j 2 : ℕ)) hx
    have e3 : 0 + 0 + 1 * (x3 : ℕ) = b := congrArg (fun j : S8x4x128x256.Idx => (j 3 : ℕ)) hx
    obtain rfl : s = 0 := Fin.ext (show (s : ℕ) = 0 by omega)
    obtain rfl : h = 1 := Fin.ext (show (h : ℕ) = 1 by omega)
    obtain rfl : x2 = a := Fin.ext (by omega)
    obtain rfl : x3 = b := Fin.ext (by omega)
    rw [Cells.diag (by omega), Cells.diag (by omega)]
    refine congrArg₂ (· + ·) (congrArg₂ (· * ·) (Cells.read2 _ _ _ _ _ _ _ _ _ _ _ _ _ rfl rfl
        fun | 0 => (show 1 = 0 + 1 + 1 * 0 by omega) | 1 => (show (x2 : ℕ) = 0 + 0 + 1 * (x2 : ℕ) by omega) | 2 => (show (x3 : ℕ) = 0 + 0 + 1 * (x3 : ℕ) by omega)) ?_) rfl
    show decay _ = decay _
    exact congrArg decay ((Cells.pick (by omega) (by omega) _ _).trans ((if_neg (by omega)).trans ((Cells.pick (by omega) (by omega) _ _).trans ((if_neg (by omega)).trans (congrArg (gate W BG (fun x => LR (ix3 0 0 x))) (Fin.ext (show 128 + (x2 : ℕ) = 128 * 1 + (x2 : ℕ) by omega)))))))
  case piece31 =>
    pointwise []
    have e0 : 0 + 0 + 1 * (x0 : ℕ) = s := congrArg (fun j : S8x4x128x256.Idx => (j 0 : ℕ)) hx
    have e1 : 0 + 0 + 1 * (x1 : ℕ) = h := congrArg (fun j : S8x4x128x256.Idx => (j 1 : ℕ)) hx
    have e2 : 0 + 0 + 1 * (x2 : ℕ) = a := congrArg (fun j : S8x4x128x256.Idx => (j 2 : ℕ)) hx
    have e3 : 0 + 0 + 1 * (x3 : ℕ) = b := congrArg (fun j : S8x4x128x256.Idx => (j 3 : ℕ)) hx
    obtain rfl : s = 0 := Fin.ext (show (s : ℕ) = 0 by omega)
    obtain rfl : h = 0 := Fin.ext (show (h : ℕ) = 0 by omega)
    obtain rfl : x2 = a := Fin.ext (by omega)
    obtain rfl : x3 = b := Fin.ext (by omega)
    rw [Cells.diag (by omega), Cells.diag (by omega)]
    refine congrArg₂ (· + ·) (congrArg₂ (· * ·) (Cells.read2 _ _ _ _ _ _ _ _ _ _ _ _ _ rfl rfl
        fun | 0 => (show 0 = 0 + 0 + 1 * 0 by omega) | 1 => (show (x2 : ℕ) = 0 + 0 + 1 * (x2 : ℕ) by omega) | 2 => (show (x3 : ℕ) = 0 + 0 + 1 * (x3 : ℕ) by omega)) ?_) rfl
    show decay _ = decay _
    exact congrArg decay ((Cells.pick (by omega) (by omega) _ _).trans ((if_neg (by omega)).trans ((Cells.pick (by omega) (by omega) _ _).trans ((if_neg (by omega)).trans ((Cells.pick (by omega) (by omega) _ _).trans ((if_neg (by omega)).trans (congrArg (gate W BG (fun x => LR (ix3 0 0 x))) (Fin.ext (show (x2 : ℕ) = 128 * 0 + (x2 : ℕ) by omega)))))))))

end Cert.Proof.Gs
end
-- ==== Proof.GsClaim.lean ====
module

public import proofs.«01_k».proof.Defs
public import proofs.«01_k».proof.Proof.GsValue
public import proofs.«01_k».proof.Proof.GsKFrame
public import proofs.«01_k».proof.Proof.Gen.GsRIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.GsClaim

open Idealize.ShloMosaic Idealize.ShloMosaic.TcCoe Idealize.SL.Sem
open Idealize.ShloMosaic.Pipeline (Dat)
open Cert.Proof.Gs (gate decay point10)
open Cert.Proof.GsKIdealFrame (data ends10 whole frame)

section kernel
open Cert.GsKIdeal Cert.GsKIdeal.Gen

variable (m : (ℓ : Loc nD τ sig) → Buf (Elt Ideal) ℓ)

/-- One entry of the new states: the decayed old one plus the product of key and value. -/
def snew (K : FVec Ideal S32x8x128 .f32) (V : FVec Ideal S32x8x256 .f32) (LR : FVec Ideal S32x1x128 .f32) (W : FVec Ideal S128x512 .bf16) (BG : FVec Ideal S1x512 .f32) (ST : FVec Ideal S2x32x4x128x256 .f32) (s : Fin 32) (h : Fin 4) (a : Fin 128) (b : Fin 256) : EReal :=
  ST (ix5 0 s h a b) * decay (gate W BG (fun x => LR (ix3 s 0 x)) ⟨128 * (h : ℕ) + a, by omega⟩) + K (ix3 s ⟨h, by omega⟩ a) * V (ix3 s ⟨h, by omega⟩ b)

/-- The whole array of states. -/
def SNEW (K : FVec Ideal S32x8x128 .f32) (V : FVec Ideal S32x8x256 .f32) (LR : FVec Ideal S32x1x128 .f32) (W : FVec Ideal S128x512 .bf16) (BG : FVec Ideal S1x512 .f32) (ST : FVec Ideal S2x32x4x128x256 .f32) : FVec Ideal S32x4x128x256 .f32 := fun i =>
  snew K V LR W BG ST (i 0) (i 1) (i 2) (i 3)

/-- The blocks that the windows read or write at each point. -/
theorem idx : ∀ t : Fin cfg0.N, win0_0.index t = ![0, 0] ∧ win0_1.index t = ![0, 0] ∧ win0_4.index t = ![t.val, 0, 0] ∧ win0_5.index t = ![t.val, 0, 0]
    ∧ win0_7.index t = ![t.val, 0, 0] ∧ win0_8.index t = ![0, t.val, 0, 0, 0] ∧ win0_10.index t = ![t.val, 0, 0, 0] :=
  (by decide +kernel : ∀ t : Fin grid0.N, _)

theorem W_at (c : Dev nD) (t : Fin cfg0.N) (x : Fin 128) (j : Fin 512) :
    iblk m c 0 t (ix2 x j : S128x512.Idx) = m ((c : Thread nD τ).loc main_arg5) (ix2 x j : S128x512.Idx) := by
  rw [← V_main_arg5 m c]
  unfold iblk
  refine congrArg (V m c main_arg5) (?_ : (win0_0.blk t).view.emb (ix2 x j : S128x512.Idx) = (ix2 x j : S128x512.Idx))
  blk_ext [idx t]

theorem BG_at (c : Dev nD) (t : Fin cfg0.N) (j : Fin 512) :
    iblk m c 1 t (ix2 0 j : S1x512.Idx) = m ((c : Thread nD τ).loc main_arg6) (ix2 0 j : S1x512.Idx) := by
  rw [← V_main_arg6 m c]
  unfold iblk
  refine congrArg (V m c main_arg6) (?_ : (win0_1.blk t).view.emb (ix2 0 j : S1x512.Idx) = (ix2 0 j : S1x512.Idx))
  blk_ext [idx t]

theorem K_at (c : Dev nD) (t : Fin cfg0.N) (s r : Fin 8) (a : Fin 128) (hs : 8 * t.val + s < 32) :
    iblk m c 4 t (ix3 s r a : S8x8x128.Idx) = m ((c : Thread nD τ).loc main_arg1) (ix3 ⟨8 * t.val + s, hs⟩ r a : S32x8x128.Idx) := by
  rw [← V_main_arg1 m c]
  unfold iblk
  refine congrArg (V m c main_arg1) (?_ : (win0_4.blk t).view.emb (ix3 s r a : S8x8x128.Idx) = (ix3 ⟨8 * t.val + s, hs⟩ r a : S32x8x128.Idx))
  blk_ext [idx t]

theorem V_at (c : Dev nD) (t : Fin cfg0.N) (s r : Fin 8) (b : Fin 256) (hs : 8 * t.val + s < 32) :
    iblk m c 5 t (ix3 s r b : S8x8x256.Idx) = m ((c : Thread nD τ).loc main_arg2) (ix3 ⟨8 * t.val + s, hs⟩ r b : S32x8x256.Idx) := by
  rw [← V_main_arg2 m c]
  unfold iblk
  refine congrArg (V m c main_arg2) (?_ : (win0_5.blk t).view.emb (ix3 s r b : S8x8x256.Idx) = (ix3 ⟨8 * t.val + s, hs⟩ r b : S32x8x256.Idx))
  blk_ext [idx t]

theorem LR_at (c : Dev nD) (t : Fin cfg0.N) (s : Fin 8) (x : Fin 128) (hs : 8 * t.val + s < 32) :
    iblk m c 7 t (ix3 s 0 x : S8x1x128.Idx) = m ((c : Thread nD τ).loc main_arg4) (ix3 ⟨8 * t.val + s, hs⟩ 0 x : S32x1x128.Idx) := by
  rw [← V_main_arg4 m c]
  unfold iblk
  refine congrArg (V m c main_arg4) (?_ : (win0_7.blk t).view.emb (ix3 s 0 x : S8x1x128.Idx) = (ix3 ⟨8 * t.val + s, hs⟩ 0 x : S32x1x128.Idx))
  blk_ext [idx t]

theorem ST_at (c : Dev nD) (t : Fin cfg0.N) (s : Fin 8) (h : Fin 4) (a : Fin 128) (b : Fin 256) (hs : 8 * t.val + s < 32) :
    iblk m c 8 t (ix5 0 s h a b : S1x8x4x128x256.Idx) = m ((c : Thread nD τ).loc main_arg8) (ix5 0 ⟨8 * t.val + s, hs⟩ h a b : S2x32x4x128x256.Idx) := by
  rw [← V_main_arg8 m c]
  unfold iblk
  refine congrArg (V m c main_arg8) (?_ : (win0_8.blk t).view.emb (ix5 0 s h a b : S1x8x4x128x256.Idx) = (ix5 0 ⟨8 * t.val + s, hs⟩ h a b : S2x32x4x128x256.Idx))
  blk_ext [idx t]

/-- The array of states that the kernel leaves. -/
theorem final10 (c : Dev nD) : (data m 0 c).arrAt 10 (cfgs 0).N =
    SNEW (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg8)) := by
  refine (data m 0 c).arrAt_eq_of_covers 10 _ (by decide +kernel) fun t hf y => ?_
  have ht : t.val < 4 := lt_of_lt_of_eq t.isLt N_0
  blk_simp
  rw [ends10]
  obtain ⟨s, h, a, b, rfl⟩ : ∃ (s : Fin 8) (h : Fin 4) (a : Fin 128) (b : Fin 256), y = (ix4 s h a b : S8x4x128x256.Idx) := ⟨y 0, y 1, y 2, y 3, eq_ix4 y⟩
  have e : (win0_10.blk t).view.emb (ix4 s h a b : S8x4x128x256.Idx) = (ix4 ⟨8 * t.val + s, by omega⟩ h a b : S32x4x128x256.Idx) := by
    blk_ext [idx t]
  rw [e]
  refine (point10 c t s h a b _ _ _ _ _ _ _ _ _).trans ?_
  refine congrArg₂ (· + ·) (congrArg₂ (· * ·) (ST_at m c t s h a b (by omega)) (congrArg decay ?_)) (congrArg₂ (· * ·) (K_at m c t s _ a (by omega)) (V_at m c t s _ b (by omega)))
  exact congrArg₂ (· + ·) (Finset.sum_congr rfl fun x _ => congrArg₂ (· * ·) (LR_at m c t s x (by omega)) (W_at m c t x _)) (BG_at m c t _)

end kernel

theorem bits_16 : Ideal.ofBits FTy.f32 1098907648#32 = ((16 : ℝ) : EReal) := by
  simp [Ideal.ofBits, Ideal.ieee]
  rw [← EReal.coe_mul]
  norm_num

theorem bits_16th : Ideal.ofBits FTy.f32 1031798784#32 = ((16⁻¹ : ℝ) : EReal) := by
  simp [Ideal.ofBits, Ideal.ieee]
  rw [← EReal.coe_mul]
  norm_num

/-- The logarithm of one plus an exponential is never minus infinity. -/
theorem log1p_ne_bot (u : EReal) : Ideal.log1p (Ideal.exp u) ≠ ⊥ := by
  induction u with
  | bot =>
    show Ideal.log (1 + (0 : EReal)) ≠ ⊥
    rw [add_zero, ← EReal.coe_one]
    show (if (1 : ℝ) ≤ 0 then (⊥ : EReal) else _) ≠ ⊥
    rw [if_neg (by norm_num)]
    exact EReal.coe_ne_bot _
  | top =>
    show Ideal.log (1 + (⊤ : EReal)) ≠ ⊥
    rw [show (1 : EReal) + ⊤ = ⊤ from rfl]
    exact top_ne_bot
  | coe r =>
    have h : (1 : EReal) + ((Real.exp r : ℝ) : EReal) = ((1 + Real.exp r : ℝ) : EReal) := by
      rw [EReal.coe_add, EReal.coe_one]
    have p : ¬ (1 + Real.exp r ≤ 0) := not_le.mpr (by positivity)
    show Ideal.log (1 + ((Real.exp r : ℝ) : EReal)) ≠ ⊥
    rw [h]
    show (if 1 + Real.exp r ≤ 0 then (⊥ : EReal) else _) ≠ ⊥
    rw [if_neg p]
    exact EReal.coe_ne_bot _

/-- The decay as the reference writes it. -/
theorem decay_eq (z : EReal) :
    Ideal.exp (Ideal.div (-(if -z ≠ -z then -z else max (-z) 0 + Ideal.log1p (Ideal.exp (-(max (-z) (-(-z))))))) (Ideal.ofBits FTy.f32 1098907648#32)) = decay z := by
  unfold decay
  rw [if_neg (fun h => h rfl), bits_16, bits_16th, neg_neg, max_comm (-z) z, zero_sub]
  have d : ∀ x : EReal, Ideal.div x ((16 : ℝ) : EReal) = x * ((16⁻¹ : ℝ) : EReal) := fun x => by
    unfold Ideal.div
    rw [if_neg (by exact_mod_cast (by norm_num : (16 : ℝ) ≠ 0)), EReal.coe_inv]
  rw [d]
  refine congrArg (fun u : EReal => Ideal.exp (u * ((16⁻¹ : ℝ) : EReal))) ?_
  have n : -(max (-z) 0) = min z 0 := by
    rcases le_total 0 z with h | h
    · rw [max_eq_right (EReal.neg_le.mp (by simpa using h)), min_eq_right h, neg_zero]
    · rw [max_eq_left (EReal.le_neg_of_le_neg (by simpa using h)), min_eq_left h, neg_neg]
  rw [EReal.neg_add (Or.inl (ne_of_gt (lt_of_lt_of_le EReal.bot_lt_zero (le_max_right _ _)))) (Or.inr (log1p_ne_bot _)), n]

section reference
open Cert.GsRIdeal Cert.GsRIdeal.Gen

/-- One entry of the reference's states. -/
theorem ref_at (K : FVec Ideal S32x8x128 .f32) (V : FVec Ideal S32x8x256 .f32) (LR : FVec Ideal S32x1x128 .f32) (W : FVec Ideal S128x512 .bf16) (BG : FVec Ideal S1x512 .f32) (ST : FVec Ideal S2x32x4x128x256 .f32) (s : Fin 32) (h : Fin 4) (a : Fin 128) (b : Fin 256) :
    (addf (mulf (shapeCast _ (extractStridedSlice S1x32x4x128x256 ![0, 0, 0, 0, 0] ST slices_S2x32x4x128x256_S1x32x4x128x256_0_0_0_0_0) shapeCasts_S1x32x4x128x256_S32x4x128x256) (broadcastInDim S32x4x128x256 ![0, 1, 2, 3] bcast_S32x4x128x1_S32x4x128x256_0_1_2_3 (broadcastInDim S32x4x128x1 ![0, 1, 2] bcast_S32x4x128_S32x4x128x1_0_1_2 (Host.exp (Host.divf (shapeCast _ (Host.negf (select (cmpf .une (subf (Host.negf (addf (Host.dotGeneral dot_S32x128_S128x512_S32x512_1_0_0_1_n_n none (shapeCast _ LR shapeCasts_S32x1x128_S32x128) (extf .f32 W bitsLt_bf16_f32)) (broadcastInDim S32x512 ![0, 1] bcast_S1x512_S32x512_0_1 (broadcastInDim S1x512 ![1] bcast_S512_S1x512_1 (shapeCast _ BG shapeCasts_S1x512_S512))))) (broadcastInDim S32x512 ![] bcast_S_S32x512 (constant S_ .f32 0x00000000#32))) (subf (Host.negf (addf (Host.dotGeneral dot_S32x128_S128x512_S32x512_1_0_0_1_n_n none (shapeCast _ LR shapeCasts_S32x1x128_S32x128) (extf .f32 W bitsLt_bf16_f32)) (broadcastInDim S32x512 ![0, 1] bcast_S1x512_S32x512_0_1 (broadcastInDim S1x512 ![1] bcast_S512_S1x512_1 (shapeCast _ BG shapeCasts_S1x512_S512))))) (broadcastInDim S32x512 ![] bcast_S_S32x512 (constant S_ .f32 0x00000000#32)))) (addf (Host.negf (addf (Host.dotGeneral dot_S32x128_S128x512_S32x512_1_0_0_1_n_n none (shapeCast _ LR shapeCasts_S32x1x128_S32x128) (extf .f32 W bitsLt_bf16_f32)) (broadcastInDim S32x512 ![0, 1] bcast_S1x512_S32x512_0_1 (broadcastInDim S1x512 ![1] bcast_S512_S1x512_1 (shapeCast _ BG shapeCasts_S1x512_S512))))) (broadcastInDim S32x512 ![] bcast_S_S32x512 (constant S_ .f32 0x00000000#32))) (addf (maximumf (Host.negf (addf (Host.dotGeneral dot_S32x128_S128x512_S32x512_1_0_0_1_n_n none (shapeCast _ LR shapeCasts_S32x1x128_S32x128) (extf .f32 W bitsLt_bf16_f32)) (broadcastInDim S32x512 ![0, 1] bcast_S1x512_S32x512_0_1 (broadcastInDim S1x512 ![1] bcast_S512_S1x512_1 (shapeCast _ BG shapeCasts_S1x512_S512))))) (broadcastInDim S32x512 ![] bcast_S_S32x512 (constant S_ .f32 0x00000000#32))) (Host.log1p (Host.exp (Host.negf (Host.absf (subf (Host.negf (addf (Host.dotGeneral dot_S32x128_S128x512_S32x512_1_0_0_1_n_n none (shapeCast _ LR shapeCasts_S32x1x128_S32x128) (extf .f32 W bitsLt_bf16_f32)) (broadcastInDim S32x512 ![0, 1] bcast_S1x512_S32x512_0_1 (broadcastInDim S1x512 ![1] bcast_S512_S1x512_1 (shapeCast _ BG shapeCasts_S1x512_S512))))) (broadcastInDim S32x512 ![] bcast_S_S32x512 (constant S_ .f32 0x00000000#32)))))))))) shapeCasts_S32x512_S32x4x128) (broadcastInDim S32x4x128 ![] bcast_S_S32x4x128 (constant S_ .f32 0x41800000#32))))))) (mulf (broadcastInDim S32x4x128x256 ![0, 1, 2, 3] bcast_S32x4x128x1_S32x4x128x256_0_1_2_3 (broadcastInDim S32x4x128x1 ![0, 1, 2] bcast_S32x4x128_S32x4x128x1_0_1_2 (extractStridedSlice S32x4x128 ![0, 0, 0] K slices_S32x8x128_S32x4x128_0_0_0))) (broadcastInDim S32x4x128x256 ![0, 1, 2, 3] bcast_S32x4x1x256_S32x4x128x256_0_1_2_3 (broadcastInDim S32x4x1x256 ![0, 1, 3] bcast_S32x4x256_S32x4x1x256_0_1_3 (extractStridedSlice S32x4x256 ![0, 0, 0] V slices_S32x8x256_S32x4x256_0_0_0)))) : FVec Ideal S32x4x128x256 .f32)
      (ix4 s h a b : S32x4x128x256.Idx) = snew K V LR W BG ST s h a b := by
  unfold snew
  show (_ : EReal) = _
  pointwise []
  refine congrArg₂ (· + ·) (congrArg₂ (· * ·) rfl ?_) rfl
  refine Eq.trans ?_ (congrArg (fun j => decay (gate W BG (fun x => LR (ix3 s 0 x)) j)) (Fin.ext (show (h : ℕ) * 128 + (a : ℕ) = 128 * (h : ℕ) + a by omega) : (⟨(h : ℕ) * 128 + a, by omega⟩ : Fin 512) = _))
  exact decay_eq (gate W BG (fun x => LR (ix3 s 0 x)) ⟨(h : ℕ) * 128 + a, by omega⟩)

end reference

theorem frame_k : Cert.quiescent_GsK := fun m g _ => Cert.Proof.GsKFrame.frame m g

theorem frame_ki : Cert.quiescent_GsKIdeal := fun m g _ => Cert.Proof.GsKIdealFrame.frame m g

theorem frame_ri : Cert.quiescent_GsRIdeal := fun m g _ =>
  (θ_run _ _ _).mono (fun r h => ⟨fun c => (h c).2, sem_eq_zero_of_no_sems (by decide) r.2⟩) (Cert.GsRIdeal.Value.run m g)

theorem preserves : Cert.preserves_GsK_GsKIdeal := trivial

open Cert.GsKIdeal Cert.GsKIdeal.Gen in
/-- The kernel's run and the reference's end with the same states. -/
theorem algebraic : Cert.algebraic_GsKIdeal_GsRIdeal := fun m g m' g' hp ha =>
  ⟨fun c => SNEW (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg8)),
    (θ_run _ _ _).mono (fun r h c => ⟨((h.2.1 c).1 10).trans (final10 m c), h.1.1 c⟩) (θ_run_and (frame m g) (whole m g)),
    (θ_run _ _ _).mono (fun r h c => ⟨(h c).1.trans (by
        rw [(ha c).2.1, (ha c).2.2.1, (ha c).2.2.2.2.1, (ha c).2.2.2.2.2.1, (ha c).2.2.2.2.2.2.1, (ha c).2.2.2.2.2.2.2.2]
        funext i
        exact (congrArg _ (eq_ix4 i)).trans (ref_at _ _ _ _ _ _ (i 0) (i 1) (i 2) (i 3))), (h c).2⟩) (Cert.GsRIdeal.Value.run m' g')⟩

end Cert.Proof.GsClaim
end
-- ==== Proof.SpValue.lean ====
module

public import proofs.«01_k».proof.Proof.Gen.SpKIdeal.Frame
public import proofs.«01_k».proof.Proof.Cells
public import Idealize.ShloMosaic.Lib.Pipeline.ValueKit
public import Idealize.ShloMosaic.Lib.Pointwise

@[expose] public section

set_option maxRecDepth 16384
noncomputable section

namespace Cert.Proof.Sp

open Idealize.ShloMosaic Idealize.ShloMosaic.TcCoe Idealize.SL.Sem
open Idealize.ShloMosaic.Pipeline (Dat)
open Cert.SpKIdeal Cert.SpKIdeal.Gen

/-- Of stores that lie over one another only the last two count when these two cover the block. -/
theorem last2 {Val : EltTy → Type} [∀ e, Nonempty (Val e)] {S : Shape} {e : EltTy} (p q : View.Piece Val S e) (L : List (View.Piece Val S e)) (y : S.Idx)
    (h : ∃ r ∈ [p, q], y ∈ r.1.set) : View.canon (p :: q :: L) y = View.canon [p, q] y := by
  by_cases hp : y ∈ p.1.set
  · obtain ⟨x, rfl⟩ := p.1.exists_idx_of_mem hp
    exact (View.canon_cons_emb p.1 p.2 _ x).trans (View.canon_cons_emb p.1 p.2 _ x).symm
  · rw [View.canon_cons_of_not_mem _ _ hp, View.canon_cons_of_not_mem _ _ hp]
    have hq : y ∈ q.1.set := by
      obtain ⟨r, hr, hy⟩ := h
      rcases List.mem_cons.mp hr with rfl | hr
      · exact absurd hy hp
      · rcases List.mem_cons.mp hr with rfl | hr
        · exact hy
        · exact absurd hr List.not_mem_nil
    obtain ⟨x, rfl⟩ := q.1.exists_idx_of_mem hq
    exact (View.canon_cons_emb q.1 q.2 _ x).trans (View.canon_cons_emb q.1 q.2 _ x).symm

/-- Two heads' row turned by the tables of cosines and of signed sines. -/
def turn (x : Fin 128 → EReal) (A B : Fin 128 → EReal) (l : Fin 128) : EReal :=
  x l * A l + (if (l : ℕ) / 32 % 2 = 0 then x ⟨((l : ℕ) + 32) % 128, Nat.mod_lt _ (by omega)⟩ else x ⟨((l : ℕ) + 96) % 128, Nat.mod_lt _ (by omega)⟩) * B l

/-- Part of a block read out of it. -/
theorem read {sig : RefSig} {κ : Kind} {sp : Space} {s : Shape} {e : EltTy} {M : Memref sig κ sp s e} (h : M.IsWhole) (X : s.Idx → Elt Ideal e)
    (B : LoadRect s) (x : B.shape.Idx) (j : s.Idx) (hj : ∀ a, (j a).val = B.off a + B.stride a * (x a).val) :
    M.view.readAt (Elt Ideal) B (h.unread X) x = X j :=
  (Memref.IsWhole.readAt_unread h X B x).trans (congrArg X (funext fun a => Fin.ext ((LoadRect.idx_apply ..).trans (hj a).symm)))

set_option maxHeartbeats 2000000 in
/-- What a point that is not a row's first leaves in its block of keys. -/
theorem point8 (c : Dev nD) (t : Fin cfg0.N) (hc : ¬cond0_0 (grid0.coords t)) (r : Fin 128) (l : Fin 256)
    (SK : FVec Ideal S32 .f32) (Q G : FVec Ideal S512x2048 .f32) (K V : FVec Ideal S512x256 .f32) (A B : FVec Ideal S512x128 .f32) (X Y : FVec Ideal S4x128x128 .bf16) :
    out0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) hc
      SK Q G K V A B X Y (ix3 0 r l : S1x128x256.Idx) =
      turn (fun j => K (ix2 ⟨384 + r, by omega⟩ ⟨128 * ((l : ℕ) / 128) + j, by omega⟩)) (fun j => A (ix2 ⟨384 + r, by omega⟩ j)) (fun j => B (ix2 ⟨384 + r, by omega⟩ j)) ⟨(l : ℕ) % 128, by omega⟩ := by
  show (_ : EReal) = _
  frame_out
  refine (last2 _ _ _ _ (View.cover_of_tiled_head _ _ _ (by rfl) _)).trans ?_
  canon_tiles x hx
  all_goals open_payloads
  all_goals idx_vars x
  case piece0 =>
    pointwise []
    rw [Cells.half (by omega)]
    unfold turn
    have er : (r : ℕ) = x1 := hx1
    have el : (l : ℕ) % 128 = x2 := by omega
    refine congrArg₂ (· + ·) (congrArg₂ (· * ·) ?_ ?_) (congrArg₂ (· * ·) (if_congr (by simp only [el]) ?_ ?_) ?_)
    · exact read _ _ _ _ _ (Fin.forall_fin_two.mpr ⟨(show 384 + (r : ℕ) = 384 + 0 + 1 * (x1 : ℕ) by omega), (show 128 * ((l : ℕ) / 128) + (l : ℕ) % 128 = 0 + 128 + 1 * ((x2 : ℕ)) by omega)⟩)
    · exact congrArg A (congrArg₂ ix2 (Fin.ext (by dsimp only <;> omega)) (Fin.ext el.symm))
    · exact read _ _ _ _ _ (Fin.forall_fin_two.mpr ⟨(show 384 + (r : ℕ) = 384 + 0 + 1 * (x1 : ℕ) by omega), (show 128 * ((l : ℕ) / 128) + ((l : ℕ) % 128 + 32) % 128 = 0 + 128 + 1 * (((x2 : ℕ) + 128 - 96) % 128) by omega)⟩)
    · exact read _ _ _ _ _ (Fin.forall_fin_two.mpr ⟨(show 384 + (r : ℕ) = 384 + 0 + 1 * (x1 : ℕ) by omega), (show 128 * ((l : ℕ) / 128) + ((l : ℕ) % 128 + 96) % 128 = 0 + 128 + 1 * (((x2 : ℕ) + 128 - 32) % 128) by omega)⟩)
    · exact congrArg B (congrArg₂ ix2 (Fin.ext (by dsimp only <;> omega)) (Fin.ext el.symm))
  case piece1 =>
    pointwise []
    rw [Cells.half (by omega)]
    unfold turn
    have er : (r : ℕ) = x1 := hx1
    have el : (l : ℕ) % 128 = x2 := by omega
    refine congrArg₂ (· + ·) (congrArg₂ (· * ·) ?_ ?_) (congrArg₂ (· * ·) (if_congr (by simp only [el]) ?_ ?_) ?_)
    · exact read _ _ _ _ _ (Fin.forall_fin_two.mpr ⟨(show 384 + (r : ℕ) = 384 + 0 + 1 * (x1 : ℕ) by omega), (show 128 * ((l : ℕ) / 128) + (l : ℕ) % 128 = 0 + 0 + 1 * ((x2 : ℕ)) by omega)⟩)
    · exact congrArg A (congrArg₂ ix2 (Fin.ext (by dsimp only <;> omega)) (Fin.ext el.symm))
    · exact read _ _ _ _ _ (Fin.forall_fin_two.mpr ⟨(show 384 + (r : ℕ) = 384 + 0 + 1 * (x1 : ℕ) by omega), (show 128 * ((l : ℕ) / 128) + ((l : ℕ) % 128 + 32) % 128 = 0 + 0 + 1 * (((x2 : ℕ) + 128 - 96) % 128) by omega)⟩)
    · exact read _ _ _ _ _ (Fin.forall_fin_two.mpr ⟨(show 384 + (r : ℕ) = 384 + 0 + 1 * (x1 : ℕ) by omega), (show 128 * ((l : ℕ) / 128) + ((l : ℕ) % 128 + 96) % 128 = 0 + 0 + 1 * (((x2 : ℕ) + 128 - 32) % 128) by omega)⟩)
    · exact congrArg B (congrArg₂ ix2 (Fin.ext (by dsimp only <;> omega)) (Fin.ext el.symm))

set_option maxHeartbeats 2000000 in
/-- What it leaves in its block of values. -/
theorem point9 (c : Dev nD) (t : Fin cfg0.N) (hc : ¬cond0_0 (grid0.coords t)) (r : Fin 128) (l : Fin 256)
    (SK : FVec Ideal S32 .f32) (Q G : FVec Ideal S512x2048 .f32) (K V : FVec Ideal S512x256 .f32) (A B : FVec Ideal S512x128 .f32) (X Y : FVec Ideal S4x128x128 .bf16) :
    out0_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) hc
      SK Q G K V A B X Y (ix3 0 r l : S1x128x256.Idx) = V (ix2 ⟨384 + r, by omega⟩ l) := by
  show (_ : EReal) = _
  frame_out
  refine (last2 _ _ _ _ (View.cover_of_tiled_head _ _ _ (by rfl) _)).trans ?_
  canon_tiles x hx
  all_goals open_payloads
  all_goals idx_vars x
  case piece0 =>
    pointwise []
    have er : (r : ℕ) = x1 := hx1
    exact read _ _ _ _ _ (Fin.forall_fin_two.mpr ⟨(show 384 + (r : ℕ) = 384 + 0 + 1 * (x1 : ℕ) by omega), (show (l : ℕ) = 0 + 128 + 1 * ((x2 : ℕ)) by omega)⟩)
  case piece1 =>
    pointwise []
    have er : (r : ℕ) = x1 := hx1
    exact read _ _ _ _ _ (Fin.forall_fin_two.mpr ⟨(show 384 + (r : ℕ) = 384 + 0 + 1 * (x1 : ℕ) by omega), (show (l : ℕ) = 0 + 0 + 1 * ((x2 : ℕ)) by omega)⟩)

end Cert.Proof.Sp
end
-- ==== Proof.SpClaim.lean ====
module

public import proofs.«01_k».proof.Defs
public import proofs.«01_k».proof.Proof.SpValue
public import proofs.«01_k».proof.Proof.Gen.SpKIdeal.Value
public import proofs.«01_k».proof.Proof.Gen.SpK.Frame
public import proofs.«01_k».proof.Proof.Gen.SpRIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.SpClaim

open Idealize.ShloMosaic Idealize.ShloMosaic.TcCoe Idealize.SL.Sem
open Idealize.ShloMosaic.Pipeline (Dat)
open Cert.Proof.Sp (turn point8 point9)

section kernel
open Cert.SpKIdeal Cert.SpKIdeal.Gen

variable (m : (ℓ : Loc nD τ sig) → Buf (Elt Ideal) ℓ)

/-- A head's row of keys turned by its position. -/
def rope (x : Fin 64 → EReal) (C S : Fin 32 → EReal) (d : Fin 64) : EReal :=
  if h : (d : ℕ) < 32 then x d * C ⟨d, h⟩ - x ⟨(d : ℕ) + 32, by omega⟩ * S ⟨d, h⟩
  else x d * C ⟨(d : ℕ) - 32, by omega⟩ + x ⟨(d : ℕ) - 32, by omega⟩ * S ⟨(d : ℕ) - 32, by omega⟩

/-- One entry of the keys of a sequence's last positions, turned. -/
def klast (H : FVec Ideal S8192x9856 .f32) (C S : FVec Ideal S2048x32 .f32) (b : Fin 4) (r : Fin 128) (l : Fin 256) : EReal :=
  rope (fun d => H (ix2 ⟨2048 * (b : ℕ) + 1920 + r, by omega⟩ ⟨9216 + (64 * ((l : ℕ) / 64) + d), by omega⟩)) (fun j => C (ix2 ⟨1920 + (r : ℕ), by omega⟩ j)) (fun j => S (ix2 ⟨1920 + (r : ℕ), by omega⟩ j)) ⟨(l : ℕ) % 64, by omega⟩

/-- One entry of the values of a sequence's last positions. -/
def vlast (H : FVec Ideal S8192x9856 .f32) (b : Fin 4) (r : Fin 128) (l : Fin 256) : EReal :=
  H (ix2 ⟨2048 * (b : ℕ) + 1920 + r, by omega⟩ ⟨9472 + (l : ℕ), by omega⟩)

/-- The whole window of keys -/
def KLAST (H : FVec Ideal S8192x9856 .f32) (C S : FVec Ideal S2048x32 .f32) : FVec Ideal S4x128x256 .f32 := fun i => klast H C S (i 0) (i 1) (i 2)

/-- and that of values. -/
def VLAST (H : FVec Ideal S8192x9856 .f32) : FVec Ideal S4x128x256 .f32 := fun i => vlast H (i 0) (i 1) (i 2)

/-- The cosines of each position, four times in a row. -/
def cosT (C : FVec Ideal S2048x32 .f32) : FVec Ideal S2048x128 .f32 :=
  concatenate S2048x128 1 [⟨S2048x32, C⟩, ⟨S2048x32, C⟩, ⟨S2048x32, C⟩, ⟨S2048x32, C⟩] concatenates_S2048x32_S2048x32_S2048x32_S2048x32_S2048x128_d1

/-- The sines of each position, four times in a row, those of the first halves with the other sign. -/
def sinT (S : FVec Ideal S2048x32 .f32) : FVec Ideal S2048x128 .f32 :=
  concatenate S2048x128 1 [⟨S2048x32, Host.negf S⟩, ⟨S2048x32, S⟩, ⟨S2048x32, Host.negf S⟩, ⟨S2048x32, S⟩] concatenates_S2048x32_S2048x32_S2048x32_S2048x32_S2048x128_d1

theorem cosT_at (C : FVec Ideal S2048x32 .f32) (q : Fin 2048) (l : Fin 128) : cosT C (ix2 q l : S2048x128.Idx) = C (ix2 q ⟨(l : ℕ) % 32, by omega⟩) := by
  unfold cosT
  show (_ : EReal) = _
  pointwise []
  split_ifs <;> exact congrArg C (congrArg (ix2 q) (Fin.ext (by dsimp only <;> omega)))

theorem sinT_at (S : FVec Ideal S2048x32 .f32) (q : Fin 2048) (l : Fin 128) :
    sinT S (ix2 q l : S2048x128.Idx) = if (l : ℕ) / 32 % 2 = 0 then -S (ix2 q ⟨(l : ℕ) % 32, by omega⟩) else S (ix2 q ⟨(l : ℕ) % 32, by omega⟩) := by
  unfold sinT
  show (_ : EReal) = _
  pointwise []
  by_cases e : (l : ℕ) / 32 % 2 = 0
  · rw [if_pos e]
    split_ifs
    all_goals first
      | (exfalso; omega)
      | exact congrArg (fun z => -S z) (congrArg (ix2 q) (Fin.ext (by dsimp only <;> omega)))
  · rw [if_neg e]
    split_ifs
    all_goals first
      | (exfalso; omega)
      | exact congrArg S (congrArg (ix2 q) (Fin.ext (by dsimp only <;> omega)))

theorem V_v0 (c : Dev nD) : V m c main_v0 = cosT (m ((c : Thread nD τ).loc main_arg2)) := by
  unfold cosT V hostOps0
  after_results <;> rfl

theorem V_v3 (c : Dev nD) : V m c main_v3 = sinT (m ((c : Thread nD τ).loc main_arg3)) := by
  unfold sinT V hostOps0
  after_results <;> rfl

/-- The blocks that the windows read or write at each point. -/
theorem idx : ∀ t : Fin cfg0.N, win0_3.index t = ![t.val, 36] ∧ win0_4.index t = ![t.val, 37] ∧ win0_5.index t = ![t.val % 4, 0] ∧ win0_6.index t = ![t.val % 4, 0]
    ∧ win0_8.index t = ![t.val / 4, 0, 0] ∧ win0_9.index t = ![t.val / 4, 0, 0] :=
  (by decide +kernel : ∀ t : Fin grid0.N, _)

theorem A_at (c : Dev nD) (t : Fin cfg0.N) (r : Fin 512) (l : Fin 128) :
    iblk m c 5 t (ix2 r l : S512x128.Idx) = cosT (m ((c : Thread nD τ).loc main_arg2)) (ix2 ⟨512 * (t.val % 4) + r, by omega⟩ l) := by
  rw [← V_v0 m c]
  unfold iblk
  refine congrArg (V m c main_v0) (?_ : (win0_5.blk t).view.emb (ix2 r l : S512x128.Idx) = (ix2 ⟨512 * (t.val % 4) + r, by omega⟩ l : S2048x128.Idx))
  blk_ext [idx t]

theorem B_at (c : Dev nD) (t : Fin cfg0.N) (r : Fin 512) (l : Fin 128) :
    iblk m c 6 t (ix2 r l : S512x128.Idx) = sinT (m ((c : Thread nD τ).loc main_arg3)) (ix2 ⟨512 * (t.val % 4) + r, by omega⟩ l) := by
  rw [← V_v3 m c]
  unfold iblk
  refine congrArg (V m c main_v3) (?_ : (win0_6.blk t).view.emb (ix2 r l : S512x128.Idx) = (ix2 ⟨512 * (t.val % 4) + r, by omega⟩ l : S2048x128.Idx))
  blk_ext [idx t]

theorem K_at (c : Dev nD) (t : Fin cfg0.N) (r : Fin 512) (l : Fin 256) (h : 512 * t.val + r < 8192) :
    X0_3 m c t (ix2 r l : S512x256.Idx) = m ((c : Thread nD τ).loc main_arg0) (ix2 ⟨512 * t.val + r, h⟩ ⟨9216 + (l : ℕ), by omega⟩ : S8192x9856.Idx) := by
  rw [← V_main_arg0 m c]
  unfold X0_3 Pipeline.Window.fill
  rw [dif_pos (moved0_3 t _)]
  unfold iblk
  refine congrArg (V m c main_arg0) (?_ : (win0_3.blk t).view.emb _ = (ix2 ⟨512 * t.val + r, h⟩ ⟨9216 + (l : ℕ), by omega⟩ : S8192x9856.Idx))
  blk_ext [idx t]

theorem W_at (c : Dev nD) (t : Fin cfg0.N) (r : Fin 512) (l : Fin 256) (h : 512 * t.val + r < 8192) :
    X0_4 m c t (ix2 r l : S512x256.Idx) = m ((c : Thread nD τ).loc main_arg0) (ix2 ⟨512 * t.val + r, h⟩ ⟨9472 + (l : ℕ), by omega⟩ : S8192x9856.Idx) := by
  rw [← V_main_arg0 m c]
  unfold X0_4 Pipeline.Window.fill
  rw [dif_pos (moved0_4 t _)]
  unfold iblk
  refine congrArg (V m c main_arg0) (?_ : (win0_4.blk t).view.emb _ = (ix2 ⟨512 * t.val + r, h⟩ ⟨9472 + (l : ℕ), by omega⟩ : S8192x9856.Idx))
  blk_ext [idx t]

/-- A row of two heads turned by the tables is each head's row turned by its position. -/
theorem turn_rope (x : Fin 256 → EReal) (A B : Fin 128 → EReal) (C S : Fin 32 → EReal)
    (hA : ∀ l : Fin 128, A l = C ⟨(l : ℕ) % 32, by omega⟩) (hB : ∀ l : Fin 128, B l = if (l : ℕ) / 32 % 2 = 0 then -S ⟨(l : ℕ) % 32, by omega⟩ else S ⟨(l : ℕ) % 32, by omega⟩) (l : Fin 256) :
    turn (fun j => x ⟨128 * ((l : ℕ) / 128) + j, by omega⟩) A B ⟨(l : ℕ) % 128, by omega⟩ = rope (fun d => x ⟨64 * ((l : ℕ) / 64) + d, by omega⟩) C S ⟨(l : ℕ) % 64, by omega⟩ := by
  unfold turn rope
  rw [hA, hB]
  by_cases hd : (l : ℕ) % 64 < 32
  · rw [dif_pos hd, if_pos (by dsimp only <;> omega), if_pos (by dsimp only <;> omega), mul_neg]
    refine congrArg₂ (· - ·) (congrArg₂ (· * ·) (congrArg x (Fin.ext ?_)) (congrArg C (Fin.ext ?_)))
      (congrArg₂ (· * ·) (congrArg x (Fin.ext ?_)) (congrArg S (Fin.ext ?_)))
    all_goals (dsimp only; omega)
  · rw [dif_neg hd, if_neg (by dsimp only <;> omega), if_neg (by dsimp only <;> omega)]
    refine congrArg₂ (· + ·) (congrArg₂ (· * ·) (congrArg x (Fin.ext ?_)) (congrArg C (Fin.ext ?_)))
      (congrArg₂ (· * ·) (congrArg x (Fin.ext ?_)) (congrArg S (Fin.ext ?_)))
    all_goals (dsimp only; omega)

/-- A point that writes a window back is the last of its sequence. -/
theorem last : ∀ t : Fin cfg0.N, ((cfg0.win 8).flush t = true → t.val % 4 = 3) ∧ ((cfg0.win 9).flush t = true → t.val % 4 = 3) :=
  (by decide +kernel : ∀ t : Fin grid0.N, _)

set_option maxHeartbeats 8000000 in
/-- The entries that the last point of a sequence leaves in window 8. -/
theorem ends8 (c : Dev nD) (t : Fin cfg0.N) (h3 : t.val % 4 = 3) (ht : t.val < 16) (r : Fin 128) (l : Fin 256) :
    (outsAt0 m c t.val t.isLt).2.1 (ix3 0 r l : S1x128x256.Idx) = KLAST (m ((c : Thread nD τ).loc main_arg0)) (m ((c : Thread nD τ).loc main_arg2)) (m ((c : Thread nD τ).loc main_arg3)) (ix3 ⟨t.val / 4, by omega⟩ r l : S4x128x256.Idx) := by
  have h0 : ¬t.val % 4 = 0 := by omega
  refine (congrFun (congrArg (fun p => p.2.1) (outsAt0_B m c t h0)) _).trans ?_
  refine (point8 c t (fun h => h0 ((hcond0_0 t).mp h)) r l (iblk m c 0 t) (X0_1 m c t) (X0_2 m c t) (X0_3 m c t) (X0_4 m c t) (iblk m c 5 t) (iblk m c 6 t)
    (outsAt0 m c (t.val - 1) (Nat.lt_of_le_of_lt (Nat.sub_le _ _) t.isLt)).2.2.2.1 (outsAt0 m c (t.val - 1) (Nat.lt_of_le_of_lt (Nat.sub_le _ _) t.isLt)).2.2.2.2).trans ?_
  refine Eq.trans ?_ ((turn_rope (fun l => m ((c : Thread nD τ).loc main_arg0) (ix2 ⟨2048 * (t.val / 4) + 1920 + (r : ℕ), by omega⟩ ⟨9216 + (l : ℕ), by omega⟩ : S8192x9856.Idx)) _ _
    (fun j => m ((c : Thread nD τ).loc main_arg2) (ix2 ⟨1920 + (r : ℕ), by omega⟩ j : S2048x32.Idx)) (fun j => m ((c : Thread nD τ).loc main_arg3) (ix2 ⟨1920 + (r : ℕ), by omega⟩ j : S2048x32.Idx))
    (fun j => (A_at m c t ⟨384 + (r : ℕ), by omega⟩ j).trans ((cosT_at _ ⟨512 * (t.val % 4) + (384 + (r : ℕ)), by omega⟩ j).trans ?_)) (fun j => (B_at m c t ⟨384 + (r : ℕ), by omega⟩ j).trans ((sinT_at _ ⟨512 * (t.val % 4) + (384 + (r : ℕ)), by omega⟩ j).trans ?_)) l) : _ = klast (m ((c : Thread nD τ).loc main_arg0)) (m ((c : Thread nD τ).loc main_arg2)) (m ((c : Thread nD τ).loc main_arg3)) ⟨t.val / 4, by omega⟩ r l)
  · refine congrArg (fun x => turn x _ _ _) (funext fun j => (K_at m c t ⟨384 + (r : ℕ), by omega⟩ ⟨128 * ((l : ℕ) / 128) + j, by omega⟩ (by dsimp only <;> omega)).trans ?_)
    exact congrArg (m ((c : Thread nD τ).loc main_arg0)) (congrArg₂ ix2 (Fin.ext (show 512 * t.val + (384 + (r : ℕ)) = 2048 * (t.val / 4) + 1920 + r by omega)) rfl)
  · exact congrArg (m ((c : Thread nD τ).loc main_arg2)) (congrArg₂ ix2 (Fin.ext (show 512 * (t.val % 4) + (384 + (r : ℕ)) = 1920 + r by omega)) rfl)
  · exact congrArg (fun z : EReal => if (j : ℕ) / 32 % 2 = 0 then -z else z) (congrArg (m ((c : Thread nD τ).loc main_arg3)) (congrArg₂ ix2 (Fin.ext (show 512 * (t.val % 4) + (384 + (r : ℕ)) = 1920 + r by omega)) rfl))

/-- The array of keys that the kernel leaves. -/
theorem final8 (c : Dev nD) : (dats m 0 c).arrAt 8 (cfgs 0).N =
    KLAST (m ((c : Thread nD τ).loc main_arg0)) (m ((c : Thread nD τ).loc main_arg2)) (m ((c : Thread nD τ).loc main_arg3)) := by
  refine (dats m 0 c).arrAt_eq_of_covers 8 _ (by decide +kernel) fun t hf y => ?_
  have ht : t.val < 16 := lt_of_lt_of_eq t.isLt N_0
  have h3 : t.val % 4 = 3 := (last t).1 hf
  blk_simp
  rw [after0_8]
  obtain ⟨b, r, l, rfl⟩ : ∃ (b : Fin 1) (r : Fin 128) (l : Fin 256), y = (ix3 b r l : S1x128x256.Idx) := ⟨y 0, y 1, y 2, eq_ix3 y⟩
  obtain rfl : b = 0 := Subsingleton.elim _ _
  have e : (win0_8.blk t).view.emb (ix3 0 r l : S1x128x256.Idx) = (ix3 ⟨t.val / 4, by omega⟩ r l : S4x128x256.Idx) := by
    blk_ext [idx t]
  rw [e]
  exact ends8 m c t h3 ht r l

set_option maxHeartbeats 8000000 in
/-- The entries that the last point of a sequence leaves in window 9. -/
theorem ends9 (c : Dev nD) (t : Fin cfg0.N) (h3 : t.val % 4 = 3) (ht : t.val < 16) (r : Fin 128) (l : Fin 256) :
    (outsAt0 m c t.val t.isLt).2.2.1 (ix3 0 r l : S1x128x256.Idx) = VLAST (m ((c : Thread nD τ).loc main_arg0)) (ix3 ⟨t.val / 4, by omega⟩ r l : S4x128x256.Idx) := by
  have h0 : ¬t.val % 4 = 0 := by omega
  refine (congrFun (congrArg (fun p => p.2.2.1) (outsAt0_B m c t h0)) _).trans ?_
  refine (point9 c t (fun h => h0 ((hcond0_0 t).mp h)) r l (iblk m c 0 t) (X0_1 m c t) (X0_2 m c t) (X0_3 m c t) (X0_4 m c t) (iblk m c 5 t) (iblk m c 6 t)
    (outsAt0 m c (t.val - 1) (Nat.lt_of_le_of_lt (Nat.sub_le _ _) t.isLt)).2.2.2.1 (outsAt0 m c (t.val - 1) (Nat.lt_of_le_of_lt (Nat.sub_le _ _) t.isLt)).2.2.2.2).trans ((W_at m c t ⟨384 + (r : ℕ), by omega⟩ l (by dsimp only <;> omega)).trans ?_)
  exact congrArg (m ((c : Thread nD τ).loc main_arg0)) (congrArg₂ ix2 (Fin.ext (show 512 * t.val + (384 + (r : ℕ)) = 2048 * (t.val / 4) + 1920 + r by omega)) rfl)

/-- The array of values that the kernel leaves. -/
theorem final9 (c : Dev nD) : (dats m 0 c).arrAt 9 (cfgs 0).N = VLAST (m ((c : Thread nD τ).loc main_arg0)) := by
  refine (dats m 0 c).arrAt_eq_of_covers 9 _ (by decide +kernel) fun t hf y => ?_
  have ht : t.val < 16 := lt_of_lt_of_eq t.isLt N_0
  have h3 : t.val % 4 = 3 := (last t).2 hf
  blk_simp
  rw [after0_9]
  obtain ⟨b, r, l, rfl⟩ : ∃ (b : Fin 1) (r : Fin 128) (l : Fin 256), y = (ix3 b r l : S1x128x256.Idx) := ⟨y 0, y 1, y 2, eq_ix3 y⟩
  obtain rfl : b = 0 := Subsingleton.elim _ _
  have e : (win0_9.blk t).view.emb (ix3 0 r l : S1x128x256.Idx) = (ix3 ⟨t.val / 4, by omega⟩ r l : S4x128x256.Idx) := by
    blk_ext [idx t]
  rw [e]
  exact ends9 m c t h3 ht r l

end kernel

section reference
open Cert.SpRIdeal Cert.SpRIdeal.Gen

/-- One entry of the reference's window of keys. -/
theorem refk_at (H : FVec Ideal S8192x9856 .f32) (C S : FVec Ideal S2048x32 .f32) (b : Fin 4) (r : Fin 128) (l : Fin 256) :
    (shapeCast _ (extractStridedSlice S4x128x4x64 ![0, 1920, 0, 0] (concatenate S4x2048x4x64 3 [⟨S4x2048x4x32, (subf (mulf (extractStridedSlice S4x2048x4x32 ![0, 0, 0, 0] (shapeCast _ (extractStridedSlice S8192x256 ![0, 9216] H slices_S8192x9856_S8192x256_0_9216) shapeCasts_S8192x256_S4x2048x4x64) slices_S4x2048x4x64_S4x2048x4x32_0_0_0_0) (broadcastInDim S4x2048x4x32 ![0, 1, 2, 3] bcast_S1x2048x1x32_S4x2048x4x32_0_1_2_3 (broadcastInDim S1x2048x1x32 ![1, 2, 3] bcast_S2048x1x32_S1x2048x1x32_1_2_3 (broadcastInDim S2048x1x32 ![0, 2] bcast_S2048x32_S2048x1x32_0_2 C)))) (mulf (extractStridedSlice S4x2048x4x32 ![0, 0, 0, 32] (shapeCast _ (extractStridedSlice S8192x256 ![0, 9216] H slices_S8192x9856_S8192x256_0_9216) shapeCasts_S8192x256_S4x2048x4x64) slices_S4x2048x4x64_S4x2048x4x32_0_0_0_32) (broadcastInDim S4x2048x4x32 ![0, 1, 2, 3] bcast_S1x2048x1x32_S4x2048x4x32_0_1_2_3 (broadcastInDim S1x2048x1x32 ![1, 2, 3] bcast_S2048x1x32_S1x2048x1x32_1_2_3 (broadcastInDim S2048x1x32 ![0, 2] bcast_S2048x32_S2048x1x32_0_2 S)))))⟩, ⟨S4x2048x4x32, (addf (mulf (extractStridedSlice S4x2048x4x32 ![0, 0, 0, 32] (shapeCast _ (extractStridedSlice S8192x256 ![0, 9216] H slices_S8192x9856_S8192x256_0_9216) shapeCasts_S8192x256_S4x2048x4x64) slices_S4x2048x4x64_S4x2048x4x32_0_0_0_32) (broadcastInDim S4x2048x4x32 ![0, 1, 2, 3] bcast_S1x2048x1x32_S4x2048x4x32_0_1_2_3 (broadcastInDim S1x2048x1x32 ![1, 2, 3] bcast_S2048x1x32_S1x2048x1x32_1_2_3 (broadcastInDim S2048x1x32 ![0, 2] bcast_S2048x32_S2048x1x32_0_2 C)))) (mulf (extractStridedSlice S4x2048x4x32 ![0, 0, 0, 0] (shapeCast _ (extractStridedSlice S8192x256 ![0, 9216] H slices_S8192x9856_S8192x256_0_9216) shapeCasts_S8192x256_S4x2048x4x64) slices_S4x2048x4x64_S4x2048x4x32_0_0_0_0) (broadcastInDim S4x2048x4x32 ![0, 1, 2, 3] bcast_S1x2048x1x32_S4x2048x4x32_0_1_2_3 (broadcastInDim S1x2048x1x32 ![1, 2, 3] bcast_S2048x1x32_S1x2048x1x32_1_2_3 (broadcastInDim S2048x1x32 ![0, 2] bcast_S2048x32_S2048x1x32_0_2 S)))))⟩] concatenates_S4x2048x4x32_S4x2048x4x32_S4x2048x4x64_d3) slices_S4x2048x4x64_S4x128x4x64_0_1920_0_0) shapeCasts_S4x128x4x64_S4x128x256 : FVec Ideal S4x128x256 .f32)
      (ix3 b r l : S4x128x256.Idx) = klast H C S b r l := by
  have hH : ∀ (a a' : Fin 8192) (d d' : Fin 9856), a.val = a'.val → d.val = d'.val → H (ix2 a d) = H (ix2 a' d') := fun a a' d d' e f => by
    rw [Fin.ext e, Fin.ext f]
  unfold klast rope
  show (_ : EReal) = _
  pointwise []
  refine dite_congr rfl (fun h => ?_) (fun h => ?_)
  · refine congrArg₂ (· - ·) (congrArg₂ (· * ·) ?_ ?_) (congrArg₂ (· * ·) ?_ ?_)
    · exact hH _ _ _ _ (by first | omega | (dsimp only <;> omega)) (by first | omega | (dsimp only <;> omega))
    · rfl
    · exact hH _ _ _ _ (by first | omega | (dsimp only <;> omega)) (by first | omega | (dsimp only <;> omega))
    · rfl
  · refine congrArg₂ (· + ·) (congrArg₂ (· * ·) ?_ ?_) (congrArg₂ (· * ·) ?_ ?_)
    · exact hH _ _ _ _ (by first | omega | (dsimp only <;> omega)) (by first | omega | (dsimp only <;> omega))
    · rfl
    · exact hH _ _ _ _ (by first | omega | (dsimp only <;> omega)) (by first | omega | (dsimp only <;> omega))
    · rfl

/-- One entry of the reference's window of values. -/
theorem refv_at (H : FVec Ideal S8192x9856 .f32) (b : Fin 4) (r : Fin 128) (l : Fin 256) :
    (shapeCast _ (extractStridedSlice S4x128x4x64 ![0, 1920, 0, 0] (shapeCast _ (extractStridedSlice S8192x256 ![0, 9472] H slices_S8192x9856_S8192x256_0_9472) shapeCasts_S8192x256_S4x2048x4x64) slices_S4x2048x4x64_S4x128x4x64_0_1920_0_0) shapeCasts_S4x128x4x64_S4x128x256 : FVec Ideal S4x128x256 .f32)
      (ix3 b r l : S4x128x256.Idx) = vlast H b r l := by
  have hH : ∀ (a a' : Fin 8192) (d d' : Fin 9856), a.val = a'.val → d.val = d'.val → H (ix2 a d) = H (ix2 a' d') := fun a a' d d' e f => by
    rw [Fin.ext e, Fin.ext f]
  unfold vlast
  show (_ : EReal) = _
  pointwise []
  exact hH _ _ _ _ (by dsimp only <;> omega) (by dsimp only <;> omega)

end reference

theorem frame_k : Cert.quiescent_SpK := fun m g _ => Cert.SpK.Gen.frame m g

theorem frame_ki : Cert.quiescent_SpKIdeal := fun m g _ => Cert.SpKIdeal.Gen.frame m g

theorem frame_ri : Cert.quiescent_SpRIdeal := fun m g _ =>
  (θ_run _ _ _).mono (fun r h => ⟨fun c => (h c).2.2, sem_eq_zero_of_no_sems (by decide) r.2⟩) (Cert.SpRIdeal.Value.run m g)

theorem preserves : Cert.preserves_SpK_SpKIdeal := trivial

open Cert.SpKIdeal Cert.SpKIdeal.Gen in
/-- The kernel's run and the reference's end with the same windows of keys and values. -/
theorem algebraic : Cert.algebraic_SpKIdeal_SpRIdeal := fun m g m' g' hp ha =>
  ⟨fun c => KLAST (m ((c.tc : Thread nD τ).loc main_arg0)) (m ((c.tc : Thread nD τ).loc main_arg2)) (m ((c.tc : Thread nD τ).loc main_arg3)),
    fun c => VLAST (m ((c.tc : Thread nD τ).loc main_arg0)),
    (θ_run _ _ _).mono (fun r h c => ⟨(h c).2.1.trans ((Cert.SpKIdeal.Value.final8 m c).symm.trans (final8 m c)), (h c).2.2.1.trans ((Cert.SpKIdeal.Value.final9 m c).symm.trans (final9 m c)), (h c).2.2.2⟩) (Cert.SpKIdeal.Value.run m g),
    (θ_run _ _ _).mono (fun r h c => ⟨(h c).1.trans (by
        rw [(ha c).1, (ha c).2.2.1, (ha c).2.2.2]
        funext i
        exact (congrArg _ (eq_ix3 i)).trans (refk_at _ _ _ (i 0) (i 1) (i 2))), (h c).2.1.trans (by
        rw [(ha c).1]
        funext i
        exact (congrArg _ (eq_ix3 i)).trans (refv_at _ (i 0) (i 1) (i 2))), (h c).2.2⟩) (Cert.SpRIdeal.Value.run m' g')⟩

end Cert.Proof.SpClaim
end
-- ==== Proof.lean ====
module

public import proofs.«01_k».proof.Defs
public import proofs.«01_k».proof.Proof.Gen.MemK
public import proofs.«01_k».proof.Proof.Gen.MemK.Skeleton
public import proofs.«01_k».proof.Proof.Gen.MemK.Launch
public import proofs.«01_k».proof.Proof.Gen.MemK.Points
public import proofs.«01_k».proof.Proof.Gen.MemK.Frame
public import proofs.«01_k».proof.Proof.Gen.MemKIdeal
public import proofs.«01_k».proof.Proof.Gen.MemKIdeal.Skeleton
public import proofs.«01_k».proof.Proof.Gen.MemKIdeal.Launch
public import proofs.«01_k».proof.Proof.Gen.MemKIdeal.Points
public import proofs.«01_k».proof.Proof.Gen.MemKIdeal.Frame
public import proofs.«01_k».proof.Proof.Gen.MemKIdeal.Value
public import proofs.«01_k».proof.Proof.Gen.MemRIdeal
public import proofs.«01_k».proof.Proof.Gen.MemRIdeal.Run
public import proofs.«01_k».proof.Proof.Gen.OutK
public import proofs.«01_k».proof.Proof.Gen.OutK.Skeleton
public import proofs.«01_k».proof.Proof.Gen.OutK.Launch
public import proofs.«01_k».proof.Proof.Gen.OutK.Points
public import proofs.«01_k».proof.Proof.Gen.OutK.Frame
public import proofs.«01_k».proof.Proof.Gen.OutKIdeal
public import proofs.«01_k».proof.Proof.Gen.OutKIdeal.Skeleton
public import proofs.«01_k».proof.Proof.Gen.OutKIdeal.Launch
public import proofs.«01_k».proof.Proof.Gen.OutKIdeal.Points
public import proofs.«01_k».proof.Proof.Gen.OutKIdeal.Frame
public import proofs.«01_k».proof.Proof.Gen.OutRIdeal
public import proofs.«01_k».proof.Proof.Gen.OutRIdeal.Run
public import proofs.«01_k».proof.Proof.Gen.InK
public import proofs.«01_k».proof.Proof.Gen.InK.Skeleton
public import proofs.«01_k».proof.Proof.Gen.InK.Launch
public import proofs.«01_k».proof.Proof.Gen.InK.Points
public import proofs.«01_k».proof.Proof.Gen.InK.Frame
public import proofs.«01_k».proof.Proof.Gen.InKIdeal
public import proofs.«01_k».proof.Proof.Gen.InKIdeal.Skeleton
public import proofs.«01_k».proof.Proof.Gen.InKIdeal.Launch
public import proofs.«01_k».proof.Proof.Gen.InKIdeal.Points
public import proofs.«01_k».proof.Proof.Gen.InKIdeal.Frame
public import proofs.«01_k».proof.Proof.Gen.InRIdeal
public import proofs.«01_k».proof.Proof.Gen.InRIdeal.Run
public import proofs.«01_k».proof.Proof.Gen.KvK
public import proofs.«01_k».proof.Proof.Gen.KvK.Skeleton
public import proofs.«01_k».proof.Proof.Gen.KvK.Launch
public import proofs.«01_k».proof.Proof.Gen.KvK.Points
public import proofs.«01_k».proof.Proof.Gen.KvK.Frame
public import proofs.«01_k».proof.Proof.Gen.KvKIdeal
public import proofs.«01_k».proof.Proof.Gen.KvKIdeal.Skeleton
public import proofs.«01_k».proof.Proof.Gen.KvKIdeal.Launch
public import proofs.«01_k».proof.Proof.Gen.KvKIdeal.Points
public import proofs.«01_k».proof.Proof.Gen.KvKIdeal.Frame
public import proofs.«01_k».proof.Proof.Gen.KvKIdeal.Value
public import proofs.«01_k».proof.Proof.Gen.KvRIdeal
public import proofs.«01_k».proof.Proof.Gen.KvRIdeal.Run
public import proofs.«01_k».proof.Proof.Gen.MnK
public import proofs.«01_k».proof.Proof.Gen.MnK.Skeleton
public import proofs.«01_k».proof.Proof.Gen.MnK.Launch
public import proofs.«01_k».proof.Proof.Gen.MnK.Points
public import proofs.«01_k».proof.Proof.Gen.MnK.Frame
public import proofs.«01_k».proof.Proof.Gen.MnKIdeal
public import proofs.«01_k».proof.Proof.Gen.MnKIdeal.Skeleton
public import proofs.«01_k».proof.Proof.Gen.MnKIdeal.Launch
public import proofs.«01_k».proof.Proof.Gen.MnKIdeal.Points
public import proofs.«01_k».proof.Proof.Gen.MnKIdeal.Frame
public import proofs.«01_k».proof.Proof.Gen.MnKIdeal.Value
public import proofs.«01_k».proof.Proof.Gen.MnRIdeal
public import proofs.«01_k».proof.Proof.Gen.MnRIdeal.Run
public import proofs.«01_k».proof.Proof.Gen.NpK
public import proofs.«01_k».proof.Proof.Gen.NpK.Skeleton
public import proofs.«01_k».proof.Proof.Gen.NpK.Launch
public import proofs.«01_k».proof.Proof.Gen.NpK.Points
public import proofs.«01_k».proof.Proof.Gen.NpK.Frame
public import proofs.«01_k».proof.Proof.Gen.NpKIdeal
public import proofs.«01_k».proof.Proof.Gen.NpKIdeal.Skeleton
public import proofs.«01_k».proof.Proof.Gen.NpKIdeal.Launch
public import proofs.«01_k».proof.Proof.Gen.NpKIdeal.Points
public import proofs.«01_k».proof.Proof.Gen.NpKIdeal.Frame
public import proofs.«01_k».proof.Proof.Gen.NpKIdeal.Value
public import proofs.«01_k».proof.Proof.Gen.NpRIdeal
public import proofs.«01_k».proof.Proof.Gen.NpRIdeal.Run
public import proofs.«01_k».proof.Proof.Gen.NsK
public import proofs.«01_k».proof.Proof.Gen.NsK.Skeleton
public import proofs.«01_k».proof.Proof.Gen.NsK.Launch
public import proofs.«01_k».proof.Proof.Gen.NsK.Points
public import proofs.«01_k».proof.Proof.Gen.NsK.Frame
public import proofs.«01_k».proof.Proof.Gen.NsKIdeal
public import proofs.«01_k».proof.Proof.Gen.NsKIdeal.Skeleton
public import proofs.«01_k».proof.Proof.Gen.NsKIdeal.Launch
public import proofs.«01_k».proof.Proof.Gen.NsKIdeal.Points
public import proofs.«01_k».proof.Proof.Gen.NsKIdeal.Frame
public import proofs.«01_k».proof.Proof.Gen.NsKIdeal.Value
public import proofs.«01_k».proof.Proof.Gen.NsRIdeal
public import proofs.«01_k».proof.Proof.Gen.NsRIdeal.Run
public import proofs.«01_k».proof.Proof.Gen.XpK
public import proofs.«01_k».proof.Proof.Gen.XpK.Skeleton
public import proofs.«01_k».proof.Proof.Gen.XpK.Launch
public import proofs.«01_k».proof.Proof.Gen.XpK.Points
public import proofs.«01_k».proof.Proof.Gen.XpK.Frame
public import proofs.«01_k».proof.Proof.Gen.XpKIdeal
public import proofs.«01_k».proof.Proof.Gen.XpKIdeal.Skeleton
public import proofs.«01_k».proof.Proof.Gen.XpKIdeal.Launch
public import proofs.«01_k».proof.Proof.Gen.XpKIdeal.Points
public import proofs.«01_k».proof.Proof.Gen.XpKIdeal.Frame
public import proofs.«01_k».proof.Proof.Gen.XpKIdeal.Value
public import proofs.«01_k».proof.Proof.Gen.XpRIdeal
public import proofs.«01_k».proof.Proof.Gen.XpRIdeal.Run
public import proofs.«01_k».proof.Proof.Gen.XsK
public import proofs.«01_k».proof.Proof.Gen.XsK.Skeleton
public import proofs.«01_k».proof.Proof.Gen.XsK.Launch
public import proofs.«01_k».proof.Proof.Gen.XsK.Points
public import proofs.«01_k».proof.Proof.Gen.XsK.Frame
public import proofs.«01_k».proof.Proof.Gen.XsKIdeal
public import proofs.«01_k».proof.Proof.Gen.XsKIdeal.Skeleton
public import proofs.«01_k».proof.Proof.Gen.XsKIdeal.Launch
public import proofs.«01_k».proof.Proof.Gen.XsKIdeal.Points
public import proofs.«01_k».proof.Proof.Gen.XsKIdeal.Frame
public import proofs.«01_k».proof.Proof.Gen.XsKIdeal.Value
public import proofs.«01_k».proof.Proof.Gen.XsRIdeal
public import proofs.«01_k».proof.Proof.Gen.XsRIdeal.Run
public import proofs.«01_k».proof.Proof.Gen.SsK
public import proofs.«01_k».proof.Proof.Gen.SsK.Skeleton
public import proofs.«01_k».proof.Proof.Gen.SsK.Launch
public import proofs.«01_k».proof.Proof.Gen.SsK.Points
public import proofs.«01_k».proof.Proof.Gen.SsKIdeal
public import proofs.«01_k».proof.Proof.Gen.SsKIdeal.Skeleton
public import proofs.«01_k».proof.Proof.Gen.SsKIdeal.Launch
public import proofs.«01_k».proof.Proof.Gen.SsKIdeal.Points
public import proofs.«01_k».proof.Proof.Gen.SsRIdeal
public import proofs.«01_k».proof.Proof.Gen.SsRIdeal.Run
public import proofs.«01_k».proof.Proof.Gen.GsK
public import proofs.«01_k».proof.Proof.Gen.GsK.Skeleton
public import proofs.«01_k».proof.Proof.Gen.GsK.Launch
public import proofs.«01_k».proof.Proof.Gen.GsK.Points
public import proofs.«01_k».proof.Proof.Gen.GsKIdeal
public import proofs.«01_k».proof.Proof.Gen.GsKIdeal.Skeleton
public import proofs.«01_k».proof.Proof.Gen.GsKIdeal.Launch
public import proofs.«01_k».proof.Proof.Gen.GsKIdeal.Points
public import proofs.«01_k».proof.Proof.Gen.GsRIdeal
public import proofs.«01_k».proof.Proof.Gen.GsRIdeal.Run
public import proofs.«01_k».proof.Proof.Gen.SpK
public import proofs.«01_k».proof.Proof.Gen.SpK.Skeleton
public import proofs.«01_k».proof.Proof.Gen.SpK.Launch
public import proofs.«01_k».proof.Proof.Gen.SpK.Points
public import proofs.«01_k».proof.Proof.Gen.SpK.Frame
public import proofs.«01_k».proof.Proof.Gen.SpKIdeal
public import proofs.«01_k».proof.Proof.Gen.SpKIdeal.Skeleton
public import proofs.«01_k».proof.Proof.Gen.SpKIdeal.Launch
public import proofs.«01_k».proof.Proof.Gen.SpKIdeal.Points
public import proofs.«01_k».proof.Proof.Gen.SpKIdeal.Frame
public import proofs.«01_k».proof.Proof.Gen.SpKIdeal.Value
public import proofs.«01_k».proof.Proof.Gen.SpRIdeal
public import proofs.«01_k».proof.Proof.Gen.SpRIdeal.Run
public import proofs.«01_k».proof.Proof.MemClaim
public import proofs.«01_k».proof.Proof.OutClaim
public import proofs.«01_k».proof.Proof.InClaim
public import proofs.«01_k».proof.Proof.KvClaim
public import proofs.«01_k».proof.Proof.MnClaim
public import proofs.«01_k».proof.Proof.NpClaim
public import proofs.«01_k».proof.Proof.NsClaim
public import proofs.«01_k».proof.Proof.XpClaim
public import proofs.«01_k».proof.Proof.XsClaim
public import proofs.«01_k».proof.Proof.SsClaim
public import proofs.«01_k».proof.Proof.GsClaim
public import proofs.«01_k».proof.Proof.SpClaim
public import Idealize.ShloMosaic.Adequacy
public import Idealize.ShloMosaic.Init

@[expose] public section

noncomputable section

namespace Cert.Proof

open Cert.Proof

/-- Everything the certificate claims. -/
theorem claim : Cert.Claim :=
  ⟨Cert.MemK.Gen.facts, Cert.MemKIdeal.Gen.facts, Cert.MemRIdeal.Gen.facts, Cert.OutK.Gen.facts, Cert.OutKIdeal.Gen.facts, Cert.OutRIdeal.Gen.facts, Cert.InK.Gen.facts, Cert.InKIdeal.Gen.facts, Cert.InRIdeal.Gen.facts, Cert.KvK.Gen.facts, Cert.KvKIdeal.Gen.facts, Cert.KvRIdeal.Gen.facts, Cert.MnK.Gen.facts, Cert.MnKIdeal.Gen.facts, Cert.MnRIdeal.Gen.facts, Cert.NpK.Gen.facts, Cert.NpKIdeal.Gen.facts, Cert.NpRIdeal.Gen.facts, Cert.NsK.Gen.facts, Cert.NsKIdeal.Gen.facts, Cert.NsRIdeal.Gen.facts, Cert.XpK.Gen.facts, Cert.XpKIdeal.Gen.facts, Cert.XpRIdeal.Gen.facts, Cert.XsK.Gen.facts, Cert.XsKIdeal.Gen.facts, Cert.XsRIdeal.Gen.facts, Cert.SsK.Gen.facts, Cert.SsKIdeal.Gen.facts, Cert.SsRIdeal.Gen.facts, Cert.GsK.Gen.facts, Cert.GsKIdeal.Gen.facts, Cert.GsRIdeal.Gen.facts, Cert.SpK.Gen.facts, Cert.SpKIdeal.Gen.facts, Cert.SpRIdeal.Gen.facts, MemClaim.preFacts,
    MemClaim.frame_k, MemClaim.frame_ki, MemClaim.frame_ki_pre, MemClaim.frame_ri, MemClaim.frame_ri_pre,
    OutClaim.frame_k, OutClaim.frame_ki, OutClaim.frame_ri,
    InClaim.frame_k, InClaim.frame_ki, InClaim.frame_ri,
    KvClaim.frame_k, KvClaim.frame_ki, KvClaim.frame_ri,
    MnClaim.frame_k, MnClaim.frame_ki, MnClaim.frame_ri,
    NpClaim.frame_k, NpClaim.frame_ki, NpClaim.frame_ri,
    NsClaim.frame_k, NsClaim.frame_ki, NsClaim.frame_ri,
    XpClaim.frame_k, XpClaim.frame_ki, XpClaim.frame_ri,
    XsClaim.frame_k, XsClaim.frame_ki, XsClaim.frame_ri,
    SsClaim.frame_k, SsClaim.frame_ki, SsClaim.frame_ri,
    GsClaim.frame_k, GsClaim.frame_ki, GsClaim.frame_ri,
    SpClaim.frame_k, SpClaim.frame_ki, SpClaim.frame_ri,
    MemClaim.preserves, MemClaim.algebraic,
    OutClaim.preserves, OutClaim.algebraic,
    InClaim.preserves, InClaim.algebraic,
    KvClaim.preserves, KvClaim.algebraic,
    MnClaim.preserves, MnClaim.algebraic,
    NpClaim.preserves, NpClaim.algebraic,
    NsClaim.preserves, NsClaim.algebraic,
    XpClaim.preserves, XpClaim.algebraic,
    XsClaim.preserves, XsClaim.algebraic,
    SsClaim.preserves, SsClaim.algebraic,
    GsClaim.preserves, GsClaim.algebraic,
    SpClaim.preserves, SpClaim.algebraic⟩

end Cert.Proof

end
